-- ==== Defs.lean ====
def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_finite_inputs [hPre_finite_inputs : Cert.Pre_finite_inputs.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_finite_inputs.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).1 = (fun _ => 1#1)
    ∧ (Cert.Pre_finite_inputs.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.1 = (fun _ => 1#1)
    ∧ (Cert.Pre_finite_inputs.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.1 = (fun _ => 1#1)
    ∧ (Cert.Pre_finite_inputs.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2 = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_finite_inputs [hPre_finite_inputs : Cert.Pre_finite_inputs.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_finite_inputs.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).1 = (fun _ => 1#1)
    ∧ (Cert.Pre_finite_inputs.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.1 = (fun _ => 1#1)
    ∧ (Cert.Pre_finite_inputs.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.1 = (fun _ => 1#1)
    ∧ (Cert.Pre_finite_inputs.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2 = (fun _ => 1#1)

def Pre_Ff2Dx (m : (ℓ : Loc Cert.Ff2Dx.nD Cert.Ff2Dx.τ Cert.Ff2Dx.sig) → Buf (Elt Bits) ℓ) : Prop :=
  True

def Pre_Ff2DxIdeal (m : (ℓ : Loc Cert.Ff2DxIdeal.nD Cert.Ff2DxIdeal.τ Cert.Ff2DxIdeal.sig) → Buf (Elt Ideal) ℓ) : Prop :=
  True

def Pre_Ff2DxRefIdeal (m : (ℓ : Loc Cert.Ff2DxRefIdeal.nD Cert.Ff2DxRefIdeal.τ Cert.Ff2DxRefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_SumWIn (m : (ℓ : Loc Cert.SumWIn.nD Cert.SumWIn.τ Cert.SumWIn.sig) → Buf (Elt Bits) ℓ) : Prop :=
  True

def Pre_SumWInIdeal (m : (ℓ : Loc Cert.SumWInIdeal.nD Cert.SumWInIdeal.τ Cert.SumWInIdeal.sig) → Buf (Elt Ideal) ℓ) : Prop :=
  True

def Pre_SumWInRefIdeal (m : (ℓ : Loc Cert.SumWInRefIdeal.nD Cert.SumWInRefIdeal.τ Cert.SumWInRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_ResBwd (m : (ℓ : Loc Cert.ResBwd.nD Cert.ResBwd.τ Cert.ResBwd.sig) → Buf (Elt Bits) ℓ) : Prop :=
  True

def Pre_ResBwdIdeal (m : (ℓ : Loc Cert.ResBwdIdeal.nD Cert.ResBwdIdeal.τ Cert.ResBwdIdeal.sig) → Buf (Elt Ideal) ℓ) : Prop :=
  True

def Pre_ResBwdRefIdeal (m : (ℓ : Loc Cert.ResBwdRefIdeal.nD Cert.ResBwdRefIdeal.τ Cert.ResBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ResFwd (m : (ℓ : Loc Cert.ResFwd.nD Cert.ResFwd.τ Cert.ResFwd.sig) → Buf (Elt Bits) ℓ) : Prop :=
  True

def Pre_ResFwdIdeal (m : (ℓ : Loc Cert.ResFwdIdeal.nD Cert.ResFwdIdeal.τ Cert.ResFwdIdeal.sig) → Buf (Elt Ideal) ℓ) : Prop :=
  True

def Pre_ResFwdRefIdeal (m : (ℓ : Loc Cert.ResFwdRefIdeal.nD Cert.ResFwdRefIdeal.τ Cert.ResFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWFf1 (m : (ℓ : Loc Cert.AdamWFf1.nD Cert.AdamWFf1.τ Cert.AdamWFf1.sig) → Buf (Elt Bits) ℓ) : Prop :=
  True

def Pre_AdamWFf1Ideal (m : (ℓ : Loc Cert.AdamWFf1Ideal.nD Cert.AdamWFf1Ideal.τ Cert.AdamWFf1Ideal.sig) → Buf (Elt Ideal) ℓ) : Prop :=
  True

def Pre_AdamWFf1RefIdeal (m : (ℓ : Loc Cert.AdamWFf1RefIdeal.nD Cert.AdamWFf1RefIdeal.τ Cert.AdamWFf1RefIdeal.sig) → Buf (Elt Ideal) ℓ) : Prop :=
  True

def Pre_AdamWFf2 (m : (ℓ : Loc Cert.AdamWFf2.nD Cert.AdamWFf2.τ Cert.AdamWFf2.sig) → Buf (Elt Bits) ℓ) : Prop :=
  True

def Pre_AdamWFf2Ideal (m : (ℓ : Loc Cert.AdamWFf2Ideal.nD Cert.AdamWFf2Ideal.τ Cert.AdamWFf2Ideal.sig) → Buf (Elt Ideal) ℓ) : Prop :=
  True

def Pre_AdamWFf2RefIdeal (m : (ℓ : Loc Cert.AdamWFf2RefIdeal.nD Cert.AdamWFf2RefIdeal.τ Cert.AdamWFf2RefIdeal.sig) → Buf (Elt Ideal) ℓ) : Prop :=
  True

def Pre_AdamWSmall (m : (ℓ : Loc Cert.AdamWSmall.nD Cert.AdamWSmall.τ Cert.AdamWSmall.sig) → Buf (Elt Bits) ℓ) : Prop :=
  True

def Pre_AdamWSmallIdeal (m : (ℓ : Loc Cert.AdamWSmallIdeal.nD Cert.AdamWSmallIdeal.τ Cert.AdamWSmallIdeal.sig) → Buf (Elt Ideal) ℓ) : Prop :=
  True

def Pre_AdamWSmallRefIdeal (m : (ℓ : Loc Cert.AdamWSmallRefIdeal.nD Cert.AdamWSmallRefIdeal.τ Cert.AdamWSmallRefIdeal.sig) → Buf (Elt Ideal) ℓ) : Prop :=
  True

def Pre_AdamWGdnConv (m : (ℓ : Loc Cert.AdamWGdnConv.nD Cert.AdamWGdnConv.τ Cert.AdamWGdnConv.sig) → Buf (Elt Bits) ℓ) : Prop :=
  True

def Pre_AdamWGdnConvIdeal (m : (ℓ : Loc Cert.AdamWGdnConvIdeal.nD Cert.AdamWGdnConvIdeal.τ Cert.AdamWGdnConvIdeal.sig) → Buf (Elt Ideal) ℓ) : Prop :=
  True

def Pre_AdamWGdnConvRefIdeal (m : (ℓ : Loc Cert.AdamWGdnConvRefIdeal.nD Cert.AdamWGdnConvRefIdeal.τ Cert.AdamWGdnConvRefIdeal.sig) → Buf (Elt Ideal) ℓ) : Prop :=
  True

def Pre_AdamWConvDw (m : (ℓ : Loc Cert.AdamWConvDw.nD Cert.AdamWConvDw.τ Cert.AdamWConvDw.sig) → Buf (Elt Bits) ℓ) : Prop :=
  True

def Pre_AdamWConvDwIdeal (m : (ℓ : Loc Cert.AdamWConvDwIdeal.nD Cert.AdamWConvDwIdeal.τ Cert.AdamWConvDwIdeal.sig) → Buf (Elt Ideal) ℓ) : Prop :=
  True

def Pre_AdamWConvDwRefIdeal (m : (ℓ : Loc Cert.AdamWConvDwRefIdeal.nD Cert.AdamWConvDwRefIdeal.τ Cert.AdamWConvDwRefIdeal.sig) → Buf (Elt Ideal) ℓ) : Prop :=
  True

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdIdeal_pre_finite_inputs [hGmlpBwdIdeal : Cert.GmlpBwdIdeal.Facts] [hPre_finite_inputs : Cert.Pre_finite_inputs.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_finite_inputs m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_GmlpBwdRefIdeal_pre_finite_inputs [hGmlpBwdRefIdeal : Cert.GmlpBwdRefIdeal.Facts] [hPre_finite_inputs : Cert.Pre_finite_inputs.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_finite_inputs m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_Ff2Dx [hFf2Dx : Cert.Ff2Dx.Facts] : Prop :=
  ∀ (m : (ℓ : Loc Cert.Ff2Dx.nD Cert.Ff2Dx.τ Cert.Ff2Dx.sig) → Buf (Elt Bits) ℓ) (g : Dev Cert.Ff2Dx.nD → PrngReg), Pre_Ff2Dx m →
    θ_run (Cert.Ff2Dx.defs (F := Bits)) (onTc (τ := Cert.Ff2Dx.τ) (Cert.Ff2Dx.main (F := Bits))) ⟨m, fun _ => 0, g⟩ (fun r => (∀ c : Dev Cert.Ff2Dx.nD,
      r.2.mem ((c.tc : Thread Cert.Ff2Dx.nD Cert.Ff2Dx.τ).loc Cert.Ff2Dx.main_arg0) = m ((c.tc : Thread Cert.Ff2Dx.nD Cert.Ff2Dx.τ).loc Cert.Ff2Dx.main_arg0)
      ∧ r.2.mem ((c.tc : Thread Cert.Ff2Dx.nD Cert.Ff2Dx.τ).loc Cert.Ff2Dx.main_arg1) = m ((c.tc : Thread Cert.Ff2Dx.nD Cert.Ff2Dx.τ).loc Cert.Ff2Dx.main_arg1)
      ∧ r.2.mem ((c.tc : Thread Cert.Ff2Dx.nD Cert.Ff2Dx.τ).loc Cert.Ff2Dx.main_arg2) = m ((c.tc : Thread Cert.Ff2Dx.nD Cert.Ff2Dx.τ).loc Cert.Ff2Dx.main_arg2))
      ∧ r.2.sem = fun _ => 0)

def quiescent_Ff2DxIdeal [hFf2DxIdeal : Cert.Ff2DxIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg), Pre_Ff2DxIdeal m →
    θ_run (Cert.Ff2DxIdeal.defs (F := Ideal)) (onTc (τ := Cert.Ff2DxIdeal.τ) (Cert.Ff2DxIdeal.main (F := Ideal))) ⟨m, fun _ => 0, g⟩ (fun r => (∀ c : Dev Cert.Ff2DxIdeal.nD,
      r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
      ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
      ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ r.2.sem = fun _ => 0)

def quiescent_Ff2DxRefIdeal [hFf2DxRefIdeal : Cert.Ff2DxRefIdeal.Facts] : Prop :=
  ∀ (m : (ℓ : Loc Cert.Ff2DxRefIdeal.nD Cert.Ff2DxRefIdeal.τ Cert.Ff2DxRefIdeal.sig) → Buf (Elt Ideal) ℓ) (g : Dev Cert.Ff2DxRefIdeal.nD → PrngReg), Pre_Ff2DxRefIdeal m →
    θ_run (Cert.Ff2DxRefIdeal.defs (F := Ideal)) (onTc (τ := Cert.Ff2DxRefIdeal.τ) (Cert.Ff2DxRefIdeal.main (F := Ideal))) ⟨m, fun _ => 0, g⟩ (fun r => (∀ c : Dev Cert.Ff2DxRefIdeal.nD,
      r.2.mem ((c.tc : Thread Cert.Ff2DxRefIdeal.nD Cert.Ff2DxRefIdeal.τ).loc Cert.Ff2DxRefIdeal.main_arg0) = m ((c.tc : Thread Cert.Ff2DxRefIdeal.nD Cert.Ff2DxRefIdeal.τ).loc Cert.Ff2DxRefIdeal.main_arg0)
      ∧ r.2.mem ((c.tc : Thread Cert.Ff2DxRefIdeal.nD Cert.Ff2DxRefIdeal.τ).loc Cert.Ff2DxRefIdeal.main_arg1) = m ((c.tc : Thread Cert.Ff2DxRefIdeal.nD Cert.Ff2DxRefIdeal.τ).loc Cert.Ff2DxRefIdeal.main_arg1)
      ∧ r.2.mem ((c.tc : Thread Cert.Ff2DxRefIdeal.nD Cert.Ff2DxRefIdeal.τ).loc Cert.Ff2DxRefIdeal.main_arg2) = m ((c.tc : Thread Cert.Ff2DxRefIdeal.nD Cert.Ff2DxRefIdeal.τ).loc Cert.Ff2DxRefIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_SumWIn [hSumWIn : Cert.SumWIn.Facts] : Prop :=
  ∀ (m : (ℓ : Loc Cert.SumWIn.nD Cert.SumWIn.τ Cert.SumWIn.sig) → Buf (Elt Bits) ℓ) (g : Dev Cert.SumWIn.nD → PrngReg), Pre_SumWIn m →
    θ_run (Cert.SumWIn.defs (F := Bits)) (onTc (τ := Cert.SumWIn.τ) (Cert.SumWIn.main (F := Bits))) ⟨m, fun _ => 0, g⟩ (fun r => (∀ c : Dev Cert.SumWIn.nD,
      r.2.mem ((c.tc : Thread Cert.SumWIn.nD Cert.SumWIn.τ).loc Cert.SumWIn.main_arg0) = m ((c.tc : Thread Cert.SumWIn.nD Cert.SumWIn.τ).loc Cert.SumWIn.main_arg0))
      ∧ r.2.sem = fun _ => 0)

def quiescent_SumWInIdeal [hSumWInIdeal : Cert.SumWInIdeal.Facts] : Prop :=
  ∀ (m : (ℓ : Loc Cert.SumWInIdeal.nD Cert.SumWInIdeal.τ Cert.SumWInIdeal.sig) → Buf (Elt Ideal) ℓ) (g : Dev Cert.SumWInIdeal.nD → PrngReg), Pre_SumWInIdeal m →
    θ_run (Cert.SumWInIdeal.defs (F := Ideal)) (onTc (τ := Cert.SumWInIdeal.τ) (Cert.SumWInIdeal.main (F := Ideal))) ⟨m, fun _ => 0, g⟩ (fun r => (∀ c : Dev Cert.SumWInIdeal.nD,
      r.2.mem ((c.tc : Thread Cert.SumWInIdeal.nD Cert.SumWInIdeal.τ).loc Cert.SumWInIdeal.main_arg0) = m ((c.tc : Thread Cert.SumWInIdeal.nD Cert.SumWInIdeal.τ).loc Cert.SumWInIdeal.main_arg0))
      ∧ r.2.sem = fun _ => 0)

def quiescent_SumWInRefIdeal [hSumWInRefIdeal : Cert.SumWInRefIdeal.Facts] : Prop :=
  ∀ (m : (ℓ : Loc Cert.SumWInRefIdeal.nD Cert.SumWInRefIdeal.τ Cert.SumWInRefIdeal.sig) → Buf (Elt Ideal) ℓ) (g : Dev Cert.SumWInRefIdeal.nD → PrngReg), Pre_SumWInRefIdeal m →
    θ_run (Cert.SumWInRefIdeal.defs (F := Ideal)) (onTc (τ := Cert.SumWInRefIdeal.τ) (Cert.SumWInRefIdeal.main (F := Ideal))) ⟨m, fun _ => 0, g⟩ (fun r => (∀ c : Dev Cert.SumWInRefIdeal.nD,
      r.2.mem ((c.tc : Thread Cert.SumWInRefIdeal.nD Cert.SumWInRefIdeal.τ).loc Cert.SumWInRefIdeal.main_arg0) = m ((c.tc : Thread Cert.SumWInRefIdeal.nD Cert.SumWInRefIdeal.τ).loc Cert.SumWInRefIdeal.main_arg0))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_ResBwd [hResBwd : Cert.ResBwd.Facts] : Prop :=
  ∀ (m : (ℓ : Loc Cert.ResBwd.nD Cert.ResBwd.τ Cert.ResBwd.sig) → Buf (Elt Bits) ℓ) (g : Dev Cert.ResBwd.nD → PrngReg), Pre_ResBwd m →
    θ_run (Cert.ResBwd.defs (F := Bits)) (onTc (τ := Cert.ResBwd.τ) (Cert.ResBwd.main (F := Bits))) ⟨m, fun _ => 0, g⟩ (fun r => (∀ c : Dev Cert.ResBwd.nD,
      r.2.mem ((c.tc : Thread Cert.ResBwd.nD Cert.ResBwd.τ).loc Cert.ResBwd.main_arg0) = m ((c.tc : Thread Cert.ResBwd.nD Cert.ResBwd.τ).loc Cert.ResBwd.main_arg0)
      ∧ r.2.mem ((c.tc : Thread Cert.ResBwd.nD Cert.ResBwd.τ).loc Cert.ResBwd.main_arg1) = m ((c.tc : Thread Cert.ResBwd.nD Cert.ResBwd.τ).loc Cert.ResBwd.main_arg1)
      ∧ r.2.mem ((c.tc : Thread Cert.ResBwd.nD Cert.ResBwd.τ).loc Cert.ResBwd.main_arg2) = m ((c.tc : Thread Cert.ResBwd.nD Cert.ResBwd.τ).loc Cert.ResBwd.main_arg2))
      ∧ r.2.sem = fun _ => 0)

def quiescent_ResBwdIdeal [hResBwdIdeal : Cert.ResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg), Pre_ResBwdIdeal m →
    θ_run (Cert.ResBwdIdeal.defs (F := Ideal)) (onTc (τ := Cert.ResBwdIdeal.τ) (Cert.ResBwdIdeal.main (F := Ideal))) ⟨m, fun _ => 0, g⟩ (fun r => (∀ c : Dev Cert.ResBwdIdeal.nD,
      r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
      ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
      ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ r.2.sem = fun _ => 0)

def quiescent_ResBwdRefIdeal [hResBwdRefIdeal : Cert.ResBwdRefIdeal.Facts] : Prop :=
  ∀ (m : (ℓ : Loc Cert.ResBwdRefIdeal.nD Cert.ResBwdRefIdeal.τ Cert.ResBwdRefIdeal.sig) → Buf (Elt Ideal) ℓ) (g : Dev Cert.ResBwdRefIdeal.nD → PrngReg), Pre_ResBwdRefIdeal m →
    θ_run (Cert.ResBwdRefIdeal.defs (F := Ideal)) (onTc (τ := Cert.ResBwdRefIdeal.τ) (Cert.ResBwdRefIdeal.main (F := Ideal))) ⟨m, fun _ => 0, g⟩ (fun r => (∀ c : Dev Cert.ResBwdRefIdeal.nD,
      r.2.mem ((c.tc : Thread Cert.ResBwdRefIdeal.nD Cert.ResBwdRefIdeal.τ).loc Cert.ResBwdRefIdeal.main_arg0) = m ((c.tc : Thread Cert.ResBwdRefIdeal.nD Cert.ResBwdRefIdeal.τ).loc Cert.ResBwdRefIdeal.main_arg0)
      ∧ r.2.mem ((c.tc : Thread Cert.ResBwdRefIdeal.nD Cert.ResBwdRefIdeal.τ).loc Cert.ResBwdRefIdeal.main_arg1) = m ((c.tc : Thread Cert.ResBwdRefIdeal.nD Cert.ResBwdRefIdeal.τ).loc Cert.ResBwdRefIdeal.main_arg1)
      ∧ r.2.mem ((c.tc : Thread Cert.ResBwdRefIdeal.nD Cert.ResBwdRefIdeal.τ).loc Cert.ResBwdRefIdeal.main_arg2) = m ((c.tc : Thread Cert.ResBwdRefIdeal.nD Cert.ResBwdRefIdeal.τ).loc Cert.ResBwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ResFwd [hResFwd : Cert.ResFwd.Facts] : Prop :=
  ∀ (m : (ℓ : Loc Cert.ResFwd.nD Cert.ResFwd.τ Cert.ResFwd.sig) → Buf (Elt Bits) ℓ) (g : Dev Cert.ResFwd.nD → PrngReg), Pre_ResFwd m →
    θ_run (Cert.ResFwd.defs (F := Bits)) (onTc (τ := Cert.ResFwd.τ) (Cert.ResFwd.main (F := Bits))) ⟨m, fun _ => 0, g⟩ (fun r => (∀ c : Dev Cert.ResFwd.nD,
      r.2.mem ((c.tc : Thread Cert.ResFwd.nD Cert.ResFwd.τ).loc Cert.ResFwd.main_arg0) = m ((c.tc : Thread Cert.ResFwd.nD Cert.ResFwd.τ).loc Cert.ResFwd.main_arg0)
      ∧ r.2.mem ((c.tc : Thread Cert.ResFwd.nD Cert.ResFwd.τ).loc Cert.ResFwd.main_arg1) = m ((c.tc : Thread Cert.ResFwd.nD Cert.ResFwd.τ).loc Cert.ResFwd.main_arg1)
      ∧ r.2.mem ((c.tc : Thread Cert.ResFwd.nD Cert.ResFwd.τ).loc Cert.ResFwd.main_arg2) = m ((c.tc : Thread Cert.ResFwd.nD Cert.ResFwd.τ).loc Cert.ResFwd.main_arg2))
      ∧ r.2.sem = fun _ => 0)

def quiescent_ResFwdIdeal [hResFwdIdeal : Cert.ResFwdIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg), Pre_ResFwdIdeal m →
    θ_run (Cert.ResFwdIdeal.defs (F := Ideal)) (onTc (τ := Cert.ResFwdIdeal.τ) (Cert.ResFwdIdeal.main (F := Ideal))) ⟨m, fun _ => 0, g⟩ (fun r => (∀ c : Dev Cert.ResFwdIdeal.nD,
      r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
      ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
      ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2))
      ∧ r.2.sem = fun _ => 0)

def quiescent_ResFwdRefIdeal [hResFwdRefIdeal : Cert.ResFwdRefIdeal.Facts] : Prop :=
  ∀ (m : (ℓ : Loc Cert.ResFwdRefIdeal.nD Cert.ResFwdRefIdeal.τ Cert.ResFwdRefIdeal.sig) → Buf (Elt Ideal) ℓ) (g : Dev Cert.ResFwdRefIdeal.nD → PrngReg), Pre_ResFwdRefIdeal m →
    θ_run (Cert.ResFwdRefIdeal.defs (F := Ideal)) (onTc (τ := Cert.ResFwdRefIdeal.τ) (Cert.ResFwdRefIdeal.main (F := Ideal))) ⟨m, fun _ => 0, g⟩ (fun r => (∀ c : Dev Cert.ResFwdRefIdeal.nD,
      r.2.mem ((c.tc : Thread Cert.ResFwdRefIdeal.nD Cert.ResFwdRefIdeal.τ).loc Cert.ResFwdRefIdeal.main_arg0) = m ((c.tc : Thread Cert.ResFwdRefIdeal.nD Cert.ResFwdRefIdeal.τ).loc Cert.ResFwdRefIdeal.main_arg0)
      ∧ r.2.mem ((c.tc : Thread Cert.ResFwdRefIdeal.nD Cert.ResFwdRefIdeal.τ).loc Cert.ResFwdRefIdeal.main_arg1) = m ((c.tc : Thread Cert.ResFwdRefIdeal.nD Cert.ResFwdRefIdeal.τ).loc Cert.ResFwdRefIdeal.main_arg1)
      ∧ r.2.mem ((c.tc : Thread Cert.ResFwdRefIdeal.nD Cert.ResFwdRefIdeal.τ).loc Cert.ResFwdRefIdeal.main_arg2) = m ((c.tc : Thread Cert.ResFwdRefIdeal.nD Cert.ResFwdRefIdeal.τ).loc Cert.ResFwdRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4))
      ∧ r.2.sem = fun _ => 0)

def quiescent_AdamWFf1 [hAdamWFf1 : Cert.AdamWFf1.Facts] : Prop :=
  ∀ (m : (ℓ : Loc Cert.AdamWFf1.nD Cert.AdamWFf1.τ Cert.AdamWFf1.sig) → Buf (Elt Bits) ℓ) (g : Dev Cert.AdamWFf1.nD → PrngReg), Pre_AdamWFf1 m →
    θ_run (Cert.AdamWFf1.defs (F := Bits)) (onTc (τ := Cert.AdamWFf1.τ) (Cert.AdamWFf1.main (F := Bits))) ⟨m, fun _ => 0, g⟩ (fun r => (∀ c : Dev Cert.AdamWFf1.nD,
      r.2.mem ((c.tc : Thread Cert.AdamWFf1.nD Cert.AdamWFf1.τ).loc Cert.AdamWFf1.main_arg0) = m ((c.tc : Thread Cert.AdamWFf1.nD Cert.AdamWFf1.τ).loc Cert.AdamWFf1.main_arg0)
      ∧ r.2.mem ((c.tc : Thread Cert.AdamWFf1.nD Cert.AdamWFf1.τ).loc Cert.AdamWFf1.main_arg1) = m ((c.tc : Thread Cert.AdamWFf1.nD Cert.AdamWFf1.τ).loc Cert.AdamWFf1.main_arg1)
      ∧ r.2.mem ((c.tc : Thread Cert.AdamWFf1.nD Cert.AdamWFf1.τ).loc Cert.AdamWFf1.main_arg2) = m ((c.tc : Thread Cert.AdamWFf1.nD Cert.AdamWFf1.τ).loc Cert.AdamWFf1.main_arg2)
      ∧ r.2.mem ((c.tc : Thread Cert.AdamWFf1.nD Cert.AdamWFf1.τ).loc Cert.AdamWFf1.main_arg3) = m ((c.tc : Thread Cert.AdamWFf1.nD Cert.AdamWFf1.τ).loc Cert.AdamWFf1.main_arg3)
      ∧ r.2.mem ((c.tc : Thread Cert.AdamWFf1.nD Cert.AdamWFf1.τ).loc Cert.AdamWFf1.main_arg4) = m ((c.tc : Thread Cert.AdamWFf1.nD Cert.AdamWFf1.τ).loc Cert.AdamWFf1.main_arg4))
      ∧ r.2.sem = fun _ => 0)

def quiescent_AdamWFf1Ideal [hAdamWFf1Ideal : Cert.AdamWFf1Ideal.Facts] : Prop :=
  ∀ (m : (ℓ : Loc Cert.AdamWFf1Ideal.nD Cert.AdamWFf1Ideal.τ Cert.AdamWFf1Ideal.sig) → Buf (Elt Ideal) ℓ) (g : Dev Cert.AdamWFf1Ideal.nD → PrngReg), Pre_AdamWFf1Ideal m →
    θ_run (Cert.AdamWFf1Ideal.defs (F := Ideal)) (onTc (τ := Cert.AdamWFf1Ideal.τ) (Cert.AdamWFf1Ideal.main (F := Ideal))) ⟨m, fun _ => 0, g⟩ (fun r => (∀ c : Dev Cert.AdamWFf1Ideal.nD,
      r.2.mem ((c.tc : Thread Cert.AdamWFf1Ideal.nD Cert.AdamWFf1Ideal.τ).loc Cert.AdamWFf1Ideal.main_arg0) = m ((c.tc : Thread Cert.AdamWFf1Ideal.nD Cert.AdamWFf1Ideal.τ).loc Cert.AdamWFf1Ideal.main_arg0)
      ∧ r.2.mem ((c.tc : Thread Cert.AdamWFf1Ideal.nD Cert.AdamWFf1Ideal.τ).loc Cert.AdamWFf1Ideal.main_arg1) = m ((c.tc : Thread Cert.AdamWFf1Ideal.nD Cert.AdamWFf1Ideal.τ).loc Cert.AdamWFf1Ideal.main_arg1)
      ∧ r.2.mem ((c.tc : Thread Cert.AdamWFf1Ideal.nD Cert.AdamWFf1Ideal.τ).loc Cert.AdamWFf1Ideal.main_arg2) = m ((c.tc : Thread Cert.AdamWFf1Ideal.nD Cert.AdamWFf1Ideal.τ).loc Cert.AdamWFf1Ideal.main_arg2)
      ∧ r.2.mem ((c.tc : Thread Cert.AdamWFf1Ideal.nD Cert.AdamWFf1Ideal.τ).loc Cert.AdamWFf1Ideal.main_arg3) = m ((c.tc : Thread Cert.AdamWFf1Ideal.nD Cert.AdamWFf1Ideal.τ).loc Cert.AdamWFf1Ideal.main_arg3)
      ∧ r.2.mem ((c.tc : Thread Cert.AdamWFf1Ideal.nD Cert.AdamWFf1Ideal.τ).loc Cert.AdamWFf1Ideal.main_arg4) = m ((c.tc : Thread Cert.AdamWFf1Ideal.nD Cert.AdamWFf1Ideal.τ).loc Cert.AdamWFf1Ideal.main_arg4))
      ∧ r.2.sem = fun _ => 0)

def quiescent_AdamWFf1RefIdeal [hAdamWFf1RefIdeal : Cert.AdamWFf1RefIdeal.Facts] : Prop :=
  ∀ (m : (ℓ : Loc Cert.AdamWFf1RefIdeal.nD Cert.AdamWFf1RefIdeal.τ Cert.AdamWFf1RefIdeal.sig) → Buf (Elt Ideal) ℓ) (g : Dev Cert.AdamWFf1RefIdeal.nD → PrngReg), Pre_AdamWFf1RefIdeal m →
    θ_run (Cert.AdamWFf1RefIdeal.defs (F := Ideal)) (onTc (τ := Cert.AdamWFf1RefIdeal.τ) (Cert.AdamWFf1RefIdeal.main (F := Ideal))) ⟨m, fun _ => 0, g⟩ (fun r => (∀ c : Dev Cert.AdamWFf1RefIdeal.nD,
      r.2.mem ((c.tc : Thread Cert.AdamWFf1RefIdeal.nD Cert.AdamWFf1RefIdeal.τ).loc Cert.AdamWFf1RefIdeal.main_arg0) = m ((c.tc : Thread Cert.AdamWFf1RefIdeal.nD Cert.AdamWFf1RefIdeal.τ).loc Cert.AdamWFf1RefIdeal.main_arg0)
      ∧ r.2.mem ((c.tc : Thread Cert.AdamWFf1RefIdeal.nD Cert.AdamWFf1RefIdeal.τ).loc Cert.AdamWFf1RefIdeal.main_arg1) = m ((c.tc : Thread Cert.AdamWFf1RefIdeal.nD Cert.AdamWFf1RefIdeal.τ).loc Cert.AdamWFf1RefIdeal.main_arg1)
      ∧ r.2.mem ((c.tc : Thread Cert.AdamWFf1RefIdeal.nD Cert.AdamWFf1RefIdeal.τ).loc Cert.AdamWFf1RefIdeal.main_arg2) = m ((c.tc : Thread Cert.AdamWFf1RefIdeal.nD Cert.AdamWFf1RefIdeal.τ).loc Cert.AdamWFf1RefIdeal.main_arg2)
      ∧ r.2.mem ((c.tc : Thread Cert.AdamWFf1RefIdeal.nD Cert.AdamWFf1RefIdeal.τ).loc Cert.AdamWFf1RefIdeal.main_arg3) = m ((c.tc : Thread Cert.AdamWFf1RefIdeal.nD Cert.AdamWFf1RefIdeal.τ).loc Cert.AdamWFf1RefIdeal.main_arg3)
      ∧ r.2.mem ((c.tc : Thread Cert.AdamWFf1RefIdeal.nD Cert.AdamWFf1RefIdeal.τ).loc Cert.AdamWFf1RefIdeal.main_arg4) = m ((c.tc : Thread Cert.AdamWFf1RefIdeal.nD Cert.AdamWFf1RefIdeal.τ).loc Cert.AdamWFf1RefIdeal.main_arg4))
      ∧ r.2.sem = fun _ => 0)

def quiescent_AdamWFf2 [hAdamWFf2 : Cert.AdamWFf2.Facts] : Prop :=
  ∀ (m : (ℓ : Loc Cert.AdamWFf2.nD Cert.AdamWFf2.τ Cert.AdamWFf2.sig) → Buf (Elt Bits) ℓ) (g : Dev Cert.AdamWFf2.nD → PrngReg), Pre_AdamWFf2 m →
    θ_run (Cert.AdamWFf2.defs (F := Bits)) (onTc (τ := Cert.AdamWFf2.τ) (Cert.AdamWFf2.main (F := Bits))) ⟨m, fun _ => 0, g⟩ (fun r => (∀ c : Dev Cert.AdamWFf2.nD,
      r.2.mem ((c.tc : Thread Cert.AdamWFf2.nD Cert.AdamWFf2.τ).loc Cert.AdamWFf2.main_arg0) = m ((c.tc : Thread Cert.AdamWFf2.nD Cert.AdamWFf2.τ).loc Cert.AdamWFf2.main_arg0)
      ∧ r.2.mem ((c.tc : Thread Cert.AdamWFf2.nD Cert.AdamWFf2.τ).loc Cert.AdamWFf2.main_arg1) = m ((c.tc : Thread Cert.AdamWFf2.nD Cert.AdamWFf2.τ).loc Cert.AdamWFf2.main_arg1)
      ∧ r.2.mem ((c.tc : Thread Cert.AdamWFf2.nD Cert.AdamWFf2.τ).loc Cert.AdamWFf2.main_arg2) = m ((c.tc : Thread Cert.AdamWFf2.nD Cert.AdamWFf2.τ).loc Cert.AdamWFf2.main_arg2)
      ∧ r.2.mem ((c.tc : Thread Cert.AdamWFf2.nD Cert.AdamWFf2.τ).loc Cert.AdamWFf2.main_arg3) = m ((c.tc : Thread Cert.AdamWFf2.nD Cert.AdamWFf2.τ).loc Cert.AdamWFf2.main_arg3)
      ∧ r.2.mem ((c.tc : Thread Cert.AdamWFf2.nD Cert.AdamWFf2.τ).loc Cert.AdamWFf2.main_arg4) = m ((c.tc : Thread Cert.AdamWFf2.nD Cert.AdamWFf2.τ).loc Cert.AdamWFf2.main_arg4))
      ∧ r.2.sem = fun _ => 0)

def quiescent_AdamWFf2Ideal [hAdamWFf2Ideal : Cert.AdamWFf2Ideal.Facts] : Prop :=
  ∀ (m : (ℓ : Loc Cert.AdamWFf2Ideal.nD Cert.AdamWFf2Ideal.τ Cert.AdamWFf2Ideal.sig) → Buf (Elt Ideal) ℓ) (g : Dev Cert.AdamWFf2Ideal.nD → PrngReg), Pre_AdamWFf2Ideal m →
    θ_run (Cert.AdamWFf2Ideal.defs (F := Ideal)) (onTc (τ := Cert.AdamWFf2Ideal.τ) (Cert.AdamWFf2Ideal.main (F := Ideal))) ⟨m, fun _ => 0, g⟩ (fun r => (∀ c : Dev Cert.AdamWFf2Ideal.nD,
      r.2.mem ((c.tc : Thread Cert.AdamWFf2Ideal.nD Cert.AdamWFf2Ideal.τ).loc Cert.AdamWFf2Ideal.main_arg0) = m ((c.tc : Thread Cert.AdamWFf2Ideal.nD Cert.AdamWFf2Ideal.τ).loc Cert.AdamWFf2Ideal.main_arg0)
      ∧ r.2.mem ((c.tc : Thread Cert.AdamWFf2Ideal.nD Cert.AdamWFf2Ideal.τ).loc Cert.AdamWFf2Ideal.main_arg1) = m ((c.tc : Thread Cert.AdamWFf2Ideal.nD Cert.AdamWFf2Ideal.τ).loc Cert.AdamWFf2Ideal.main_arg1)
      ∧ r.2.mem ((c.tc : Thread Cert.AdamWFf2Ideal.nD Cert.AdamWFf2Ideal.τ).loc Cert.AdamWFf2Ideal.main_arg2) = m ((c.tc : Thread Cert.AdamWFf2Ideal.nD Cert.AdamWFf2Ideal.τ).loc Cert.AdamWFf2Ideal.main_arg2)
      ∧ r.2.mem ((c.tc : Thread Cert.AdamWFf2Ideal.nD Cert.AdamWFf2Ideal.τ).loc Cert.AdamWFf2Ideal.main_arg3) = m ((c.tc : Thread Cert.AdamWFf2Ideal.nD Cert.AdamWFf2Ideal.τ).loc Cert.AdamWFf2Ideal.main_arg3)
      ∧ r.2.mem ((c.tc : Thread Cert.AdamWFf2Ideal.nD Cert.AdamWFf2Ideal.τ).loc Cert.AdamWFf2Ideal.main_arg4) = m ((c.tc : Thread Cert.AdamWFf2Ideal.nD Cert.AdamWFf2Ideal.τ).loc Cert.AdamWFf2Ideal.main_arg4))
      ∧ r.2.sem = fun _ => 0)

def quiescent_AdamWFf2RefIdeal [hAdamWFf2RefIdeal : Cert.AdamWFf2RefIdeal.Facts] : Prop :=
  ∀ (m : (ℓ : Loc Cert.AdamWFf2RefIdeal.nD Cert.AdamWFf2RefIdeal.τ Cert.AdamWFf2RefIdeal.sig) → Buf (Elt Ideal) ℓ) (g : Dev Cert.AdamWFf2RefIdeal.nD → PrngReg), Pre_AdamWFf2RefIdeal m →
    θ_run (Cert.AdamWFf2RefIdeal.defs (F := Ideal)) (onTc (τ := Cert.AdamWFf2RefIdeal.τ) (Cert.AdamWFf2RefIdeal.main (F := Ideal))) ⟨m, fun _ => 0, g⟩ (fun r => (∀ c : Dev Cert.AdamWFf2RefIdeal.nD,
      r.2.mem ((c.tc : Thread Cert.AdamWFf2RefIdeal.nD Cert.AdamWFf2RefIdeal.τ).loc Cert.AdamWFf2RefIdeal.main_arg0) = m ((c.tc : Thread Cert.AdamWFf2RefIdeal.nD Cert.AdamWFf2RefIdeal.τ).loc Cert.AdamWFf2RefIdeal.main_arg0)
      ∧ r.2.mem ((c.tc : Thread Cert.AdamWFf2RefIdeal.nD Cert.AdamWFf2RefIdeal.τ).loc Cert.AdamWFf2RefIdeal.main_arg1) = m ((c.tc : Thread Cert.AdamWFf2RefIdeal.nD Cert.AdamWFf2RefIdeal.τ).loc Cert.AdamWFf2RefIdeal.main_arg1)
      ∧ r.2.mem ((c.tc : Thread Cert.AdamWFf2RefIdeal.nD Cert.AdamWFf2RefIdeal.τ).loc Cert.AdamWFf2RefIdeal.main_arg2) = m ((c.tc : Thread Cert.AdamWFf2RefIdeal.nD Cert.AdamWFf2RefIdeal.τ).loc Cert.AdamWFf2RefIdeal.main_arg2)
      ∧ r.2.mem ((c.tc : Thread Cert.AdamWFf2RefIdeal.nD Cert.AdamWFf2RefIdeal.τ).loc Cert.AdamWFf2RefIdeal.main_arg3) = m ((c.tc : Thread Cert.AdamWFf2RefIdeal.nD Cert.AdamWFf2RefIdeal.τ).loc Cert.AdamWFf2RefIdeal.main_arg3)
      ∧ r.2.mem ((c.tc : Thread Cert.AdamWFf2RefIdeal.nD Cert.AdamWFf2RefIdeal.τ).loc Cert.AdamWFf2RefIdeal.main_arg4) = m ((c.tc : Thread Cert.AdamWFf2RefIdeal.nD Cert.AdamWFf2RefIdeal.τ).loc Cert.AdamWFf2RefIdeal.main_arg4))
      ∧ r.2.sem = fun _ => 0)

def quiescent_AdamWSmall [hAdamWSmall : Cert.AdamWSmall.Facts] : Prop :=
  ∀ (m : (ℓ : Loc Cert.AdamWSmall.nD Cert.AdamWSmall.τ Cert.AdamWSmall.sig) → Buf (Elt Bits) ℓ) (g : Dev Cert.AdamWSmall.nD → PrngReg), Pre_AdamWSmall m →
    θ_run (Cert.AdamWSmall.defs (F := Bits)) (onTc (τ := Cert.AdamWSmall.τ) (Cert.AdamWSmall.main (F := Bits))) ⟨m, fun _ => 0, g⟩ (fun r => (∀ c : Dev Cert.AdamWSmall.nD,
      r.2.mem ((c.tc : Thread Cert.AdamWSmall.nD Cert.AdamWSmall.τ).loc Cert.AdamWSmall.main_arg0) = m ((c.tc : Thread Cert.AdamWSmall.nD Cert.AdamWSmall.τ).loc Cert.AdamWSmall.main_arg0)
      ∧ r.2.mem ((c.tc : Thread Cert.AdamWSmall.nD Cert.AdamWSmall.τ).loc Cert.AdamWSmall.main_arg1) = m ((c.tc : Thread Cert.AdamWSmall.nD Cert.AdamWSmall.τ).loc Cert.AdamWSmall.main_arg1)
      ∧ r.2.mem ((c.tc : Thread Cert.AdamWSmall.nD Cert.AdamWSmall.τ).loc Cert.AdamWSmall.main_arg2) = m ((c.tc : Thread Cert.AdamWSmall.nD Cert.AdamWSmall.τ).loc Cert.AdamWSmall.main_arg2)
      ∧ r.2.mem ((c.tc : Thread Cert.AdamWSmall.nD Cert.AdamWSmall.τ).loc Cert.AdamWSmall.main_arg3) = m ((c.tc : Thread Cert.AdamWSmall.nD Cert.AdamWSmall.τ).loc Cert.AdamWSmall.main_arg3))
      ∧ r.2.sem = fun _ => 0)

def quiescent_AdamWSmallIdeal [hAdamWSmallIdeal : Cert.AdamWSmallIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg), Pre_AdamWSmallIdeal m →
    θ_run (Cert.AdamWSmallIdeal.defs (F := Ideal)) (onTc (τ := Cert.AdamWSmallIdeal.τ) (Cert.AdamWSmallIdeal.main (F := Ideal))) ⟨m, fun _ => 0, g⟩ (fun r => (∀ c : Dev Cert.AdamWSmallIdeal.nD,
      r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
      ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
      ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
      ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ r.2.sem = fun _ => 0)

def quiescent_AdamWSmallRefIdeal [hAdamWSmallRefIdeal : Cert.AdamWSmallRefIdeal.Facts] : Prop :=
  ∀ (m : (ℓ : Loc Cert.AdamWSmallRefIdeal.nD Cert.AdamWSmallRefIdeal.τ Cert.AdamWSmallRefIdeal.sig) → Buf (Elt Ideal) ℓ) (g : Dev Cert.AdamWSmallRefIdeal.nD → PrngReg), Pre_AdamWSmallRefIdeal m →
    θ_run (Cert.AdamWSmallRefIdeal.defs (F := Ideal)) (onTc (τ := Cert.AdamWSmallRefIdeal.τ) (Cert.AdamWSmallRefIdeal.main (F := Ideal))) ⟨m, fun _ => 0, g⟩ (fun r => (∀ c : Dev Cert.AdamWSmallRefIdeal.nD,
      r.2.mem ((c.tc : Thread Cert.AdamWSmallRefIdeal.nD Cert.AdamWSmallRefIdeal.τ).loc Cert.AdamWSmallRefIdeal.main_arg0) = m ((c.tc : Thread Cert.AdamWSmallRefIdeal.nD Cert.AdamWSmallRefIdeal.τ).loc Cert.AdamWSmallRefIdeal.main_arg0)
      ∧ r.2.mem ((c.tc : Thread Cert.AdamWSmallRefIdeal.nD Cert.AdamWSmallRefIdeal.τ).loc Cert.AdamWSmallRefIdeal.main_arg1) = m ((c.tc : Thread Cert.AdamWSmallRefIdeal.nD Cert.AdamWSmallRefIdeal.τ).loc Cert.AdamWSmallRefIdeal.main_arg1)
      ∧ r.2.mem ((c.tc : Thread Cert.AdamWSmallRefIdeal.nD Cert.AdamWSmallRefIdeal.τ).loc Cert.AdamWSmallRefIdeal.main_arg2) = m ((c.tc : Thread Cert.AdamWSmallRefIdeal.nD Cert.AdamWSmallRefIdeal.τ).loc Cert.AdamWSmallRefIdeal.main_arg2)
      ∧ r.2.mem ((c.tc : Thread Cert.AdamWSmallRefIdeal.nD Cert.AdamWSmallRefIdeal.τ).loc Cert.AdamWSmallRefIdeal.main_arg3) = m ((c.tc : Thread Cert.AdamWSmallRefIdeal.nD Cert.AdamWSmallRefIdeal.τ).loc Cert.AdamWSmallRefIdeal.main_arg3))
      ∧ r.2.sem = fun _ => 0)

def quiescent_AdamWGdnConv [hAdamWGdnConv : Cert.AdamWGdnConv.Facts] : Prop :=
  ∀ (m : (ℓ : Loc Cert.AdamWGdnConv.nD Cert.AdamWGdnConv.τ Cert.AdamWGdnConv.sig) → Buf (Elt Bits) ℓ) (g : Dev Cert.AdamWGdnConv.nD → PrngReg), Pre_AdamWGdnConv m →
    θ_run (Cert.AdamWGdnConv.defs (F := Bits)) (onTc (τ := Cert.AdamWGdnConv.τ) (Cert.AdamWGdnConv.main (F := Bits))) ⟨m, fun _ => 0, g⟩ (fun r => (∀ c : Dev Cert.AdamWGdnConv.nD,
      r.2.mem ((c.tc : Thread Cert.AdamWGdnConv.nD Cert.AdamWGdnConv.τ).loc Cert.AdamWGdnConv.main_arg0) = m ((c.tc : Thread Cert.AdamWGdnConv.nD Cert.AdamWGdnConv.τ).loc Cert.AdamWGdnConv.main_arg0)
      ∧ r.2.mem ((c.tc : Thread Cert.AdamWGdnConv.nD Cert.AdamWGdnConv.τ).loc Cert.AdamWGdnConv.main_arg1) = m ((c.tc : Thread Cert.AdamWGdnConv.nD Cert.AdamWGdnConv.τ).loc Cert.AdamWGdnConv.main_arg1)
      ∧ r.2.mem ((c.tc : Thread Cert.AdamWGdnConv.nD Cert.AdamWGdnConv.τ).loc Cert.AdamWGdnConv.main_arg2) = m ((c.tc : Thread Cert.AdamWGdnConv.nD Cert.AdamWGdnConv.τ).loc Cert.AdamWGdnConv.main_arg2)
      ∧ r.2.mem ((c.tc : Thread Cert.AdamWGdnConv.nD Cert.AdamWGdnConv.τ).loc Cert.AdamWGdnConv.main_arg3) = m ((c.tc : Thread Cert.AdamWGdnConv.nD Cert.AdamWGdnConv.τ).loc Cert.AdamWGdnConv.main_arg3))
      ∧ r.2.sem = fun _ => 0)

def quiescent_AdamWGdnConvIdeal [hAdamWGdnConvIdeal : Cert.AdamWGdnConvIdeal.Facts] : Prop :=
  ∀ (m : (ℓ : Loc Cert.AdamWGdnConvIdeal.nD Cert.AdamWGdnConvIdeal.τ Cert.AdamWGdnConvIdeal.sig) → Buf (Elt Ideal) ℓ) (g : Dev Cert.AdamWGdnConvIdeal.nD → PrngReg), Pre_AdamWGdnConvIdeal m →
    θ_run (Cert.AdamWGdnConvIdeal.defs (F := Ideal)) (onTc (τ := Cert.AdamWGdnConvIdeal.τ) (Cert.AdamWGdnConvIdeal.main (F := Ideal))) ⟨m, fun _ => 0, g⟩ (fun r => (∀ c : Dev Cert.AdamWGdnConvIdeal.nD,
      r.2.mem ((c.tc : Thread Cert.AdamWGdnConvIdeal.nD Cert.AdamWGdnConvIdeal.τ).loc Cert.AdamWGdnConvIdeal.main_arg0) = m ((c.tc : Thread Cert.AdamWGdnConvIdeal.nD Cert.AdamWGdnConvIdeal.τ).loc Cert.AdamWGdnConvIdeal.main_arg0)
      ∧ r.2.mem ((c.tc : Thread Cert.AdamWGdnConvIdeal.nD Cert.AdamWGdnConvIdeal.τ).loc Cert.AdamWGdnConvIdeal.main_arg1) = m ((c.tc : Thread Cert.AdamWGdnConvIdeal.nD Cert.AdamWGdnConvIdeal.τ).loc Cert.AdamWGdnConvIdeal.main_arg1)
      ∧ r.2.mem ((c.tc : Thread Cert.AdamWGdnConvIdeal.nD Cert.AdamWGdnConvIdeal.τ).loc Cert.AdamWGdnConvIdeal.main_arg2) = m ((c.tc : Thread Cert.AdamWGdnConvIdeal.nD Cert.AdamWGdnConvIdeal.τ).loc Cert.AdamWGdnConvIdeal.main_arg2)
      ∧ r.2.mem ((c.tc : Thread Cert.AdamWGdnConvIdeal.nD Cert.AdamWGdnConvIdeal.τ).loc Cert.AdamWGdnConvIdeal.main_arg3) = m ((c.tc : Thread Cert.AdamWGdnConvIdeal.nD Cert.AdamWGdnConvIdeal.τ).loc Cert.AdamWGdnConvIdeal.main_arg3))
      ∧ r.2.sem = fun _ => 0)

def quiescent_AdamWGdnConvRefIdeal [hAdamWGdnConvRefIdeal : Cert.AdamWGdnConvRefIdeal.Facts] : Prop :=
  ∀ (m : (ℓ : Loc Cert.AdamWGdnConvRefIdeal.nD Cert.AdamWGdnConvRefIdeal.τ Cert.AdamWGdnConvRefIdeal.sig) → Buf (Elt Ideal) ℓ) (g : Dev Cert.AdamWGdnConvRefIdeal.nD → PrngReg), Pre_AdamWGdnConvRefIdeal m →
    θ_run (Cert.AdamWGdnConvRefIdeal.defs (F := Ideal)) (onTc (τ := Cert.AdamWGdnConvRefIdeal.τ) (Cert.AdamWGdnConvRefIdeal.main (F := Ideal))) ⟨m, fun _ => 0, g⟩ (fun r => (∀ c : Dev Cert.AdamWGdnConvRefIdeal.nD,
      r.2.mem ((c.tc : Thread Cert.AdamWGdnConvRefIdeal.nD Cert.AdamWGdnConvRefIdeal.τ).loc Cert.AdamWGdnConvRefIdeal.main_arg0) = m ((c.tc : Thread Cert.AdamWGdnConvRefIdeal.nD Cert.AdamWGdnConvRefIdeal.τ).loc Cert.AdamWGdnConvRefIdeal.main_arg0)
      ∧ r.2.mem ((c.tc : Thread Cert.AdamWGdnConvRefIdeal.nD Cert.AdamWGdnConvRefIdeal.τ).loc Cert.AdamWGdnConvRefIdeal.main_arg1) = m ((c.tc : Thread Cert.AdamWGdnConvRefIdeal.nD Cert.AdamWGdnConvRefIdeal.τ).loc Cert.AdamWGdnConvRefIdeal.main_arg1)
      ∧ r.2.mem ((c.tc : Thread Cert.AdamWGdnConvRefIdeal.nD Cert.AdamWGdnConvRefIdeal.τ).loc Cert.AdamWGdnConvRefIdeal.main_arg2) = m ((c.tc : Thread Cert.AdamWGdnConvRefIdeal.nD Cert.AdamWGdnConvRefIdeal.τ).loc Cert.AdamWGdnConvRefIdeal.main_arg2)
      ∧ r.2.mem ((c.tc : Thread Cert.AdamWGdnConvRefIdeal.nD Cert.AdamWGdnConvRefIdeal.τ).loc Cert.AdamWGdnConvRefIdeal.main_arg3) = m ((c.tc : Thread Cert.AdamWGdnConvRefIdeal.nD Cert.AdamWGdnConvRefIdeal.τ).loc Cert.AdamWGdnConvRefIdeal.main_arg3))
      ∧ r.2.sem = fun _ => 0)

def quiescent_AdamWConvDw [hAdamWConvDw : Cert.AdamWConvDw.Facts] : Prop :=
  ∀ (m : (ℓ : Loc Cert.AdamWConvDw.nD Cert.AdamWConvDw.τ Cert.AdamWConvDw.sig) → Buf (Elt Bits) ℓ) (g : Dev Cert.AdamWConvDw.nD → PrngReg), Pre_AdamWConvDw m →
    θ_run (Cert.AdamWConvDw.defs (F := Bits)) (onTc (τ := Cert.AdamWConvDw.τ) (Cert.AdamWConvDw.main (F := Bits))) ⟨m, fun _ => 0, g⟩ (fun r => (∀ c : Dev Cert.AdamWConvDw.nD,
      r.2.mem ((c.tc : Thread Cert.AdamWConvDw.nD Cert.AdamWConvDw.τ).loc Cert.AdamWConvDw.main_arg0) = m ((c.tc : Thread Cert.AdamWConvDw.nD Cert.AdamWConvDw.τ).loc Cert.AdamWConvDw.main_arg0)
      ∧ r.2.mem ((c.tc : Thread Cert.AdamWConvDw.nD Cert.AdamWConvDw.τ).loc Cert.AdamWConvDw.main_arg1) = m ((c.tc : Thread Cert.AdamWConvDw.nD Cert.AdamWConvDw.τ).loc Cert.AdamWConvDw.main_arg1)
      ∧ r.2.mem ((c.tc : Thread Cert.AdamWConvDw.nD Cert.AdamWConvDw.τ).loc Cert.AdamWConvDw.main_arg2) = m ((c.tc : Thread Cert.AdamWConvDw.nD Cert.AdamWConvDw.τ).loc Cert.AdamWConvDw.main_arg2)
      ∧ r.2.mem ((c.tc : Thread Cert.AdamWConvDw.nD Cert.AdamWConvDw.τ).loc Cert.AdamWConvDw.main_arg3) = m ((c.tc : Thread Cert.AdamWConvDw.nD Cert.AdamWConvDw.τ).loc Cert.AdamWConvDw.main_arg3))
      ∧ r.2.sem = fun _ => 0)

def quiescent_AdamWConvDwIdeal [hAdamWConvDwIdeal : Cert.AdamWConvDwIdeal.Facts] : Prop :=
  ∀ (m : (ℓ : Loc Cert.AdamWConvDwIdeal.nD Cert.AdamWConvDwIdeal.τ Cert.AdamWConvDwIdeal.sig) → Buf (Elt Ideal) ℓ) (g : Dev Cert.AdamWConvDwIdeal.nD → PrngReg), Pre_AdamWConvDwIdeal m →
    θ_run (Cert.AdamWConvDwIdeal.defs (F := Ideal)) (onTc (τ := Cert.AdamWConvDwIdeal.τ) (Cert.AdamWConvDwIdeal.main (F := Ideal))) ⟨m, fun _ => 0, g⟩ (fun r => (∀ c : Dev Cert.AdamWConvDwIdeal.nD,
      r.2.mem ((c.tc : Thread Cert.AdamWConvDwIdeal.nD Cert.AdamWConvDwIdeal.τ).loc Cert.AdamWConvDwIdeal.main_arg0) = m ((c.tc : Thread Cert.AdamWConvDwIdeal.nD Cert.AdamWConvDwIdeal.τ).loc Cert.AdamWConvDwIdeal.main_arg0)
      ∧ r.2.mem ((c.tc : Thread Cert.AdamWConvDwIdeal.nD Cert.AdamWConvDwIdeal.τ).loc Cert.AdamWConvDwIdeal.main_arg1) = m ((c.tc : Thread Cert.AdamWConvDwIdeal.nD Cert.AdamWConvDwIdeal.τ).loc Cert.AdamWConvDwIdeal.main_arg1)
      ∧ r.2.mem ((c.tc : Thread Cert.AdamWConvDwIdeal.nD Cert.AdamWConvDwIdeal.τ).loc Cert.AdamWConvDwIdeal.main_arg2) = m ((c.tc : Thread Cert.AdamWConvDwIdeal.nD Cert.AdamWConvDwIdeal.τ).loc Cert.AdamWConvDwIdeal.main_arg2)
      ∧ r.2.mem ((c.tc : Thread Cert.AdamWConvDwIdeal.nD Cert.AdamWConvDwIdeal.τ).loc Cert.AdamWConvDwIdeal.main_arg3) = m ((c.tc : Thread Cert.AdamWConvDwIdeal.nD Cert.AdamWConvDwIdeal.τ).loc Cert.AdamWConvDwIdeal.main_arg3))
      ∧ r.2.sem = fun _ => 0)

def quiescent_AdamWConvDwRefIdeal [hAdamWConvDwRefIdeal : Cert.AdamWConvDwRefIdeal.Facts] : Prop :=
  ∀ (m : (ℓ : Loc Cert.AdamWConvDwRefIdeal.nD Cert.AdamWConvDwRefIdeal.τ Cert.AdamWConvDwRefIdeal.sig) → Buf (Elt Ideal) ℓ) (g : Dev Cert.AdamWConvDwRefIdeal.nD → PrngReg), Pre_AdamWConvDwRefIdeal m →
    θ_run (Cert.AdamWConvDwRefIdeal.defs (F := Ideal)) (onTc (τ := Cert.AdamWConvDwRefIdeal.τ) (Cert.AdamWConvDwRefIdeal.main (F := Ideal))) ⟨m, fun _ => 0, g⟩ (fun r => (∀ c : Dev Cert.AdamWConvDwRefIdeal.nD,
      r.2.mem ((c.tc : Thread Cert.AdamWConvDwRefIdeal.nD Cert.AdamWConvDwRefIdeal.τ).loc Cert.AdamWConvDwRefIdeal.main_arg0) = m ((c.tc : Thread Cert.AdamWConvDwRefIdeal.nD Cert.AdamWConvDwRefIdeal.τ).loc Cert.AdamWConvDwRefIdeal.main_arg0)
      ∧ r.2.mem ((c.tc : Thread Cert.AdamWConvDwRefIdeal.nD Cert.AdamWConvDwRefIdeal.τ).loc Cert.AdamWConvDwRefIdeal.main_arg1) = m ((c.tc : Thread Cert.AdamWConvDwRefIdeal.nD Cert.AdamWConvDwRefIdeal.τ).loc Cert.AdamWConvDwRefIdeal.main_arg1)
      ∧ r.2.mem ((c.tc : Thread Cert.AdamWConvDwRefIdeal.nD Cert.AdamWConvDwRefIdeal.τ).loc Cert.AdamWConvDwRefIdeal.main_arg2) = m ((c.tc : Thread Cert.AdamWConvDwRefIdeal.nD Cert.AdamWConvDwRefIdeal.τ).loc Cert.AdamWConvDwRefIdeal.main_arg2)
      ∧ r.2.mem ((c.tc : Thread Cert.AdamWConvDwRefIdeal.nD Cert.AdamWConvDwRefIdeal.τ).loc Cert.AdamWConvDwRefIdeal.main_arg3) = m ((c.tc : Thread Cert.AdamWConvDwRefIdeal.nD Cert.AdamWConvDwRefIdeal.τ).loc Cert.AdamWConvDwRefIdeal.main_arg3))
      ∧ r.2.sem = fun _ => 0)

def preserves_GmlpBwd_GmlpBwdIdeal : Prop :=
  True

def algebraic_GmlpBwdIdeal_GmlpBwdRefIdeal_pre_finite_inputs [hGmlpBwdIdeal : Cert.GmlpBwdIdeal.Facts] [hGmlpBwdRefIdeal : Cert.GmlpBwdRefIdeal.Facts] [hPre_finite_inputs : Cert.Pre_finite_inputs.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_finite_inputs m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)) →
    ∃ (v0 : (c : Dev Cert.GmlpBwdIdeal.nD) → Buf (Elt Ideal) ((c.tc : Thread Cert.GmlpBwdIdeal.nD Cert.GmlpBwdIdeal.τ).loc Cert.GmlpBwdIdeal.main_v3_0)) (v1 : (c : Dev Cert.GmlpBwdIdeal.nD) → Buf (Elt Ideal) ((c.tc : Thread Cert.GmlpBwdIdeal.nD Cert.GmlpBwdIdeal.τ).loc Cert.GmlpBwdIdeal.main_v3_1)) (v2 : (c : Dev Cert.GmlpBwdIdeal.nD) → Buf (Elt Ideal) ((c.tc : Thread Cert.GmlpBwdIdeal.nD Cert.GmlpBwdIdeal.τ).loc Cert.GmlpBwdIdeal.main_v3_2)) (v3 : (c : Dev Cert.GmlpBwdIdeal.nD) → Buf (Elt Ideal) ((c.tc : Thread Cert.GmlpBwdIdeal.nD Cert.GmlpBwdIdeal.τ).loc Cert.GmlpBwdIdeal.main_v3_3)) (v4 : (c : Dev Cert.GmlpBwdIdeal.nD) → Buf (Elt Ideal) ((c.tc : Thread Cert.GmlpBwdIdeal.nD Cert.GmlpBwdIdeal.τ).loc Cert.GmlpBwdIdeal.main_v3_4)) (v5 : (c : Dev Cert.GmlpBwdIdeal.nD) → Buf (Elt Ideal) ((c.tc : Thread Cert.GmlpBwdIdeal.nD Cert.GmlpBwdIdeal.τ).loc Cert.GmlpBwdIdeal.main_v3_5)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v3_0) = v0 c
          ∧ r.2.mem ((c.tc : Thread Cert.GmlpBwdIdeal.nD Cert.GmlpBwdIdeal.τ).loc Cert.GmlpBwdIdeal.main_v3_1) = v1 c
          ∧ r.2.mem ((c.tc : Thread Cert.GmlpBwdIdeal.nD Cert.GmlpBwdIdeal.τ).loc Cert.GmlpBwdIdeal.main_v3_2) = v2 c
          ∧ r.2.mem ((c.tc : Thread Cert.GmlpBwdIdeal.nD Cert.GmlpBwdIdeal.τ).loc Cert.GmlpBwdIdeal.main_v3_3) = v3 c
          ∧ r.2.mem ((c.tc : Thread Cert.GmlpBwdIdeal.nD Cert.GmlpBwdIdeal.τ).loc Cert.GmlpBwdIdeal.main_v3_4) = v4 c
          ∧ r.2.mem ((c.tc : Thread Cert.GmlpBwdIdeal.nD Cert.GmlpBwdIdeal.τ).loc Cert.GmlpBwdIdeal.main_v3_5) = v5 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v138) = v0 c
          ∧ r.2.mem ((c.tc : Thread Cert.GmlpBwdRefIdeal.nD Cert.GmlpBwdRefIdeal.τ).loc Cert.GmlpBwdRefIdeal.main_v140) = v1 c
          ∧ r.2.mem ((c.tc : Thread Cert.GmlpBwdRefIdeal.nD Cert.GmlpBwdRefIdeal.τ).loc Cert.GmlpBwdRefIdeal.main_v141) = v2 c
          ∧ r.2.mem ((c.tc : Thread Cert.GmlpBwdRefIdeal.nD Cert.GmlpBwdRefIdeal.τ).loc Cert.GmlpBwdRefIdeal.main_v142) = v3 c
          ∧ r.2.mem ((c.tc : Thread Cert.GmlpBwdRefIdeal.nD Cert.GmlpBwdRefIdeal.τ).loc Cert.GmlpBwdRefIdeal.main_v143) = v4 c
          ∧ r.2.mem ((c.tc : Thread Cert.GmlpBwdRefIdeal.nD Cert.GmlpBwdRefIdeal.τ).loc Cert.GmlpBwdRefIdeal.main_v73) = v5 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5))

def preserves_Ff2Dx_Ff2DxIdeal : Prop :=
  True

def algebraic_Ff2DxIdeal_Ff2DxRefIdeal [hFf2DxIdeal : Cert.Ff2DxIdeal.Facts] [hFf2DxRefIdeal : Cert.Ff2DxRefIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg)
    (m' : (ℓ : Loc Cert.Ff2DxRefIdeal.nD Cert.Ff2DxRefIdeal.τ Cert.Ff2DxRefIdeal.sig) → Buf (Elt Ideal) ℓ) (g' : Dev Cert.Ff2DxRefIdeal.nD → PrngReg), Pre_Ff2DxIdeal m →
    (∀ c : Dev Cert.Ff2DxIdeal.nD,
      m' ((c.tc : Thread Cert.Ff2DxRefIdeal.nD Cert.Ff2DxRefIdeal.τ).loc Cert.Ff2DxRefIdeal.main_arg0) = m ((c.tc : Thread Cert.Ff2DxIdeal.nD Cert.Ff2DxIdeal.τ).loc Cert.Ff2DxIdeal.main_arg0)
      ∧ m' ((c.tc : Thread Cert.Ff2DxRefIdeal.nD Cert.Ff2DxRefIdeal.τ).loc Cert.Ff2DxRefIdeal.main_arg1) = m ((c.tc : Thread Cert.Ff2DxIdeal.nD Cert.Ff2DxIdeal.τ).loc Cert.Ff2DxIdeal.main_arg1)
      ∧ m' ((c.tc : Thread Cert.Ff2DxRefIdeal.nD Cert.Ff2DxRefIdeal.τ).loc Cert.Ff2DxRefIdeal.main_arg2) = m ((c.tc : Thread Cert.Ff2DxIdeal.nD Cert.Ff2DxIdeal.τ).loc Cert.Ff2DxIdeal.main_arg2)) →
    ∃ (v0 : (c : Dev Cert.Ff2DxIdeal.nD) → Buf (Elt Ideal) ((c.tc : Thread Cert.Ff2DxIdeal.nD Cert.Ff2DxIdeal.τ).loc Cert.Ff2DxIdeal.main_v3)),
      θ_run (Cert.Ff2DxIdeal.defs (F := Ideal)) (onTc (τ := Cert.Ff2DxIdeal.τ) (Cert.Ff2DxIdeal.main (F := Ideal))) ⟨m, fun _ => 0, g⟩ (fun r => ∀ c : Dev Cert.Ff2DxIdeal.nD,
          r.2.mem ((c.tc : Thread Cert.Ff2DxIdeal.nD Cert.Ff2DxIdeal.τ).loc Cert.Ff2DxIdeal.main_v3) = v0 c
          ∧ r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
          ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
          ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ θ_run (Cert.Ff2DxRefIdeal.defs (F := Ideal)) (onTc (τ := Cert.Ff2DxRefIdeal.τ) (Cert.Ff2DxRefIdeal.main (F := Ideal))) ⟨m', fun _ => 0, g'⟩ (fun r => ∀ c : Dev Cert.Ff2DxRefIdeal.nD,
          r.2.mem ((c.tc : Thread Cert.Ff2DxRefIdeal.nD Cert.Ff2DxRefIdeal.τ).loc Cert.Ff2DxRefIdeal.main_v12) = v0 c
          ∧ r.2.mem ((c.tc : Thread Cert.Ff2DxRefIdeal.nD Cert.Ff2DxRefIdeal.τ).loc Cert.Ff2DxRefIdeal.main_arg0) = m' ((c.tc : Thread Cert.Ff2DxRefIdeal.nD Cert.Ff2DxRefIdeal.τ).loc Cert.Ff2DxRefIdeal.main_arg0)
          ∧ r.2.mem ((c.tc : Thread Cert.Ff2DxRefIdeal.nD Cert.Ff2DxRefIdeal.τ).loc Cert.Ff2DxRefIdeal.main_arg1) = m' ((c.tc : Thread Cert.Ff2DxRefIdeal.nD Cert.Ff2DxRefIdeal.τ).loc Cert.Ff2DxRefIdeal.main_arg1)
          ∧ r.2.mem ((c.tc : Thread Cert.Ff2DxRefIdeal.nD Cert.Ff2DxRefIdeal.τ).loc Cert.Ff2DxRefIdeal.main_arg2) = m' ((c.tc : Thread Cert.Ff2DxRefIdeal.nD Cert.Ff2DxRefIdeal.τ).loc Cert.Ff2DxRefIdeal.main_arg2))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v2)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v2) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v6) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)) →
    ∃ (v0 : (c : Dev Cert.Ff1DxIdeal.nD) → Buf (Elt Ideal) ((c.tc : Thread Cert.Ff1DxIdeal.nD Cert.Ff1DxIdeal.τ).loc Cert.Ff1DxIdeal.main_v5)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v5) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v2) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v2)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v2) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v6) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v2)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v2) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v2) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v2)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v2) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v6) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v2) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_SumWIn_SumWInIdeal : Prop :=
  True

def algebraic_SumWInIdeal_SumWInRefIdeal [hSumWInIdeal : Cert.SumWInIdeal.Facts] [hSumWInRefIdeal : Cert.SumWInRefIdeal.Facts] : Prop :=
  ∀ (m : (ℓ : Loc Cert.SumWInIdeal.nD Cert.SumWInIdeal.τ Cert.SumWInIdeal.sig) → Buf (Elt Ideal) ℓ) (g : Dev Cert.SumWInIdeal.nD → PrngReg)
    (m' : (ℓ : Loc Cert.SumWInRefIdeal.nD Cert.SumWInRefIdeal.τ Cert.SumWInRefIdeal.sig) → Buf (Elt Ideal) ℓ) (g' : Dev Cert.SumWInRefIdeal.nD → PrngReg), Pre_SumWInIdeal m →
    (∀ c : Dev Cert.SumWInIdeal.nD,
      m' ((c.tc : Thread Cert.SumWInRefIdeal.nD Cert.SumWInRefIdeal.τ).loc Cert.SumWInRefIdeal.main_arg0) = m ((c.tc : Thread Cert.SumWInIdeal.nD Cert.SumWInIdeal.τ).loc Cert.SumWInIdeal.main_arg0)) →
    ∃ (v0 : (c : Dev Cert.SumWInIdeal.nD) → Buf (Elt Ideal) ((c.tc : Thread Cert.SumWInIdeal.nD Cert.SumWInIdeal.τ).loc Cert.SumWInIdeal.main_v0)),
      θ_run (Cert.SumWInIdeal.defs (F := Ideal)) (onTc (τ := Cert.SumWInIdeal.τ) (Cert.SumWInIdeal.main (F := Ideal))) ⟨m, fun _ => 0, g⟩ (fun r => ∀ c : Dev Cert.SumWInIdeal.nD,
          r.2.mem ((c.tc : Thread Cert.SumWInIdeal.nD Cert.SumWInIdeal.τ).loc Cert.SumWInIdeal.main_v0) = v0 c
          ∧ r.2.mem ((c.tc : Thread Cert.SumWInIdeal.nD Cert.SumWInIdeal.τ).loc Cert.SumWInIdeal.main_arg0) = m ((c.tc : Thread Cert.SumWInIdeal.nD Cert.SumWInIdeal.τ).loc Cert.SumWInIdeal.main_arg0))
      ∧ θ_run (Cert.SumWInRefIdeal.defs (F := Ideal)) (onTc (τ := Cert.SumWInRefIdeal.τ) (Cert.SumWInRefIdeal.main (F := Ideal))) ⟨m', fun _ => 0, g'⟩ (fun r => ∀ c : Dev Cert.SumWInRefIdeal.nD,
          r.2.mem ((c.tc : Thread Cert.SumWInRefIdeal.nD Cert.SumWInRefIdeal.τ).loc Cert.SumWInRefIdeal.main_v1) = v0 c
          ∧ r.2.mem ((c.tc : Thread Cert.SumWInRefIdeal.nD Cert.SumWInRefIdeal.τ).loc Cert.SumWInRefIdeal.main_arg0) = m' ((c.tc : Thread Cert.SumWInRefIdeal.nD Cert.SumWInRefIdeal.τ).loc Cert.SumWInRefIdeal.main_arg0))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v5_0)) (v1 : (c : Dev Cert.Ff1Ideal.nD) → Buf (Elt Ideal) ((c.tc : Thread Cert.Ff1Ideal.nD Cert.Ff1Ideal.τ).loc Cert.Ff1Ideal.main_v5_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v5_0) = v0 c
          ∧ r.2.mem ((c.tc : Thread Cert.Ff1Ideal.nD Cert.Ff1Ideal.τ).loc Cert.Ff1Ideal.main_v5_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v0) = v0 c
          ∧ r.2.mem ((c.tc : Thread Cert.Ff1RefIdeal.nD Cert.Ff1RefIdeal.τ).loc Cert.Ff1RefIdeal.main_v3) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v3)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v3) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v0) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_ResBwd_ResBwdIdeal : Prop :=
  True

def algebraic_ResBwdIdeal_ResBwdRefIdeal [hResBwdIdeal : Cert.ResBwdIdeal.Facts] [hResBwdRefIdeal : Cert.ResBwdRefIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg)
    (m' : (ℓ : Loc Cert.ResBwdRefIdeal.nD Cert.ResBwdRefIdeal.τ Cert.ResBwdRefIdeal.sig) → Buf (Elt Ideal) ℓ) (g' : Dev Cert.ResBwdRefIdeal.nD → PrngReg), Pre_ResBwdIdeal m →
    (∀ c : Dev Cert.ResBwdIdeal.nD,
      m' ((c.tc : Thread Cert.ResBwdRefIdeal.nD Cert.ResBwdRefIdeal.τ).loc Cert.ResBwdRefIdeal.main_arg0) = m ((c.tc : Thread Cert.ResBwdIdeal.nD Cert.ResBwdIdeal.τ).loc Cert.ResBwdIdeal.main_arg0)
      ∧ m' ((c.tc : Thread Cert.ResBwdRefIdeal.nD Cert.ResBwdRefIdeal.τ).loc Cert.ResBwdRefIdeal.main_arg1) = m ((c.tc : Thread Cert.ResBwdIdeal.nD Cert.ResBwdIdeal.τ).loc Cert.ResBwdIdeal.main_arg1)
      ∧ m' ((c.tc : Thread Cert.ResBwdRefIdeal.nD Cert.ResBwdRefIdeal.τ).loc Cert.ResBwdRefIdeal.main_arg2) = m ((c.tc : Thread Cert.ResBwdIdeal.nD Cert.ResBwdIdeal.τ).loc Cert.ResBwdIdeal.main_arg2)) →
    ∃ (v0 : (c : Dev Cert.ResBwdIdeal.nD) → Buf (Elt Ideal) ((c.tc : Thread Cert.ResBwdIdeal.nD Cert.ResBwdIdeal.τ).loc Cert.ResBwdIdeal.main_v1_0)) (v1 : (c : Dev Cert.ResBwdIdeal.nD) → Buf (Elt Ideal) ((c.tc : Thread Cert.ResBwdIdeal.nD Cert.ResBwdIdeal.τ).loc Cert.ResBwdIdeal.main_v1_1)),
      θ_run (Cert.ResBwdIdeal.defs (F := Ideal)) (onTc (τ := Cert.ResBwdIdeal.τ) (Cert.ResBwdIdeal.main (F := Ideal))) ⟨m, fun _ => 0, g⟩ (fun r => ∀ c : Dev Cert.ResBwdIdeal.nD,
          r.2.mem ((c.tc : Thread Cert.ResBwdIdeal.nD Cert.ResBwdIdeal.τ).loc Cert.ResBwdIdeal.main_v1_0) = v0 c
          ∧ r.2.mem ((c.tc : Thread Cert.ResBwdIdeal.nD Cert.ResBwdIdeal.τ).loc Cert.ResBwdIdeal.main_v1_1) = v1 c
          ∧ r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
          ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
          ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ θ_run (Cert.ResBwdRefIdeal.defs (F := Ideal)) (onTc (τ := Cert.ResBwdRefIdeal.τ) (Cert.ResBwdRefIdeal.main (F := Ideal))) ⟨m', fun _ => 0, g'⟩ (fun r => ∀ c : Dev Cert.ResBwdRefIdeal.nD,
          r.2.mem ((c.tc : Thread Cert.ResBwdRefIdeal.nD Cert.ResBwdRefIdeal.τ).loc Cert.ResBwdRefIdeal.main_v36) = v0 c
          ∧ r.2.mem ((c.tc : Thread Cert.ResBwdRefIdeal.nD Cert.ResBwdRefIdeal.τ).loc Cert.ResBwdRefIdeal.main_v37) = v1 c
          ∧ r.2.mem ((c.tc : Thread Cert.ResBwdRefIdeal.nD Cert.ResBwdRefIdeal.τ).loc Cert.ResBwdRefIdeal.main_arg0) = m' ((c.tc : Thread Cert.ResBwdRefIdeal.nD Cert.ResBwdRefIdeal.τ).loc Cert.ResBwdRefIdeal.main_arg0)
          ∧ r.2.mem ((c.tc : Thread Cert.ResBwdRefIdeal.nD Cert.ResBwdRefIdeal.τ).loc Cert.ResBwdRefIdeal.main_arg1) = m' ((c.tc : Thread Cert.ResBwdRefIdeal.nD Cert.ResBwdRefIdeal.τ).loc Cert.ResBwdRefIdeal.main_arg1)
          ∧ r.2.mem ((c.tc : Thread Cert.ResBwdRefIdeal.nD Cert.ResBwdRefIdeal.τ).loc Cert.ResBwdRefIdeal.main_arg2) = m' ((c.tc : Thread Cert.ResBwdRefIdeal.nD Cert.ResBwdRefIdeal.τ).loc Cert.ResBwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ResFwd_ResFwdIdeal : Prop :=
  True

def algebraic_ResFwdIdeal_ResFwdRefIdeal [hResFwdIdeal : Cert.ResFwdIdeal.Facts] [hResFwdRefIdeal : Cert.ResFwdRefIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg)
    (m' : (ℓ : Loc Cert.ResFwdRefIdeal.nD Cert.ResFwdRefIdeal.τ Cert.ResFwdRefIdeal.sig) → Buf (Elt Ideal) ℓ) (g' : Dev Cert.ResFwdRefIdeal.nD → PrngReg), Pre_ResFwdIdeal m →
    (∀ c : Dev Cert.ResFwdIdeal.nD,
      m' ((c.tc : Thread Cert.ResFwdRefIdeal.nD Cert.ResFwdRefIdeal.τ).loc Cert.ResFwdRefIdeal.main_arg0) = m ((c.tc : Thread Cert.ResFwdIdeal.nD Cert.ResFwdIdeal.τ).loc Cert.ResFwdIdeal.main_arg0)
      ∧ m' ((c.tc : Thread Cert.ResFwdRefIdeal.nD Cert.ResFwdRefIdeal.τ).loc Cert.ResFwdRefIdeal.main_arg1) = m ((c.tc : Thread Cert.ResFwdIdeal.nD Cert.ResFwdIdeal.τ).loc Cert.ResFwdIdeal.main_arg1)
      ∧ m' ((c.tc : Thread Cert.ResFwdRefIdeal.nD Cert.ResFwdRefIdeal.τ).loc Cert.ResFwdRefIdeal.main_arg2) = m ((c.tc : Thread Cert.ResFwdIdeal.nD Cert.ResFwdIdeal.τ).loc Cert.ResFwdIdeal.main_arg2)) →
    ∃ (v0 : (c : Dev Cert.ResFwdIdeal.nD) → Buf (Elt Ideal) ((c.tc : Thread Cert.ResFwdIdeal.nD Cert.ResFwdIdeal.τ).loc Cert.ResFwdIdeal.main_v1)),
      θ_run (Cert.ResFwdIdeal.defs (F := Ideal)) (onTc (τ := Cert.ResFwdIdeal.τ) (Cert.ResFwdIdeal.main (F := Ideal))) ⟨m, fun _ => 0, g⟩ (fun r => ∀ c : Dev Cert.ResFwdIdeal.nD,
          r.2.mem ((c.tc : Thread Cert.ResFwdIdeal.nD Cert.ResFwdIdeal.τ).loc Cert.ResFwdIdeal.main_v1) = v0 c
          ∧ r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
          ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
          ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2))
      ∧ θ_run (Cert.ResFwdRefIdeal.defs (F := Ideal)) (onTc (τ := Cert.ResFwdRefIdeal.τ) (Cert.ResFwdRefIdeal.main (F := Ideal))) ⟨m', fun _ => 0, g'⟩ (fun r => ∀ c : Dev Cert.ResFwdRefIdeal.nD,
          r.2.mem ((c.tc : Thread Cert.ResFwdRefIdeal.nD Cert.ResFwdRefIdeal.τ).loc Cert.ResFwdRefIdeal.main_v13) = v0 c
          ∧ r.2.mem ((c.tc : Thread Cert.ResFwdRefIdeal.nD Cert.ResFwdRefIdeal.τ).loc Cert.ResFwdRefIdeal.main_arg0) = m' ((c.tc : Thread Cert.ResFwdRefIdeal.nD Cert.ResFwdRefIdeal.τ).loc Cert.ResFwdRefIdeal.main_arg0)
          ∧ r.2.mem ((c.tc : Thread Cert.ResFwdRefIdeal.nD Cert.ResFwdRefIdeal.τ).loc Cert.ResFwdRefIdeal.main_arg1) = m' ((c.tc : Thread Cert.ResFwdRefIdeal.nD Cert.ResFwdRefIdeal.τ).loc Cert.ResFwdRefIdeal.main_arg1)
          ∧ r.2.mem ((c.tc : Thread Cert.ResFwdRefIdeal.nD Cert.ResFwdRefIdeal.τ).loc Cert.ResFwdRefIdeal.main_arg2) = m' ((c.tc : Thread Cert.ResFwdRefIdeal.nD Cert.ResFwdRefIdeal.τ).loc Cert.ResFwdRefIdeal.main_arg2))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v3)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v3) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v55) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v257) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v28) = v0 c
          ∧ r.2.mem ((c.tc : Thread Cert.LossHeadRefIdeal.nD Cert.LossHeadRefIdeal.τ).loc Cert.LossHeadRefIdeal.main_v29) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_AdamWIn_AdamWInIdeal : Prop :=
  IdealRules.named_const.Statement Cert.AdamWInIdeal.κ "inv_b1" .f32 0x3FC48605#32 ((10000000000 / 6513215599 : ℝ) : EReal)
  ∧ IdealRules.named_const.Statement Cert.AdamWInIdeal.κ "inv_b2" .f32 0x42C8E6D3#32 ((1000000000000000000000000000000 / 9955119790251790119955009999 : ℝ) : EReal)

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v4) = v0 c
          ∧ r.2.mem ((c.tc : Thread Cert.AdamWInRefIdeal.nD Cert.AdamWInRefIdeal.τ).loc Cert.AdamWInRefIdeal.main_v42) = v1 c
          ∧ r.2.mem ((c.tc : Thread Cert.AdamWInRefIdeal.nD Cert.AdamWInRefIdeal.τ).loc Cert.AdamWInRefIdeal.main_v9) = v2 c
          ∧ r.2.mem ((c.tc : Thread Cert.AdamWInRefIdeal.nD Cert.AdamWInRefIdeal.τ).loc Cert.AdamWInRefIdeal.main_v15) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4))

def preserves_AdamWOut_AdamWOutIdeal : Prop :=
  IdealRules.named_const.Statement Cert.AdamWOutIdeal.κ "inv_b1" .f32 0x3FC48605#32 ((10000000000 / 6513215599 : ℝ) : EReal)
  ∧ IdealRules.named_const.Statement Cert.AdamWOutIdeal.κ "inv_b2" .f32 0x42C8E6D3#32 ((1000000000000000000000000000000 / 9955119790251790119955009999 : ℝ) : EReal)

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v6) = v0 c
          ∧ r.2.mem ((c.tc : Thread Cert.AdamWOutRefIdeal.nD Cert.AdamWOutRefIdeal.τ).loc Cert.AdamWOutRefIdeal.main_v44) = v1 c
          ∧ r.2.mem ((c.tc : Thread Cert.AdamWOutRefIdeal.nD Cert.AdamWOutRefIdeal.τ).loc Cert.AdamWOutRefIdeal.main_v11) = v2 c
          ∧ r.2.mem ((c.tc : Thread Cert.AdamWOutRefIdeal.nD Cert.AdamWOutRefIdeal.τ).loc Cert.AdamWOutRefIdeal.main_v17) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4))

def preserves_AdamWFf1_AdamWFf1Ideal : Prop :=
  IdealRules.named_const.Statement Cert.AdamWFf1Ideal.κ "inv_b1" .f32 0x3FC48605#32 ((10000000000 / 6513215599 : ℝ) : EReal)
  ∧ IdealRules.named_const.Statement Cert.AdamWFf1Ideal.κ "inv_b2" .f32 0x42C8E6D3#32 ((1000000000000000000000000000000 / 9955119790251790119955009999 : ℝ) : EReal)

def algebraic_AdamWFf1Ideal_AdamWFf1RefIdeal [hAdamWFf1Ideal : Cert.AdamWFf1Ideal.Facts] [hAdamWFf1RefIdeal : Cert.AdamWFf1RefIdeal.Facts] : Prop :=
  ∀ (m : (ℓ : Loc Cert.AdamWFf1Ideal.nD Cert.AdamWFf1Ideal.τ Cert.AdamWFf1Ideal.sig) → Buf (Elt Ideal) ℓ) (g : Dev Cert.AdamWFf1Ideal.nD → PrngReg)
    (m' : (ℓ : Loc Cert.AdamWFf1RefIdeal.nD Cert.AdamWFf1RefIdeal.τ Cert.AdamWFf1RefIdeal.sig) → Buf (Elt Ideal) ℓ) (g' : Dev Cert.AdamWFf1RefIdeal.nD → PrngReg), Pre_AdamWFf1Ideal m →
    (∀ c : Dev Cert.AdamWFf1Ideal.nD,
      m' ((c.tc : Thread Cert.AdamWFf1RefIdeal.nD Cert.AdamWFf1RefIdeal.τ).loc Cert.AdamWFf1RefIdeal.main_arg0) = m ((c.tc : Thread Cert.AdamWFf1Ideal.nD Cert.AdamWFf1Ideal.τ).loc Cert.AdamWFf1Ideal.main_arg0)
      ∧ m' ((c.tc : Thread Cert.AdamWFf1RefIdeal.nD Cert.AdamWFf1RefIdeal.τ).loc Cert.AdamWFf1RefIdeal.main_arg1) = m ((c.tc : Thread Cert.AdamWFf1Ideal.nD Cert.AdamWFf1Ideal.τ).loc Cert.AdamWFf1Ideal.main_arg1)
      ∧ m' ((c.tc : Thread Cert.AdamWFf1RefIdeal.nD Cert.AdamWFf1RefIdeal.τ).loc Cert.AdamWFf1RefIdeal.main_arg2) = m ((c.tc : Thread Cert.AdamWFf1Ideal.nD Cert.AdamWFf1Ideal.τ).loc Cert.AdamWFf1Ideal.main_arg2)
      ∧ m' ((c.tc : Thread Cert.AdamWFf1RefIdeal.nD Cert.AdamWFf1RefIdeal.τ).loc Cert.AdamWFf1RefIdeal.main_arg3) = m ((c.tc : Thread Cert.AdamWFf1Ideal.nD Cert.AdamWFf1Ideal.τ).loc Cert.AdamWFf1Ideal.main_arg3)
      ∧ m' ((c.tc : Thread Cert.AdamWFf1RefIdeal.nD Cert.AdamWFf1RefIdeal.τ).loc Cert.AdamWFf1RefIdeal.main_arg4) = m ((c.tc : Thread Cert.AdamWFf1Ideal.nD Cert.AdamWFf1Ideal.τ).loc Cert.AdamWFf1Ideal.main_arg4)) →
    ∃ (v0 : (c : Dev Cert.AdamWFf1Ideal.nD) → Buf (Elt Ideal) ((c.tc : Thread Cert.AdamWFf1Ideal.nD Cert.AdamWFf1Ideal.τ).loc Cert.AdamWFf1Ideal.main_v0_0)) (v1 : (c : Dev Cert.AdamWFf1Ideal.nD) → Buf (Elt Ideal) ((c.tc : Thread Cert.AdamWFf1Ideal.nD Cert.AdamWFf1Ideal.τ).loc Cert.AdamWFf1Ideal.main_v0_1)) (v2 : (c : Dev Cert.AdamWFf1Ideal.nD) → Buf (Elt Ideal) ((c.tc : Thread Cert.AdamWFf1Ideal.nD Cert.AdamWFf1Ideal.τ).loc Cert.AdamWFf1Ideal.main_v0_2)) (v3 : (c : Dev Cert.AdamWFf1Ideal.nD) → Buf (Elt Ideal) ((c.tc : Thread Cert.AdamWFf1Ideal.nD Cert.AdamWFf1Ideal.τ).loc Cert.AdamWFf1Ideal.main_v0_3)),
      θ_run (Cert.AdamWFf1Ideal.defs (F := Ideal)) (onTc (τ := Cert.AdamWFf1Ideal.τ) (Cert.AdamWFf1Ideal.main (F := Ideal))) ⟨m, fun _ => 0, g⟩ (fun r => ∀ c : Dev Cert.AdamWFf1Ideal.nD,
          r.2.mem ((c.tc : Thread Cert.AdamWFf1Ideal.nD Cert.AdamWFf1Ideal.τ).loc Cert.AdamWFf1Ideal.main_v0_0) = v0 c
          ∧ r.2.mem ((c.tc : Thread Cert.AdamWFf1Ideal.nD Cert.AdamWFf1Ideal.τ).loc Cert.AdamWFf1Ideal.main_v0_1) = v1 c
          ∧ r.2.mem ((c.tc : Thread Cert.AdamWFf1Ideal.nD Cert.AdamWFf1Ideal.τ).loc Cert.AdamWFf1Ideal.main_v0_2) = v2 c
          ∧ r.2.mem ((c.tc : Thread Cert.AdamWFf1Ideal.nD Cert.AdamWFf1Ideal.τ).loc Cert.AdamWFf1Ideal.main_v0_3) = v3 c
          ∧ r.2.mem ((c.tc : Thread Cert.AdamWFf1Ideal.nD Cert.AdamWFf1Ideal.τ).loc Cert.AdamWFf1Ideal.main_arg0) = m ((c.tc : Thread Cert.AdamWFf1Ideal.nD Cert.AdamWFf1Ideal.τ).loc Cert.AdamWFf1Ideal.main_arg0)
          ∧ r.2.mem ((c.tc : Thread Cert.AdamWFf1Ideal.nD Cert.AdamWFf1Ideal.τ).loc Cert.AdamWFf1Ideal.main_arg1) = m ((c.tc : Thread Cert.AdamWFf1Ideal.nD Cert.AdamWFf1Ideal.τ).loc Cert.AdamWFf1Ideal.main_arg1)
          ∧ r.2.mem ((c.tc : Thread Cert.AdamWFf1Ideal.nD Cert.AdamWFf1Ideal.τ).loc Cert.AdamWFf1Ideal.main_arg2) = m ((c.tc : Thread Cert.AdamWFf1Ideal.nD Cert.AdamWFf1Ideal.τ).loc Cert.AdamWFf1Ideal.main_arg2)
          ∧ r.2.mem ((c.tc : Thread Cert.AdamWFf1Ideal.nD Cert.AdamWFf1Ideal.τ).loc Cert.AdamWFf1Ideal.main_arg3) = m ((c.tc : Thread Cert.AdamWFf1Ideal.nD Cert.AdamWFf1Ideal.τ).loc Cert.AdamWFf1Ideal.main_arg3)
          ∧ r.2.mem ((c.tc : Thread Cert.AdamWFf1Ideal.nD Cert.AdamWFf1Ideal.τ).loc Cert.AdamWFf1Ideal.main_arg4) = m ((c.tc : Thread Cert.AdamWFf1Ideal.nD Cert.AdamWFf1Ideal.τ).loc Cert.AdamWFf1Ideal.main_arg4))
      ∧ θ_run (Cert.AdamWFf1RefIdeal.defs (F := Ideal)) (onTc (τ := Cert.AdamWFf1RefIdeal.τ) (Cert.AdamWFf1RefIdeal.main (F := Ideal))) ⟨m', fun _ => 0, g'⟩ (fun r => ∀ c : Dev Cert.AdamWFf1RefIdeal.nD,
          r.2.mem ((c.tc : Thread Cert.AdamWFf1RefIdeal.nD Cert.AdamWFf1RefIdeal.τ).loc Cert.AdamWFf1RefIdeal.main_v6) = v0 c
          ∧ r.2.mem ((c.tc : Thread Cert.AdamWFf1RefIdeal.nD Cert.AdamWFf1RefIdeal.τ).loc Cert.AdamWFf1RefIdeal.main_v44) = v1 c
          ∧ r.2.mem ((c.tc : Thread Cert.AdamWFf1RefIdeal.nD Cert.AdamWFf1RefIdeal.τ).loc Cert.AdamWFf1RefIdeal.main_v11) = v2 c
          ∧ r.2.mem ((c.tc : Thread Cert.AdamWFf1RefIdeal.nD Cert.AdamWFf1RefIdeal.τ).loc Cert.AdamWFf1RefIdeal.main_v17) = v3 c
          ∧ r.2.mem ((c.tc : Thread Cert.AdamWFf1RefIdeal.nD Cert.AdamWFf1RefIdeal.τ).loc Cert.AdamWFf1RefIdeal.main_arg0) = m' ((c.tc : Thread Cert.AdamWFf1RefIdeal.nD Cert.AdamWFf1RefIdeal.τ).loc Cert.AdamWFf1RefIdeal.main_arg0)
          ∧ r.2.mem ((c.tc : Thread Cert.AdamWFf1RefIdeal.nD Cert.AdamWFf1RefIdeal.τ).loc Cert.AdamWFf1RefIdeal.main_arg1) = m' ((c.tc : Thread Cert.AdamWFf1RefIdeal.nD Cert.AdamWFf1RefIdeal.τ).loc Cert.AdamWFf1RefIdeal.main_arg1)
          ∧ r.2.mem ((c.tc : Thread Cert.AdamWFf1RefIdeal.nD Cert.AdamWFf1RefIdeal.τ).loc Cert.AdamWFf1RefIdeal.main_arg2) = m' ((c.tc : Thread Cert.AdamWFf1RefIdeal.nD Cert.AdamWFf1RefIdeal.τ).loc Cert.AdamWFf1RefIdeal.main_arg2)
          ∧ r.2.mem ((c.tc : Thread Cert.AdamWFf1RefIdeal.nD Cert.AdamWFf1RefIdeal.τ).loc Cert.AdamWFf1RefIdeal.main_arg3) = m' ((c.tc : Thread Cert.AdamWFf1RefIdeal.nD Cert.AdamWFf1RefIdeal.τ).loc Cert.AdamWFf1RefIdeal.main_arg3)
          ∧ r.2.mem ((c.tc : Thread Cert.AdamWFf1RefIdeal.nD Cert.AdamWFf1RefIdeal.τ).loc Cert.AdamWFf1RefIdeal.main_arg4) = m' ((c.tc : Thread Cert.AdamWFf1RefIdeal.nD Cert.AdamWFf1RefIdeal.τ).loc Cert.AdamWFf1RefIdeal.main_arg4))

def preserves_AdamWFf2_AdamWFf2Ideal : Prop :=
  IdealRules.named_const.Statement Cert.AdamWFf2Ideal.κ "inv_b1" .f32 0x3FC48605#32 ((10000000000 / 6513215599 : ℝ) : EReal)
  ∧ IdealRules.named_const.Statement Cert.AdamWFf2Ideal.κ "inv_b2" .f32 0x42C8E6D3#32 ((1000000000000000000000000000000 / 9955119790251790119955009999 : ℝ) : EReal)

def algebraic_AdamWFf2Ideal_AdamWFf2RefIdeal [hAdamWFf2Ideal : Cert.AdamWFf2Ideal.Facts] [hAdamWFf2RefIdeal : Cert.AdamWFf2RefIdeal.Facts] : Prop :=
  ∀ (m : (ℓ : Loc Cert.AdamWFf2Ideal.nD Cert.AdamWFf2Ideal.τ Cert.AdamWFf2Ideal.sig) → Buf (Elt Ideal) ℓ) (g : Dev Cert.AdamWFf2Ideal.nD → PrngReg)
    (m' : (ℓ : Loc Cert.AdamWFf2RefIdeal.nD Cert.AdamWFf2RefIdeal.τ Cert.AdamWFf2RefIdeal.sig) → Buf (Elt Ideal) ℓ) (g' : Dev Cert.AdamWFf2RefIdeal.nD → PrngReg), Pre_AdamWFf2Ideal m →
    (∀ c : Dev Cert.AdamWFf2Ideal.nD,
      m' ((c.tc : Thread Cert.AdamWFf2RefIdeal.nD Cert.AdamWFf2RefIdeal.τ).loc Cert.AdamWFf2RefIdeal.main_arg0) = m ((c.tc : Thread Cert.AdamWFf2Ideal.nD Cert.AdamWFf2Ideal.τ).loc Cert.AdamWFf2Ideal.main_arg0)
      ∧ m' ((c.tc : Thread Cert.AdamWFf2RefIdeal.nD Cert.AdamWFf2RefIdeal.τ).loc Cert.AdamWFf2RefIdeal.main_arg1) = m ((c.tc : Thread Cert.AdamWFf2Ideal.nD Cert.AdamWFf2Ideal.τ).loc Cert.AdamWFf2Ideal.main_arg1)
      ∧ m' ((c.tc : Thread Cert.AdamWFf2RefIdeal.nD Cert.AdamWFf2RefIdeal.τ).loc Cert.AdamWFf2RefIdeal.main_arg2) = m ((c.tc : Thread Cert.AdamWFf2Ideal.nD Cert.AdamWFf2Ideal.τ).loc Cert.AdamWFf2Ideal.main_arg2)
      ∧ m' ((c.tc : Thread Cert.AdamWFf2RefIdeal.nD Cert.AdamWFf2RefIdeal.τ).loc Cert.AdamWFf2RefIdeal.main_arg3) = m ((c.tc : Thread Cert.AdamWFf2Ideal.nD Cert.AdamWFf2Ideal.τ).loc Cert.AdamWFf2Ideal.main_arg3)
      ∧ m' ((c.tc : Thread Cert.AdamWFf2RefIdeal.nD Cert.AdamWFf2RefIdeal.τ).loc Cert.AdamWFf2RefIdeal.main_arg4) = m ((c.tc : Thread Cert.AdamWFf2Ideal.nD Cert.AdamWFf2Ideal.τ).loc Cert.AdamWFf2Ideal.main_arg4)) →
    ∃ (v0 : (c : Dev Cert.AdamWFf2Ideal.nD) → Buf (Elt Ideal) ((c.tc : Thread Cert.AdamWFf2Ideal.nD Cert.AdamWFf2Ideal.τ).loc Cert.AdamWFf2Ideal.main_v0_0)) (v1 : (c : Dev Cert.AdamWFf2Ideal.nD) → Buf (Elt Ideal) ((c.tc : Thread Cert.AdamWFf2Ideal.nD Cert.AdamWFf2Ideal.τ).loc Cert.AdamWFf2Ideal.main_v0_1)) (v2 : (c : Dev Cert.AdamWFf2Ideal.nD) → Buf (Elt Ideal) ((c.tc : Thread Cert.AdamWFf2Ideal.nD Cert.AdamWFf2Ideal.τ).loc Cert.AdamWFf2Ideal.main_v0_2)) (v3 : (c : Dev Cert.AdamWFf2Ideal.nD) → Buf (Elt Ideal) ((c.tc : Thread Cert.AdamWFf2Ideal.nD Cert.AdamWFf2Ideal.τ).loc Cert.AdamWFf2Ideal.main_v0_3)),
      θ_run (Cert.AdamWFf2Ideal.defs (F := Ideal)) (onTc (τ := Cert.AdamWFf2Ideal.τ) (Cert.AdamWFf2Ideal.main (F := Ideal))) ⟨m, fun _ => 0, g⟩ (fun r => ∀ c : Dev Cert.AdamWFf2Ideal.nD,
          r.2.mem ((c.tc : Thread Cert.AdamWFf2Ideal.nD Cert.AdamWFf2Ideal.τ).loc Cert.AdamWFf2Ideal.main_v0_0) = v0 c
          ∧ r.2.mem ((c.tc : Thread Cert.AdamWFf2Ideal.nD Cert.AdamWFf2Ideal.τ).loc Cert.AdamWFf2Ideal.main_v0_1) = v1 c
          ∧ r.2.mem ((c.tc : Thread Cert.AdamWFf2Ideal.nD Cert.AdamWFf2Ideal.τ).loc Cert.AdamWFf2Ideal.main_v0_2) = v2 c
          ∧ r.2.mem ((c.tc : Thread Cert.AdamWFf2Ideal.nD Cert.AdamWFf2Ideal.τ).loc Cert.AdamWFf2Ideal.main_v0_3) = v3 c
          ∧ r.2.mem ((c.tc : Thread Cert.AdamWFf2Ideal.nD Cert.AdamWFf2Ideal.τ).loc Cert.AdamWFf2Ideal.main_arg0) = m ((c.tc : Thread Cert.AdamWFf2Ideal.nD Cert.AdamWFf2Ideal.τ).loc Cert.AdamWFf2Ideal.main_arg0)
          ∧ r.2.mem ((c.tc : Thread Cert.AdamWFf2Ideal.nD Cert.AdamWFf2Ideal.τ).loc Cert.AdamWFf2Ideal.main_arg1) = m ((c.tc : Thread Cert.AdamWFf2Ideal.nD Cert.AdamWFf2Ideal.τ).loc Cert.AdamWFf2Ideal.main_arg1)
          ∧ r.2.mem ((c.tc : Thread Cert.AdamWFf2Ideal.nD Cert.AdamWFf2Ideal.τ).loc Cert.AdamWFf2Ideal.main_arg2) = m ((c.tc : Thread Cert.AdamWFf2Ideal.nD Cert.AdamWFf2Ideal.τ).loc Cert.AdamWFf2Ideal.main_arg2)
          ∧ r.2.mem ((c.tc : Thread Cert.AdamWFf2Ideal.nD Cert.AdamWFf2Ideal.τ).loc Cert.AdamWFf2Ideal.main_arg3) = m ((c.tc : Thread Cert.AdamWFf2Ideal.nD Cert.AdamWFf2Ideal.τ).loc Cert.AdamWFf2Ideal.main_arg3)
          ∧ r.2.mem ((c.tc : Thread Cert.AdamWFf2Ideal.nD Cert.AdamWFf2Ideal.τ).loc Cert.AdamWFf2Ideal.main_arg4) = m ((c.tc : Thread Cert.AdamWFf2Ideal.nD Cert.AdamWFf2Ideal.τ).loc Cert.AdamWFf2Ideal.main_arg4))
      ∧ θ_run (Cert.AdamWFf2RefIdeal.defs (F := Ideal)) (onTc (τ := Cert.AdamWFf2RefIdeal.τ) (Cert.AdamWFf2RefIdeal.main (F := Ideal))) ⟨m', fun _ => 0, g'⟩ (fun r => ∀ c : Dev Cert.AdamWFf2RefIdeal.nD,
          r.2.mem ((c.tc : Thread Cert.AdamWFf2RefIdeal.nD Cert.AdamWFf2RefIdeal.τ).loc Cert.AdamWFf2RefIdeal.main_v6) = v0 c
          ∧ r.2.mem ((c.tc : Thread Cert.AdamWFf2RefIdeal.nD Cert.AdamWFf2RefIdeal.τ).loc Cert.AdamWFf2RefIdeal.main_v44) = v1 c
          ∧ r.2.mem ((c.tc : Thread Cert.AdamWFf2RefIdeal.nD Cert.AdamWFf2RefIdeal.τ).loc Cert.AdamWFf2RefIdeal.main_v11) = v2 c
          ∧ r.2.mem ((c.tc : Thread Cert.AdamWFf2RefIdeal.nD Cert.AdamWFf2RefIdeal.τ).loc Cert.AdamWFf2RefIdeal.main_v17) = v3 c
          ∧ r.2.mem ((c.tc : Thread Cert.AdamWFf2RefIdeal.nD Cert.AdamWFf2RefIdeal.τ).loc Cert.AdamWFf2RefIdeal.main_arg0) = m' ((c.tc : Thread Cert.AdamWFf2RefIdeal.nD Cert.AdamWFf2RefIdeal.τ).loc Cert.AdamWFf2RefIdeal.main_arg0)
          ∧ r.2.mem ((c.tc : Thread Cert.AdamWFf2RefIdeal.nD Cert.AdamWFf2RefIdeal.τ).loc Cert.AdamWFf2RefIdeal.main_arg1) = m' ((c.tc : Thread Cert.AdamWFf2RefIdeal.nD Cert.AdamWFf2RefIdeal.τ).loc Cert.AdamWFf2RefIdeal.main_arg1)
          ∧ r.2.mem ((c.tc : Thread Cert.AdamWFf2RefIdeal.nD Cert.AdamWFf2RefIdeal.τ).loc Cert.AdamWFf2RefIdeal.main_arg2) = m' ((c.tc : Thread Cert.AdamWFf2RefIdeal.nD Cert.AdamWFf2RefIdeal.τ).loc Cert.AdamWFf2RefIdeal.main_arg2)
          ∧ r.2.mem ((c.tc : Thread Cert.AdamWFf2RefIdeal.nD Cert.AdamWFf2RefIdeal.τ).loc Cert.AdamWFf2RefIdeal.main_arg3) = m' ((c.tc : Thread Cert.AdamWFf2RefIdeal.nD Cert.AdamWFf2RefIdeal.τ).loc Cert.AdamWFf2RefIdeal.main_arg3)
          ∧ r.2.mem ((c.tc : Thread Cert.AdamWFf2RefIdeal.nD Cert.AdamWFf2RefIdeal.τ).loc Cert.AdamWFf2RefIdeal.main_arg4) = m' ((c.tc : Thread Cert.AdamWFf2RefIdeal.nD Cert.AdamWFf2RefIdeal.τ).loc Cert.AdamWFf2RefIdeal.main_arg4))

def preserves_AdamWSmall_AdamWSmallIdeal : Prop :=
  IdealRules.named_const.Statement Cert.AdamWSmallIdeal.κ "inv_b1" .f32 0x3FC48605#32 ((10000000000 / 6513215599 : ℝ) : EReal)
  ∧ IdealRules.named_const.Statement Cert.AdamWSmallIdeal.κ "inv_b2" .f32 0x42C8E6D3#32 ((1000000000000000000000000000000 / 9955119790251790119955009999 : ℝ) : EReal)

def algebraic_AdamWSmallIdeal_AdamWSmallRefIdeal [hAdamWSmallIdeal : Cert.AdamWSmallIdeal.Facts] [hAdamWSmallRefIdeal : Cert.AdamWSmallRefIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg)
    (m' : (ℓ : Loc Cert.AdamWSmallRefIdeal.nD Cert.AdamWSmallRefIdeal.τ Cert.AdamWSmallRefIdeal.sig) → Buf (Elt Ideal) ℓ) (g' : Dev Cert.AdamWSmallRefIdeal.nD → PrngReg), Pre_AdamWSmallIdeal m →
    (∀ c : Dev Cert.AdamWSmallIdeal.nD,
      m' ((c.tc : Thread Cert.AdamWSmallRefIdeal.nD Cert.AdamWSmallRefIdeal.τ).loc Cert.AdamWSmallRefIdeal.main_arg0) = m ((c.tc : Thread Cert.AdamWSmallIdeal.nD Cert.AdamWSmallIdeal.τ).loc Cert.AdamWSmallIdeal.main_arg0)
      ∧ m' ((c.tc : Thread Cert.AdamWSmallRefIdeal.nD Cert.AdamWSmallRefIdeal.τ).loc Cert.AdamWSmallRefIdeal.main_arg1) = m ((c.tc : Thread Cert.AdamWSmallIdeal.nD Cert.AdamWSmallIdeal.τ).loc Cert.AdamWSmallIdeal.main_arg1)
      ∧ m' ((c.tc : Thread Cert.AdamWSmallRefIdeal.nD Cert.AdamWSmallRefIdeal.τ).loc Cert.AdamWSmallRefIdeal.main_arg2) = m ((c.tc : Thread Cert.AdamWSmallIdeal.nD Cert.AdamWSmallIdeal.τ).loc Cert.AdamWSmallIdeal.main_arg2)
      ∧ m' ((c.tc : Thread Cert.AdamWSmallRefIdeal.nD Cert.AdamWSmallRefIdeal.τ).loc Cert.AdamWSmallRefIdeal.main_arg3) = m ((c.tc : Thread Cert.AdamWSmallIdeal.nD Cert.AdamWSmallIdeal.τ).loc Cert.AdamWSmallIdeal.main_arg3)) →
    ∃ (v0 : (c : Dev Cert.AdamWSmallIdeal.nD) → Buf (Elt Ideal) ((c.tc : Thread Cert.AdamWSmallIdeal.nD Cert.AdamWSmallIdeal.τ).loc Cert.AdamWSmallIdeal.main_v0_0)) (v1 : (c : Dev Cert.AdamWSmallIdeal.nD) → Buf (Elt Ideal) ((c.tc : Thread Cert.AdamWSmallIdeal.nD Cert.AdamWSmallIdeal.τ).loc Cert.AdamWSmallIdeal.main_v0_1)) (v2 : (c : Dev Cert.AdamWSmallIdeal.nD) → Buf (Elt Ideal) ((c.tc : Thread Cert.AdamWSmallIdeal.nD Cert.AdamWSmallIdeal.τ).loc Cert.AdamWSmallIdeal.main_v0_2)) (v3 : (c : Dev Cert.AdamWSmallIdeal.nD) → Buf (Elt Ideal) ((c.tc : Thread Cert.AdamWSmallIdeal.nD Cert.AdamWSmallIdeal.τ).loc Cert.AdamWSmallIdeal.main_v0_3)),
      θ_run (Cert.AdamWSmallIdeal.defs (F := Ideal)) (onTc (τ := Cert.AdamWSmallIdeal.τ) (Cert.AdamWSmallIdeal.main (F := Ideal))) ⟨m, fun _ => 0, g⟩ (fun r => ∀ c : Dev Cert.AdamWSmallIdeal.nD,
          r.2.mem ((c.tc : Thread Cert.AdamWSmallIdeal.nD Cert.AdamWSmallIdeal.τ).loc Cert.AdamWSmallIdeal.main_v0_0) = v0 c
          ∧ r.2.mem ((c.tc : Thread Cert.AdamWSmallIdeal.nD Cert.AdamWSmallIdeal.τ).loc Cert.AdamWSmallIdeal.main_v0_1) = v1 c
          ∧ r.2.mem ((c.tc : Thread Cert.AdamWSmallIdeal.nD Cert.AdamWSmallIdeal.τ).loc Cert.AdamWSmallIdeal.main_v0_2) = v2 c
          ∧ r.2.mem ((c.tc : Thread Cert.AdamWSmallIdeal.nD Cert.AdamWSmallIdeal.τ).loc Cert.AdamWSmallIdeal.main_v0_3) = v3 c
          ∧ r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
          ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
          ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
          ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ θ_run (Cert.AdamWSmallRefIdeal.defs (F := Ideal)) (onTc (τ := Cert.AdamWSmallRefIdeal.τ) (Cert.AdamWSmallRefIdeal.main (F := Ideal))) ⟨m', fun _ => 0, g'⟩ (fun r => ∀ c : Dev Cert.AdamWSmallRefIdeal.nD,
          r.2.mem ((c.tc : Thread Cert.AdamWSmallRefIdeal.nD Cert.AdamWSmallRefIdeal.τ).loc Cert.AdamWSmallRefIdeal.main_v1) = v0 c
          ∧ r.2.mem ((c.tc : Thread Cert.AdamWSmallRefIdeal.nD Cert.AdamWSmallRefIdeal.τ).loc Cert.AdamWSmallRefIdeal.main_v39) = v1 c
          ∧ r.2.mem ((c.tc : Thread Cert.AdamWSmallRefIdeal.nD Cert.AdamWSmallRefIdeal.τ).loc Cert.AdamWSmallRefIdeal.main_v6) = v2 c
          ∧ r.2.mem ((c.tc : Thread Cert.AdamWSmallRefIdeal.nD Cert.AdamWSmallRefIdeal.τ).loc Cert.AdamWSmallRefIdeal.main_v12) = v3 c
          ∧ r.2.mem ((c.tc : Thread Cert.AdamWSmallRefIdeal.nD Cert.AdamWSmallRefIdeal.τ).loc Cert.AdamWSmallRefIdeal.main_arg0) = m' ((c.tc : Thread Cert.AdamWSmallRefIdeal.nD Cert.AdamWSmallRefIdeal.τ).loc Cert.AdamWSmallRefIdeal.main_arg0)
          ∧ r.2.mem ((c.tc : Thread Cert.AdamWSmallRefIdeal.nD Cert.AdamWSmallRefIdeal.τ).loc Cert.AdamWSmallRefIdeal.main_arg1) = m' ((c.tc : Thread Cert.AdamWSmallRefIdeal.nD Cert.AdamWSmallRefIdeal.τ).loc Cert.AdamWSmallRefIdeal.main_arg1)
          ∧ r.2.mem ((c.tc : Thread Cert.AdamWSmallRefIdeal.nD Cert.AdamWSmallRefIdeal.τ).loc Cert.AdamWSmallRefIdeal.main_arg2) = m' ((c.tc : Thread Cert.AdamWSmallRefIdeal.nD Cert.AdamWSmallRefIdeal.τ).loc Cert.AdamWSmallRefIdeal.main_arg2)
          ∧ r.2.mem ((c.tc : Thread Cert.AdamWSmallRefIdeal.nD Cert.AdamWSmallRefIdeal.τ).loc Cert.AdamWSmallRefIdeal.main_arg3) = m' ((c.tc : Thread Cert.AdamWSmallRefIdeal.nD Cert.AdamWSmallRefIdeal.τ).loc Cert.AdamWSmallRefIdeal.main_arg3))

def preserves_AdamWGdnConv_AdamWGdnConvIdeal : Prop :=
  IdealRules.named_const.Statement Cert.AdamWGdnConvIdeal.κ "inv_b1" .f32 0x3FC48605#32 ((10000000000 / 6513215599 : ℝ) : EReal)
  ∧ IdealRules.named_const.Statement Cert.AdamWGdnConvIdeal.κ "inv_b2" .f32 0x42C8E6D3#32 ((1000000000000000000000000000000 / 9955119790251790119955009999 : ℝ) : EReal)

def algebraic_AdamWGdnConvIdeal_AdamWGdnConvRefIdeal [hAdamWGdnConvIdeal : Cert.AdamWGdnConvIdeal.Facts] [hAdamWGdnConvRefIdeal : Cert.AdamWGdnConvRefIdeal.Facts] : Prop :=
  ∀ (m : (ℓ : Loc Cert.AdamWGdnConvIdeal.nD Cert.AdamWGdnConvIdeal.τ Cert.AdamWGdnConvIdeal.sig) → Buf (Elt Ideal) ℓ) (g : Dev Cert.AdamWGdnConvIdeal.nD → PrngReg)
    (m' : (ℓ : Loc Cert.AdamWGdnConvRefIdeal.nD Cert.AdamWGdnConvRefIdeal.τ Cert.AdamWGdnConvRefIdeal.sig) → Buf (Elt Ideal) ℓ) (g' : Dev Cert.AdamWGdnConvRefIdeal.nD → PrngReg), Pre_AdamWGdnConvIdeal m →
    (∀ c : Dev Cert.AdamWGdnConvIdeal.nD,
      m' ((c.tc : Thread Cert.AdamWGdnConvRefIdeal.nD Cert.AdamWGdnConvRefIdeal.τ).loc Cert.AdamWGdnConvRefIdeal.main_arg0) = m ((c.tc : Thread Cert.AdamWGdnConvIdeal.nD Cert.AdamWGdnConvIdeal.τ).loc Cert.AdamWGdnConvIdeal.main_arg0)
      ∧ m' ((c.tc : Thread Cert.AdamWGdnConvRefIdeal.nD Cert.AdamWGdnConvRefIdeal.τ).loc Cert.AdamWGdnConvRefIdeal.main_arg1) = m ((c.tc : Thread Cert.AdamWGdnConvIdeal.nD Cert.AdamWGdnConvIdeal.τ).loc Cert.AdamWGdnConvIdeal.main_arg1)
      ∧ m' ((c.tc : Thread Cert.AdamWGdnConvRefIdeal.nD Cert.AdamWGdnConvRefIdeal.τ).loc Cert.AdamWGdnConvRefIdeal.main_arg2) = m ((c.tc : Thread Cert.AdamWGdnConvIdeal.nD Cert.AdamWGdnConvIdeal.τ).loc Cert.AdamWGdnConvIdeal.main_arg2)
      ∧ m' ((c.tc : Thread Cert.AdamWGdnConvRefIdeal.nD Cert.AdamWGdnConvRefIdeal.τ).loc Cert.AdamWGdnConvRefIdeal.main_arg3) = m ((c.tc : Thread Cert.AdamWGdnConvIdeal.nD Cert.AdamWGdnConvIdeal.τ).loc Cert.AdamWGdnConvIdeal.main_arg3)) →
    ∃ (v0 : (c : Dev Cert.AdamWGdnConvIdeal.nD) → Buf (Elt Ideal) ((c.tc : Thread Cert.AdamWGdnConvIdeal.nD Cert.AdamWGdnConvIdeal.τ).loc Cert.AdamWGdnConvIdeal.main_v0_0)) (v1 : (c : Dev Cert.AdamWGdnConvIdeal.nD) → Buf (Elt Ideal) ((c.tc : Thread Cert.AdamWGdnConvIdeal.nD Cert.AdamWGdnConvIdeal.τ).loc Cert.AdamWGdnConvIdeal.main_v0_1)) (v2 : (c : Dev Cert.AdamWGdnConvIdeal.nD) → Buf (Elt Ideal) ((c.tc : Thread Cert.AdamWGdnConvIdeal.nD Cert.AdamWGdnConvIdeal.τ).loc Cert.AdamWGdnConvIdeal.main_v0_2)) (v3 : (c : Dev Cert.AdamWGdnConvIdeal.nD) → Buf (Elt Ideal) ((c.tc : Thread Cert.AdamWGdnConvIdeal.nD Cert.AdamWGdnConvIdeal.τ).loc Cert.AdamWGdnConvIdeal.main_v0_3)),
      θ_run (Cert.AdamWGdnConvIdeal.defs (F := Ideal)) (onTc (τ := Cert.AdamWGdnConvIdeal.τ) (Cert.AdamWGdnConvIdeal.main (F := Ideal))) ⟨m, fun _ => 0, g⟩ (fun r => ∀ c : Dev Cert.AdamWGdnConvIdeal.nD,
          r.2.mem ((c.tc : Thread Cert.AdamWGdnConvIdeal.nD Cert.AdamWGdnConvIdeal.τ).loc Cert.AdamWGdnConvIdeal.main_v0_0) = v0 c
          ∧ r.2.mem ((c.tc : Thread Cert.AdamWGdnConvIdeal.nD Cert.AdamWGdnConvIdeal.τ).loc Cert.AdamWGdnConvIdeal.main_v0_1) = v1 c
          ∧ r.2.mem ((c.tc : Thread Cert.AdamWGdnConvIdeal.nD Cert.AdamWGdnConvIdeal.τ).loc Cert.AdamWGdnConvIdeal.main_v0_2) = v2 c
          ∧ r.2.mem ((c.tc : Thread Cert.AdamWGdnConvIdeal.nD Cert.AdamWGdnConvIdeal.τ).loc Cert.AdamWGdnConvIdeal.main_v0_3) = v3 c
          ∧ r.2.mem ((c.tc : Thread Cert.AdamWGdnConvIdeal.nD Cert.AdamWGdnConvIdeal.τ).loc Cert.AdamWGdnConvIdeal.main_arg0) = m ((c.tc : Thread Cert.AdamWGdnConvIdeal.nD Cert.AdamWGdnConvIdeal.τ).loc Cert.AdamWGdnConvIdeal.main_arg0)
          ∧ r.2.mem ((c.tc : Thread Cert.AdamWGdnConvIdeal.nD Cert.AdamWGdnConvIdeal.τ).loc Cert.AdamWGdnConvIdeal.main_arg1) = m ((c.tc : Thread Cert.AdamWGdnConvIdeal.nD Cert.AdamWGdnConvIdeal.τ).loc Cert.AdamWGdnConvIdeal.main_arg1)
          ∧ r.2.mem ((c.tc : Thread Cert.AdamWGdnConvIdeal.nD Cert.AdamWGdnConvIdeal.τ).loc Cert.AdamWGdnConvIdeal.main_arg2) = m ((c.tc : Thread Cert.AdamWGdnConvIdeal.nD Cert.AdamWGdnConvIdeal.τ).loc Cert.AdamWGdnConvIdeal.main_arg2)
          ∧ r.2.mem ((c.tc : Thread Cert.AdamWGdnConvIdeal.nD Cert.AdamWGdnConvIdeal.τ).loc Cert.AdamWGdnConvIdeal.main_arg3) = m ((c.tc : Thread Cert.AdamWGdnConvIdeal.nD Cert.AdamWGdnConvIdeal.τ).loc Cert.AdamWGdnConvIdeal.main_arg3))
      ∧ θ_run (Cert.AdamWGdnConvRefIdeal.defs (F := Ideal)) (onTc (τ := Cert.AdamWGdnConvRefIdeal.τ) (Cert.AdamWGdnConvRefIdeal.main (F := Ideal))) ⟨m', fun _ => 0, g'⟩ (fun r => ∀ c : Dev Cert.AdamWGdnConvRefIdeal.nD,
          r.2.mem ((c.tc : Thread Cert.AdamWGdnConvRefIdeal.nD Cert.AdamWGdnConvRefIdeal.τ).loc Cert.AdamWGdnConvRefIdeal.main_v1) = v0 c
          ∧ r.2.mem ((c.tc : Thread Cert.AdamWGdnConvRefIdeal.nD Cert.AdamWGdnConvRefIdeal.τ).loc Cert.AdamWGdnConvRefIdeal.main_v39) = v1 c
          ∧ r.2.mem ((c.tc : Thread Cert.AdamWGdnConvRefIdeal.nD Cert.AdamWGdnConvRefIdeal.τ).loc Cert.AdamWGdnConvRefIdeal.main_v6) = v2 c
          ∧ r.2.mem ((c.tc : Thread Cert.AdamWGdnConvRefIdeal.nD Cert.AdamWGdnConvRefIdeal.τ).loc Cert.AdamWGdnConvRefIdeal.main_v12) = v3 c
          ∧ r.2.mem ((c.tc : Thread Cert.AdamWGdnConvRefIdeal.nD Cert.AdamWGdnConvRefIdeal.τ).loc Cert.AdamWGdnConvRefIdeal.main_arg0) = m' ((c.tc : Thread Cert.AdamWGdnConvRefIdeal.nD Cert.AdamWGdnConvRefIdeal.τ).loc Cert.AdamWGdnConvRefIdeal.main_arg0)
          ∧ r.2.mem ((c.tc : Thread Cert.AdamWGdnConvRefIdeal.nD Cert.AdamWGdnConvRefIdeal.τ).loc Cert.AdamWGdnConvRefIdeal.main_arg1) = m' ((c.tc : Thread Cert.AdamWGdnConvRefIdeal.nD Cert.AdamWGdnConvRefIdeal.τ).loc Cert.AdamWGdnConvRefIdeal.main_arg1)
          ∧ r.2.mem ((c.tc : Thread Cert.AdamWGdnConvRefIdeal.nD Cert.AdamWGdnConvRefIdeal.τ).loc Cert.AdamWGdnConvRefIdeal.main_arg2) = m' ((c.tc : Thread Cert.AdamWGdnConvRefIdeal.nD Cert.AdamWGdnConvRefIdeal.τ).loc Cert.AdamWGdnConvRefIdeal.main_arg2)
          ∧ r.2.mem ((c.tc : Thread Cert.AdamWGdnConvRefIdeal.nD Cert.AdamWGdnConvRefIdeal.τ).loc Cert.AdamWGdnConvRefIdeal.main_arg3) = m' ((c.tc : Thread Cert.AdamWGdnConvRefIdeal.nD Cert.AdamWGdnConvRefIdeal.τ).loc Cert.AdamWGdnConvRefIdeal.main_arg3))

def preserves_AdamWConvDw_AdamWConvDwIdeal : Prop :=
  IdealRules.named_const.Statement Cert.AdamWConvDwIdeal.κ "inv_b1" .f32 0x3FC48605#32 ((10000000000 / 6513215599 : ℝ) : EReal)
  ∧ IdealRules.named_const.Statement Cert.AdamWConvDwIdeal.κ "inv_b2" .f32 0x42C8E6D3#32 ((1000000000000000000000000000000 / 9955119790251790119955009999 : ℝ) : EReal)

def algebraic_AdamWConvDwIdeal_AdamWConvDwRefIdeal [hAdamWConvDwIdeal : Cert.AdamWConvDwIdeal.Facts] [hAdamWConvDwRefIdeal : Cert.AdamWConvDwRefIdeal.Facts] : Prop :=
  ∀ (m : (ℓ : Loc Cert.AdamWConvDwIdeal.nD Cert.AdamWConvDwIdeal.τ Cert.AdamWConvDwIdeal.sig) → Buf (Elt Ideal) ℓ) (g : Dev Cert.AdamWConvDwIdeal.nD → PrngReg)
    (m' : (ℓ : Loc Cert.AdamWConvDwRefIdeal.nD Cert.AdamWConvDwRefIdeal.τ Cert.AdamWConvDwRefIdeal.sig) → Buf (Elt Ideal) ℓ) (g' : Dev Cert.AdamWConvDwRefIdeal.nD → PrngReg), Pre_AdamWConvDwIdeal m →
    (∀ c : Dev Cert.AdamWConvDwIdeal.nD,
      m' ((c.tc : Thread Cert.AdamWConvDwRefIdeal.nD Cert.AdamWConvDwRefIdeal.τ).loc Cert.AdamWConvDwRefIdeal.main_arg0) = m ((c.tc : Thread Cert.AdamWConvDwIdeal.nD Cert.AdamWConvDwIdeal.τ).loc Cert.AdamWConvDwIdeal.main_arg0)
      ∧ m' ((c.tc : Thread Cert.AdamWConvDwRefIdeal.nD Cert.AdamWConvDwRefIdeal.τ).loc Cert.AdamWConvDwRefIdeal.main_arg1) = m ((c.tc : Thread Cert.AdamWConvDwIdeal.nD Cert.AdamWConvDwIdeal.τ).loc Cert.AdamWConvDwIdeal.main_arg1)
      ∧ m' ((c.tc : Thread Cert.AdamWConvDwRefIdeal.nD Cert.AdamWConvDwRefIdeal.τ).loc Cert.AdamWConvDwRefIdeal.main_arg2) = m ((c.tc : Thread Cert.AdamWConvDwIdeal.nD Cert.AdamWConvDwIdeal.τ).loc Cert.AdamWConvDwIdeal.main_arg2)
      ∧ m' ((c.tc : Thread Cert.AdamWConvDwRefIdeal.nD Cert.AdamWConvDwRefIdeal.τ).loc Cert.AdamWConvDwRefIdeal.main_arg3) = m ((c.tc : Thread Cert.AdamWConvDwIdeal.nD Cert.AdamWConvDwIdeal.τ).loc Cert.AdamWConvDwIdeal.main_arg3)) →
    ∃ (v0 : (c : Dev Cert.AdamWConvDwIdeal.nD) → Buf (Elt Ideal) ((c.tc : Thread Cert.AdamWConvDwIdeal.nD Cert.AdamWConvDwIdeal.τ).loc Cert.AdamWConvDwIdeal.main_v0_0)) (v1 : (c : Dev Cert.AdamWConvDwIdeal.nD) → Buf (Elt Ideal) ((c.tc : Thread Cert.AdamWConvDwIdeal.nD Cert.AdamWConvDwIdeal.τ).loc Cert.AdamWConvDwIdeal.main_v0_1)) (v2 : (c : Dev Cert.AdamWConvDwIdeal.nD) → Buf (Elt Ideal) ((c.tc : Thread Cert.AdamWConvDwIdeal.nD Cert.AdamWConvDwIdeal.τ).loc Cert.AdamWConvDwIdeal.main_v0_2)) (v3 : (c : Dev Cert.AdamWConvDwIdeal.nD) → Buf (Elt Ideal) ((c.tc : Thread Cert.AdamWConvDwIdeal.nD Cert.AdamWConvDwIdeal.τ).loc Cert.AdamWConvDwIdeal.main_v0_3)),
      θ_run (Cert.AdamWConvDwIdeal.defs (F := Ideal)) (onTc (τ := Cert.AdamWConvDwIdeal.τ) (Cert.AdamWConvDwIdeal.main (F := Ideal))) ⟨m, fun _ => 0, g⟩ (fun r => ∀ c : Dev Cert.AdamWConvDwIdeal.nD,
          r.2.mem ((c.tc : Thread Cert.AdamWConvDwIdeal.nD Cert.AdamWConvDwIdeal.τ).loc Cert.AdamWConvDwIdeal.main_v0_0) = v0 c
          ∧ r.2.mem ((c.tc : Thread Cert.AdamWConvDwIdeal.nD Cert.AdamWConvDwIdeal.τ).loc Cert.AdamWConvDwIdeal.main_v0_1) = v1 c
          ∧ r.2.mem ((c.tc : Thread Cert.AdamWConvDwIdeal.nD Cert.AdamWConvDwIdeal.τ).loc Cert.AdamWConvDwIdeal.main_v0_2) = v2 c
          ∧ r.2.mem ((c.tc : Thread Cert.AdamWConvDwIdeal.nD Cert.AdamWConvDwIdeal.τ).loc Cert.AdamWConvDwIdeal.main_v0_3) = v3 c
          ∧ r.2.mem ((c.tc : Thread Cert.AdamWConvDwIdeal.nD Cert.AdamWConvDwIdeal.τ).loc Cert.AdamWConvDwIdeal.main_arg0) = m ((c.tc : Thread Cert.AdamWConvDwIdeal.nD Cert.AdamWConvDwIdeal.τ).loc Cert.AdamWConvDwIdeal.main_arg0)
          ∧ r.2.mem ((c.tc : Thread Cert.AdamWConvDwIdeal.nD Cert.AdamWConvDwIdeal.τ).loc Cert.AdamWConvDwIdeal.main_arg1) = m ((c.tc : Thread Cert.AdamWConvDwIdeal.nD Cert.AdamWConvDwIdeal.τ).loc Cert.AdamWConvDwIdeal.main_arg1)
          ∧ r.2.mem ((c.tc : Thread Cert.AdamWConvDwIdeal.nD Cert.AdamWConvDwIdeal.τ).loc Cert.AdamWConvDwIdeal.main_arg2) = m ((c.tc : Thread Cert.AdamWConvDwIdeal.nD Cert.AdamWConvDwIdeal.τ).loc Cert.AdamWConvDwIdeal.main_arg2)
          ∧ r.2.mem ((c.tc : Thread Cert.AdamWConvDwIdeal.nD Cert.AdamWConvDwIdeal.τ).loc Cert.AdamWConvDwIdeal.main_arg3) = m ((c.tc : Thread Cert.AdamWConvDwIdeal.nD Cert.AdamWConvDwIdeal.τ).loc Cert.AdamWConvDwIdeal.main_arg3))
      ∧ θ_run (Cert.AdamWConvDwRefIdeal.defs (F := Ideal)) (onTc (τ := Cert.AdamWConvDwRefIdeal.τ) (Cert.AdamWConvDwRefIdeal.main (F := Ideal))) ⟨m', fun _ => 0, g'⟩ (fun r => ∀ c : Dev Cert.AdamWConvDwRefIdeal.nD,
          r.2.mem ((c.tc : Thread Cert.AdamWConvDwRefIdeal.nD Cert.AdamWConvDwRefIdeal.τ).loc Cert.AdamWConvDwRefIdeal.main_v1) = v0 c
          ∧ r.2.mem ((c.tc : Thread Cert.AdamWConvDwRefIdeal.nD Cert.AdamWConvDwRefIdeal.τ).loc Cert.AdamWConvDwRefIdeal.main_v39) = v1 c
          ∧ r.2.mem ((c.tc : Thread Cert.AdamWConvDwRefIdeal.nD Cert.AdamWConvDwRefIdeal.τ).loc Cert.AdamWConvDwRefIdeal.main_v6) = v2 c
          ∧ r.2.mem ((c.tc : Thread Cert.AdamWConvDwRefIdeal.nD Cert.AdamWConvDwRefIdeal.τ).loc Cert.AdamWConvDwRefIdeal.main_v12) = v3 c
          ∧ r.2.mem ((c.tc : Thread Cert.AdamWConvDwRefIdeal.nD Cert.AdamWConvDwRefIdeal.τ).loc Cert.AdamWConvDwRefIdeal.main_arg0) = m' ((c.tc : Thread Cert.AdamWConvDwRefIdeal.nD Cert.AdamWConvDwRefIdeal.τ).loc Cert.AdamWConvDwRefIdeal.main_arg0)
          ∧ r.2.mem ((c.tc : Thread Cert.AdamWConvDwRefIdeal.nD Cert.AdamWConvDwRefIdeal.τ).loc Cert.AdamWConvDwRefIdeal.main_arg1) = m' ((c.tc : Thread Cert.AdamWConvDwRefIdeal.nD Cert.AdamWConvDwRefIdeal.τ).loc Cert.AdamWConvDwRefIdeal.main_arg1)
          ∧ r.2.mem ((c.tc : Thread Cert.AdamWConvDwRefIdeal.nD Cert.AdamWConvDwRefIdeal.τ).loc Cert.AdamWConvDwRefIdeal.main_arg2) = m' ((c.tc : Thread Cert.AdamWConvDwRefIdeal.nD Cert.AdamWConvDwRefIdeal.τ).loc Cert.AdamWConvDwRefIdeal.main_arg2)
          ∧ r.2.mem ((c.tc : Thread Cert.AdamWConvDwRefIdeal.nD Cert.AdamWConvDwRefIdeal.τ).loc Cert.AdamWConvDwRefIdeal.main_arg3) = m' ((c.tc : Thread Cert.AdamWConvDwRefIdeal.nD Cert.AdamWConvDwRefIdeal.τ).loc Cert.AdamWConvDwRefIdeal.main_arg3))

def Claim : Prop :=
  ∃ (hGmlpBwd : Cert.GmlpBwd.Facts) (hGmlpBwdIdeal : Cert.GmlpBwdIdeal.Facts) (hGmlpBwdRefIdeal : Cert.GmlpBwdRefIdeal.Facts) (hFf2Dx : Cert.Ff2Dx.Facts) (hFf2DxIdeal : Cert.Ff2DxIdeal.Facts) (hFf2DxRefIdeal : Cert.Ff2DxRefIdeal.Facts) (hFf2Dw : Cert.Ff2Dw.Facts) (hFf2DwIdeal : Cert.Ff2DwIdeal.Facts) (hFf2DwRefIdeal : Cert.Ff2DwRefIdeal.Facts) (hFf1Dx : Cert.Ff1Dx.Facts) (hFf1DxIdeal : Cert.Ff1DxIdeal.Facts) (hFf1DxRefIdeal : Cert.Ff1DxRefIdeal.Facts) (hFf1Dw : Cert.Ff1Dw.Facts) (hFf1DwIdeal : Cert.Ff1DwIdeal.Facts) (hFf1DwRefIdeal : Cert.Ff1DwRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hSumWIn : Cert.SumWIn.Facts) (hSumWInIdeal : Cert.SumWInIdeal.Facts) (hSumWInRefIdeal : Cert.SumWInRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hOutProj : Cert.OutProj.Facts) (hOutProjIdeal : Cert.OutProjIdeal.Facts) (hOutProjRefIdeal : Cert.OutProjRefIdeal.Facts) (hProj : Cert.Proj.Facts) (hProjIdeal : Cert.ProjIdeal.Facts) (hProjRefIdeal : Cert.ProjRefIdeal.Facts) (hNormBwd : Cert.NormBwd.Facts) (hNormBwdIdeal : Cert.NormBwdIdeal.Facts) (hNormBwdRefIdeal : Cert.NormBwdRefIdeal.Facts) (hResBwd : Cert.ResBwd.Facts) (hResBwdIdeal : Cert.ResBwdIdeal.Facts) (hResBwdRefIdeal : Cert.ResBwdRefIdeal.Facts) (hNormFwd : Cert.NormFwd.Facts) (hNormFwdIdeal : Cert.NormFwdIdeal.Facts) (hNormFwdRefIdeal : Cert.NormFwdRefIdeal.Facts) (hResFwd : Cert.ResFwd.Facts) (hResFwdIdeal : Cert.ResFwdIdeal.Facts) (hResFwdRefIdeal : Cert.ResFwdRefIdeal.Facts) (hGmlpFwd : Cert.GmlpFwd.Facts) (hGmlpFwdIdeal : Cert.GmlpFwdIdeal.Facts) (hGmlpFwdRefIdeal : Cert.GmlpFwdRefIdeal.Facts) (hConvFwd : Cert.ConvFwd.Facts) (hConvFwdIdeal : Cert.ConvFwdIdeal.Facts) (hConvFwdRefIdeal : Cert.ConvFwdRefIdeal.Facts) (hLossHead : Cert.LossHead.Facts) (hLossHeadIdeal : Cert.LossHeadIdeal.Facts) (hLossHeadRefIdeal : Cert.LossHeadRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamWFf1 : Cert.AdamWFf1.Facts) (hAdamWFf1Ideal : Cert.AdamWFf1Ideal.Facts) (hAdamWFf1RefIdeal : Cert.AdamWFf1RefIdeal.Facts) (hAdamWFf2 : Cert.AdamWFf2.Facts) (hAdamWFf2Ideal : Cert.AdamWFf2Ideal.Facts) (hAdamWFf2RefIdeal : Cert.AdamWFf2RefIdeal.Facts) (hAdamWSmall : Cert.AdamWSmall.Facts) (hAdamWSmallIdeal : Cert.AdamWSmallIdeal.Facts) (hAdamWSmallRefIdeal : Cert.AdamWSmallRefIdeal.Facts) (hAdamWGdnConv : Cert.AdamWGdnConv.Facts) (hAdamWGdnConvIdeal : Cert.AdamWGdnConvIdeal.Facts) (hAdamWGdnConvRefIdeal : Cert.AdamWGdnConvRefIdeal.Facts) (hAdamWConvDw : Cert.AdamWConvDw.Facts) (hAdamWConvDwIdeal : Cert.AdamWConvDwIdeal.Facts) (hAdamWConvDwRefIdeal : Cert.AdamWConvDwRefIdeal.Facts) (hPre_finite_inputs : Cert.Pre_finite_inputs.Facts),
    quiescent_GmlpBwd (hGmlpBwd := hGmlpBwd)
    ∧ quiescent_GmlpBwdIdeal (hGmlpBwdIdeal := hGmlpBwdIdeal)
    ∧ quiescent_GmlpBwdIdeal_pre_finite_inputs (hGmlpBwdIdeal := hGmlpBwdIdeal) (hPre_finite_inputs := hPre_finite_inputs)
    ∧ quiescent_GmlpBwdRefIdeal (hGmlpBwdRefIdeal := hGmlpBwdRefIdeal)
    ∧ quiescent_GmlpBwdRefIdeal_pre_finite_inputs (hGmlpBwdRefIdeal := hGmlpBwdRefIdeal) (hPre_finite_inputs := hPre_finite_inputs)
    ∧ quiescent_Ff2Dx (hFf2Dx := hFf2Dx)
    ∧ quiescent_Ff2DxIdeal (hFf2DxIdeal := hFf2DxIdeal)
    ∧ quiescent_Ff2DxRefIdeal (hFf2DxRefIdeal := hFf2DxRefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_SumWIn (hSumWIn := hSumWIn)
    ∧ quiescent_SumWInIdeal (hSumWInIdeal := hSumWInIdeal)
    ∧ quiescent_SumWInRefIdeal (hSumWInRefIdeal := hSumWInRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Proj (hProj := hProj)
    ∧ quiescent_ProjIdeal (hProjIdeal := hProjIdeal)
    ∧ quiescent_ProjRefIdeal (hProjRefIdeal := hProjRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_ResBwd (hResBwd := hResBwd)
    ∧ quiescent_ResBwdIdeal (hResBwdIdeal := hResBwdIdeal)
    ∧ quiescent_ResBwdRefIdeal (hResBwdRefIdeal := hResBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ResFwd (hResFwd := hResFwd)
    ∧ quiescent_ResFwdIdeal (hResFwdIdeal := hResFwdIdeal)
    ∧ quiescent_ResFwdRefIdeal (hResFwdRefIdeal := hResFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWFf1 (hAdamWFf1 := hAdamWFf1)
    ∧ quiescent_AdamWFf1Ideal (hAdamWFf1Ideal := hAdamWFf1Ideal)
    ∧ quiescent_AdamWFf1RefIdeal (hAdamWFf1RefIdeal := hAdamWFf1RefIdeal)
    ∧ quiescent_AdamWFf2 (hAdamWFf2 := hAdamWFf2)
    ∧ quiescent_AdamWFf2Ideal (hAdamWFf2Ideal := hAdamWFf2Ideal)
    ∧ quiescent_AdamWFf2RefIdeal (hAdamWFf2RefIdeal := hAdamWFf2RefIdeal)
    ∧ quiescent_AdamWSmall (hAdamWSmall := hAdamWSmall)
    ∧ quiescent_AdamWSmallIdeal (hAdamWSmallIdeal := hAdamWSmallIdeal)
    ∧ quiescent_AdamWSmallRefIdeal (hAdamWSmallRefIdeal := hAdamWSmallRefIdeal)
    ∧ quiescent_AdamWGdnConv (hAdamWGdnConv := hAdamWGdnConv)
    ∧ quiescent_AdamWGdnConvIdeal (hAdamWGdnConvIdeal := hAdamWGdnConvIdeal)
    ∧ quiescent_AdamWGdnConvRefIdeal (hAdamWGdnConvRefIdeal := hAdamWGdnConvRefIdeal)
    ∧ quiescent_AdamWConvDw (hAdamWConvDw := hAdamWConvDw)
    ∧ quiescent_AdamWConvDwIdeal (hAdamWConvDwIdeal := hAdamWConvDwIdeal)
    ∧ quiescent_AdamWConvDwRefIdeal (hAdamWConvDwRefIdeal := hAdamWConvDwRefIdeal)
    ∧ preserves_GmlpBwd_GmlpBwdIdeal
    ∧ algebraic_GmlpBwdIdeal_GmlpBwdRefIdeal_pre_finite_inputs (hGmlpBwdIdeal := hGmlpBwdIdeal) (hGmlpBwdRefIdeal := hGmlpBwdRefIdeal) (hPre_finite_inputs := hPre_finite_inputs)
    ∧ preserves_Ff2Dx_Ff2DxIdeal
    ∧ algebraic_Ff2DxIdeal_Ff2DxRefIdeal (hFf2DxIdeal := hFf2DxIdeal) (hFf2DxRefIdeal := hFf2DxRefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_SumWIn_SumWInIdeal
    ∧ algebraic_SumWInIdeal_SumWInRefIdeal (hSumWInIdeal := hSumWInIdeal) (hSumWInRefIdeal := hSumWInRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_OutProj_OutProjIdeal
    ∧ algebraic_OutProjIdeal_OutProjRefIdeal (hOutProjIdeal := hOutProjIdeal) (hOutProjRefIdeal := hOutProjRefIdeal)
    ∧ preserves_Proj_ProjIdeal
    ∧ algebraic_ProjIdeal_ProjRefIdeal (hProjIdeal := hProjIdeal) (hProjRefIdeal := hProjRefIdeal)
    ∧ preserves_NormBwd_NormBwdIdeal
    ∧ algebraic_NormBwdIdeal_NormBwdRefIdeal (hNormBwdIdeal := hNormBwdIdeal) (hNormBwdRefIdeal := hNormBwdRefIdeal)
    ∧ preserves_ResBwd_ResBwdIdeal
    ∧ algebraic_ResBwdIdeal_ResBwdRefIdeal (hResBwdIdeal := hResBwdIdeal) (hResBwdRefIdeal := hResBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ResFwd_ResFwdIdeal
    ∧ algebraic_ResFwdIdeal_ResFwdRefIdeal (hResFwdIdeal := hResFwdIdeal) (hResFwdRefIdeal := hResFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWFf1_AdamWFf1Ideal
    ∧ algebraic_AdamWFf1Ideal_AdamWFf1RefIdeal (hAdamWFf1Ideal := hAdamWFf1Ideal) (hAdamWFf1RefIdeal := hAdamWFf1RefIdeal)
    ∧ preserves_AdamWFf2_AdamWFf2Ideal
    ∧ algebraic_AdamWFf2Ideal_AdamWFf2RefIdeal (hAdamWFf2Ideal := hAdamWFf2Ideal) (hAdamWFf2RefIdeal := hAdamWFf2RefIdeal)
    ∧ preserves_AdamWSmall_AdamWSmallIdeal
    ∧ algebraic_AdamWSmallIdeal_AdamWSmallRefIdeal (hAdamWSmallIdeal := hAdamWSmallIdeal) (hAdamWSmallRefIdeal := hAdamWSmallRefIdeal)
    ∧ preserves_AdamWGdnConv_AdamWGdnConvIdeal
    ∧ algebraic_AdamWGdnConvIdeal_AdamWGdnConvRefIdeal (hAdamWGdnConvIdeal := hAdamWGdnConvIdeal) (hAdamWGdnConvRefIdeal := hAdamWGdnConvRefIdeal)
    ∧ preserves_AdamWConvDw_AdamWConvDwIdeal
    ∧ algebraic_AdamWConvDwIdeal_AdamWConvDwRefIdeal (hAdamWConvDwIdeal := hAdamWConvDwIdeal) (hAdamWConvDwRefIdeal := hAdamWConvDwRefIdeal)
-- ==== Pre_finite_inputs.lean ====
abbrev S4096x6272 : Shape := ⟨2, ![4096, 6272]⟩
abbrev S512 : Shape := ⟨1, ![512]⟩
abbrev S4x128x128 : Shape := ⟨3, ![4, 128, 128]⟩
abbrev S4x128 : Shape := ⟨2, ![4, 128]⟩
abbrev S4096x2048 : Shape := ⟨2, ![4096, 2048]⟩
abbrev S4096x512 : Shape := ⟨2, ![4096, 512]⟩
abbrev S_ : Shape := ⟨0, ![]⟩

class Facts : Prop where
  slices_S4096x6272_S4096x512_0_4096 : S4096x6272.Slices ![0, 4096] S4096x512
  bcast_S_S4096x512 : S_.BroadcastsInDim S4096x512 (![] : Fin 0 → Fin S4096x512.rank)
  bcast_S_S512 : S_.BroadcastsInDim S512 (![] : Fin 0 → Fin S512.rank)
  bcast_S_S4x128x128 : S_.BroadcastsInDim S4x128x128 (![] : Fin 0 → Fin S4x128x128.rank)
  slices_S4096x2048_S4096x512_0_1024 : S4096x2048.Slices ![0, 1024] S4096x512

variable [Facts]

def fn {F : FTy → Type} [FloatOps F] (main_arg0 : FVec F S4096x6272 .f32) (main_arg1 : FVec F S512 .f32) (main_arg2 : FVec F S512 .f32) (main_arg3 : FVec F S4x128x128 .f32) (main_arg4 : FVec F S4x128 .f32) (main_arg5 : FVec F S4096x2048 .f32) : IVec S4096x512 1 × IVec S512 1 × IVec S4x128x128 1 × IVec S4096x512 1 :=
  let main_v0 : FVec F S4096x512 .f32 := (extractStridedSlice S4096x512 ![0, 4096] · slices_S4096x6272_S4096x512_0_4096) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_v7 : FVec F S4x128x128 .f32 := Host.absf main_arg3
  let main_cst_1 : FVec F S_ .f32 := constant S_ .f32 0x7F800000#32
  let main_v8 : FVec F S4x128x128 .f32 := broadcastInDim S4x128x128 ![] bcast_S_S4x128x128 main_cst_1
  let main_v9 : IVec S4x128x128 1 := cmpf .olt main_v7 main_v8
  let main_v10 : FVec F S4096x512 .f32 := (extractStridedSlice S4096x512 ![0, 1024] · slices_S4096x2048_S4096x512_0_1024) main_arg5
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  (main_v3, main_v6, main_v9, main_v13)
-- ==== GmlpBwd.lean ====
abbrev S4096x6272 : Shape := ⟨2, ![4096, 6272]⟩
abbrev S512 : Shape := ⟨1, ![512]⟩
abbrev S4x128x128 : Shape := ⟨3, ![4, 128, 128]⟩
abbrev S4x128 : Shape := ⟨2, ![4, 128]⟩
abbrev S4096x2048 : Shape := ⟨2, ![4096, 2048]⟩
abbrev S1x512 : Shape := ⟨2, ![1, 512]⟩
abbrev S512x128 : Shape := ⟨2, ![512, 128]⟩
abbrev S4096x512 : Shape := ⟨2, ![4096, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S128x384 : Shape := ⟨2, ![128, 384]⟩
abbrev S3x128 : Shape := ⟨2, ![3, 128]⟩
abbrev S384x128 : Shape := ⟨2, ![384, 128]⟩
abbrev S128x256 : Shape := ⟨2, ![128, 256]⟩
abbrev S2x128 : Shape := ⟨2, ![2, 128]⟩
abbrev S256x128 : Shape := ⟨2, ![256, 128]⟩

abbrev nBuf : Space → Nat
  | .hbm => 15
  | .vmem => 18
  | .smem => 0
  | _ => 0

abbrev bufTy : (tb : Table) → Fin (tcTables nBuf tb) → BufTy
  | .hbm, ⟨0, _⟩ => ⟨S4096x6272, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4096x2048, .f32⟩
  | .hbm, ⟨6, _⟩ => ⟨S1x512, .f32⟩
  | .hbm, ⟨7, _⟩ => ⟨S1x512, .f32⟩
  | .hbm, ⟨8, _⟩ => ⟨S512x128, .f32⟩
  | .hbm, ⟨9, _⟩ => ⟨S4096x512, .bf16⟩
  | .hbm, ⟨10, _⟩ => ⟨S4096x512, .bf16⟩
  | .hbm, ⟨11, _⟩ => ⟨S1x512, .f32⟩
  | .hbm, ⟨12, _⟩ => ⟨S1x512, .f32⟩
  | .hbm, ⟨13, _⟩ => ⟨S512x128, .f32⟩
  | .hbm, ⟨14, _⟩ => ⟨S4x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S4x128, .f32⟩
  | .local _ .vmem, ⟨8, _⟩ => ⟨S128x512, .f32⟩
  | .local _ .vmem, ⟨9, _⟩ => ⟨S128x512, .f32⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S1x512, .f32⟩
  | .local _ .vmem, ⟨15, _⟩ => ⟨S1x512, .f32⟩
  | .local _ .vmem, ⟨16, _⟩ => ⟨S512x128, .f32⟩
  | .local _ .vmem, ⟨17, _⟩ => ⟨S4x128, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmlpBwdRefIdeal.lean ====
abbrev S4096x6272 : Shape := ⟨2, ![4096, 6272]⟩
abbrev S512 : Shape := ⟨1, ![512]⟩
abbrev S4x128x128 : Shape := ⟨3, ![4, 128, 128]⟩
abbrev S4x128 : Shape := ⟨2, ![4, 128]⟩
abbrev S4096x2048 : Shape := ⟨2, ![4096, 2048]⟩
abbrev S4096x512 : Shape := ⟨2, ![4096, 512]⟩
abbrev S1x4096x512 : Shape := ⟨3, ![1, 4096, 512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S4x128x1x32x128 : Shape := ⟨5, ![4, 128, 1, 32, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S4x1x32x128x128 : Shape := ⟨5, ![4, 1, 32, 128, 128]⟩
abbrev S1x512 : Shape := ⟨2, ![1, 512]⟩
abbrev S4096 : Shape := ⟨1, ![4096]⟩
abbrev S512x128 : Shape := ⟨2, ![512, 128]⟩

abbrev nBuf : Space → Nat
  | .hbm => 197
  | .vmem => 0
  | .smem => 0
  | _ => 0

abbrev hbmTy0_0 (i : Nat) : BufTy := match i % 128 with
  | 0 => ⟨S4096x6272, .f32⟩
  | 1 => ⟨S512, .f32⟩
  | 2 => ⟨S512, .f32⟩
  | 3 => ⟨S4x128x128, .f32⟩
  | 4 => ⟨S4x128, .f32⟩
  | 5 => ⟨S4096x2048, .f32⟩
  | 6 => ⟨S4096x512, .f32⟩
  | 7 => ⟨S1x4096x512, .f32⟩
  | 8 => ⟨S4096x512, .f32⟩
  | 9 => ⟨S1x4096x512, .f32⟩
  | 10 => ⟨S4096x512, .f32⟩
  | 11 => ⟨S1x4096x512, .f32⟩
  | 12 => ⟨S_, .f32⟩
  | 13 => ⟨S1x4096x512, .f32⟩
  | 14 => ⟨S1x4096x512, .f32⟩
  | 15 => ⟨S1x4096x512, .f32⟩
  | 16 => ⟨S_, .f32⟩
  | 17 => ⟨S1x4096x512, .f32⟩
  | 18 => ⟨S1x4096x512, .f32⟩
  | 19 => ⟨S1x4096x512, .f32⟩
  | 20 => ⟨S1x4096x512, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S1x4096x512, .f32⟩
  | 28 => ⟨S_, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S_, .f32⟩
  | 37 => ⟨S1x4096, .f32⟩
  | 38 => ⟨S1x4096x1, .f32⟩
  | 39 => ⟨S_, .f32⟩
  | 40 => ⟨S1x4096x1, .f32⟩
  | 41 => ⟨S1x4096x1, .f32⟩
  | 42 => ⟨S1x4096x512, .f32⟩
  | 43 => ⟨S1x4096x512, .f32⟩
  | 44 => ⟨S1x4096x512, .f32⟩
  | 45 => ⟨S_, .f32⟩
  | 46 => ⟨S1x4096x512, .f32⟩
  | 47 => ⟨S1x4096x512, .f32⟩
  | 48 => ⟨S_, .f32⟩
  | 49 => ⟨S1x4096, .f32⟩
  | 50 => ⟨S1x4096x1, .f32⟩
  | 51 => ⟨S_, .f32⟩
  | 52 => ⟨S1x4096x1, .f32⟩
  | 53 => ⟨S1x4096x1, .f32⟩
  | 54 => ⟨S1x4096x512, .f32⟩
  | 55 => ⟨S1x4096x512, .f32⟩
  | 56 => ⟨S_, .f32⟩
  | 57 => ⟨S1x4096x1, .f32⟩
  | 58 => ⟨S1x4096x1, .f32⟩
  | 59 => ⟨S1x4096x1, .f32⟩
  | 60 => ⟨S1x4096x1, .f32⟩
  | 61 => ⟨S_, .f32⟩
  | 62 => ⟨S1x4096x1, .f32⟩
  | 63 => ⟨S1x4096x1, .f32⟩
  | 64 => ⟨S1x4096x512, .f32⟩
  | 65 => ⟨S1x4096x512, .f32⟩
  | 66 => ⟨S1x1x512, .f32⟩
  | 67 => ⟨S1x4096x512, .f32⟩
  | 68 => ⟨S1x4096x512, .f32⟩
  | 69 => ⟨S1x1x512, .f32⟩
  | 70 => ⟨S1x4096x512, .f32⟩
  | 71 => ⟨S1x4096x512, .f32⟩
  | 72 => ⟨S1x32x128x4x128, .f32⟩
  | 73 => ⟨S_, .i1⟩
  | 74 => ⟨S128x128, .i1⟩
  | 75 => ⟨S128x128, .i32⟩
  | 76 => ⟨S_, .i32⟩
  | 77 => ⟨S128x128, .i32⟩
  | 78 => ⟨S128x128, .i32⟩
  | 79 => ⟨S128x128, .i32⟩
  | 80 => ⟨S128x128, .i1⟩
  | 81 => ⟨S_, .i1⟩
  | 82 => ⟨S128x128, .i1⟩
  | 83 => ⟨S128x128, .i1⟩
  | 84 => ⟨S_, .f32⟩
  | 85 => ⟨S_, .f32⟩
  | 86 => ⟨S4x128x128, .i1⟩
  | 87 => ⟨S4x128x128, .f32⟩
  | 88 => ⟨S4x128x128, .f32⟩
  | 89 => ⟨S_, .f32⟩
  | 90 => ⟨S4x128x128, .f32⟩
  | 91 => ⟨S4x128x1x32x128, .f32⟩
  | 92 => ⟨S1x32x128x4x128, .f32⟩
  | 93 => ⟨S128x4, .f32⟩
  | 94 => ⟨S1x1x128x4x1, .f32⟩
  | 95 => ⟨S1x32x128x4x128, .f32⟩
  | 96 => ⟨S1x32x128x4x128, .f32⟩
  | 97 => ⟨S1x4096x512, .f32⟩
  | 98 => ⟨S1x4096x512, .f32⟩
  | 99 => ⟨S1x4096x512, .f32⟩
  | 100 => ⟨S1x4096x512, .f32⟩
  | 101 => ⟨S1x32x128x4x128, .f32⟩
  | 102 => ⟨S_, .f32⟩
  | 103 => ⟨S1x128x4, .f32⟩
  | 104 => ⟨S1x1x128x4x1, .f32⟩
  | 105 => ⟨S_, .f32⟩
  | 106 => ⟨S128x4, .f32⟩
  | 107 => ⟨S4x128, .f32⟩
  | 108 => ⟨S4x128x1x32x128, .f32⟩
  | 109 => ⟨S4x1x32x128x128, .f32⟩
  | 110 => ⟨S1x32x128x4x128, .f32⟩
  | 111 => ⟨S4x128x128, .f32⟩
  | 112 => ⟨S_, .f32⟩
  | 113 => ⟨S4x128x128, .f32⟩
  | 114 => ⟨S4x128x128, .f32⟩
  | 115 => ⟨S1x4096x512, .f32⟩
  | 116 => ⟨S_, .f32⟩
  | 117 => ⟨S1x512, .f32⟩
  | 118 => ⟨S1x1x512, .f32⟩
  | 119 => ⟨S_, .f32⟩
  | 120 => ⟨S512, .f32⟩
  | 121 => ⟨S1x4096x512, .f32⟩
  | 122 => ⟨S_, .f32⟩
  | 123 => ⟨S1x512, .f32⟩
  | 124 => ⟨S1x1x512, .f32⟩
  | 125 => ⟨S1x4096x512, .f32⟩
  | 126 => ⟨S1x4096x512, .f32⟩
  | 127 => ⟨S_, .f32⟩
  | _ => ⟨S4096x6272, .f32⟩

abbrev hbmTy0_1 (i : Nat) : BufTy := match i % 128 with
  | 0 => ⟨S512, .f32⟩
  | 1 => ⟨S1x4096x512, .f32⟩
  | 2 => ⟨S_, .f32⟩
  | 3 => ⟨S1x4096, .f32⟩
  | 4 => ⟨S1x4096x1, .f32⟩
  | 5 => ⟨S1x4096x512, .f32⟩
  | 6 => ⟨S1x4096x512, .f32⟩
  | 7 => ⟨S1x4096x1, .f32⟩
  | 8 => ⟨S1x4096x512, .f32⟩
  | 9 => ⟨S_, .f32⟩
  | 10 => ⟨S1x4096, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S4096, .f32⟩
  | 17 => ⟨S1x4096, .f32⟩
  | 18 => ⟨S1x4096x512, .f32⟩
  | 19 => ⟨S1x4096x512, .f32⟩
  | 20 => ⟨S1x4096x512, .f32⟩
  | 21 => ⟨S_, .f32⟩
  | 22 => ⟨S1x4096, .f32⟩
  | 23 => ⟨S1x4096x1, .f32⟩
  | 24 => ⟨S1x4096x512, .f32⟩
  | 25 => ⟨S1x4096x1, .f32⟩
  | 26 => ⟨S_, .f32⟩
  | 27 => ⟨S1x4096x1, .f32⟩
  | 28 => ⟨S1x4096x1, .f32⟩
  | 29 => ⟨S_, .f32⟩
  | 30 => ⟨S4096, .f32⟩
  | 31 => ⟨S1x4096, .f32⟩
  | 32 => ⟨S1x4096x512, .f32⟩
  | 33 => ⟨S1x4096x512, .f32⟩
  | 34 => ⟨S1x4096x512, .f32⟩
  | 35 => ⟨S1x4096x512, .f32⟩
  | 36 => ⟨S_, .f32⟩
  | 37 => ⟨S1x4096x512, .f32⟩
  | 38 => ⟨S1x4096x512, .f32⟩
  | 39 => ⟨S1x4096x512, .f32⟩
  | 40 => ⟨S_, .f32⟩
  | 41 => ⟨S1x4096x512, .f32⟩
  | 42 => ⟨S1x4096x512, .f32⟩
  | 43 => ⟨S1x4096x512, .f32⟩
  | 44 => ⟨S_, .f32⟩
  | 45 => ⟨S1x4096x512, .f32⟩
  | 46 => ⟨S1x4096x512, .f32⟩
  | 47 => ⟨S1x4096x512, .f32⟩
  | 48 => ⟨S1x4096x512, .f32⟩
  | 49 => ⟨S1x4096x512, .f32⟩
  | 50 => ⟨S_, .f32⟩
  | 51 => ⟨S1x4096x512, .f32⟩
  | 52 => ⟨S1x4096x512, .f32⟩
  | 53 => ⟨S1x4096x512, .f32⟩
  | 54 => ⟨S_, .f32⟩
  | 55 => ⟨S1x4096x512, .f32⟩
  | 56 => ⟨S1x4096x512, .f32⟩
  | 57 => ⟨S1x4096x512, .f32⟩
  | 58 => ⟨S_, .f32⟩
  | 59 => ⟨S1x4096x512, .f32⟩
  | 60 => ⟨S1x4096x512, .f32⟩
  | 61 => ⟨S1x4096x512, .f32⟩
  | 62 => ⟨S4096x512, .f32⟩
  | 63 => ⟨S4096x512, .bf16⟩
  | 64 => ⟨S4096x512, .f32⟩
  | 65 => ⟨S4096x512, .bf16⟩
  | 66 => ⟨S1x512, .f32⟩
  | 67 => ⟨S1x512, .f32⟩
  | 68 => ⟨S512x128, .f32⟩
  | _ => ⟨S4096x6272, .f32⟩

abbrev hbmTy (i : Nat) : BufTy := match i / 128 with
  | 0 => hbmTy0_0 i
  | 1 => hbmTy0_1 i
  | _ => ⟨S4096x6272, .f32⟩

abbrev bufTy : (tb : Table) → Fin (tcTables nBuf tb) → BufTy
  | .hbm, ⟨i, _⟩ => hbmTy i
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c : Ref sig .tc := ⟨.hbm, 73, rfl⟩
abbrev main_v56 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v57 : Ref sig .tc := ⟨.hbm, 83, rfl⟩
abbrev main_cst_10 : Ref sig .tc := ⟨.hbm, 84, rfl⟩
abbrev main_call1_v0 : Ref sig .tc := ⟨.hbm, 85, rfl⟩
abbrev main_v58_1 : Ref sig .tc := ⟨.hbm, 86, rfl⟩
abbrev main_call1_v2 : Ref sig .tc := ⟨.hbm, 87, rfl⟩
abbrev main_v58_0 : Ref sig .tc := ⟨.hbm, 88, rfl⟩
abbrev main_call1_cst : Ref sig .tc := ⟨.hbm, 89, rfl⟩
abbrev main_v58_2 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call2_cst : Ref sig .tc := ⟨.hbm, 112, rfl⟩
abbrev main_call2_v0 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_18 : Ref sig .tc := ⟨.hbm, 137, rfl⟩
abbrev main_v96 : Ref sig .tc := ⟨.hbm, 138, rfl⟩
abbrev main_v97 : Ref sig .tc := ⟨.hbm, 139, rfl⟩
abbrev main_cst_19 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_cst_23 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_24 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_25 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_26 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_27 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_28 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_29 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩

abbrev nD : Nat := 1
abbrev τ : Topo := Topo.v7x

variable {F : FTy → Type} [FloatOps F]
-- ==== Ff2Dx.lean ====
abbrev S4096x2048 : Shape := ⟨2, ![4096, 2048]⟩
abbrev S8192x2048 : Shape := ⟨2, ![8192, 2048]⟩
abbrev S4096x8192 : Shape := ⟨2, ![4096, 8192]⟩
abbrev S8x1x1024x2048 : Shape := ⟨4, ![8, 1, 1024, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S8192x2048, .bf16⟩
  | .hbm, ⟨4, _⟩ => ⟨S8x1x1024x2048, .bf16⟩
  | .hbm, ⟨5, _⟩ => ⟨S4096x2048, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DxRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Ff2Dw.lean ====
abbrev S4096x8192 : Shape := ⟨2, ![4096, 8192]⟩
abbrev S4096x2048 : Shape := ⟨2, ![4096, 2048]⟩
abbrev S2x4x1024x2048 : Shape := ⟨4, ![2, 4, 1024, 2048]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S2x4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg0 c1_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg0 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg0 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  ![v26.toNat, v60.toNat, v70.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S2x4x1024x2048 : Shape := ⟨4, ![2, 4, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S8192x2048, .f32⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | .hbm, ⟨8, _⟩ => ⟨S4x2x1024x2048, .bf16⟩
  | .hbm, ⟨9, _⟩ => ⟨S2x4x1024x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1Dx.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8x1x2048x1024 : Shape := ⟨4, ![8, 1, 2048, 1024]⟩
abbrev S4096x2048 : Shape := ⟨2, ![4096, 2048]⟩
abbrev S1024x1024 : Shape := ⟨2, ![1024, 1024]⟩
abbrev S1x1x1024x1024 : Shape := ⟨4, ![1, 1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S8x1x2048x1024, .bf16⟩
  | .hbm, ⟨6, _⟩ => ⟨S4096x8192, .bf16⟩
  | .hbm, ⟨7, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ff1Dw.lean ====
abbrev S4096x2048 : Shape := ⟨2, ![4096, 2048]⟩
abbrev S4096x8192 : Shape := ⟨2, ![4096, 8192]⟩
abbrev S2x4x2048x1024 : Shape := ⟨4, ![2, 4, 2048, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S2x4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg1 c1_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg1 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg1 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  ![v26.toNat, v60.toNat, arg0.toNat, v70.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2x1024 : Shape := ⟨4, ![2048, 4, 2, 1024]⟩
abbrev S2x4x2048x1024 : Shape := ⟨4, ![2, 4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S2048x4x2x1024, .bf16⟩
  | .hbm, ⟨9, _⟩ => ⟨S2x4x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProjDw.lean ====
abbrev S4096x2048 : Shape := ⟨2, ![4096, 2048]⟩
abbrev S2x4x256x2048 : Shape := ⟨4, ![2, 4, 256, 2048]⟩
abbrev S2048x256 : Shape := ⟨2, ![2048, 256]⟩
abbrev S2048x1024 : Shape := ⟨2, ![2048, 1024]⟩
abbrev S1x1x256x1024 : Shape := ⟨4, ![1, 1, 256, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2x4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg0 c1_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg0 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg0 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  ![v26.toNat, v60.toNat, v70.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x2048 : Shape := ⟨2, ![4096, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S4x2x256x2048, .bf16⟩
  | .hbm, ⟨9, _⟩ => ⟨S2x4x256x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDw.lean ====
abbrev S4096x6272 : Shape := ⟨2, ![4096, 6272]⟩
abbrev S4096x2048 : Shape := ⟨2, ![4096, 2048]⟩
abbrev S6272x2048 : Shape := ⟨2, ![6272, 2048]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x6272, .f32⟩
  | .hbm, ⟨1, _⟩ => ⟨S4096x2048, .f32⟩
  | .hbm, ⟨2, _⟩ => ⟨S4096x6272, .bf16⟩
  | .hbm, ⟨3, _⟩ => ⟨S4096x2048, .bf16⟩
  | .hbm, ⟨4, _⟩ => ⟨S6272x2048, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x6272 : Shape := ⟨2, ![4096, 6272]⟩
abbrev S4096x2048 : Shape := ⟨2, ![4096, 2048]⟩
abbrev S_ : Shape := ⟨0, ![]⟩
abbrev S2048x6272 : Shape := ⟨2, ![2048, 6272]⟩
abbrev S6272x2048 : Shape := ⟨2, ![6272, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4096x2048, .f32⟩
  | .hbm, ⟨2, _⟩ => ⟨S_, .f32⟩
  | .hbm, ⟨3, _⟩ => ⟨S2048x6272, .f32⟩
  | .hbm, ⟨4, _⟩ => ⟨S4096x6272, .f32⟩
  | .hbm, ⟨5, _⟩ => ⟨S6272x2048, .f32⟩
  | .hbm, ⟨6, _⟩ => ⟨S2048x6272, .f32⟩
  | .hbm, ⟨7, _⟩ => ⟨S6272x2048, .f32⟩
  | .hbm, ⟨8, _⟩ => ⟨S6272x2048, .bf16⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDx.lean ====
abbrev S4096x6272 : Shape := ⟨2, ![4096, 6272]⟩
abbrev S2048x6272 : Shape := ⟨2, ![2048, 6272]⟩
abbrev S4096x2048 : Shape := ⟨2, ![4096, 2048]⟩
abbrev S512x6272 : Shape := ⟨2, ![512, 6272]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x6272, .f32⟩
  | .hbm, ⟨1, _⟩ => ⟨S2048x6272, .f32⟩
  | .hbm, ⟨2, _⟩ => ⟨S4096x6272, .bf16⟩
  | .hbm, ⟨3, _⟩ => ⟨S2048x6272, .bf16⟩
  | .hbm, ⟨4, _⟩ => ⟨S4096x2048, .f32⟩
  | .local _ .vmem, ⟨0, _⟩ => ⟨S512x6272, .bf16⟩
  | .local _ .vmem, ⟨1, _⟩ => ⟨S512x6272, .bf16⟩
  | .local _ .vmem, ⟨2, _⟩ => ⟨S512x6272, .bf16⟩
  | .local _ .vmem, ⟨3, _⟩ => ⟨S512x6272, .bf16⟩
  | .local _ .vmem, ⟨4, _⟩ => ⟨S512x512, .f32⟩
  | .local _ .vmem, ⟨5, _⟩ => ⟨S512x512, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x6272 : Shape := ⟨2, ![4096, 6272]⟩
abbrev S2048x6272 : Shape := ⟨2, ![2048, 6272]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S2048x6272, .f32⟩
  | .hbm, ⟨2, _⟩ => ⟨S_, .f32⟩
  | .hbm, ⟨3, _⟩ => ⟨S4096x2048, .f32⟩
  | .hbm, ⟨4, _⟩ => ⟨S4096x6272, .f32⟩
  | .hbm, ⟨5, _⟩ => ⟨S4096x2048, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumWIn.lean ====
abbrev S4x769x2048 : Shape := ⟨3, ![4, 769, 2048]⟩
abbrev S769x2048 : Shape := ⟨2, ![769, 2048]⟩
abbrev S4x769x512 : Shape := ⟨3, ![4, 769, 512]⟩
abbrev S769x512 : Shape := ⟨2, ![769, 512]⟩
abbrev S1x769x512 : Shape := ⟨3, ![1, 769, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x769x2048, .bf16⟩
  | .hbm, ⟨1, _⟩ => ⟨S769x2048, .f32⟩
  | .local _ .vmem, ⟨0, _⟩ => ⟨S4x769x512, .bf16⟩
  | .local _ .vmem, ⟨1, _⟩ => ⟨S4x769x512, .bf16⟩
  | .local _ .vmem, ⟨2, _⟩ => ⟨S769x512, .f32⟩
  | .local _ .vmem, ⟨3, _⟩ => ⟨S769x512, .f32⟩
  | _, _ => ⟨S4x769x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x769x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S769x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWInRefIdeal.lean ====
abbrev S4x769x2048 : Shape := ⟨3, ![4, 769, 2048]⟩
abbrev S_ : Shape := ⟨0, ![]⟩
abbrev S769x2048 : Shape := ⟨2, ![769, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x769x2048, .bf16⟩
  | .hbm, ⟨1, _⟩ => ⟨S4x769x2048, .f32⟩
  | .hbm, ⟨2, _⟩ => ⟨S_, .f32⟩
  | .hbm, ⟨3, _⟩ => ⟨S769x2048, .f32⟩
  | _, _ => ⟨S4x769x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ff1.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8x1x2048x1024 : Shape := ⟨4, ![8, 1, 2048, 1024]⟩
abbrev S4096x8192 : Shape := ⟨2, ![4096, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S8x1x2048x1024, .bf16⟩
  | .hbm, ⟨6, _⟩ => ⟨S4096x2048, .bf16⟩
  | .hbm, ⟨7, _⟩ => ⟨S4096x8192, .f32⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S8x1x1024x2048 : Shape := ⟨4, ![8, 1, 1024, 2048]⟩
abbrev S4096x2048 : Shape := ⟨2, ![4096, 2048]⟩
abbrev S1024x1024 : Shape := ⟨2, ![1024, 1024]⟩
abbrev S1x1x1024x1024 : Shape := ⟨4, ![1, 1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S8192x2048, .bf16⟩
  | .hbm, ⟨3, _⟩ => ⟨S8x1x1024x2048, .bf16⟩
  | .hbm, ⟨4, _⟩ => ⟨S4096x8192, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj.lean ====
abbrev S4096x2048 : Shape := ⟨2, ![4096, 2048]⟩
abbrev S2048x6272 : Shape := ⟨2, ![2048, 6272]⟩
abbrev S4096x6272 : Shape := ⟨2, ![4096, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6272, .f32⟩
  | .hbm, ⟨2, _⟩ => ⟨S4096x2048, .bf16⟩
  | .hbm, ⟨3, _⟩ => ⟨S2048x6272, .bf16⟩
  | .hbm, ⟨4, _⟩ => ⟨S4096x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x6272 : Shape := ⟨2, ![2048, 6272]⟩
abbrev S4096x6272 : Shape := ⟨2, ![4096, 6272]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6272, .f32⟩
  | .hbm, ⟨2, _⟩ => ⟨S4096x6272, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== ResBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== GmlpFwd.lean ====
abbrev S4096x6272 : Shape := ⟨2, ![4096, 6272]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S512x128 : Shape := ⟨2, ![512, 128]⟩
abbrev S4096x512 : Shape := ⟨2, ![4096, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S4096x6272, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S512x128, .f32⟩
  | .hbm, ⟨8, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S4x128, .f32⟩
  | .local _ .vmem, ⟨8, _⟩ => ⟨S128x512, .bf16⟩
  | .local _ .vmem, ⟨9, _⟩ => ⟨S128x512, .bf16⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpFwdRefIdeal.lean ====
abbrev S4096x6272 : Shape := ⟨2, ![4096, 6272]⟩
abbrev S512 : Shape := ⟨1, ![512]⟩
abbrev S4x128x128 : Shape := ⟨3, ![4, 128, 128]⟩
abbrev S4x128 : Shape := ⟨2, ![4, 128]⟩
abbrev S4096x512 : Shape := ⟨2, ![4096, 512]⟩
abbrev S1x4096x512 : Shape := ⟨3, ![1, 4096, 512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S4x128x1x32x128 : Shape := ⟨5, ![4, 128, 1, 32, 128]⟩
abbrev S128x4 : Shape := ⟨2, ![128, 4]⟩
abbrev S1x1x128x4x1 : Shape := ⟨5, ![1, 1, 128, 4, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4096x512, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S_, .f32⟩
  | .hbm, ⟨10, _⟩ => ⟨S1x4096x512, .f32⟩
  | .hbm, ⟨11, _⟩ => ⟨S1x4096x512, .f32⟩
  | .hbm, ⟨12, _⟩ => ⟨S1x4096x512, .f32⟩
  | .hbm, ⟨13, _⟩ => ⟨S_, .f32⟩
  | .hbm, ⟨14, _⟩ => ⟨S1x4096x512, .f32⟩
  | .hbm, ⟨15, _⟩ => ⟨S1x4096x512, .f32⟩
  | .hbm, ⟨16, _⟩ => ⟨S1x4096x512, .f32⟩
  | .hbm, ⟨17, _⟩ => ⟨S1x4096x512, .f32⟩
  | .hbm, ⟨18, _⟩ => ⟨S_, .f32⟩
  | .hbm, ⟨19, _⟩ => ⟨S1x4096x512, .f32⟩
  | .hbm, ⟨20, _⟩ => ⟨S1x4096x512, .f32⟩
  | .hbm, ⟨21, _⟩ => ⟨S1x4096x512, .f32⟩
  | .hbm, ⟨22, _⟩ => ⟨S_, .f32⟩
  | .hbm, ⟨23, _⟩ => ⟨S1x4096x512, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S_, .f32⟩
  | .hbm, ⟨28, _⟩ => ⟨S1x4096, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S1x4096x512, .f32⟩
  | .hbm, ⟨43, _⟩ => ⟨S1x4096x512, .f32⟩
  | .hbm, ⟨44, _⟩ => ⟨S_, .f32⟩
  | .hbm, ⟨45, _⟩ => ⟨S1x4096x1, .f32⟩
  | .hbm, ⟨46, _⟩ => ⟨S1x4096x1, .f32⟩
  | .hbm, ⟨47, _⟩ => ⟨S1x4096x1, .f32⟩
  | .hbm, ⟨48, _⟩ => ⟨S1x4096x512, .f32⟩
  | .hbm, ⟨49, _⟩ => ⟨S1x4096x512, .f32⟩
  | .hbm, ⟨50, _⟩ => ⟨S1x1x512, .f32⟩
  | .hbm, ⟨51, _⟩ => ⟨S1x4096x512, .f32⟩
  | .hbm, ⟨52, _⟩ => ⟨S1x4096x512, .f32⟩
  | .hbm, ⟨53, _⟩ => ⟨S1x1x512, .f32⟩
  | .hbm, ⟨54, _⟩ => ⟨S1x4096x512, .f32⟩
  | .hbm, ⟨55, _⟩ => ⟨S1x4096x512, .f32⟩
  | .hbm, ⟨56, _⟩ => ⟨S1x32x128x4x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S_, .f32⟩
  | .hbm, ⟨69, _⟩ => ⟨S_, .f32⟩
  | .hbm, ⟨70, _⟩ => ⟨S4x128x128, .i1⟩
  | .hbm, ⟨71, _⟩ => ⟨S4x128x128, .f32⟩
  | .hbm, ⟨72, _⟩ => ⟨S4x128x128, .f32⟩
  | .hbm, ⟨73, _⟩ => ⟨S4x128x1x32x128, .f32⟩
  | .hbm, ⟨74, _⟩ => ⟨S1x32x128x4x128, .f32⟩
  | .hbm, ⟨75, _⟩ => ⟨S128x4, .f32⟩
  | .hbm, ⟨76, _⟩ => ⟨S1x1x128x4x1, .f32⟩
  | .hbm, ⟨77, _⟩ => ⟨S1x32x128x4x128, .f32⟩
  | .hbm, ⟨78, _⟩ => ⟨S1x32x128x4x128, .f32⟩
  | .hbm, ⟨79, _⟩ => ⟨S1x4096x512, .f32⟩
  | .hbm, ⟨80, _⟩ => ⟨S1x4096x512, .f32⟩
  | .hbm, ⟨81, _⟩ => ⟨S4096x512, .f32⟩
  | .hbm, ⟨82, _⟩ => ⟨S4096x512, .bf16⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v44 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== ConvFwd.lean ====
abbrev S4096x6272 : Shape := ⟨2, ![4096, 6272]⟩
abbrev S31x512 : Shape := ⟨2, ![31, 512]⟩
abbrev S512 : Shape := ⟨1, ![512]⟩
abbrev S1x512 : Shape := ⟨2, ![1, 512]⟩
abbrev S4096x512 : Shape := ⟨2, ![4096, 512]⟩
abbrev S32x512 : Shape := ⟨2, ![32, 512]⟩
abbrev S256x512 : Shape := ⟨2, ![256, 512]⟩
abbrev S288x512 : Shape := ⟨2, ![288, 512]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x6272, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S4096x512, .bf16⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvFwdRefIdeal.lean ====
abbrev S4096x6272 : Shape := ⟨2, ![4096, 6272]⟩
abbrev S31x512 : Shape := ⟨2, ![31, 512]⟩
abbrev S512 : Shape := ⟨1, ![512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S4096 : Shape := ⟨1, ![4096]⟩
abbrev S4096x1 : Shape := ⟨2, ![4096, 1]⟩

abbrev nBuf : Space → Nat
  | .hbm => 280
  | .vmem => 0
  | .smem => 0
  | _ => 0

abbrev hbmTy0_0 (i : Nat) : BufTy := match i % 128 with
  | 0 => ⟨S4096x6272, .f32⟩
  | 1 => ⟨S31x512, .f32⟩
  | 2 => ⟨S512, .f32⟩
  | 3 => ⟨S512, .f32⟩
  | 4 => ⟨S512, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S_, .f32⟩
  | 17 => ⟨S30x512, .f32⟩
  | 18 => ⟨S4126x512, .f32⟩
  | 19 => ⟨S1x512, .f32⟩
  | 20 => ⟨S512, .f32⟩
  | 21 => ⟨S4096x512, .f32⟩
  | 22 => ⟨S1x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S1x512, .f32⟩
  | 29 => ⟨S512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S4096x512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S4096x512, .f32⟩
  | 73 => ⟨S1x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S4096x512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S4096x512, .f32⟩
  | 115 => ⟨S1x512, .f32⟩
  | 116 => ⟨S4096x512, .f32⟩
  | 117 => ⟨S4096x512, .f32⟩
  | 118 => ⟨S4096x512, .f32⟩
  | 119 => ⟨S1x512, .f32⟩
  | 120 => ⟨S512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S1x512, .f32⟩
  | 127 => ⟨S512, .f32⟩
  | _ => ⟨S4096x6272, .f32⟩

abbrev hbmTy0_1 (i : Nat) : BufTy := match i % 128 with
  | 0 => ⟨S4096x512, .f32⟩
  | 1 => ⟨S1x512, .f32⟩
  | 2 => ⟨S4096x512, .f32⟩
  | 3 => ⟨S4096x512, .f32⟩
  | 4 => ⟨S4096x512, .f32⟩
  | 5 => ⟨S1x512, .f32⟩
  | 6 => ⟨S512, .f32⟩
  | 7 => ⟨S4096x512, .f32⟩
  | 8 => ⟨S1x512, .f32⟩
  | 9 => ⟨S4096x512, .f32⟩
  | 10 => ⟨S4096x512, .f32⟩
  | 11 => ⟨S4096x512, .f32⟩
  | 12 => ⟨S1x512, .f32⟩
  | 13 => ⟨S512, .f32⟩
  | 14 => ⟨S4096x512, .f32⟩
  | 15 => ⟨S1x512, .f32⟩
  | 16 => ⟨S4096x512, .f32⟩
  | 17 => ⟨S4096x512, .f32⟩
  | 18 => ⟨S4096x512, .f32⟩
  | 19 => ⟨S1x512, .f32⟩
  | 20 => ⟨S512, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S1x512, .f32⟩
  | 111 => ⟨S4096x512, .f32⟩
  | 112 => ⟨S4096x512, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S4096x512, .f32⟩
  | 120 => ⟨S4096x512, .f32⟩
  | 121 => ⟨S4096x512, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x6272, .f32⟩

abbrev hbmTy0_2 (i : Nat) : BufTy := match i % 128 with
  | 0 => ⟨S4096x512, .f32⟩
  | 1 => ⟨S4096x512, .f32⟩
  | 2 => ⟨S_, .f32⟩
  | 3 => ⟨S4096x1, .f32⟩
  | 4 => ⟨S4096x1, .f32⟩
  | 5 => ⟨S4096x1, .f32⟩
  | 6 => ⟨S4096x512, .f32⟩
  | 7 => ⟨S4096x512, .f32⟩
  | 8 => ⟨S1x512, .f32⟩
  | 9 => ⟨S4096x512, .f32⟩
  | 10 => ⟨S4096x512, .f32⟩
  | 11 => ⟨S1x512, .f32⟩
  | 12 => ⟨S4096x512, .f32⟩
  | 13 => ⟨S4096x512, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S4096x512, .bf16⟩
  | _ => ⟨S4096x6272, .f32⟩

abbrev hbmTy (i : Nat) : BufTy := match i / 128 with
  | 0 => hbmTy0_0 i
  | 1 => hbmTy0_1 i
  | 2 => hbmTy0_2 i
  | _ => ⟨S4096x6272, .f32⟩

abbrev bufTy : (tb : Table) → Fin (tcTables nBuf tb) → BufTy
  | .hbm, ⟨i, _⟩ => hbmTy i
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_cst_6 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_cst_7 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamWIn.lean ====
abbrev S2x2048x769 : Shape := ⟨3, ![2, 2048, 769]⟩
abbrev S1x2048x769 : Shape := ⟨3, ![1, 2048, 769]⟩
abbrev S1x128x769 : Shape := ⟨3, ![1, 128, 769]⟩
abbrev S128x769 : Shape := ⟨2, ![128, 769]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x769, .f32⟩
  | .hbm, ⟨1, _⟩ => ⟨S2x2048x769, .f32⟩
  | .hbm, ⟨2, _⟩ => ⟨S2x2048x769, .f32⟩
  | .hbm, ⟨3, _⟩ => ⟨S1x2048x769, .f32⟩
  | .hbm, ⟨4, _⟩ => ⟨S1x2048x769, .f32⟩
  | .hbm, ⟨5, _⟩ => ⟨S2x2048x769, .f32⟩
  | .hbm, ⟨6, _⟩ => ⟨S2x2048x769, .f32⟩
  | .hbm, ⟨7, _⟩ => ⟨S2x2048x769, .f32⟩
  | .hbm, ⟨8, _⟩ => ⟨S2x2048x769, .f32⟩
  | .local _ .vmem, ⟨0, _⟩ => ⟨S1x128x769, .f32⟩
  | .local _ .vmem, ⟨1, _⟩ => ⟨S1x128x769, .f32⟩
  | .local _ .vmem, ⟨2, _⟩ => ⟨S1x128x769, .f32⟩
  | .local _ .vmem, ⟨3, _⟩ => ⟨S1x128x769, .f32⟩
  | .local _ .vmem, ⟨4, _⟩ => ⟨S1x128x769, .f32⟩
  | .local _ .vmem, ⟨5, _⟩ => ⟨S1x128x769, .f32⟩
  | .local _ .vmem, ⟨6, _⟩ => ⟨S1x128x769, .f32⟩
  | .local _ .vmem, ⟨7, _⟩ => ⟨S1x128x769, .f32⟩
  | .local _ .vmem, ⟨8, _⟩ => ⟨S1x128x769, .f32⟩
  | .local _ .vmem, ⟨9, _⟩ => ⟨S1x128x769, .f32⟩
  | .local _ .vmem, ⟨10, _⟩ => ⟨S1x128x769, .f32⟩
  | .local _ .vmem, ⟨11, _⟩ => ⟨S1x128x769, .f32⟩
  | .local _ .vmem, ⟨12, _⟩ => ⟨S1x128x769, .f32⟩
  | .local _ .vmem, ⟨13, _⟩ => ⟨S1x128x769, .f32⟩
  | .local _ .vmem, ⟨14, _⟩ => ⟨S1x128x769, .f32⟩
  | .local _ .vmem, ⟨15, _⟩ => ⟨S1x128x769, .f32⟩
  | .local _ .vmem, ⟨16, _⟩ => ⟨S1x128x769, .f32⟩
  | .local _ .vmem, ⟨17, _⟩ => ⟨S1x128x769, .f32⟩
  | _, _ => ⟨S2x2048x769, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x769 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x769 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x769 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x769 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x769 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x769 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x769 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x769 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x769 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWInIdeal.lean ====
abbrev S2x2048x769 : Shape := ⟨3, ![2, 2048, 769]⟩
abbrev S1x2048x769 : Shape := ⟨3, ![1, 2048, 769]⟩
abbrev S1x128x769 : Shape := ⟨3, ![1, 128, 769]⟩
abbrev S128x769 : Shape := ⟨2, ![128, 769]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x769, .f32⟩
  | .hbm, ⟨1, _⟩ => ⟨S2x2048x769, .f32⟩
  | .hbm, ⟨2, _⟩ => ⟨S2x2048x769, .f32⟩
  | .hbm, ⟨3, _⟩ => ⟨S1x2048x769, .f32⟩
  | .hbm, ⟨4, _⟩ => ⟨S1x2048x769, .f32⟩
  | .hbm, ⟨5, _⟩ => ⟨S2x2048x769, .f32⟩
  | .hbm, ⟨6, _⟩ => ⟨S2x2048x769, .f32⟩
  | .hbm, ⟨7, _⟩ => ⟨S2x2048x769, .f32⟩
  | .hbm, ⟨8, _⟩ => ⟨S2x2048x769, .f32⟩
  | .local _ .vmem, ⟨0, _⟩ => ⟨S1x128x769, .f32⟩
  | .local _ .vmem, ⟨1, _⟩ => ⟨S1x128x769, .f32⟩
  | .local _ .vmem, ⟨2, _⟩ => ⟨S1x128x769, .f32⟩
  | .local _ .vmem, ⟨3, _⟩ => ⟨S1x128x769, .f32⟩
  | .local _ .vmem, ⟨4, _⟩ => ⟨S1x128x769, .f32⟩
  | .local _ .vmem, ⟨5, _⟩ => ⟨S1x128x769, .f32⟩
  | .local _ .vmem, ⟨6, _⟩ => ⟨S1x128x769, .f32⟩
  | .local _ .vmem, ⟨7, _⟩ => ⟨S1x128x769, .f32⟩
  | .local _ .vmem, ⟨8, _⟩ => ⟨S1x128x769, .f32⟩
  | .local _ .vmem, ⟨9, _⟩ => ⟨S1x128x769, .f32⟩
  | .local _ .vmem, ⟨10, _⟩ => ⟨S1x128x769, .f32⟩
  | .local _ .vmem, ⟨11, _⟩ => ⟨S1x128x769, .f32⟩
  | .local _ .vmem, ⟨12, _⟩ => ⟨S1x128x769, .f32⟩
  | .local _ .vmem, ⟨13, _⟩ => ⟨S1x128x769, .f32⟩
  | .local _ .vmem, ⟨14, _⟩ => ⟨S1x128x769, .f32⟩
  | .local _ .vmem, ⟨15, _⟩ => ⟨S1x128x769, .f32⟩
  | .local _ .vmem, ⟨16, _⟩ => ⟨S1x128x769, .f32⟩
  | .local _ .vmem, ⟨17, _⟩ => ⟨S1x128x769, .f32⟩
  | _, _ => ⟨S2x2048x769, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some ((10000000000 / 6513215599 : ℝ) : EReal)
  | "inv_b2" => some ((1000000000000000000000000000000 / 9955119790251790119955009999 : ℝ) : EReal)
  | _ => none

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x769 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x769 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x769 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x769 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x769 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x769 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x769 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x769 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x769 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWInRefIdeal.lean ====
abbrev S2x2048x769 : Shape := ⟨3, ![2, 2048, 769]⟩
abbrev S1x2048x769 : Shape := ⟨3, ![1, 2048, 769]⟩
abbrev S_ : Shape := ⟨0, ![]⟩
abbrev S2048x769 : Shape := ⟨2, ![2048, 769]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x769, .f32⟩
  | .hbm, ⟨1, _⟩ => ⟨S2x2048x769, .f32⟩
  | .hbm, ⟨2, _⟩ => ⟨S2x2048x769, .f32⟩
  | .hbm, ⟨3, _⟩ => ⟨S1x2048x769, .f32⟩
  | .hbm, ⟨4, _⟩ => ⟨S1x2048x769, .f32⟩
  | .hbm, ⟨5, _⟩ => ⟨S_, .f32⟩
  | .hbm, ⟨6, _⟩ => ⟨S2048x769, .f32⟩
  | .hbm, ⟨7, _⟩ => ⟨S_, .f32⟩
  | .hbm, ⟨8, _⟩ => ⟨S2048x769, .f32⟩
  | .hbm, ⟨9, _⟩ => ⟨S1x2048x769, .f32⟩
  | .hbm, ⟨10, _⟩ => ⟨S1x2048x769, .f32⟩
  | .hbm, ⟨11, _⟩ => ⟨S2x2048x769, .f32⟩
  | .hbm, ⟨12, _⟩ => ⟨S_, .f32⟩
  | .hbm, ⟨13, _⟩ => ⟨S2x2048x769, .f32⟩
  | .hbm, ⟨14, _⟩ => ⟨S2x2048x769, .f32⟩
  | .hbm, ⟨15, _⟩ => ⟨S_, .f32⟩
  | .hbm, ⟨16, _⟩ => ⟨S2x2048x769, .f32⟩
  | .hbm, ⟨17, _⟩ => ⟨S2x2048x769, .f32⟩
  | .hbm, ⟨18, _⟩ => ⟨S2x2048x769, .f32⟩
  | .hbm, ⟨19, _⟩ => ⟨S_, .f32⟩
  | .hbm, ⟨20, _⟩ => ⟨S2x2048x769, .f32⟩
  | .hbm, ⟨21, _⟩ => ⟨S2x2048x769, .f32⟩
  | .hbm, ⟨22, _⟩ => ⟨S2x2048x769, .f32⟩
  | .hbm, ⟨23, _⟩ => ⟨S_, .f32⟩
  | .hbm, ⟨24, _⟩ => ⟨S2x2048x769, .f32⟩
  | .hbm, ⟨25, _⟩ => ⟨S2x2048x769, .f32⟩
  | .hbm, ⟨26, _⟩ => ⟨S2x2048x769, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x2048x769, .f32⟩
  | .hbm, ⟨38, _⟩ => ⟨S2x2048x769, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x2048x769, .f32⟩
  | .hbm, ⟨50, _⟩ => ⟨S2x2048x769, .f32⟩
  | .hbm, ⟨51, _⟩ => ⟨S2x2048x769, .f32⟩
  | .hbm, ⟨52, _⟩ => ⟨S_, .f32⟩
  | .hbm, ⟨53, _⟩ => ⟨S2x2048x769, .f32⟩
  | .hbm, ⟨54, _⟩ => ⟨S2x2048x769, .f32⟩
  | .hbm, ⟨55, _⟩ => ⟨S2x2048x769, .f32⟩
  | .hbm, ⟨56, _⟩ => ⟨S_, .f32⟩
  | .hbm, ⟨57, _⟩ => ⟨S2x2048x769, .f32⟩
  | .hbm, ⟨58, _⟩ => ⟨S2x2048x769, .f32⟩
  | .hbm, ⟨59, _⟩ => ⟨S2x2048x769, .f32⟩
  | .hbm, ⟨60, _⟩ => ⟨S_, .f32⟩
  | .hbm, ⟨61, _⟩ => ⟨S2x2048x769, .f32⟩
  | .hbm, ⟨62, _⟩ => ⟨S2x2048x769, .f32⟩
  | _, _ => ⟨S2x2048x769, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== AdamWOut.lean ====
abbrev S2x256x2048 : Shape := ⟨3, ![2, 256, 2048]⟩
abbrev S4x256x2048 : Shape := ⟨3, ![4, 256, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWOutIdeal.lean ====
abbrev S2x256x2048 : Shape := ⟨3, ![2, 256, 2048]⟩
abbrev S4x256x2048 : Shape := ⟨3, ![4, 256, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some ((10000000000 / 6513215599 : ℝ) : EReal)
  | "inv_b2" => some ((1000000000000000000000000000000 / 9955119790251790119955009999 : ℝ) : EReal)
  | _ => none

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWOutRefIdeal.lean ====
abbrev S2x256x2048 : Shape := ⟨3, ![2, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S4x256x2048, .f32⟩
  | .hbm, ⟨6, _⟩ => ⟨S_, .f32⟩
  | .hbm, ⟨7, _⟩ => ⟨S256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x256x2048, .f32⟩
  | .hbm, ⟨40, _⟩ => ⟨S2x256x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x256x2048, .f32⟩
  | .hbm, ⟨52, _⟩ => ⟨S2x256x2048, .f32⟩
  | .hbm, ⟨53, _⟩ => ⟨S2x256x2048, .f32⟩
  | .hbm, ⟨54, _⟩ => ⟨S_, .f32⟩
  | .hbm, ⟨55, _⟩ => ⟨S2x256x2048, .f32⟩
  | .hbm, ⟨56, _⟩ => ⟨S2x256x2048, .f32⟩
  | .hbm, ⟨57, _⟩ => ⟨S2x256x2048, .f32⟩
  | .hbm, ⟨58, _⟩ => ⟨S_, .f32⟩
  | .hbm, ⟨59, _⟩ => ⟨S2x256x2048, .f32⟩
  | .hbm, ⟨60, _⟩ => ⟨S2x256x2048, .f32⟩
  | .hbm, ⟨61, _⟩ => ⟨S2x256x2048, .f32⟩
  | .hbm, ⟨62, _⟩ => ⟨S_, .f32⟩
  | .hbm, ⟨63, _⟩ => ⟨S2x256x2048, .f32⟩
  | .hbm, ⟨64, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== AdamWFf1.lean ====
abbrev S2x2048x1024 : Shape := ⟨3, ![2, 2048, 1024]⟩
abbrev S4x2048x1024 : Shape := ⟨3, ![4, 2048, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4x2048x1024, .bf16⟩
  | .hbm, ⟨4, _⟩ => ⟨S4x2048x1024, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S4x128x1024, .bf16⟩
  | .local _ .vmem, ⟨9, _⟩ => ⟨S4x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWFf1Ideal.lean ====
abbrev S2x2048x1024 : Shape := ⟨3, ![2, 2048, 1024]⟩
abbrev S4x2048x1024 : Shape := ⟨3, ![4, 2048, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4x2048x1024, .bf16⟩
  | .hbm, ⟨4, _⟩ => ⟨S4x2048x1024, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S4x128x1024, .bf16⟩
  | .local _ .vmem, ⟨9, _⟩ => ⟨S4x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some ((10000000000 / 6513215599 : ℝ) : EReal)
  | "inv_b2" => some ((1000000000000000000000000000000 / 9955119790251790119955009999 : ℝ) : EReal)
  | _ => none

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWFf1RefIdeal.lean ====
abbrev S2x2048x1024 : Shape := ⟨3, ![2, 2048, 1024]⟩
abbrev S4x2048x1024 : Shape := ⟨3, ![4, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4x2048x1024, .bf16⟩
  | .hbm, ⟨4, _⟩ => ⟨S4x2048x1024, .bf16⟩
  | .hbm, ⟨5, _⟩ => ⟨S4x2048x1024, .f32⟩
  | .hbm, ⟨6, _⟩ => ⟨S_, .f32⟩
  | .hbm, ⟨7, _⟩ => ⟨S2048x1024, .f32⟩
  | .hbm, ⟨8, _⟩ => ⟨S4x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S2x2048x1024, .f32⟩
  | .hbm, ⟨64, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== AdamWFf2.lean ====
abbrev S2x1024x2048 : Shape := ⟨3, ![2, 1024, 2048]⟩
abbrev S4x1024x2048 : Shape := ⟨3, ![4, 1024, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S4x1024x2048, .bf16⟩
  | .hbm, ⟨4, _⟩ => ⟨S4x1024x2048, .bf16⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWFf2Ideal.lean ====
variable {F : FTy → Type} [FloatOps F] [Named F]
def κ : String → Option EReal := fun
  | "inv_b1" => some ((10000000000 / 6513215599 : ℝ) : EReal)
  | "inv_b2" => some ((1000000000000000000000000000000 / 9955119790251790119955009999 : ℝ) : EReal)
  | _ => none
-- ==== AdamWFf2RefIdeal.lean ====
abbrev S2x1024x2048 : Shape := ⟨3, ![2, 1024, 2048]⟩
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S4x1024x2048, .bf16⟩
  | .hbm, ⟨4, _⟩ => ⟨S4x1024x2048, .bf16⟩
  | .hbm, ⟨5, _⟩ => ⟨S4x1024x2048, .f32⟩
  | .hbm, ⟨6, _⟩ => ⟨S_, .f32⟩
  | .hbm, ⟨7, _⟩ => ⟨S1024x2048, .f32⟩
  | .hbm, ⟨8, _⟩ => ⟨S4x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S_, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x1024x2048, .f32⟩
  | .hbm, ⟨40, _⟩ => ⟨S2x1024x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x1024x2048, .f32⟩
  | .hbm, ⟨52, _⟩ => ⟨S2x1024x2048, .f32⟩
  | .hbm, ⟨53, _⟩ => ⟨S2x1024x2048, .f32⟩
  | .hbm, ⟨54, _⟩ => ⟨S_, .f32⟩
  | .hbm, ⟨55, _⟩ => ⟨S2x1024x2048, .f32⟩
  | .hbm, ⟨56, _⟩ => ⟨S2x1024x2048, .f32⟩
  | .hbm, ⟨57, _⟩ => ⟨S2x1024x2048, .f32⟩
  | .hbm, ⟨58, _⟩ => ⟨S_, .f32⟩
  | .hbm, ⟨59, _⟩ => ⟨S2x1024x2048, .f32⟩
  | .hbm, ⟨60, _⟩ => ⟨S2x1024x2048, .f32⟩
  | .hbm, ⟨61, _⟩ => ⟨S2x1024x2048, .f32⟩
  | .hbm, ⟨62, _⟩ => ⟨S_, .f32⟩
  | .hbm, ⟨63, _⟩ => ⟨S2x1024x2048, .f32⟩
  | .hbm, ⟨64, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== AdamWSmall.lean ====
abbrev S1x1560x128 : Shape := ⟨3, ![1, 1560, 128]⟩
abbrev S8x1560x128 : Shape := ⟨3, ![8, 1560, 128]⟩
abbrev S1560x128 : Shape := ⟨2, ![1560, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x1560x128, .f32⟩
  | .hbm, ⟨1, _⟩ => ⟨S1x1560x128, .f32⟩
  | .hbm, ⟨2, _⟩ => ⟨S1x1560x128, .f32⟩
  | .hbm, ⟨3, _⟩ => ⟨S8x1560x128, .f32⟩
  | .hbm, ⟨4, _⟩ => ⟨S1x1560x128, .f32⟩
  | .hbm, ⟨5, _⟩ => ⟨S1x1560x128, .f32⟩
  | .hbm, ⟨6, _⟩ => ⟨S1x1560x128, .f32⟩
  | .hbm, ⟨7, _⟩ => ⟨S1x1560x128, .f32⟩
  | .local _ .vmem, ⟨0, _⟩ => ⟨S1x1560x128, .f32⟩
  | .local _ .vmem, ⟨1, _⟩ => ⟨S1x1560x128, .f32⟩
  | .local _ .vmem, ⟨2, _⟩ => ⟨S1x1560x128, .f32⟩
  | .local _ .vmem, ⟨3, _⟩ => ⟨S8x1560x128, .f32⟩
  | .local _ .vmem, ⟨4, _⟩ => ⟨S1x1560x128, .f32⟩
  | .local _ .vmem, ⟨5, _⟩ => ⟨S1x1560x128, .f32⟩
  | .local _ .vmem, ⟨6, _⟩ => ⟨S1x1560x128, .f32⟩
  | .local _ .vmem, ⟨7, _⟩ => ⟨S1x1560x128, .f32⟩
  | _, _ => ⟨S1x1560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1560x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1560x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1560x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1560x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWSmallIdeal.lean ====
abbrev S1x1560x128 : Shape := ⟨3, ![1, 1560, 128]⟩
abbrev S8x1560x128 : Shape := ⟨3, ![8, 1560, 128]⟩
abbrev S1560x128 : Shape := ⟨2, ![1560, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x1560x128, .f32⟩
  | .hbm, ⟨1, _⟩ => ⟨S1x1560x128, .f32⟩
  | .hbm, ⟨2, _⟩ => ⟨S1x1560x128, .f32⟩
  | .hbm, ⟨3, _⟩ => ⟨S8x1560x128, .f32⟩
  | .hbm, ⟨4, _⟩ => ⟨S1x1560x128, .f32⟩
  | .hbm, ⟨5, _⟩ => ⟨S1x1560x128, .f32⟩
  | .hbm, ⟨6, _⟩ => ⟨S1x1560x128, .f32⟩
  | .hbm, ⟨7, _⟩ => ⟨S1x1560x128, .f32⟩
  | .local _ .vmem, ⟨0, _⟩ => ⟨S1x1560x128, .f32⟩
  | .local _ .vmem, ⟨1, _⟩ => ⟨S1x1560x128, .f32⟩
  | .local _ .vmem, ⟨2, _⟩ => ⟨S1x1560x128, .f32⟩
  | .local _ .vmem, ⟨3, _⟩ => ⟨S8x1560x128, .f32⟩
  | .local _ .vmem, ⟨4, _⟩ => ⟨S1x1560x128, .f32⟩
  | .local _ .vmem, ⟨5, _⟩ => ⟨S1x1560x128, .f32⟩
  | .local _ .vmem, ⟨6, _⟩ => ⟨S1x1560x128, .f32⟩
  | .local _ .vmem, ⟨7, _⟩ => ⟨S1x1560x128, .f32⟩
  | _, _ => ⟨S1x1560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_b1" => some ((10000000000 / 6513215599 : ℝ) : EReal)
  | "inv_b2" => some ((1000000000000000000000000000000 / 9955119790251790119955009999 : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1560x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1560x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1560x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1560x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWSmallRefIdeal.lean ====
abbrev S1x1560x128 : Shape := ⟨3, ![1, 1560, 128]⟩
abbrev S8x1560x128 : Shape := ⟨3, ![8, 1560, 128]⟩
abbrev S_ : Shape := ⟨0, ![]⟩
abbrev S1560x128 : Shape := ⟨2, ![1560, 128]⟩

abbrev nBuf : Space → Nat
  | .hbm => 58
  | .vmem => 0
  | .smem => 0
  | _ => 0

abbrev bufTy : (tb : Table) → Fin (tcTables nBuf tb) → BufTy
  | .hbm, ⟨0, _⟩ => ⟨S1x1560x128, .f32⟩
  | .hbm, ⟨1, _⟩ => ⟨S1x1560x128, .f32⟩
  | .hbm, ⟨2, _⟩ => ⟨S1x1560x128, .f32⟩
  | .hbm, ⟨3, _⟩ => ⟨S8x1560x128, .f32⟩
  | .hbm, ⟨4, _⟩ => ⟨S_, .f32⟩
  | .hbm, ⟨5, _⟩ => ⟨S1560x128, .f32⟩
  | .hbm, ⟨6, _⟩ => ⟨S1x1560x128, .f32⟩
  | .hbm, ⟨7, _⟩ => ⟨S_, .f32⟩
  | .hbm, ⟨8, _⟩ => ⟨S1x1560x128, .f32⟩
  | .hbm, ⟨9, _⟩ => ⟨S1x1560x128, .f32⟩
  | .hbm, ⟨10, _⟩ => ⟨S_, .f32⟩
  | .hbm, ⟨11, _⟩ => ⟨S1x1560x128, .f32⟩
  | .hbm, ⟨12, _⟩ => ⟨S1x1560x128, .f32⟩
  | .hbm, ⟨13, _⟩ => ⟨S1x1560x128, .f32⟩
  | .hbm, ⟨14, _⟩ => ⟨S_, .f32⟩
  | .hbm, ⟨15, _⟩ => ⟨S1x1560x128, .f32⟩
  | .hbm, ⟨16, _⟩ => ⟨S1x1560x128, .f32⟩
  | .hbm, ⟨17, _⟩ => ⟨S1x1560x128, .f32⟩
  | .hbm, ⟨18, _⟩ => ⟨S_, .f32⟩
  | .hbm, ⟨19, _⟩ => ⟨S1x1560x128, .f32⟩
  | .hbm, ⟨20, _⟩ => ⟨S1x1560x128, .f32⟩
  | .hbm, ⟨21, _⟩ => ⟨S1x1560x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1560x128, .f32⟩
  | .hbm, ⟨33, _⟩ => ⟨S1x1560x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x1560x128, .f32⟩
  | .hbm, ⟨45, _⟩ => ⟨S1x1560x128, .f32⟩
  | .hbm, ⟨46, _⟩ => ⟨S1x1560x128, .f32⟩
  | .hbm, ⟨47, _⟩ => ⟨S_, .f32⟩
  | .hbm, ⟨48, _⟩ => ⟨S1x1560x128, .f32⟩
  | .hbm, ⟨49, _⟩ => ⟨S1x1560x128, .f32⟩
  | .hbm, ⟨50, _⟩ => ⟨S1x1560x128, .f32⟩
  | .hbm, ⟨51, _⟩ => ⟨S_, .f32⟩
  | .hbm, ⟨52, _⟩ => ⟨S1x1560x128, .f32⟩
  | .hbm, ⟨53, _⟩ => ⟨S1x1560x128, .f32⟩
  | .hbm, ⟨54, _⟩ => ⟨S1x1560x128, .f32⟩
  | .hbm, ⟨55, _⟩ => ⟨S_, .f32⟩
  | .hbm, ⟨56, _⟩ => ⟨S1x1560x128, .f32⟩
  | .hbm, ⟨57, _⟩ => ⟨S1x1560x128, .f32⟩
  | _, _ => ⟨S1x1560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== AdamWGdnConv.lean ====
abbrev S1x8x192 : Shape := ⟨3, ![1, 8, 192]⟩
abbrev S8x192 : Shape := ⟨2, ![8, 192]⟩

abbrev nBuf : Space → Nat
  | .hbm => 8
  | .vmem => 8
  | .smem => 0
  | _ => 0

abbrev bufTy : (tb : Table) → Fin (tcTables nBuf tb) → BufTy
  | .hbm, ⟨0, _⟩ => ⟨S1x8x192, .f32⟩
  | .hbm, ⟨1, _⟩ => ⟨S1x8x192, .f32⟩
  | .hbm, ⟨2, _⟩ => ⟨S1x8x192, .f32⟩
  | .hbm, ⟨3, _⟩ => ⟨S1x8x192, .f32⟩
  | .hbm, ⟨4, _⟩ => ⟨S1x8x192, .f32⟩
  | .hbm, ⟨5, _⟩ => ⟨S1x8x192, .f32⟩
  | .hbm, ⟨6, _⟩ => ⟨S1x8x192, .f32⟩
  | .hbm, ⟨7, _⟩ => ⟨S1x8x192, .f32⟩
  | .local _ .vmem, ⟨0, _⟩ => ⟨S1x8x192, .f32⟩
  | .local _ .vmem, ⟨1, _⟩ => ⟨S1x8x192, .f32⟩
  | .local _ .vmem, ⟨2, _⟩ => ⟨S1x8x192, .f32⟩
  | .local _ .vmem, ⟨3, _⟩ => ⟨S1x8x192, .f32⟩
  | .local _ .vmem, ⟨4, _⟩ => ⟨S1x8x192, .f32⟩
  | .local _ .vmem, ⟨5, _⟩ => ⟨S1x8x192, .f32⟩
  | .local _ .vmem, ⟨6, _⟩ => ⟨S1x8x192, .f32⟩
  | .local _ .vmem, ⟨7, _⟩ => ⟨S1x8x192, .f32⟩
  | _, _ => ⟨S1x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWGdnConvIdeal.lean ====
abbrev S1x8x192 : Shape := ⟨3, ![1, 8, 192]⟩
abbrev S8x192 : Shape := ⟨2, ![8, 192]⟩

abbrev nBuf : Space → Nat
  | .hbm => 8
  | .vmem => 8
  | .smem => 0
  | _ => 0

abbrev bufTy : (tb : Table) → Fin (tcTables nBuf tb) → BufTy
  | .hbm, ⟨0, _⟩ => ⟨S1x8x192, .f32⟩
  | .hbm, ⟨1, _⟩ => ⟨S1x8x192, .f32⟩
  | .hbm, ⟨2, _⟩ => ⟨S1x8x192, .f32⟩
  | .hbm, ⟨3, _⟩ => ⟨S1x8x192, .f32⟩
  | .hbm, ⟨4, _⟩ => ⟨S1x8x192, .f32⟩
  | .hbm, ⟨5, _⟩ => ⟨S1x8x192, .f32⟩
  | .hbm, ⟨6, _⟩ => ⟨S1x8x192, .f32⟩
  | .hbm, ⟨7, _⟩ => ⟨S1x8x192, .f32⟩
  | .local _ .vmem, ⟨0, _⟩ => ⟨S1x8x192, .f32⟩
  | .local _ .vmem, ⟨1, _⟩ => ⟨S1x8x192, .f32⟩
  | .local _ .vmem, ⟨2, _⟩ => ⟨S1x8x192, .f32⟩
  | .local _ .vmem, ⟨3, _⟩ => ⟨S1x8x192, .f32⟩
  | .local _ .vmem, ⟨4, _⟩ => ⟨S1x8x192, .f32⟩
  | .local _ .vmem, ⟨5, _⟩ => ⟨S1x8x192, .f32⟩
  | .local _ .vmem, ⟨6, _⟩ => ⟨S1x8x192, .f32⟩
  | .local _ .vmem, ⟨7, _⟩ => ⟨S1x8x192, .f32⟩
  | _, _ => ⟨S1x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_b1" => some ((10000000000 / 6513215599 : ℝ) : EReal)
  | "inv_b2" => some ((1000000000000000000000000000000 / 9955119790251790119955009999 : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWGdnConvRefIdeal.lean ====
abbrev S1x8x192 : Shape := ⟨3, ![1, 8, 192]⟩
abbrev S_ : Shape := ⟨0, ![]⟩
abbrev S8x192 : Shape := ⟨2, ![8, 192]⟩

abbrev nBuf : Space → Nat
  | .hbm => 58
  | .vmem => 0
  | .smem => 0
  | _ => 0

abbrev bufTy : (tb : Table) → Fin (tcTables nBuf tb) → BufTy
  | .hbm, ⟨0, _⟩ => ⟨S1x8x192, .f32⟩
  | .hbm, ⟨1, _⟩ => ⟨S1x8x192, .f32⟩
  | .hbm, ⟨2, _⟩ => ⟨S1x8x192, .f32⟩
  | .hbm, ⟨3, _⟩ => ⟨S1x8x192, .f32⟩
  | .hbm, ⟨4, _⟩ => ⟨S_, .f32⟩
  | .hbm, ⟨5, _⟩ => ⟨S8x192, .f32⟩
  | .hbm, ⟨6, _⟩ => ⟨S1x8x192, .f32⟩
  | .hbm, ⟨7, _⟩ => ⟨S_, .f32⟩
  | .hbm, ⟨8, _⟩ => ⟨S1x8x192, .f32⟩
  | .hbm, ⟨9, _⟩ => ⟨S1x8x192, .f32⟩
  | .hbm, ⟨10, _⟩ => ⟨S_, .f32⟩
  | .hbm, ⟨11, _⟩ => ⟨S1x8x192, .f32⟩
  | .hbm, ⟨12, _⟩ => ⟨S1x8x192, .f32⟩
  | .hbm, ⟨13, _⟩ => ⟨S1x8x192, .f32⟩
  | .hbm, ⟨14, _⟩ => ⟨S_, .f32⟩
  | .hbm, ⟨15, _⟩ => ⟨S1x8x192, .f32⟩
  | .hbm, ⟨16, _⟩ => ⟨S1x8x192, .f32⟩
  | .hbm, ⟨17, _⟩ => ⟨S1x8x192, .f32⟩
  | .hbm, ⟨18, _⟩ => ⟨S_, .f32⟩
  | .hbm, ⟨19, _⟩ => ⟨S1x8x192, .f32⟩
  | .hbm, ⟨20, _⟩ => ⟨S1x8x192, .f32⟩
  | .hbm, ⟨21, _⟩ => ⟨S1x8x192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x8x192, .f32⟩
  | .hbm, ⟨33, _⟩ => ⟨S1x8x192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x8x192, .f32⟩
  | .hbm, ⟨45, _⟩ => ⟨S1x8x192, .f32⟩
  | .hbm, ⟨46, _⟩ => ⟨S1x8x192, .f32⟩
  | .hbm, ⟨47, _⟩ => ⟨S_, .f32⟩
  | .hbm, ⟨48, _⟩ => ⟨S1x8x192, .f32⟩
  | .hbm, ⟨49, _⟩ => ⟨S1x8x192, .f32⟩
  | .hbm, ⟨50, _⟩ => ⟨S1x8x192, .f32⟩
  | .hbm, ⟨51, _⟩ => ⟨S_, .f32⟩
  | .hbm, ⟨52, _⟩ => ⟨S1x8x192, .f32⟩
  | .hbm, ⟨53, _⟩ => ⟨S1x8x192, .f32⟩
  | .hbm, ⟨54, _⟩ => ⟨S1x8x192, .f32⟩
  | .hbm, ⟨55, _⟩ => ⟨S_, .f32⟩
  | .hbm, ⟨56, _⟩ => ⟨S1x8x192, .f32⟩
  | .hbm, ⟨57, _⟩ => ⟨S1x8x192, .f32⟩
  | _, _ => ⟨S1x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== AdamWConvDw.lean ====
abbrev S1x62x64 : Shape := ⟨3, ![1, 62, 64]⟩
abbrev S62x64 : Shape := ⟨2, ![62, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x62x64, .f32⟩
  | .hbm, ⟨1, _⟩ => ⟨S1x62x64, .f32⟩
  | .hbm, ⟨2, _⟩ => ⟨S1x62x64, .f32⟩
  | .hbm, ⟨3, _⟩ => ⟨S1x62x64, .f32⟩
  | .hbm, ⟨4, _⟩ => ⟨S1x62x64, .f32⟩
  | .hbm, ⟨5, _⟩ => ⟨S1x62x64, .f32⟩
  | .hbm, ⟨6, _⟩ => ⟨S1x62x64, .f32⟩
  | .hbm, ⟨7, _⟩ => ⟨S1x62x64, .f32⟩
  | .local _ .vmem, ⟨0, _⟩ => ⟨S1x62x64, .f32⟩
  | .local _ .vmem, ⟨1, _⟩ => ⟨S1x62x64, .f32⟩
  | .local _ .vmem, ⟨2, _⟩ => ⟨S1x62x64, .f32⟩
  | .local _ .vmem, ⟨3, _⟩ => ⟨S1x62x64, .f32⟩
  | .local _ .vmem, ⟨4, _⟩ => ⟨S1x62x64, .f32⟩
  | .local _ .vmem, ⟨5, _⟩ => ⟨S1x62x64, .f32⟩
  | .local _ .vmem, ⟨6, _⟩ => ⟨S1x62x64, .f32⟩
  | .local _ .vmem, ⟨7, _⟩ => ⟨S1x62x64, .f32⟩
  | _, _ => ⟨S1x62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x62x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWConvDwIdeal.lean ====
variable {F : FTy → Type} [FloatOps F] [Named F]
def κ : String → Option EReal := fun
  | "inv_b1" => some ((10000000000 / 6513215599 : ℝ) : EReal)
  | "inv_b2" => some ((1000000000000000000000000000000 / 9955119790251790119955009999 : ℝ) : EReal)
  | _ => none
-- ==== AdamWConvDwRefIdeal.lean ====
abbrev S1x62x64 : Shape := ⟨3, ![1, 62, 64]⟩
abbrev S_ : Shape := ⟨0, ![]⟩
abbrev S62x64 : Shape := ⟨2, ![62, 64]⟩

abbrev nBuf : Space → Nat
  | .hbm => 58
  | .vmem => 0
  | .smem => 0
  | _ => 0

abbrev bufTy : (tb : Table) → Fin (tcTables nBuf tb) → BufTy
  | .hbm, ⟨0, _⟩ => ⟨S1x62x64, .f32⟩
  | .hbm, ⟨1, _⟩ => ⟨S1x62x64, .f32⟩
  | .hbm, ⟨2, _⟩ => ⟨S1x62x64, .f32⟩
  | .hbm, ⟨3, _⟩ => ⟨S1x62x64, .f32⟩
  | .hbm, ⟨4, _⟩ => ⟨S_, .f32⟩
  | .hbm, ⟨5, _⟩ => ⟨S62x64, .f32⟩
  | .hbm, ⟨6, _⟩ => ⟨S1x62x64, .f32⟩
  | .hbm, ⟨7, _⟩ => ⟨S_, .f32⟩
  | .hbm, ⟨8, _⟩ => ⟨S1x62x64, .f32⟩
  | .hbm, ⟨9, _⟩ => ⟨S1x62x64, .f32⟩
  | .hbm, ⟨10, _⟩ => ⟨S_, .f32⟩
  | .hbm, ⟨11, _⟩ => ⟨S1x62x64, .f32⟩
  | .hbm, ⟨12, _⟩ => ⟨S1x62x64, .f32⟩
  | .hbm, ⟨13, _⟩ => ⟨S1x62x64, .f32⟩
  | .hbm, ⟨14, _⟩ => ⟨S_, .f32⟩
  | .hbm, ⟨15, _⟩ => ⟨S1x62x64, .f32⟩
  | .hbm, ⟨16, _⟩ => ⟨S1x62x64, .f32⟩
  | .hbm, ⟨17, _⟩ => ⟨S1x62x64, .f32⟩
  | .hbm, ⟨18, _⟩ => ⟨S_, .f32⟩
  | .hbm, ⟨19, _⟩ => ⟨S1x62x64, .f32⟩
  | .hbm, ⟨20, _⟩ => ⟨S1x62x64, .f32⟩
  | .hbm, ⟨21, _⟩ => ⟨S1x62x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x62x64, .f32⟩
  | .hbm, ⟨33, _⟩ => ⟨S1x62x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x62x64, .f32⟩
  | .hbm, ⟨45, _⟩ => ⟨S1x62x64, .f32⟩
  | .hbm, ⟨46, _⟩ => ⟨S1x62x64, .f32⟩
  | .hbm, ⟨47, _⟩ => ⟨S_, .f32⟩
  | .hbm, ⟨48, _⟩ => ⟨S1x62x64, .f32⟩
  | .hbm, ⟨49, _⟩ => ⟨S1x62x64, .f32⟩
  | .hbm, ⟨50, _⟩ => ⟨S1x62x64, .f32⟩
  | .hbm, ⟨51, _⟩ => ⟨S_, .f32⟩
  | .hbm, ⟨52, _⟩ => ⟨S1x62x64, .f32⟩
  | .hbm, ⟨53, _⟩ => ⟨S1x62x64, .f32⟩
  | .hbm, ⟨54, _⟩ => ⟨S1x62x64, .f32⟩
  | .hbm, ⟨55, _⟩ => ⟨S_, .f32⟩
  | .hbm, ⟨56, _⟩ => ⟨S1x62x64, .f32⟩
  | .hbm, ⟨57, _⟩ => ⟨S1x62x64, .f32⟩
  | _, _ => ⟨S1x62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.GmlpSpec.lean ====
/-
  The gradient of the gated unit (`gmlp`), written row by row and tile by tile over the extended reals: what both the
  kernel `gmlp_bwd` and its reference compute. A row is a function of 512 lanes, a tile 128 rows; lane `d` belongs to
  head `d / 128`.
-/
module

public import Idealize.ShloMosaic.Lib.Pointwise
public import Idealize.ShloMosaic.PureOps.Ideal

@[expose] public section

noncomputable section

open Idealize.ShloMosaic

namespace Cert.Gmlp

/-- `1 / sqrt 2` as its float word. -/
abbrev c2 : EReal := Ideal.ofBits .f32 0x3F3504F3#32
/-- `1 / 2`. -/
abbrev half : EReal := Ideal.ofBits .f32 0x3F000000#32
/-- `2 / sqrt pi` as its float word. -/
abbrev kk : EReal := Ideal.ofBits .f32 0x3F906EBB#32
/-- The number of lanes. -/
abbrev n512 : EReal := Ideal.ofBits .f32 0x44000000#32
/-- The small constant under the root. -/
abbrev eps : EReal := Ideal.ofBits .f32 0x358637BD#32
/-- `-1 / 2`. -/
abbrev mhalf : EReal := Ideal.ofBits .f32 0xBF000000#32

/-- A lane's head. -/
def hd (d : Fin 512) : Fin 4 := ⟨d.val / 128, by omega⟩
/-- Lane `e` of head `h`. -/
def lane (h : Fin 4) (e : Fin 128) : Fin 512 := ⟨h.val * 128 + e.val, by omega⟩

/-- The activation. -/
def gel (x : EReal) : EReal := (half * x) * (1 + Ideal.erf (x * c2))
/-- A gradient taken through the activation. -/
def dgel (x g : EReal) : EReal :=
  (kk * ((half * x) * g)) * Ideal.exp (0 - (x * c2) * (x * c2)) * c2 + half * (g * (1 + Ideal.erf (x * c2)))

/-- Mean, centred row, variance, reciprocal root and its derivative's factor, normalised row, scaled row. -/
def mu (v : Fin 512 → EReal) : EReal := Ideal.div (∑ d, gel (v d)) n512
def xc (v : Fin 512 → EReal) (d : Fin 512) : EReal := gel (v d) - mu v
def va (v : Fin 512 → EReal) : EReal := Ideal.div (∑ d, xc v d * xc v d) n512 + eps
def rs (v : Fin 512 → EReal) : EReal := Ideal.rsqrt (va v)
def rp (v : Fin 512 → EReal) : EReal := mhalf * Ideal.div (rs v) (va v)
def xh (v : Fin 512 → EReal) (d : Fin 512) : EReal := xc v d * rs v
def vn (lw lb v : Fin 512 → EReal) (d : Fin 512) : EReal := xh v d * lw d + lb d

/-- The lower triangle's mask, as the comparison bit. -/
def tri (i j : Fin 128) : BitVec 1 := Scalar.cmpi .sge (BitVec.ofNat 32 i.val) (BitVec.ofNat 32 j.val)
/-- The weights under the mask. -/
def mw (W : Fin 4 → Fin 128 → Fin 128 → EReal) (h : Fin 4) (i j : Fin 128) : EReal := Scalar.select (tri i j) (W h i j) 0
/-- The mixing over the tile's rows. -/
def mix (W : Fin 4 → Fin 128 → Fin 128 → EReal) (b : Fin 4 → Fin 128 → EReal) (lw lb : Fin 512 → EReal)
    (v : Fin 128 → Fin 512 → EReal) (i : Fin 128) (d : Fin 512) : EReal :=
  (∑ j, mw W (hd d) i j * vn lw lb (v j) d) + b (hd d) i
/-- The gradient on the mixed rows. -/
def ug (u ct : Fin 512 → EReal) (d : Fin 512) : EReal := gel (u d) * ct d
/-- The gradient on the scaled rows. -/
def dvn (W : Fin 4 → Fin 128 → Fin 128 → EReal) (u ct : Fin 128 → Fin 512 → EReal) (j : Fin 128) (d : Fin 512) : EReal :=
  ∑ i, mw W (hd d) i j * ug (u i) (ct i) d

/-- One row of the normalisation's gradient: `g` is the gradient on the normalised row. -/
def qq (v g : Fin 512 → EReal) : EReal := Ideal.div ((∑ d, xc v d * g d) * rp v) n512
def av (v g : Fin 512 → EReal) (d : Fin 512) : EReal := g d * rs v
def gc (v g : Fin 512 → EReal) (d : Fin 512) : EReal := (av v g d + xc v d * qq v g) + qq v g * xc v d
def gm (v g : Fin 512 → EReal) : EReal := Ideal.div (∑ d, (0 - gc v g d)) n512

/-- The results at a row of a tile. -/
def dcu (W : Fin 4 → Fin 128 → Fin 128 → EReal) (b : Fin 4 → Fin 128 → EReal) (lw lb : Fin 512 → EReal)
    (u v ct : Fin 128 → Fin 512 → EReal) (i : Fin 128) (d : Fin 512) : EReal :=
  dgel (u i d) (ct i d * mix W b lw lb v i d)
def dcv (W : Fin 4 → Fin 128 → Fin 128 → EReal) (lw : Fin 512 → EReal) (u v ct : Fin 128 → Fin 512 → EReal)
    (j : Fin 128) (d : Fin 512) : EReal :=
  dgel (v j d) (gc (v j) (fun d => dvn W u ct j d * lw d) d + gm (v j) (fun d => dvn W u ct j d * lw d))
def dws (lw lb : Fin 512 → EReal) (u v ct : Fin 128 → Fin 512 → EReal) (h : Fin 4) (i j : Fin 128) : EReal :=
  ∑ e, ug (u i) (ct i) (lane h e) * vn lw lb (v j) (lane h e)
def dbs (u ct : Fin 128 → Fin 512 → EReal) (h : Fin 4) (i : Fin 128) : EReal := ∑ e, ug (u i) (ct i) (lane h e)

end Cert.Gmlp
-- ==== Proof.GmlpPay.lean ====
module

public import proofs.«01_k».proof.Proof.GmlpSpec
public import proofs.«01_k».proof.Proof.Gen.GmlpBwdIdeal.Skeleton
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.GmlpBwdIdeal.Pay

open Cert.GmlpBwdIdeal Cert.GmlpBwdIdeal.Gen Cert.Gmlp

/-- A row of a block. -/
abbrev row (X : FVec Ideal S128x512 .f32) (i : Fin 128) : Fin 512 → EReal := fun d => X (ix2 i d)
/-- The one row of a one-row block. -/
abbrev one (X : FVec Ideal S1x512 .f32) : Fin 512 → EReal := fun d => X (ix2 0 d)
/-- The four weight matrices of a block of their rows. -/
abbrev wts (X : FVec Ideal S512x128 .f32) : Fin 4 → Fin 128 → Fin 128 → EReal := fun h i j => X (ix2 ⟨h.val * 128 + i.val, by omega⟩ j)
abbrev bia (X : FVec Ideal S4x128 .f32) : Fin 4 → Fin 128 → EReal := fun h i => X (ix2 h i)

variable (U V C : FVec Ideal S128x512 .f32) (lw lb : FVec Ideal S1x512 .f32) (ws : FVec Ideal S512x128 .f32) (bs : FVec Ideal S4x128 .f32)

theorem p3 : k0_pay3 (F := Ideal) lw = lw := by
  funext j
  pointwise [k0_pay3]
theorem p4 : k0_pay4 (F := Ideal) lw = lw := by
  funext j
  pointwise [k0_pay4]
theorem p5 : k0_pay5 (F := Ideal) ws = ws := by
  funext j
  pointwise [k0_pay5]

theorem p10 (i : Fin 128) (d : Fin 512) : k0_pay10 (F := Ideal) U (ix2 i d) = gel (row U i d) := by
  pointwise [k0_pay10, k0_pay6, k0_pay7, k0_pay8, k0_pay9, gel]; rfl
theorem p15 (i : Fin 128) (d : Fin 512) : k0_pay15 (F := Ideal) V (ix2 i d) = gel (row V i d) := by
  pointwise [k0_pay15, k0_pay14, k0_pay13, k0_pay12, k0_pay11, gel]; rfl
theorem p17 (i : Fin 128) (d : Fin 512) : k0_pay17 (F := Ideal) (k0_pay15 V) (k0_pay16 V) (ix2 i d) = xc (row V i) d := by
  pointwise [k0_pay17, k0_pay16, p15, xc, mu]
theorem p18 (i : Fin 128) (z : Fin 1) : k0_pay18 (F := Ideal) (k0_pay15 V) (k0_pay16 V) (ix2 i z) = va (row V i) := by
  pointwise [k0_pay18, p17, va]
theorem p19 (i : Fin 128) (z : Fin 1) : k0_pay19 (F := Ideal) (k0_pay15 V) (k0_pay16 V) (ix2 i z) = rs (row V i) := by
  pointwise [k0_pay19, p18, rs]
theorem p20 (i : Fin 128) (z : Fin 1) : k0_pay20 (F := Ideal) (k0_pay15 V) (k0_pay16 V) (ix2 i z) = rp (row V i) := by
  pointwise [k0_pay20, p18, p19, rp]
theorem p21 (i : Fin 128) (d : Fin 512) : k0_pay21 (F := Ideal) (k0_pay15 V) (k0_pay16 V) (ix2 i d) = xh (row V i) d := by
  pointwise [k0_pay21, p17, p19, xh]
theorem p22 (i : Fin 128) (d : Fin 512) : k0_pay22 (F := Ideal) lw lb (k0_pay15 V) (k0_pay16 V) (ix2 i d) = vn (one lw) (one lb) (row V i) d := by
  pointwise [k0_pay22, p21, vn]
theorem p23 (i j : Fin 128) : k0_pay23 (F := Ideal) (ix2 i j) = if i = j then 1 else 0 := by
  pointwise [k0_pay23]
  by_cases h : i = j
  · subst h
    rw [if_pos rfl]
    have e : IntOp.cmpi .eq (BitVec.ofNat 32 i.val) (BitVec.ofNat 32 i.val) = 1#1 := by simp [IntOp.cmpi]
    rw [e]
    simp [FloatOps.sitofp]
  · rw [if_neg h]
    have e : IntOp.cmpi .eq (BitVec.ofNat 32 i.val) (BitVec.ofNat 32 j.val) = 0#1 := by
      have hne : BitVec.ofNat 32 i.val ≠ BitVec.ofNat 32 j.val := fun q => h (Fin.ext (by
        have := congrArg BitVec.toNat q
        simp only [BitVec.toNat_ofNat] at this
        omega))
      simp only [IntOp.cmpi, beq_eq_false_iff_ne.mpr hne]
      rfl
    rw [e]
    simp [FloatOps.sitofp]
theorem wts_eq (h : Fin 4) (i j : Fin 128) (k : Fin 512) (hk : k.val = h.val * 128 + i.val) : ws (ix2 k j) = wts ws h i j :=
  congrArg (fun k => ws (ix2 k j)) (Fin.ext hk)
theorem p25 (i j : Fin 128) : k0_pay25 (F := Ideal) ws (ix2 i j) = mw (wts ws) 0 i j := by
  pointwise [k0_pay25, k0_pay24, mw, tri]
  exact congrArg (Scalar.select _ · 0) (wts_eq ws 0 i j _ (by simp))
theorem p29 (i j : Fin 128) : k0_pay29 (F := Ideal) ws (ix2 i j) = mw (wts ws) 1 i j := by
  pointwise [k0_pay29, k0_pay28, mw, tri]
  exact congrArg (Scalar.select _ · 0) (wts_eq ws 1 i j _ (by simp))
theorem p33 (i j : Fin 128) : k0_pay33 (F := Ideal) ws (ix2 i j) = mw (wts ws) 2 i j := by
  pointwise [k0_pay33, k0_pay32, mw, tri]
  exact congrArg (Scalar.select _ · 0) (wts_eq ws 2 i j _ (by simp))
theorem p36 (i j : Fin 128) : k0_pay36 (F := Ideal) ws (ix2 i j) = mw (wts ws) 3 i j := by
  pointwise [k0_pay36, k0_pay35, mw, tri]
  exact congrArg (Scalar.select _ · 0) (wts_eq ws 3 i j _ (by simp))
theorem p38 (i : Fin 128) (d : Fin 512) : k0_pay38 (F := Ideal) C (k0_pay10 U) (ix2 i d) = ug (row U i) (row C i) d := by
  pointwise [k0_pay38, p10, ug]
theorem eye_row (b : Fin 128 → EReal) (i : Fin 128) : ∑ j, b j * (if i = j then 1 else 0 : EReal) = b i := by simp
theorem eye_col (b : Fin 128 → EReal) (j : Fin 128) : ∑ i, b i * (if i = j then 1 else 0 : EReal) = b j := by simp
theorem fin_back (d : Fin 512) (n k : ℕ) (h : n + k < 512) (e : n + k = d.val) : (⟨n + k, h⟩ : Fin 512) = d := Fin.ext e
theorem hd_of (d : Fin 512) (h : Fin 4) (e : d.val / 128 = h.val) : hd d = h := Fin.ext e

theorem p27 (i e : Fin 128) : k0_pay27 (F := Ideal) lw lb ws bs (k0_pay15 V) (k0_pay16 V) (ix2 i e)
    = mix (wts ws) (bia bs) (one lw) (one lb) (row V) i (lane 0 e) := by
  pointwise [k0_pay27, k0_pay26, p25, p22, p23, eye_row, mix]
  have h0 : hd (lane 0 e) = 0 := hd_of _ 0 (by simp [lane])
  have h1 : lane 0 e = ⟨e.val, by omega⟩ := Fin.ext (by simp [lane])
  rw [h0, h1]
theorem p39 (i : Fin 128) (d : Fin 512) : k0_pay39 (F := Ideal) ws bs C (k0_pay22 lw lb (k0_pay15 V) (k0_pay16 V)) k0_pay23
      (k0_pay27 lw lb ws bs (k0_pay15 V) (k0_pay16 V)) (k0_pay29 ws) (k0_pay30 bs) (ix2 i d)
    = C (ix2 i d) * mix (wts ws) (bia bs) (one lw) (one lb) (row V) i d := by
  pointwise [k0_pay39, k0_pay30, k0_pay31, k0_pay34, k0_pay37, p22, p27, p29, p33, p36, p23, eye_row]
  refine congrArg (C (ix2 i d) * ·) ?_
  by_cases h0 : d.val < 128
  · have e : lane 0 ⟨d.val, h0⟩ = d := Fin.ext (by simp [lane])
    simp only [h0, dif_pos, e]
  · by_cases h1 : d.val - 128 < 128
    · have e := hd_of d 1 (by simp; omega)
      simp only [h0, h1, dif_pos, dif_neg, not_false_eq_true, mix, e, fin_back d 128 (d.val - 128) (by omega) (by omega)]
    · by_cases h2 : d.val - 128 - 128 < 128
      · have e := hd_of d 2 (by simp; omega)
        simp only [h0, h1, h2, dif_pos, dif_neg, not_false_eq_true, mix, e, fin_back d 256 (d.val - 128 - 128) (by omega) (by omega)]
      · have e := hd_of d 3 (by simp; omega)
        simp only [h0, h1, h2, dif_neg, not_false_eq_true, mix, e, fin_back d 384 (d.val - 128 - 128 - 128) (by omega) (by omega)]

/-- The gradient on the scaled rows, as the payloads put it together: four products, one to a head's lanes. -/
abbrev A : FVec Ideal S128x512 .f32 := k0_pay49 (k0_pay29 ws) (k0_pay41 C (k0_pay10 U))
          (k0_pay47 (k0_pay33 ws) (k0_pay36 ws) (k0_pay42 C (k0_pay10 U)) (k0_pay43 C (k0_pay10 U)))
abbrev B : FVec Ideal S128x128 .f32 := k0_pay54 (k0_pay25 ws) (k0_pay40 C (k0_pay10 U))

theorem p55 (j : Fin 128) (d : Fin 512) : k0_pay55 (F := Ideal) (A U C ws) (B U C ws) (ix2 j d) = dvn (wts ws) (row U) (row C) j d := by
  pointwise [k0_pay55, k0_pay49, k0_pay47, k0_pay54, k0_pay40, k0_pay41, k0_pay42, k0_pay43, p25, p29, p33, p36, p38, dvn]
  by_cases h0 : d.val < 128
  · have e := hd_of d 0 (by simp; omega)
    have h1 : d.val < 256 := by omega
    have h2 : d.val < 384 := by omega
    simp only [h0, h1, h2, dif_pos, e, zero_add]
  · by_cases h1 : d.val < 256
    · have e := hd_of d 1 (by simp; omega)
      have h2 : d.val < 384 := by omega
      simp only [h0, h1, h2, dif_pos, dif_neg, not_false_eq_true, e, fin_back d 128 (d.val - 128) (by omega) (by omega), zero_add, add_zero]
    · by_cases h2 : d.val < 384
      · have e := hd_of d 2 (by simp; omega)
        simp only [h0, h1, h2, dif_pos, dif_neg, not_false_eq_true, e, fin_back d 256 (d.val - 256) (by omega) (by omega), zero_add, add_zero]
      · have e := hd_of d 3 (by simp; omega)
        simp only [h0, h1, h2, dif_neg, not_false_eq_true, e, fin_back d 384 (d.val - 384) (by omega) (by omega), add_zero]

theorem p58 (d : Fin 512) : k0_pay58 (F := Ideal) (A U C ws) (B U C ws) (ix2 0 d) = ∑ j, dvn (wts ws) (row U) (row C) j d := by
  pointwise [k0_pay58, p55]
theorem p59 (d : Fin 512) : k0_pay59 (F := Ideal) (k0_pay21 (k0_pay15 V) (k0_pay16 V)) (A U C ws) (B U C ws) (ix2 0 d)
    = ∑ j, xh (row V j) d * dvn (wts ws) (row U) (row C) j d := by
  pointwise [k0_pay59, p55, p21]
theorem p60 (j : Fin 128) (d : Fin 512) : k0_pay60 (F := Ideal) lw (k0_pay17 (k0_pay15 V) (k0_pay16 V)) (k0_pay19 (k0_pay15 V) (k0_pay16 V)) (k0_pay20 (k0_pay15 V) (k0_pay16 V)) (A U C ws) (B U C ws) (ix2 j d)
    = gc (row V j) (fun d => dvn (wts ws) (row U) (row C) j d * one lw d) d := by
  pointwise [k0_pay60, p55, p17, p19, p20, gc, av, qq, Fin.sum_univ_one]
theorem p61 (j : Fin 128) (x : Fin 1) : k0_pay61 (F := Ideal) lw (k0_pay17 (k0_pay15 V) (k0_pay16 V)) (k0_pay19 (k0_pay15 V) (k0_pay16 V)) (k0_pay20 (k0_pay15 V) (k0_pay16 V)) (A U C ws) (B U C ws) (ix2 j x)
    = gm (row V j) (fun d => dvn (wts ws) (row U) (row C) j d * one lw d) := by
  pointwise [k0_pay61, p60, gm]
theorem p63 (j : Fin 128) (d : Fin 512) : k0_pay63 (F := Ideal) (k0_pay11 V) (k0_pay13 V) (k0_pay14 V)
      (k0_pay60 lw (k0_pay17 (k0_pay15 V) (k0_pay16 V)) (k0_pay19 (k0_pay15 V) (k0_pay16 V)) (k0_pay20 (k0_pay15 V) (k0_pay16 V)) (A U C ws) (B U C ws))
      (k0_pay61 lw (k0_pay17 (k0_pay15 V) (k0_pay16 V)) (k0_pay19 (k0_pay15 V) (k0_pay16 V)) (k0_pay20 (k0_pay15 V) (k0_pay16 V)) (A U C ws) (B U C ws)) (ix2 j d)
    = dcv (wts ws) (one lw) (row U) (row V) (row C) j d := by
  pointwise [k0_pay63, p60, p61, k0_pay14, k0_pay13, k0_pay12, k0_pay11, dcv, dgel, Fin.sum_univ_one]
  rfl
theorem p62 (i : Fin 128) (d : Fin 512) : k0_pay62 (F := Ideal) (k0_pay6 U) (k0_pay8 U) (k0_pay9 U)
      (k0_pay39 ws bs C (k0_pay22 lw lb (k0_pay15 V) (k0_pay16 V)) k0_pay23
      (k0_pay27 lw lb ws bs (k0_pay15 V) (k0_pay16 V)) (k0_pay29 ws) (k0_pay30 bs)) (ix2 i d)
    = dcu (wts ws) (bia bs) (one lw) (one lb) (row U) (row V) (row C) i d := by
  pointwise [k0_pay62, k0_pay6, k0_pay7, k0_pay8, k0_pay9, p39, dcu, dgel]
  rfl

theorem p57 (r : Fin 512) (j : Fin 128) : k0_pay57 (F := Ideal) k0_pay24
        (k0_pay51 k0_pay28 (k0_pay31 (k0_pay22 lw lb (k0_pay15 V) (k0_pay16 V))) k0_pay32 (k0_pay41 C (k0_pay10 U))
          (k0_pay45 k0_pay35 (k0_pay37 (k0_pay22 lw lb (k0_pay15 V) (k0_pay16 V))) (k0_pay43 C (k0_pay10 U)))
          (k0_pay46 (k0_pay34 (k0_pay22 lw lb (k0_pay15 V) (k0_pay16 V))) (k0_pay42 C (k0_pay10 U))))
        (k0_pay53 (k0_pay26 lw lb (k0_pay15 V) (k0_pay16 V)) (k0_pay40 C (k0_pay10 U))) (ix2 r j)
    = Scalar.select (tri ⟨r.val % 128, by omega⟩ j) (dws (one lw) (one lb) (row U) (row V) (row C) (hd r) ⟨r.val % 128, by omega⟩ j) 0 := by
  pointwise [k0_pay57, k0_pay24, k0_pay51, k0_pay28, k0_pay31, k0_pay32, k0_pay41, k0_pay45, k0_pay35, k0_pay37, k0_pay43, k0_pay46, k0_pay34, k0_pay42, k0_pay53, k0_pay26, k0_pay40, p22, p38, dws, tri]
  by_cases h0 : r.val < 128
  · have e : hd r = 0 := hd_of r 0 (by simp; omega)
    have h1 : r.val < 256 := by omega
    have h2 : r.val < 384 := by omega
    have q : r.val % 128 = r.val := by omega
    simp only [h0, h1, h2, dif_pos, e, q, zero_add]
    simp only [lane, Fin.val_zero, zero_mul, zero_add]
    rfl
  · by_cases h1 : r.val < 256
    · have e : hd r = 1 := hd_of r 1 (by simp; omega)
      have h2 : r.val < 384 := by omega
      have q : r.val % 128 = r.val - 128 := by omega
      simp only [h0, h1, h2, dif_pos, dif_neg, not_false_eq_true, e, q, zero_add, add_zero]
      rfl
    · by_cases h2 : r.val < 384
      · have e : hd r = 2 := hd_of r 2 (by simp; omega)
        have q : r.val % 128 = r.val - 256 := by omega
        simp only [h0, h1, h2, dif_pos, dif_neg, not_false_eq_true, e, q, zero_add, add_zero]
        rfl
      · have e : hd r = 3 := hd_of r 3 (by simp; omega)
        have q : r.val % 128 = r.val - 384 := by omega
        simp only [h0, h1, h2, dif_neg, not_false_eq_true, e, q, add_zero]
        rfl
theorem p56 (h : Fin 4) (i : Fin 128) : k0_pay56 (F := Ideal) k0_pay23
        (k0_pay50 k0_pay23 (k0_pay41 C (k0_pay10 U)) (k0_pay48 k0_pay23 (k0_pay42 C (k0_pay10 U)) (k0_pay44 C (k0_pay10 U))))
        (k0_pay52 (k0_pay40 C (k0_pay10 U))) (ix2 h i) = dbs (row U) (row C) h i := by
  pointwise [k0_pay56, k0_pay50, k0_pay48, k0_pay52, k0_pay44, k0_pay43, k0_pay42, k0_pay41, k0_pay40, p38, p23, eye_col, dbs, Fin.sum_univ_one]
  by_cases h0 : h.val < 1
  · have e : h = 0 := Fin.ext (by simp; omega)
    subst e
    simp [lane]
  · by_cases h1 : h.val < 2
    · have e : h = 1 := Fin.ext (by simp; omega)
      subst e
      simp [lane]
    · by_cases h2 : h.val < 3
      · have e : h = 2 := Fin.ext (by simp; omega)
        subst e
        simp [lane]
      · have e : h = 3 := Fin.ext (by simp; omega)
        subst e
        simp [lane]
theorem p68 (X Y : FVec Ideal S1x512 .f32) (j) : k0_pay68 (F := Ideal) X Y j = Y j + X j := by pointwise [k0_pay68]
theorem p69 (X Y : FVec Ideal S1x512 .f32) (j) : k0_pay69 (F := Ideal) X Y j = Y j + X j := by pointwise [k0_pay69]
theorem p1 (X Y : FVec Ideal S512x128 .f32) (j) : k0_pay1 (F := Ideal) X Y j = Y j + X j := by pointwise [k0_pay1]
theorem p2 (X Y : FVec Ideal S4x128 .f32) (j) : k0_pay2 (F := Ideal) X Y j = Y j + X j := by pointwise [k0_pay2]
theorem z64 (j) : k0_pay64 (F := Ideal) j = 0 := by pointwise [k0_pay64]
theorem z65 (j) : k0_pay65 (F := Ideal) j = 0 := by pointwise [k0_pay65]
theorem z66 (j) : k0_pay66 (F := Ideal) j = 0 := by pointwise [k0_pay66]
theorem z67 (j) : k0_pay67 (F := Ideal) j = 0 := by pointwise [k0_pay67]

end Cert.GmlpBwdIdeal.Pay
-- ==== Proof.GmlpOut.lean ====
/-
  What one grid point of the kernel `gmlp_bwd` leaves in its six output blocks, by the blocks it reads: two are written
  whole, the other four are added to, from zero at the first point.
-/
module

public import proofs.«01_k».proof.Defs
public import proofs.«01_k».proof.Proof.Gen.GmlpBwd.Frame
public import proofs.«01_k».proof.Proof.Gen.GmlpBwdIdeal.Frame
public import proofs.«01_k».proof.Proof.Gen.GmlpBwdIdeal.Value
public import proofs.«01_k».proof.Proof.GmlpPay
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.GmlpBwdIdeal.Value

open Cert.GmlpBwdIdeal Cert.GmlpBwdIdeal.Gen Cert.GmlpBwdIdeal.Pay

variable (m : (ℓ : Loc nD τ sig) → Buf (Elt Ideal) ℓ)

variable (c : Dev nD)

/-- The blocks each grid point reads and writes. -/
theorem idx : ∀ t : Fin cfg0.N, win0_0.index t = ![t.val, 8] ∧ win0_1.index t = ![t.val, 9] ∧ win0_2.index t = ![0, 0]
    ∧ win0_3.index t = ![0, 0] ∧ win0_4.index t = ![0, 0] ∧ win0_5.index t = ![0, 0] ∧ win0_6.index t = ![t.val, 2]
    ∧ win0_7.index t = ![t.val, 0] ∧ win0_8.index t = ![t.val, 0] ∧ win0_9.index t = ![0, 0] ∧ win0_10.index t = ![0, 0]
    ∧ win0_11.index t = ![0, 0] ∧ win0_12.index t = ![0, 0] ∧ t.val < 32 :=
  (by decide +kernel : ∀ t : Fin grid0.N, _)

/-- A grid point's tile. -/
abbrev tile (t : Fin cfg0.N) : Fin 32 := ⟨t.val, (idx t).2.2.2.2.2.2.2.2.2.2.2.2.2⟩

/-- The blocks of one grid point, by their types. -/
abbrev bU (t : Fin cfg0.N) : FVec Ideal S128x512 .f32 := X0_0 m c t
abbrev bV (t : Fin cfg0.N) : FVec Ideal S128x512 .f32 := X0_1 m c t
abbrev bw (t : Fin cfg0.N) : FVec Ideal S1x512 .f32 := iblk m c 2 t
abbrev bb (t : Fin cfg0.N) : FVec Ideal S1x512 .f32 := iblk m c 3 t
abbrev bW (t : Fin cfg0.N) : FVec Ideal S512x128 .f32 := iblk m c 4 t
abbrev bB (t : Fin cfg0.N) : FVec Ideal S4x128 .f32 := iblk m c 5 t
abbrev bC (t : Fin cfg0.N) : FVec Ideal S128x512 .f32 := iblk m c 6 t

/-- What a point writes to its blocks of the first two results. -/
abbrev new7 (t : Fin cfg0.N) : FVec Ideal S128x512 .bf16 := k0_pay62 (k0_pay6 (bU m c t)) (k0_pay8 (bU m c t)) (k0_pay9 (bU m c t))
  (k0_pay39 (bW m c t) (bB m c t) (bC m c t) (k0_pay22 (bw m c t) (bb m c t) (k0_pay15 (bV m c t)) (k0_pay16 (bV m c t))) k0_pay23
    (k0_pay27 (bw m c t) (bb m c t) (bW m c t) (bB m c t) (k0_pay15 (bV m c t)) (k0_pay16 (bV m c t))) (k0_pay29 (bW m c t)) (k0_pay30 (bB m c t)))
abbrev new8 (t : Fin cfg0.N) : FVec Ideal S128x512 .bf16 := k0_pay63 (k0_pay11 (bV m c t)) (k0_pay13 (bV m c t)) (k0_pay14 (bV m c t))
  (k0_pay60 (bw m c t) (k0_pay17 (k0_pay15 (bV m c t)) (k0_pay16 (bV m c t))) (k0_pay19 (k0_pay15 (bV m c t)) (k0_pay16 (bV m c t)))
    (k0_pay20 (k0_pay15 (bV m c t)) (k0_pay16 (bV m c t))) (A (bU m c t) (bC m c t) (bW m c t)) (B (bU m c t) (bC m c t) (bW m c t)))
  (k0_pay61 (bw m c t) (k0_pay17 (k0_pay15 (bV m c t)) (k0_pay16 (bV m c t))) (k0_pay19 (k0_pay15 (bV m c t)) (k0_pay16 (bV m c t)))
    (k0_pay20 (k0_pay15 (bV m c t)) (k0_pay16 (bV m c t))) (A (bU m c t) (bC m c t) (bW m c t)) (B (bU m c t) (bC m c t) (bW m c t)))
/-- What a point adds to the other four. -/
abbrev part9 (t : Fin cfg0.N) : FVec Ideal S1x512 .f32 := k0_pay59 (k0_pay21 (k0_pay15 (bV m c t)) (k0_pay16 (bV m c t)))
  (A (bU m c t) (bC m c t) (bW m c t)) (B (bU m c t) (bC m c t) (bW m c t))
abbrev part10 (t : Fin cfg0.N) : FVec Ideal S1x512 .f32 := k0_pay58 (A (bU m c t) (bC m c t) (bW m c t)) (B (bU m c t) (bC m c t) (bW m c t))
abbrev part11 (t : Fin cfg0.N) : FVec Ideal S512x128 .f32 :=
  k0_pay57 k0_pay24
        (k0_pay51 k0_pay28 (k0_pay31 (k0_pay22 (bw m c t) (bb m c t) (k0_pay15 (bV m c t)) (k0_pay16 (bV m c t)))) k0_pay32 (k0_pay41 (bC m c t) (k0_pay10 (bU m c t)))
          (k0_pay45 k0_pay35 (k0_pay37 (k0_pay22 (bw m c t) (bb m c t) (k0_pay15 (bV m c t)) (k0_pay16 (bV m c t)))) (k0_pay43 (bC m c t) (k0_pay10 (bU m c t))))
          (k0_pay46 (k0_pay34 (k0_pay22 (bw m c t) (bb m c t) (k0_pay15 (bV m c t)) (k0_pay16 (bV m c t)))) (k0_pay42 (bC m c t) (k0_pay10 (bU m c t)))))
        (k0_pay53 (k0_pay26 (bw m c t) (bb m c t) (k0_pay15 (bV m c t)) (k0_pay16 (bV m c t))) (k0_pay40 (bC m c t) (k0_pay10 (bU m c t))))
abbrev part12 (t : Fin cfg0.N) : FVec Ideal S4x128 .f32 := k0_pay56 k0_pay23
        (k0_pay50 k0_pay23 (k0_pay41 (bC m c t) (k0_pay10 (bU m c t))) (k0_pay48 k0_pay23 (k0_pay42 (bC m c t) (k0_pay10 (bU m c t))) (k0_pay44 (bC m c t) (k0_pay10 (bU m c t)))))
        (k0_pay52 (k0_pay40 (bC m c t) (k0_pay10 (bU m c t))))

set_option maxHeartbeats 1600000 in
theorem out7_A (t : Fin cfg0.N) (h : t.val % 32 = 0) : (outsAt0 m c t.val t.isLt).1 = new7 m c t := by
  rw [outsAt0_A m c t h]; frame_out
  simp only [p3, p4, p5]
set_option maxHeartbeats 1600000 in
theorem out7_B (t : Fin cfg0.N) (h : ¬t.val % 32 = 0) : (outsAt0 m c t.val t.isLt).1 = new7 m c t := by
  rw [outsAt0_B m c t h]; frame_out
  simp only [p3, p4, p5]
theorem out7 (t : Fin cfg0.N) : (outsAt0 m c t.val t.isLt).1 = new7 m c t := by
  by_cases h : t.val % 32 = 0
  · exact out7_A m c t h
  · exact out7_B m c t h
set_option maxHeartbeats 1600000 in
theorem out8_A (t : Fin cfg0.N) (h : t.val % 32 = 0) : (outsAt0 m c t.val t.isLt).2.1 = new8 m c t := by
  rw [outsAt0_A m c t h]; frame_out
  simp only [p3, p4, p5]
set_option maxHeartbeats 1600000 in
theorem out8_B (t : Fin cfg0.N) (h : ¬t.val % 32 = 0) : (outsAt0 m c t.val t.isLt).2.1 = new8 m c t := by
  rw [outsAt0_B m c t h]; frame_out
  simp only [p3, p4, p5]
theorem out8 (t : Fin cfg0.N) : (outsAt0 m c t.val t.isLt).2.1 = new8 m c t := by
  by_cases h : t.val % 32 = 0
  · exact out8_A m c t h
  · exact out8_B m c t h
set_option maxHeartbeats 1600000 in
theorem out9_A (t : Fin cfg0.N) (h : t.val % 32 = 0) (j) : (outsAt0 m c t.val t.isLt).2.2.1 j = 0 + part9 m c t j := by
  rw [outsAt0_A m c t h]; frame_out
  simp only [p3, p4, p5]
  rw [p68, z64]
set_option maxHeartbeats 1600000 in
theorem out9_B (t : Fin cfg0.N) (h : ¬t.val % 32 = 0) (j) : (outsAt0 m c t.val t.isLt).2.2.1 j
    = (outsAt0 m c (t.val - 1) (Nat.lt_of_le_of_lt (Nat.sub_le _ _) t.isLt)).2.2.1 j + part9 m c t j := by
  rw [outsAt0_B m c t h]; frame_out
  simp only [p3, p4, p5]
  rw [p68]
set_option maxHeartbeats 1600000 in
theorem out10_A (t : Fin cfg0.N) (h : t.val % 32 = 0) (j) : (outsAt0 m c t.val t.isLt).2.2.2.1 j = 0 + part10 m c t j := by
  rw [outsAt0_A m c t h]; frame_out
  simp only [p3, p4, p5]
  rw [p69, z65]
set_option maxHeartbeats 1600000 in
theorem out10_B (t : Fin cfg0.N) (h : ¬t.val % 32 = 0) (j) : (outsAt0 m c t.val t.isLt).2.2.2.1 j
    = (outsAt0 m c (t.val - 1) (Nat.lt_of_le_of_lt (Nat.sub_le _ _) t.isLt)).2.2.2.1 j + part10 m c t j := by
  rw [outsAt0_B m c t h]; frame_out
  simp only [p3, p4, p5]
  rw [p69]
set_option maxHeartbeats 1600000 in
theorem out11_A (t : Fin cfg0.N) (h : t.val % 32 = 0) (j) : (outsAt0 m c t.val t.isLt).2.2.2.2.1 j = 0 + part11 m c t j := by
  rw [outsAt0_A m c t h]; frame_out
  simp only [p3, p4, p5]
  rw [p1, z66]
set_option maxHeartbeats 1600000 in
theorem out11_B (t : Fin cfg0.N) (h : ¬t.val % 32 = 0) (j) : (outsAt0 m c t.val t.isLt).2.2.2.2.1 j
    = (outsAt0 m c (t.val - 1) (Nat.lt_of_le_of_lt (Nat.sub_le _ _) t.isLt)).2.2.2.2.1 j + part11 m c t j := by
  rw [outsAt0_B m c t h]; frame_out
  simp only [p3, p4, p5]
  rw [p1]
set_option maxHeartbeats 1600000 in
theorem out12_A (t : Fin cfg0.N) (h : t.val % 32 = 0) (j) : (outsAt0 m c t.val t.isLt).2.2.2.2.2 j = 0 + part12 m c t j := by
  rw [outsAt0_A m c t h]; frame_out
  rw [p2, z67]
set_option maxHeartbeats 1600000 in
theorem out12_B (t : Fin cfg0.N) (h : ¬t.val % 32 = 0) (j) : (outsAt0 m c t.val t.isLt).2.2.2.2.2 j
    = (outsAt0 m c (t.val - 1) (Nat.lt_of_le_of_lt (Nat.sub_le _ _) t.isLt)).2.2.2.2.2 j + part12 m c t j := by
  rw [outsAt0_B m c t h]; frame_out
  rw [p2]

end Cert.GmlpBwdIdeal.Value

end
-- ==== Proof.Sums.lean ====
/-
  Sums along two or three axes of an array of rank three or five, as the host's reduction adds them, read at a result
  index as iterated sums over those axes.
-/
module

public import Idealize.ShloMosaic.Lib.Pointwise
public import Idealize.ShloMosaic.PureOps.Ideal

@[expose] public section

noncomputable section

open Idealize.ShloMosaic

namespace Cert.Sums

variable {n0 n1 n2 n3 n4 : Nat}

/-- First and last of three axes. -/
theorem sum_02 (h : (⟨3, ![n0, n1, n2]⟩ : Shape).ReducesTo [0, 2] ⟨1, ![n1]⟩) (v : (⟨3, ![n0, n1, n2]⟩ : Shape).Idx → EReal)
    (c : EReal) (d : Fin n1) : Ideal.hostReduceAdd h v c (ix1 d) = c + ∑ a : Fin n0, ∑ b : Fin n2, v (ix3 a d b) := by
  refine congrArg (c + ·) ((Finset.sum_filter_eq_sum_of_fiber _ (fun k : Fin n0 × Fin n2 => ix3 k.1 d k.2)
    (fun _ _ e => Prod.ext (congrFun e 0) (congrFun e 2)) (fun i => ⟨fun e => ⟨(i 0, i 2), ?_⟩, ?_⟩) v).trans ?_)
  · funext a; apply Fin.ext
    match a with
    | ⟨0, _⟩ => rfl
    | ⟨1, _⟩ => exact (congrArg Fin.val (congrFun e 0)).symm
    | ⟨2, _⟩ => rfl
  · rintro ⟨k, rfl⟩
    funext b; apply Fin.ext
    match b with
    | ⟨0, _⟩ => rfl
  · simp only [Fintype.sum_prod_type]

/-- The first two of three axes. -/
theorem sum_01 (h : (⟨3, ![n0, n1, n2]⟩ : Shape).ReducesTo [0, 1] ⟨1, ![n2]⟩) (v : (⟨3, ![n0, n1, n2]⟩ : Shape).Idx → EReal)
    (c : EReal) (d : Fin n2) : Ideal.hostReduceAdd h v c (ix1 d) = c + ∑ a : Fin n0, ∑ b : Fin n1, v (ix3 a b d) := by
  refine congrArg (c + ·) ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl
  · simp only [Fintype.sum_prod_type]

/-- The second and the last of five axes. -/
theorem sum_14 (h : (⟨5, ![n0, n1, n2, n3, n4]⟩ : Shape).ReducesTo [1, 4] ⟨3, ![n0, n2, n3]⟩)
    (v : (⟨5, ![n0, n1, n2, n3, n4]⟩ : Shape).Idx → EReal) (c : EReal) (x : Fin n0) (y : Fin n2) (z : Fin n3) :
    Ideal.hostReduceAdd h v c (ix3 x y z) = c + ∑ a : Fin n1, ∑ b : Fin n4, v (ix5 x a y z b) := by
  refine congrArg (c + ·) ((Finset.sum_filter_eq_sum_of_fiber _ (fun k : Fin n1 × Fin n4 => ix5 x k.1 y z k.2)
    (fun _ _ e => Prod.ext (congrFun e 1) (congrFun e 4)) (fun i => ⟨fun e => ⟨(i 1, i 4), ?_⟩, ?_⟩) v).trans ?_)
  · funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext b; apply Fin.ext
    match b with
    | ⟨0, _⟩ => rfl
    | ⟨1, _⟩ => rfl
    | ⟨2, _⟩ => rfl
  · simp only [Fintype.sum_prod_type]

/-- The first two and the last of five axes. -/
theorem sum_014 (h : (⟨5, ![n0, n1, n2, n3, n4]⟩ : Shape).ReducesTo [0, 1, 4] ⟨2, ![n2, n3]⟩)
    (v : (⟨5, ![n0, n1, n2, n3, n4]⟩ : Shape).Idx → EReal) (c : EReal) (y : Fin n2) (z : Fin n3) :
    Ideal.hostReduceAdd h v c (ix2 y z) = c + ∑ x : Fin n0, ∑ a : Fin n1, ∑ b : Fin n4, v (ix5 x a y z b) := by
  refine congrArg (c + ·) ((Finset.sum_filter_eq_sum_of_fiber _ (fun k : Fin n0 × Fin n1 × Fin n4 => ix5 k.1 k.2.1 y z k.2.2)
    (fun _ _ e => Prod.ext (congrFun e 0) (Prod.ext (congrFun e 1) (congrFun e 4))) (fun i => ⟨fun e => ⟨(i 0, i 1, i 4), ?_⟩, ?_⟩) v).trans ?_)
  · funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b; apply Fin.ext
    match b with
    | ⟨0, _⟩ => rfl
    | ⟨1, _⟩ => rfl
  · simp only [Fintype.sum_prod_type]

end Cert.Sums
-- ==== Proof.GmlpRef.lean ====
module

public import proofs.«01_k».proof.Proof.GmlpSpec
public import proofs.«01_k».proof.Proof.Sums
public import proofs.«01_k».proof.Proof.Gen.GmlpBwdRefIdeal.Run
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.GmlpBwdRefIdeal.Stage

open Cert.Sums Cert.GmlpBwdRefIdeal Cert.GmlpBwdRefIdeal.Gen Cert.GmlpBwdRefIdeal.Value Cert.Gmlp

variable (V : Valuation τ sig (Elt Ideal))

abbrev rU (r : Fin 4096) (d : Fin 512) : EReal := (V (Proc.devRef .tc main_arg0) : FVec Ideal S4096x6272 .f32) (ix2 r ⟨4096 + d.val, by omega⟩)
abbrev rV (r : Fin 4096) (d : Fin 512) : EReal := (V (Proc.devRef .tc main_arg0) : FVec Ideal S4096x6272 .f32) (ix2 r ⟨4608 + d.val, by omega⟩)
abbrev rC (r : Fin 4096) (d : Fin 512) : EReal := (V (Proc.devRef .tc main_arg5) : FVec Ideal S4096x2048 .f32) (ix2 r ⟨1024 + d.val, by omega⟩)
abbrev lw (d : Fin 512) : EReal := (V (Proc.devRef .tc main_arg1) : FVec Ideal S512 .f32) (ix1 d)
abbrev lb (d : Fin 512) : EReal := (V (Proc.devRef .tc main_arg2) : FVec Ideal S512 .f32) (ix1 d)
abbrev wts (h : Fin 4) (i j : Fin 128) : EReal := (V (Proc.devRef .tc main_arg3) : FVec Ideal S4x128x128 .f32) (ix3 h i j)
abbrev bia (h : Fin 4) (i : Fin 128) : EReal := (V (Proc.devRef .tc main_arg4) : FVec Ideal S4x128 .f32) (ix2 h i)
/-- Row `i` of tile `t`. -/
abbrev at' (t : Fin 32) (i : Fin 128) : Fin 4096 := ⟨t.val * 128 + i.val, by omega⟩

theorem r1 (z : Fin 1) (r : Fin 4096) (d : Fin 512) : res_main_v1 (F := Ideal) V (ix3 z r d) = rU V r d := by
  pointwise [res_main_v1]
theorem r3 (z : Fin 1) (r : Fin 4096) (d : Fin 512) : res_main_v3 (F := Ideal) V (ix3 z r d) = rV V r d := by
  pointwise [res_main_v3]
theorem r5 (z : Fin 1) (r : Fin 4096) (d : Fin 512) : res_main_v5 (F := Ideal) V (ix3 z r d) = rC V r d := by
  pointwise [res_main_v5]
theorem gel_ref (x : EReal) : half * x * Ideal.erfc (-x * c2) = gel x := by
  rw [gel, EReal.neg_mul, Ideal.erfc_neg]
theorem neg_kk : Ideal.ofBits .f32 0xBF906EBB#32 = -kk := by
  simp [Ideal.ofBits, Ideal.ieee]
theorem dgel_ref (x g : EReal) : -(Ideal.ofBits .f32 0xBF906EBB#32 * (half * x * g) * Ideal.exp (-(-x * c2 * (-x * c2))) * c2)
    + half * (g * Ideal.erfc (-x * c2)) = dgel x g := by
  rw [dgel, neg_kk, EReal.neg_mul x, Ideal.erfc_neg, neg_mul_neg, zero_sub, EReal.neg_mul, EReal.neg_mul, EReal.neg_mul, neg_neg]
theorem two_mul' (y : EReal) : Ideal.ofBits .f32 0x40000000#32 * y = y + y := by
  have h : Ideal.ofBits .f32 0x40000000#32 = ((2 : ℝ) : EReal) := by
    simp [Ideal.ofBits, Ideal.ieee]
    rw [← EReal.coe_mul]
    norm_num
  rw [h]
  induction y with
  | bot => rw [EReal.coe_mul_bot_of_pos (by norm_num)]; rfl
  | top => rw [EReal.coe_mul_top_of_pos (by norm_num)]; rfl
  | coe y => rw [← EReal.coe_mul, two_mul, EReal.coe_add]
theorem twice (q x : EReal) : q * (Ideal.ofBits .f32 0x40000000#32 * x) = x * q + q * x := by
  rw [mul_left_comm, two_mul', mul_comm x q]

theorem r15 (z : Fin 1) (r : Fin 4096) (d : Fin 512) : res_main_v15 (F := Ideal) V (ix3 z r d) = gel (rU V r d) := by
  pointwise [res_main_v15, res_main_v7, res_main_v11, res_main_v10, r1]
  exact gel_ref _
theorem r25 (z : Fin 1) (r : Fin 4096) (d : Fin 512) : res_main_v25 (F := Ideal) V (ix3 z r d) = gel (rV V r d) := by
  pointwise [res_main_v25, res_main_v17, res_main_v21, res_main_v20, r3]
  exact gel_ref _
theorem r29 (z w : Fin 1) (r : Fin 4096) : res_main_v29 (F := Ideal) V (ix3 z r w) = mu (rV V r) := by
  pointwise [res_main_v29, r25, mu]
theorem r31 (z : Fin 1) (r : Fin 4096) (d : Fin 512) : res_main_v31 (F := Ideal) V (ix3 z r d) = xc (rV V r) d := by
  pointwise [res_main_v31, r25, r29, xc]
theorem r40 (z : Fin 1) (r : Fin 4096) (d : Fin 512) : res_main_v40 (F := Ideal) V (ix3 z r d) = xc (rV V r) d := by
  pointwise [res_main_v40, r25, r29, xc]
theorem r42 (z w : Fin 1) (r : Fin 4096) : res_main_v42 (F := Ideal) V (ix3 z r w) = va (rV V r) := by
  pointwise [res_main_v42, r31, va]
theorem r43 (z w : Fin 1) (r : Fin 4096) : res_main_v43 (F := Ideal) V (ix3 z r w) = rs (rV V r) := by
  pointwise [res_main_v43, r42, rs]
theorem r48 (z : Fin 1) (r : Fin 4096) (d : Fin 512) : res_main_v48 (F := Ideal) V (ix3 z r d) = xh (rV V r) d := by
  pointwise [res_main_v48, r40, r43, xh]
theorem r49 (z w : Fin 1) (d : Fin 512) : res_main_v49 (F := Ideal) V (ix3 z w d) = lw V d := by
  pointwise [res_main_v49]
theorem r55 (z : Fin 1) (t : Fin 32) (i : Fin 128) (h : Fin 4) (e : Fin 128) : res_main_v55 (F := Ideal) V (ix5 z t i h e)
    = vn (lw V) (lb V) (rV V (at' t i)) (lane h e) := by
  pointwise [res_main_v55, r48, r49, vn]
  rfl
theorem bit (b : BitVec 1) : Scalar.select b 1#1 0#1 = b := by
  revert b; decide
theorem r58b (h : Fin 4) (i j : Fin 128) : res_main_v58_1 (F := Ideal) V (ix3 h i j) = tri i j := by
  pointwise [res_main_v58_1, tri]
  rw [show IntOp.addi (BitVec.ofNat 32 i.val) 0#32 = BitVec.ofNat 32 i.val from BitVec.add_zero _]
  exact bit _
theorem r58 (h : Fin 4) (i j : Fin 128) : res_main_v58_0 (F := Ideal) V (ix3 h i j) = mw (wts V) h i j := by
  pointwise [res_main_v58_0, r58b, mw]
  exact congrArg (Scalar.select _ _) (Ideal.ofBits_zero_f32)
theorem tile_div (t : Fin 32) (i : Fin 128) (h) : (⟨(t.val * 128 + i.val) / 128, h⟩ : Fin 32) = t := Fin.ext (by simp; omega)
theorem tile_mod (t : Fin 32) (i : Fin 128) (h) : (⟨(t.val * 128 + i.val) % 128, h⟩ : Fin 128) = i := Fin.ext (by simp)
theorem lane_eq (d : Fin 512) (h h') : lane ⟨d.val / 128, h⟩ ⟨d.val % 128, h'⟩ = d := Fin.ext (by simp only [lane]; omega)

theorem r65 (z : Fin 1) (t : Fin 32) (i : Fin 128) (d : Fin 512) : res_main_v65 (F := Ideal) V (ix3 z (at' t i) d)
    = mix (wts V) (bia V) (lw V) (lb V) (fun i => rV V (at' t i)) i d := by
  pointwise [res_main_v65, r58, r55, mix]
  simp only [tile_div, tile_mod, lane_eq]
  rfl
theorem r68 (z : Fin 1) (t : Fin 32) (i : Fin 128) (d : Fin 512) : res_main_v68 (F := Ideal) V (ix3 z (at' t i) d)
    = rC V (at' t i) d * mix (wts V) (bia V) (lw V) (lb V) (fun i => rV V (at' t i)) i d := by
  pointwise [res_main_v68, r65, r5]
theorem r69 (z : Fin 1) (t : Fin 32) (i : Fin 128) (h : Fin 4) (e : Fin 128) : res_main_v69 (F := Ideal) V (ix5 z t i h e)
    = ug (rU V (at' t i)) (rC V (at' t i)) (lane h e) := by
  pointwise [res_main_v69, r15, r5, ug]
  rfl
theorem r79 (z : Fin 1) (t : Fin 32) (j : Fin 128) (d : Fin 512) : res_main_v79 (F := Ideal) V (ix3 z (at' t j) d)
    = dvn (wts V) (fun i => rU V (at' t i)) (fun i => rC V (at' t i)) j d := by
  pointwise [res_main_v79, res_main_v74, r58, r69, dvn]
  simp only [tile_div, tile_mod, lane_eq]
  show (_ : EReal) = _
  exact Finset.sum_congr rfl fun x _ => mul_comm (_ : EReal) _
/-- The gradient on the normalised row. -/
abbrev gr (t : Fin 32) (j : Fin 128) (d : Fin 512) : EReal :=
  dvn (wts V) (fun i => rU V (at' t i)) (fun i => rC V (at' t i)) j d * lw V d
theorem r87 (z : Fin 1) (t : Fin 32) (j : Fin 128) (d : Fin 512) : res_main_v87 (F := Ideal) V (ix3 z (at' t j) d) = gr V t j d := by
  pointwise [res_main_v87, r79, r49]
theorem r93 (z : Fin 1) (t : Fin 32) (j : Fin 128) (d : Fin 512) : res_main_v93 (F := Ideal) V (ix3 z (at' t j) d)
    = av (rV V (at' t j)) (gr V t j) d := by
  pointwise [res_main_v93, r87, r43, av]
theorem r103 (z : Fin 1) (t : Fin 32) (j : Fin 128) (d : Fin 512) : res_main_v103 (F := Ideal) V (ix3 z (at' t j) d)
    = xc (rV V (at' t j)) d * qq (rV V (at' t j)) (gr V t j) + qq (rV V (at' t j)) (gr V t j) * xc (rV V (at' t j)) d := by
  rw [← twice]
  pointwise [res_main_v103, r87, r43, r42, r40, r31, qq, rp, sum_02, Fin.sum_univ_one]
theorem r114 (z : Fin 1) (t : Fin 32) (j : Fin 128) (d : Fin 512)
    (fin : ∀ d, av (rV V (at' t j)) (gr V t j) d ≠ ⊤ ∧ av (rV V (at' t j)) (gr V t j) d ≠ ⊥) :
    res_main_v114 (F := Ideal) V (ix3 z (at' t j) d) = gc (rV V (at' t j)) (gr V t j) d + gm (rV V (at' t j)) (gr V t j) := by
  pointwise [res_main_v114, r93, r103, gc, gm, sum_02, Fin.sum_univ_one]
  rw [← Finset.sum_add_distrib, add_assoc (av _ _ d) (xc _ d * _)]
  refine congrArg (fun s => av (rV V (at' t j)) (gr V t j) d + (xc (rV V (at' t j)) d * qq (rV V (at' t j)) (gr V t j)
    + qq (rV V (at' t j)) (gr V t j) * xc (rV V (at' t j)) d) + Ideal.div s n512) (Finset.sum_congr rfl fun x _ => ?_)
  rw [zero_sub, add_assoc, EReal.neg_add (Or.inl (fin x).2) (Or.inl (fin x).1)]
  rfl

/-- The results as the run leaves them. -/
abbrev o138 : FVec Ideal S4096x512 .bf16 := truncf .bf16 (shapeCast _ (addf (Host.negf (mulf (mulf (mulf (broadcastInDim S1x4096x512 ![] bcast_S_S1x4096x512 (constant S_ .f32 0xBF906EBB#32)) (mulf (res_main_v7 V) (res_main_v68 V))) (Host.exp (Host.negf (mulf (res_main_v10 V) (res_main_v10 V))))) (broadcastInDim S1x4096x512 ![] bcast_S_S1x4096x512 (constant S_ .f32 0x3F3504F3#32)))) (mulf (broadcastInDim S1x4096x512 ![] bcast_S_S1x4096x512 (constant S_ .f32 0x3F000000#32)) (mulf (res_main_v68 V) (res_main_v11 V)))) shapeCasts_S1x4096x512_S4096x512) bitsLt_bf16_f32
abbrev o140 : FVec Ideal S4096x512 .bf16 := truncf .bf16 (shapeCast _ (addf (Host.negf (mulf (mulf (mulf (broadcastInDim S1x4096x512 ![] bcast_S_S1x4096x512 (constant S_ .f32 0xBF906EBB#32)) (mulf (res_main_v17 V) (res_main_v114 V))) (Host.exp (Host.negf (mulf (res_main_v20 V) (res_main_v20 V))))) (broadcastInDim S1x4096x512 ![] bcast_S_S1x4096x512 (constant S_ .f32 0x3F3504F3#32)))) (mulf (broadcastInDim S1x4096x512 ![] bcast_S_S1x4096x512 (constant S_ .f32 0x3F000000#32)) (mulf (res_main_v114 V) (res_main_v21 V)))) shapeCasts_S1x4096x512_S4096x512) bitsLt_bf16_f32
abbrev o141 : FVec Ideal S1x512 .f32 := shapeCast _ (Host.reduceAdd (shapeCast _ (Host.reduceAdd (mulf (res_main_v48 V) (res_main_v79 V)) (constant S_ .f32 0x00000000#32) reducesTo_S1x4096x512_S1x512_d1 h_S_) shapeCasts_S1x512_S1x1x512) (constant S_ .f32 0x00000000#32) reducesTo_S1x1x512_S512_d0_1 h_S_) shapeCasts_S512_S1x512
abbrev o142 : FVec Ideal S1x512 .f32 := shapeCast _ (Host.reduceAdd (shapeCast _ (Host.reduceAdd (res_main_v79 V) (constant S_ .f32 0x00000000#32) reducesTo_S1x4096x512_S1x512_d1 h_S_) shapeCasts_S1x512_S1x1x512) (constant S_ .f32 0x00000000#32) reducesTo_S1x1x512_S512_d0_1 h_S_) shapeCasts_S512_S1x512
abbrev o143 : FVec Ideal S512x128 .f32 := shapeCast _ (select (res_main_v58_1 V) (Host.dotGeneral (φ₁ := .f32) (φ₂ := .f32) dot_S4x128x1x32x128_S1x32x128x4x128_S4x128x128_234_014_1_2_0_3 none (res_main_v74 V) (res_main_v55 V)) (broadcastInDim S4x128x128 ![] bcast_S_S4x128x128 (constant S_ .f32 0x00000000#32))) shapeCasts_S4x128x128_S512x128
abbrev o73 : FVec Ideal S4x128 .f32 := transpose S4x128 [1, 0] (Host.reduceAdd (shapeCast _ (Host.reduceAdd (res_main_v69 V) (constant S_ .f32 0x00000000#32) reducesTo_S1x32x128x4x128_S1x128x4_d1_4 h_S_) shapeCasts_S1x128x4_S1x1x128x4x1) (constant S_ .f32 0x00000000#32) reducesTo_S1x1x128x4x1_S128x4_d0_1_4 h_S_) transposes_S128x4_S4x128_1_0

theorem out138 (t : Fin 32) (i : Fin 128) (d : Fin 512) : o138 V (ix2 (at' t i) d)
    = dcu (wts V) (bia V) (lw V) (lb V) (fun i => rU V (at' t i)) (fun i => rV V (at' t i)) (fun i => rC V (at' t i)) i d := by
  pointwise [o138, res_main_v7, res_main_v10, res_main_v11, r1, r68]
  exact dgel_ref _ _
theorem out140 (t : Fin 32) (j : Fin 128) (d : Fin 512)
    (fin : ∀ d, av (rV V (at' t j)) (gr V t j) d ≠ ⊤ ∧ av (rV V (at' t j)) (gr V t j) d ≠ ⊥) : o140 V (ix2 (at' t j) d)
    = dcv (wts V) (lw V) (fun i => rU V (at' t i)) (fun i => rV V (at' t i)) (fun i => rC V (at' t i)) j d := by
  pointwise [o140, res_main_v17, res_main_v20, res_main_v21, r3]
  rw [r114 V _ t j d fin]
  exact dgel_ref _ _
theorem bit01 (b : BitVec 1) : b = 0#1 ∨ b = 1#1 := by
  revert b; decide
theorem r74 (h : Fin 4) (i : Fin 128) (z : Fin 1) (t : Fin 32) (e : Fin 128) : res_main_v74 (F := Ideal) V (ix5 h i z t e)
    = ug (rU V (at' t i)) (rC V (at' t i)) (lane h e) := by
  pointwise [res_main_v74, r69]
/-- The product that sums over tiles and lanes, at a result index. -/
theorem dot3 (x : FVec Ideal S4x128x1x32x128 .f32) (y : FVec Ideal S1x32x128x4x128 .f32) (h : Fin 4) (i j : Fin 128) :
    Ideal.matmul dot_S4x128x1x32x128_S1x32x128x4x128_S4x128x128_234_014_1_2_0_3 x y (fun _ => 0) (ix3 h i j)
      = ∑ t : Fin 32, ∑ e : Fin 128, x (ix5 h i 0 t e) * y (ix5 0 t j h e) := by
  refine (zero_add _).trans ?_
  let d := dot_S4x128x1x32x128_S1x32x128x4x128_S4x128x128_234_014_1_2_0_3
  let eqv : Fin 32 × Fin 128 ≃ d.contr.Idx :=
    { toFun := fun k p => match p with
        | ⟨0, _⟩ => (0 : Fin 1)
        | ⟨1, _⟩ => k.1
        | ⟨2, _⟩ => k.2
      invFun := fun kk => (kk ⟨1, by decide⟩, kk ⟨2, by decide⟩)
      left_inv := fun _ => rfl
      right_inv := fun kk => by
        funext p
        match p with
        | ⟨0, _⟩ => exact (Subsingleton.elim (α := Fin 1) _ _)
        | ⟨1, _⟩ => rfl
        | ⟨2, _⟩ => rfl }
  rw [← Fintype.sum_equiv eqv (fun k => x (ix5 h i 0 k.1 k.2) * y (ix5 0 k.1 j h k.2)) _ fun k => ?_]
  · simp only [Fintype.sum_prod_type]
  · refine congrArg₂ (· * ·) (congrArg x ?_) (congrArg y ?_)
    all_goals
      funext p
      fin_cases p <;> rfl
theorem tiles (f : Fin 4096 → EReal) : ∑ r, f r = ∑ t : Fin 32, ∑ j : Fin 128, f (at' t j) := Fin.sum_univ_tiles 32 128 rfl f
theorem out141 (d : Fin 512) : o141 V (ix2 0 d) = ∑ t : Fin 32, ∑ j : Fin 128, xh (rV V (at' t j)) d
      * dvn (wts V) (fun i => rU V (at' t i)) (fun i => rC V (at' t i)) j d := by
  pointwise [o141, r48, sum_01, Fin.sum_univ_one]
  refine (tiles _).trans ?_
  simp only [r79]
theorem out142 (d : Fin 512) : o142 V (ix2 0 d) = ∑ t : Fin 32, ∑ j : Fin 128,
      dvn (wts V) (fun i => rU V (at' t i)) (fun i => rC V (at' t i)) j d := by
  pointwise [o142, sum_01, Fin.sum_univ_one]
  refine (tiles _).trans ?_
  simp only [r79]
theorem out143 (r : Fin 512) (j : Fin 128) : o143 V (ix2 r j) = ∑ t : Fin 32,
      Scalar.select (tri ⟨r.val % 128, by omega⟩ j) (dws (lw V) (lb V) (fun i => rU V (at' t i)) (fun i => rV V (at' t i))
        (fun i => rC V (at' t i)) (hd r) ⟨r.val % 128, by omega⟩ j) 0 := by
  have e : o143 V (ix2 r j) = Scalar.select (tri ⟨r.val % 128, by omega⟩ j) (Ideal.matmul dot_S4x128x1x32x128_S1x32x128x4x128_S4x128x128_234_014_1_2_0_3
      (res_main_v74 V) (res_main_v55 V) (fun _ => 0) (ix3 (hd r) ⟨r.val % 128, by omega⟩ j)) 0 := by
    pointwise [o143, r58b]
    rfl
  rw [e, dot3]
  simp only [r74, r55, dws]
  rcases (bit01 _ : tri ⟨r.val % 128, by omega⟩ j = 0#1 ∨ tri ⟨r.val % 128, by omega⟩ j = 1#1) with h | h <;> rw [h]
  · simp [Scalar.select]
  · rfl
theorem out73 (h : Fin 4) (i : Fin 128) : o73 V (ix2 h i) = ∑ t : Fin 32, dbs (fun i => rU V (at' t i)) (fun i => rC V (at' t i)) h i := by
  pointwise [o73, r69, sum_14, sum_014, dbs, Fin.sum_univ_one]

end Cert.GmlpBwdRefIdeal.Stage
-- ==== Proof.GmlpBwd.lean ====
/-
  The gradient of the gated unit: the kernel `gmlp_bwd`, a tile of 128 rows at a grid point, beside `jax.vjp` of the unit
  over all the rows.
-/
module

public import proofs.«01_k».proof.Defs
public import proofs.«01_k».proof.Proof.Gen.GmlpBwd.Frame
public import proofs.«01_k».proof.Proof.Gen.GmlpBwdIdeal.Frame
public import proofs.«01_k».proof.Proof.Gen.GmlpBwdIdeal.Value
public import proofs.«01_k».proof.Proof.GmlpOut
public import proofs.«01_k».proof.Proof.GmlpRef
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.GmlpBwdIdeal.Value

open Cert.GmlpBwdIdeal Cert.GmlpBwdIdeal.Gen Cert.GmlpBwdIdeal.Pay
open Cert.GmlpBwdRefIdeal.Stage (rU rV rC at' o138 o140 o141 o142 o143 o73)

variable (m : (ℓ : Loc nD τ sig) → Buf (Elt Ideal) ℓ)

/-- The reference's arguments hold what the kernel's do. -/
structure Same (c : Dev nD) (W : Valuation Cert.GmlpBwdRefIdeal.τ Cert.GmlpBwdRefIdeal.sig (Elt Ideal)) : Prop where
  a0 : (W (Proc.devRef .tc Cert.GmlpBwdRefIdeal.main_arg0) : FVec Ideal S4096x6272 .f32) = m ((c : Thread nD τ).loc main_arg0)
  a1 : (W (Proc.devRef .tc Cert.GmlpBwdRefIdeal.main_arg1) : FVec Ideal S512 .f32) = m ((c : Thread nD τ).loc main_arg1)
  a2 : (W (Proc.devRef .tc Cert.GmlpBwdRefIdeal.main_arg2) : FVec Ideal S512 .f32) = m ((c : Thread nD τ).loc main_arg2)
  a3 : (W (Proc.devRef .tc Cert.GmlpBwdRefIdeal.main_arg3) : FVec Ideal S4x128x128 .f32) = m ((c : Thread nD τ).loc main_arg3)
  a4 : (W (Proc.devRef .tc Cert.GmlpBwdRefIdeal.main_arg4) : FVec Ideal S4x128 .f32) = m ((c : Thread nD τ).loc main_arg4)
  a5 : (W (Proc.devRef .tc Cert.GmlpBwdRefIdeal.main_arg5) : FVec Ideal S4096x2048 .f32) = m ((c : Thread nD τ).loc main_arg5)

variable (c : Dev nD) (W : Valuation Cert.GmlpBwdRefIdeal.τ Cert.GmlpBwdRefIdeal.sig (Elt Ideal)) (S : Same m c W)

include S

theorem hU (t : Fin cfg0.N) : row (bU m c t) = fun i => rU W (at' (tile t) i) := by
  funext i d
  rw [row, rU, S.a0]
  simp only [bU, X0_0, Pipeline.Window.fill]
  rw [dif_pos (moved0_0 t (ix2 i d))]
  blk_point [iblk, V, idx t]
theorem hV (t : Fin cfg0.N) : row (bV m c t) = fun i => rV W (at' (tile t) i) := by
  funext i d
  rw [row, rV, S.a0]
  simp only [bV, X0_1, Pipeline.Window.fill]
  rw [dif_pos (moved0_1 t (ix2 i d))]
  blk_point [iblk, V, idx t]
theorem hC (t : Fin cfg0.N) : row (bC m c t) = fun i => rC W (at' (tile t) i) := by
  funext i d
  rw [row, rC, S.a5]
  blk_point [bC, iblk, V, idx t]
theorem hw (t : Fin cfg0.N) : one (bw m c t) = Cert.GmlpBwdRefIdeal.Stage.lw W := by
  funext d
  rw [one, Cert.GmlpBwdRefIdeal.Stage.lw, S.a1]
  blk_point [bw, iblk, V, idx t]
theorem hb (t : Fin cfg0.N) : one (bb m c t) = Cert.GmlpBwdRefIdeal.Stage.lb W := by
  funext d
  rw [one, Cert.GmlpBwdRefIdeal.Stage.lb, S.a2]
  blk_point [bb, iblk, V, idx t]
theorem hW (t : Fin cfg0.N) : Pay.wts (bW m c t) = Cert.GmlpBwdRefIdeal.Stage.wts W := by
  funext h i j
  rw [Pay.wts, Cert.GmlpBwdRefIdeal.Stage.wts, S.a3]
  blk_point [bW, iblk, V, idx t]
theorem hB (t : Fin cfg0.N) : Pay.bia (bB m c t) = Cert.GmlpBwdRefIdeal.Stage.bia W := by
  funext h i
  rw [Pay.bia, Cert.GmlpBwdRefIdeal.Stage.bia, S.a4]
  blk_point [bB, iblk, V, idx t]

/-- The gradient on the first half of the gated columns. -/
theorem final7 : (dats m 0 c).arrAt 7 (cfgs 0).N = o138 W := by
  refine (dats m 0 c).arrAt_eq_of_covers 7 _ (by decide +kernel) fun t hf y => ?_
  blk_simp
  rw [after0_7, out7 m c t]
  refine (congrArg (new7 m c t) (eq_ix2 y)).trans ((p62 (bU m c t) (bV m c t) (bC m c t) (bw m c t) (bb m c t) (bW m c t) (bB m c t) (y 0) (y 1)).trans ?_)
  rw [hU m c W S, hV m c W S, hC m c W S, hw m c W S, hb m c W S, hW m c W S, hB m c W S]
  refine (Cert.GmlpBwdRefIdeal.Stage.out138 W (tile t) (y 0) (y 1)).symm.trans (congrArg (o138 W) ?_)
  blk_ext [idx t]

/-- The gradient on the second half. -/
theorem final8 (fin : ∀ t j d, Cert.Gmlp.av (rV W (at' t j)) (Cert.GmlpBwdRefIdeal.Stage.gr W t j) d ≠ ⊤
      ∧ Cert.Gmlp.av (rV W (at' t j)) (Cert.GmlpBwdRefIdeal.Stage.gr W t j) d ≠ ⊥) :
    (dats m 0 c).arrAt 8 (cfgs 0).N = o140 W := by
  refine (dats m 0 c).arrAt_eq_of_covers 8 _ (by decide +kernel) fun t hf y => ?_
  blk_simp
  rw [after0_8, out8 m c t]
  refine (congrArg (new8 m c t) (eq_ix2 y)).trans ((p63 (bU m c t) (bV m c t) (bC m c t) (bw m c t) (bW m c t) (y 0) (y 1)).trans ?_)
  rw [hU m c W S, hV m c W S, hC m c W S, hw m c W S, hW m c W S]
  refine (Cert.GmlpBwdRefIdeal.Stage.out140 W (tile t) (y 0) (y 1) (fin (tile t) (y 0))).symm.trans (congrArg (o140 W) ?_)
  blk_ext [idx t]

/-- The gradient of the norm scale: the tiles' parts added up. -/
theorem final9 : (dats m 0 c).arrAt 9 (cfgs 0).N = o141 W := by
  refine (dats m 0 c).arrAt_eq_of_covers 9 _ (by decide +kernel) fun t hf y => ?_
  blk_simp
  rw [after0_9, Pipeline.eq_sum_fin_of_reset_step_apply_of_flush (fun n h => (outsAt0 m c n h).2.2.1) 32 (fun _ => (0 : EReal)) (part9 m c)
    (fun t h j => out9_A m c t h j) (fun t h j => out9_B m c t h j) t ((flush0_9 t).mp hf) _, zero_add]
  have hy : y = ix2 (0 : Fin 1) (y 1) := (eq_ix2 y).trans (congrArg (fun a : Fin 1 => ix2 a (y 1)) (Subsingleton.elim (α := Fin 1) (y 0) 0))
  refine Eq.trans ?_ (congrArg (o141 W) (?_ : ix2 (0 : Fin 1) (y 1) = _))
  · refine Eq.trans (Finset.sum_congr (M := EReal) rfl fun s _ => ?_) (Cert.GmlpBwdRefIdeal.Stage.out141 W (y 1)).symm
    have e : ∀ h, tile ⟨32 * (t.val / 32) + s.val, h⟩ = s := fun h => Fin.ext (by
      have := (idx t).2.2.2.2.2.2.2.2.2.2.2.2.2
      show 32 * (t.val / 32) + s.val = s.val
      omega)
    refine (congrArg (part9 m c _) hy).trans ((p59 (bU m c _) (bV m c _) (bC m c _) (bW m c _) (y 1)).trans ?_)
    rw [hU m c W S, hV m c W S, hC m c W S, hW m c W S, e]
  · blk_ext [idx t]

/-- The gradient of the norm shift. -/
theorem final10 : (dats m 0 c).arrAt 10 (cfgs 0).N = o142 W := by
  refine (dats m 0 c).arrAt_eq_of_covers 10 _ (by decide +kernel) fun t hf y => ?_
  blk_simp
  rw [after0_10, Pipeline.eq_sum_fin_of_reset_step_apply_of_flush (fun n h => (outsAt0 m c n h).2.2.2.1) 32 (fun _ => (0 : EReal)) (part10 m c)
    (fun t h j => out10_A m c t h j) (fun t h j => out10_B m c t h j) t ((flush0_10 t).mp hf) _, zero_add]
  have hy : y = ix2 (0 : Fin 1) (y 1) := (eq_ix2 y).trans (congrArg (fun a : Fin 1 => ix2 a (y 1)) (Subsingleton.elim (α := Fin 1) (y 0) 0))
  refine Eq.trans ?_ (congrArg (o142 W) (?_ : ix2 (0 : Fin 1) (y 1) = _))
  · refine Eq.trans (Finset.sum_congr (M := EReal) rfl fun s _ => ?_) (Cert.GmlpBwdRefIdeal.Stage.out142 W (y 1)).symm
    have e : ∀ h, tile ⟨32 * (t.val / 32) + s.val, h⟩ = s := fun h => Fin.ext (by
      have := (idx t).2.2.2.2.2.2.2.2.2.2.2.2.2
      show 32 * (t.val / 32) + s.val = s.val
      omega)
    refine (congrArg (part10 m c _) hy).trans ((p58 (bU m c _) (bC m c _) (bW m c _) (y 1)).trans ?_)
    rw [hU m c W S, hC m c W S, hW m c W S, e]
  · blk_ext [idx t]

/-- The gradient of the mixing weights. -/
theorem final11 : (dats m 0 c).arrAt 11 (cfgs 0).N = o143 W := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 32 (fun _ => (0 : EReal)) (part11 m c)
    (fun t h j => out11_A m c t h j) (fun t h j => out11_B m c t h j) t ((flush0_11 t).mp hf) _, zero_add]
  have hy : y = ix2 (y 0) (y 1) := eq_ix2 y
  refine Eq.trans ?_ (congrArg (o143 W) (?_ : ix2 (y 0) (y 1) = _))
  · refine Eq.trans (Finset.sum_congr (M := EReal) rfl fun s _ => ?_) (Cert.GmlpBwdRefIdeal.Stage.out143 W (y 0) (y 1)).symm
    have e : ∀ h, tile ⟨32 * (t.val / 32) + s.val, h⟩ = s := fun h => Fin.ext (by
      have := (idx t).2.2.2.2.2.2.2.2.2.2.2.2.2
      show 32 * (t.val / 32) + s.val = s.val
      omega)
    refine (congrArg (part11 m c _) hy).trans ((p57 (bU m c _) (bV m c _) (bC m c _) (bw m c _) (bb m c _) (y 0) (y 1)).trans ?_)
    rw [hU m c W S, hV m c W S, hC m c W S, hw m c W S, hb m c W S, e]
  · blk_ext [idx t]

/-- The gradient of the mixing bias. -/
theorem final12 : (dats m 0 c).arrAt 12 (cfgs 0).N = o73 W := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 32 (fun _ => (0 : EReal)) (part12 m c)
    (fun t h j => out12_A m c t h j) (fun t h j => out12_B m c t h j) t ((flush0_12 t).mp hf) _, zero_add]
  have hy : y = ix2 (y 0) (y 1) := eq_ix2 y
  refine Eq.trans ?_ (congrArg (o73 W) (?_ : ix2 (y 0) (y 1) = _))
  · refine Eq.trans (Finset.sum_congr (M := EReal) rfl fun s _ => ?_) (Cert.GmlpBwdRefIdeal.Stage.out73 W (y 0) (y 1)).symm
    have e : ∀ h, tile ⟨32 * (t.val / 32) + s.val, h⟩ = s := fun h => Fin.ext (by
      have := (idx t).2.2.2.2.2.2.2.2.2.2.2.2.2
      show 32 * (t.val / 32) + s.val = s.val
      omega)
    refine (congrArg (part12 m c _) hy).trans ((p56 (bU m c _) (bC m c _) (y 0) (y 1)).trans ?_)
    rw [hU m c W S, hC m c W S, e]
  · blk_ext [idx t]

end Cert.GmlpBwdIdeal.Value

end
-- ==== Proof.Ff2Dx.lean ====
/-
  The gradient of the feed-forward hidden layer: the kernel `ff2_dx`, a tiled product `dy · Wᵀ` whose epilogue
  multiplies by the derivative of the squared rectifier, computes the cotangent of the pre-activation.
-/
module

public import proofs.«01_k».proof.Defs
public import proofs.«01_k».proof.Proof.Gen.Ff2Dx.Frame
public import proofs.«01_k».proof.Proof.Gen.Ff2DxIdeal.Frame
public import proofs.«01_k».proof.Proof.Gen.Ff2DxIdeal.Value
public import proofs.«01_k».proof.Proof.Gen.Ff2DxRefIdeal.Run
public import Idealize.ShloMosaic.Lib.Pipeline.ValueKit
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Ff2DxIdeal.Value

open Cert.Ff2DxIdeal Cert.Ff2DxIdeal.Gen

variable (m : (ℓ : Loc nD τ sig) → Buf (Elt Ideal) ℓ)

/-- The reference's result over the argument arrays. -/
abbrev REF (D : FVec Ideal S4096x2048 .f32) (W : FVec Ideal S8192x2048 .f32) (U : FVec Ideal S4096x8192 .f32) :
    FVec Ideal S4096x8192 .bf16 :=
  truncf .bf16 (select (cmpf .ogt U (broadcastInDim Cert.Ff2DxRefIdeal.S4096x8192 ![] Cert.Ff2DxRefIdeal.Gen.bcast_S_S4096x8192 (constant Cert.Ff2DxRefIdeal.S_ .f32 0x00000000#32)))
    (mulf (Host.dotGeneral Cert.Ff2DxRefIdeal.dot_S4096x2048_S8192x2048_S4096x8192_1_1_0_0_n_n none D W)
      (mulf (broadcastInDim Cert.Ff2DxRefIdeal.S4096x8192 ![] Cert.Ff2DxRefIdeal.Gen.bcast_S_S4096x8192 (constant Cert.Ff2DxRefIdeal.S_ .f32 0x40000000#32))
        (maximumf U (broadcastInDim Cert.Ff2DxRefIdeal.S4096x8192 ![] Cert.Ff2DxRefIdeal.Gen.bcast_S_S4096x8192 (constant Cert.Ff2DxRefIdeal.S_ .f32 0x00000000#32)))))
    (broadcastInDim Cert.Ff2DxRefIdeal.S4096x8192 ![] Cert.Ff2DxRefIdeal.Gen.bcast_S_S4096x8192 (constant Cert.Ff2DxRefIdeal.S_ .f32 0x00000000#32)))
    Cert.Ff2DxRefIdeal.Gen.bitsLt_bf16_f32

/-- The derivative of the squared rectifier: the epilogue's product is the guarded one. -/
theorem relu2_grad (s u k : EReal) : s * k * max u 0 = if 0 < u then s * (k * max u 0) else 0 := by
  split_ifs with h
  · rw [mul_assoc]
  · rw [max_eq_right (not_lt.mp h), mul_zero]

/-- The blocks each grid point reads and writes. -/
theorem idx : ∀ t : Fin cfg0.N, win0_0.index t = ![t.val / 8, 0] ∧ win0_1.index t = ![t.val % 8, 0, 0, 0]
    ∧ win0_2.index t = ![t.val / 8, t.val % 8] ∧ win0_3.index t = ![t.val / 8, t.val % 8] ∧ t.val / 8 < 4 :=
  (by decide +kernel : ∀ t : Fin grid0.N, _)

theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  rw [← relu2_grad]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Ff2DxIdeal.Value

end
-- ==== Proof.Ff2Dw.lean ====
/-
  The weight gradient of the second feed-forward product: the kernel `ff2_dw`, `aᵀ · dy` accumulated over two row blocks and
  laid out in slots.
-/
module

public import proofs.«01_k».proof.Defs
public import proofs.«01_k».proof.Proof.Gen.Ff2Dw.Frame
public import proofs.«01_k».proof.Proof.Gen.Ff2DwIdeal.Frame
public import proofs.«01_k».proof.Proof.Gen.Ff2DwIdeal.Value
public import proofs.«01_k».proof.Proof.Gen.Ff2DwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Ff2DwIdeal.Value

open Cert.Ff2DwIdeal Cert.Ff2DwIdeal.Gen

variable (m : (ℓ : Loc nD τ sig) → Buf (Elt Ideal) ℓ)

/-- The reference's result over the argument arrays. -/
abbrev REF (A : FVec Ideal S4096x8192 .f32) (B : FVec Ideal S4096x2048 .f32) : FVec Ideal S2x4x1024x2048 .bf16 :=
  transpose Cert.Ff2DwRefIdeal.S2x4x1024x2048 [1, 0, 2, 3] (shapeCast Cert.Ff2DwRefIdeal.S4x2x1024x2048 (truncf .bf16 (transpose Cert.Ff2DwRefIdeal.S8192x2048 [1, 0]
    (Host.dotGeneral Cert.Ff2DwRefIdeal.dot_S4096x2048_S4096x8192_S2048x8192_0_0_1_1_n_n none B A) Cert.Ff2DwRefIdeal.Gen.transposes_S2048x8192_S8192x2048_1_0) Cert.Ff2DwRefIdeal.Gen.bitsLt_bf16_f32) Cert.Ff2DwRefIdeal.Gen.shapeCasts_S8192x2048_S4x2x1024x2048) Cert.Ff2DwRefIdeal.Gen.transposes_S4x2x1024x2048_S2x4x1024x2048_1_0_2_3

/-- The blocks each grid point reads and writes. -/
theorem idx : ∀ t : Fin cfg0.N, win0_0.index t = ![t.val % 2, t.val / 4] ∧ win0_1.index t = ![t.val % 2, t.val / 2 % 2]
    ∧ win0_2.index t = ![t.val / 4 % 2, t.val / 4 / 2, 0, t.val / 2 % 2] ∧ t.val / 4 < 8 :=
  (by decide +kernel : ∀ t : Fin grid0.N, _)

/-- The block product that starts the accumulator. -/
theorem init_apply (x0 : Vec Ideal S2048x1024 .bf16) (x1 : Vec Ideal S2048x1024 .bf16) (j) :
    k0_pay2 (F := Ideal) x0 x1 j = 0 + ∑ k : Fin 2048, x0 (ix2 k (j 0)) * x1 (ix2 k (j 1)) := by
  rw [zero_add]
  pointwise [k0_pay2, k0_pay1]

/-- The block product added to the accumulator. -/
theorem step_apply (x0 : Vec Ideal S2048x1024 .bf16) (x1 : Vec Ideal S2048x1024 .bf16) (acc : Vec Ideal S1024x1024 .f32) (j) :
    k0_pay3 (F := Ideal) x0 x1 acc j = acc j + ∑ k : Fin 2048, x0 (ix2 k (j 0)) * x1 (ix2 k (j 1)) := by
  pointwise [k0_pay3, k0_pay1]

/-- A scratch buffer read back is what was stored in it. -/
theorem read_scratch (h : (Memref.whole cc0_scratch0).IsWhole) (X : Vec Ideal S1024x1024 .f32) (j : S1024x1024.Idx) :
    View.read (Elt Ideal) (View.whole cc0_scratch0) (h.unread X) j = X j :=
  congrFun (read_unread_whole cc0_scratch0 h X) j

/-- The block products of one grid point, by entries. -/
abbrev term (c : Dev nD) (t : Fin cfg0.N) (j : S1024x1024.Idx) : EReal :=
  let x0 : Vec Ideal S2048x1024 .bf16 := iblk m c 0 t
  let x1 : Vec Ideal S2048x1024 .bf16 := iblk m c 1 t
  ∑ k : Fin 2048, x0 (ix2 k (j 0)) * x1 (ix2 k (j 1))

/-- The accumulator at the last point of a run of 2 is the sum of the run's products. -/
theorem acc_eq (c : Dev nD) (t : Fin cfg0.N) (hl : t.val % 2 = 1) (j : S1024x1024.Idx) :
    (outsAt0 m c t.val t.isLt).2 j = ∑ s : Fin 2, term m c ⟨2 * (t.val / 2) + s, Pipeline.run_point_lt_of_flush t hl s⟩ j := by
  rw [Pipeline.eq_sum_fin_of_reset_step_apply_of_flush (fun n h => (outsAt0 m c n h).2) 2 (fun _ => (0 : EReal)) (term m c)
    (fun t h j => by rw [outsAt0_A m c t h (by omega) (by omega)]; frame_out; rw [init_apply])
    (fun t h j => by
      rw [outsAt0_B m c t h (by omega) (by omega)]; frame_out; rw [step_apply, read_scratch]) t hl j, zero_add]

/-- The accumulator cast to the result's block. -/
theorem cast_apply (acc : Vec Ideal S1024x1024 .f32) (j) : k0_pay4 (F := Ideal) acc j = acc (ix2 (j 2) (j 3)) := by
  pointwise [k0_pay4]

/-- The reference's entries. -/
theorem href (A B j) : REF A B j = ∑ l : Fin 4096, A (ix2 l ⟨(j 1).val * 2048 + (j 0).val * 1024 + (j 2).val, by have h0 : (j 0).val < 2 := (j 0).isLt; have h1 : (j 1).val < 4 := (j 1).isLt; have h2 : (j 2).val < 1024 := (j 2).isLt; omega⟩) * B (ix2 l (j 3)) := by
  pointwise [REF]
  refine Finset.sum_congr rfl fun l _ => ?_
  rw [mul_comm]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2]
  have e : ∀ z, (outsAt0 m c t.val t.isLt).1 z = k0_pay4 (outsAt0 m c t.val t.isLt).2 z := by
    intro z; rw [outsAt0_B m c t (by omega) (by omega) hl]; frame_out
  rw [e, cast_apply]
  rw [acc_eq m c t hl, href]
  refine Fin.sum_mul_add_congr fun s k hl' => ?_
  have hs := Pipeline.run_point_lt_of_flush t hl s
  blk_point [iblk, V, idx t, idx ⟨_, hs⟩]

end Cert.Ff2DwIdeal.Value

end
-- ==== Proof.Ff1Dx.lean ====
/-
  The gradient of the feed-forward input: the kernel `ff1_dx`, a product `du · Wᵀ` accumulated over eight column blocks of the
  hidden layer, whose weight lies in eight slots.
-/
module

public import proofs.«01_k».proof.Defs
public import proofs.«01_k».proof.Proof.Gen.Ff1Dx.Frame
public import proofs.«01_k».proof.Proof.Gen.Ff1DxIdeal.Frame
public import proofs.«01_k».proof.Proof.Gen.Ff1DxIdeal.Value
public import proofs.«01_k».proof.Proof.Gen.Ff1DxRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Ff1DxIdeal.Value

open Cert.Ff1DxIdeal Cert.Ff1DxIdeal.Gen

variable (m : (ℓ : Loc nD τ sig) → Buf (Elt Ideal) ℓ)

/-- The reference's result over the argument arrays. -/
abbrev REF (A : FVec Ideal S4096x8192 .f32) (B : FVec Ideal S2048x8192 .f32) : FVec Ideal S4096x2048 .f32 :=
  Host.dotGeneral Cert.Ff1DxRefIdeal.dot_S4096x8192_S2048x8192_S4096x2048_1_1_0_0_n_n none A B

/-- The blocks each grid point reads and writes. -/
theorem idx : ∀ t : Fin cfg0.N, win0_0.index t = ![t.val / 16, t.val % 8] ∧ win0_1.index t = ![t.val % 8, 0, t.val / 8 % 2, 0]
    ∧ win0_2.index t = ![t.val / 16, t.val / 8 % 2] ∧ t.val / 16 < 4 :=
  (by decide +kernel : ∀ t : Fin grid0.N, _)

/-- The block product that starts the accumulator. -/
theorem init_apply (x0 : Vec Ideal S1024x1024 .bf16) (x1 : Vec Ideal S1x1x1024x1024 .bf16) (j) :
    k0_pay2 (F := Ideal) x0 x1 j = 0 + ∑ k : Fin 1024, x0 (ix2 (j 0) k) * x1 (ix4 0 0 (j 1) k) := by
  rw [zero_add]
  pointwise [k0_pay2, k0_pay1]

/-- The block product added to the accumulator. -/
theorem step_apply (x0 : Vec Ideal S1024x1024 .bf16) (x1 : Vec Ideal S1x1x1024x1024 .bf16) (acc : Vec Ideal S1024x1024 .f32) (j) :
    k0_pay3 (F := Ideal) x0 x1 acc j = acc j + ∑ k : Fin 1024, x0 (ix2 (j 0) k) * x1 (ix4 0 0 (j 1) k) := by
  pointwise [k0_pay3, k0_pay1]

/-- A scratch buffer read back is what was stored in it. -/
theorem read_scratch (h : (Memref.whole cc0_scratch0).IsWhole) (X : Vec Ideal S1024x1024 .f32) (j : S1024x1024.Idx) :
    View.read (Elt Ideal) (View.whole cc0_scratch0) (h.unread X) j = X j :=
  congrFun (read_unread_whole cc0_scratch0 h X) j

/-- The block products of one grid point, by entries. -/
abbrev term (c : Dev nD) (t : Fin cfg0.N) (j : S1024x1024.Idx) : EReal :=
  let x0 : Vec Ideal S1024x1024 .bf16 := iblk m c 0 t
  let x1 : Vec Ideal S1x1x1024x1024 .bf16 := iblk m c 1 t
  ∑ k : Fin 1024, x0 (ix2 (j 0) k) * x1 (ix4 0 0 (j 1) k)

/-- The accumulator at the last point of a run of 8 is the sum of the run's products. -/
theorem acc_eq (c : Dev nD) (t : Fin cfg0.N) (hl : t.val % 8 = 7) (j : S1024x1024.Idx) :
    (outsAt0 m c t.val t.isLt).2 j = ∑ s : Fin 8, term m c ⟨8 * (t.val / 8) + s, Pipeline.run_point_lt_of_flush t hl s⟩ j := by
  rw [Pipeline.eq_sum_fin_of_reset_step_apply_of_flush (fun n h => (outsAt0 m c n h).2) 8 (fun _ => (0 : EReal)) (term m c)
    (fun t h j => by rw [outsAt0_A m c t h (by omega) (by omega)]; frame_out; rw [init_apply])
    (fun t h j => by
      by_cases h7 : t.val % 8 = 7
      · rw [outsAt0_C m c t h (by omega) h7]; frame_out; rw [step_apply, read_scratch]
      · rw [outsAt0_B m c t h (by omega) h7]; frame_out; rw [step_apply, read_scratch]) t hl j, zero_add]

/-- The reference's entries. -/
theorem href (A B j) : REF A B j = ∑ l : Fin 8192, A (ix2 (j 0) l) * B (ix2 (j 1) l) := by
  pointwise [REF]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2]
  have e : (outsAt0 m c t.val t.isLt).1 = (outsAt0 m c t.val t.isLt).2 := by
    rw [outsAt0_C m c t (by omega) (by omega) hl]; frame_out
  rw [e]
  rw [acc_eq m c t hl, href]
  refine Fin.sum_mul_add_congr fun s k hl' => ?_
  have hs := Pipeline.run_point_lt_of_flush t hl s
  blk_point [iblk, V, idx t, idx ⟨_, hs⟩]

end Cert.Ff1DxIdeal.Value

end
-- ==== Proof.Ff1Dw.lean ====
/-
  The weight gradient of the first feed-forward product: the kernel `ff1_dw`, `hᵀ · du` accumulated over two row blocks and
  laid out in slots.
-/
module

public import proofs.«01_k».proof.Defs
public import proofs.«01_k».proof.Proof.Gen.Ff1Dw.Frame
public import proofs.«01_k».proof.Proof.Gen.Ff1DwIdeal.Frame
public import proofs.«01_k».proof.Proof.Gen.Ff1DwIdeal.Value
public import proofs.«01_k».proof.Proof.Gen.Ff1DwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Ff1DwIdeal.Value

open Cert.Ff1DwIdeal Cert.Ff1DwIdeal.Gen

variable (m : (ℓ : Loc nD τ sig) → Buf (Elt Ideal) ℓ)

/-- The reference's result over the argument arrays. -/
abbrev REF (A : FVec Ideal S4096x2048 .f32) (B : FVec Ideal S4096x8192 .f32) : FVec Ideal S2x4x2048x1024 .bf16 :=
  transpose Cert.Ff1DwRefIdeal.S2x4x2048x1024 [2, 1, 0, 3] (shapeCast Cert.Ff1DwRefIdeal.S2048x4x2x1024 (truncf .bf16 (transpose Cert.Ff1DwRefIdeal.S2048x8192 [1, 0]
    (Host.dotGeneral Cert.Ff1DwRefIdeal.dot_S4096x8192_S4096x2048_S8192x2048_0_0_1_1_n_n none B A) Cert.Ff1DwRefIdeal.Gen.transposes_S8192x2048_S2048x8192_1_0) Cert.Ff1DwRefIdeal.Gen.bitsLt_bf16_f32) Cert.Ff1DwRefIdeal.Gen.shapeCasts_S2048x8192_S2048x4x2x1024) Cert.Ff1DwRefIdeal.Gen.transposes_S2048x4x2x1024_S2x4x2048x1024_2_1_0_3

/-- The blocks each grid point reads and writes. -/
theorem idx : ∀ t : Fin cfg0.N, win0_0.index t = ![t.val % 2, t.val / 16] ∧ win0_1.index t = ![t.val % 2, t.val / 2 % 8]
    ∧ win0_2.index t = ![t.val / 2 % 8 % 2, t.val / 2 % 8 / 2, t.val / 16, 0] ∧ t.val / 16 < 2 :=
  (by decide +kernel : ∀ t : Fin grid0.N, _)

/-- The block product that starts the accumulator. -/
theorem init_apply (x0 : Vec Ideal S2048x1024 .bf16) (x1 : Vec Ideal S2048x1024 .bf16) (j) :
    k0_pay2 (F := Ideal) x0 x1 j = 0 + ∑ k : Fin 2048, x0 (ix2 k (j 0)) * x1 (ix2 k (j 1)) := by
  rw [zero_add]
  pointwise [k0_pay2, k0_pay1]

/-- The block product added to the accumulator. -/
theorem step_apply (x0 : Vec Ideal S2048x1024 .bf16) (x1 : Vec Ideal S2048x1024 .bf16) (acc : Vec Ideal S1024x1024 .f32) (j) :
    k0_pay3 (F := Ideal) x0 x1 acc j = acc j + ∑ k : Fin 2048, x0 (ix2 k (j 0)) * x1 (ix2 k (j 1)) := by
  pointwise [k0_pay3, k0_pay1]

/-- A scratch buffer read back is what was stored in it. -/
theorem read_scratch (h : (Memref.whole cc0_scratch0).IsWhole) (X : Vec Ideal S1024x1024 .f32) (j : S1024x1024.Idx) :
    View.read (Elt Ideal) (View.whole cc0_scratch0) (h.unread X) j = X j :=
  congrFun (read_unread_whole cc0_scratch0 h X) j

/-- The block products of one grid point, by entries. -/
abbrev term (c : Dev nD) (t : Fin cfg0.N) (j : S1024x1024.Idx) : EReal :=
  let x0 : Vec Ideal S2048x1024 .bf16 := iblk m c 0 t
  let x1 : Vec Ideal S2048x1024 .bf16 := iblk m c 1 t
  ∑ k : Fin 2048, x0 (ix2 k (j 0)) * x1 (ix2 k (j 1))

/-- The accumulator at the last point of a run of 2 is the sum of the run's products. -/
theorem acc_eq (c : Dev nD) (t : Fin cfg0.N) (hl : t.val % 2 = 1) (j : S1024x1024.Idx) :
    (outsAt0 m c t.val t.isLt).2 j = ∑ s : Fin 2, term m c ⟨2 * (t.val / 2) + s, Pipeline.run_point_lt_of_flush t hl s⟩ j := by
  rw [Pipeline.eq_sum_fin_of_reset_step_apply_of_flush (fun n h => (outsAt0 m c n h).2) 2 (fun _ => (0 : EReal)) (term m c)
    (fun t h j => by rw [outsAt0_A m c t h (by omega) (by omega)]; frame_out; rw [init_apply])
    (fun t h j => by
      rw [outsAt0_B m c t h (by omega) (by omega)]; frame_out; rw [step_apply, read_scratch]) t hl j, zero_add]

/-- The accumulator cast to the result's block. -/
theorem cast_apply (acc : Vec Ideal S1024x1024 .f32) (j) : k0_pay4 (F := Ideal) acc j = acc (ix2 (j 2) (j 3)) := by
  pointwise [k0_pay4]

/-- The reference's entries. -/
theorem href (A B j) : REF A B j = ∑ l : Fin 4096, A (ix2 l (j 2)) * B (ix2 l ⟨(j 1).val * 2048 + (j 0).val * 1024 + (j 3).val, by have h0 : (j 0).val < 2 := (j 0).isLt; have h1 : (j 1).val < 4 := (j 1).isLt; have h2 : (j 3).val < 1024 := (j 3).isLt; omega⟩) := by
  pointwise [REF]
  refine Finset.sum_congr rfl fun l _ => ?_
  rw [mul_comm]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2]
  have e : ∀ z, (outsAt0 m c t.val t.isLt).1 z = k0_pay4 (outsAt0 m c t.val t.isLt).2 z := by
    intro z; rw [outsAt0_B m c t (by omega) (by omega) hl]; frame_out
  rw [e, cast_apply]
  rw [acc_eq m c t hl, href]
  refine Fin.sum_mul_add_congr fun s k hl' => ?_
  have hs := Pipeline.run_point_lt_of_flush t hl s
  blk_point [iblk, V, idx t, idx ⟨_, hs⟩]

end Cert.Ff1DwIdeal.Value

end
-- ==== Proof.OutProjDx.lean ====
/-
  The gradient of the output projection's input: the kernel `out_proj_dx`, a tiled product `dy · Wᵀ`.
-/
module

public import proofs.«01_k».proof.Defs
public import proofs.«01_k».proof.Proof.Gen.OutProjDx.Frame
public import proofs.«01_k».proof.Proof.Gen.OutProjDxIdeal.Frame
public import proofs.«01_k».proof.Proof.Gen.OutProjDxIdeal.Value
public import proofs.«01_k».proof.Proof.Gen.OutProjDxRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.OutProjDxIdeal.Value

open Cert.OutProjDxIdeal Cert.OutProjDxIdeal.Gen

variable (m : (ℓ : Loc nD τ sig) → Buf (Elt Ideal) ℓ)

/-- The reference's result over the argument arrays. -/
abbrev REF (A : FVec Ideal S4096x2048 .f32) (B : FVec Ideal S2048x2048 .f32) : FVec Ideal S4096x2048 .f32 :=
  Host.dotGeneral Cert.OutProjDxRefIdeal.dot_S4096x2048_S2048x2048_S4096x2048_1_1_0_0_n_n none A B

/-- The blocks each grid point reads and writes. -/
theorem idx : ∀ t : Fin cfg0.N, win0_0.index t = ![t.val / 2, 0] ∧ win0_1.index t = ![t.val % 2, 0]
    ∧ win0_2.index t = ![t.val / 2, t.val % 2] ∧ t.val / 2 < 4 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjDxIdeal.Value

end
-- ==== Proof.OutProjDw.lean ====
/-
  The weight gradient of the output projection: the kernel `out_proj_dw`, `mixᵀ · dy` accumulated over two row blocks and
  laid out in slots.
-/
module

public import proofs.«01_k».proof.Defs
public import proofs.«01_k».proof.Proof.Gen.OutProjDw.Frame
public import proofs.«01_k».proof.Proof.Gen.OutProjDwIdeal.Frame
public import proofs.«01_k».proof.Proof.Gen.OutProjDwIdeal.Value
public import proofs.«01_k».proof.Proof.Gen.OutProjDwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.OutProjDwIdeal.Value

open Cert.OutProjDwIdeal Cert.OutProjDwIdeal.Gen

variable (m : (ℓ : Loc nD τ sig) → Buf (Elt Ideal) ℓ)

/-- The reference's result over the argument arrays. -/
abbrev REF (A : FVec Ideal S4096x2048 .f32) (B : FVec Ideal S4096x2048 .f32) : FVec Ideal S2x4x256x2048 .bf16 :=
  transpose Cert.OutProjDwRefIdeal.S2x4x256x2048 [1, 0, 2, 3] (shapeCast Cert.OutProjDwRefIdeal.S4x2x256x2048 (truncf .bf16 (transpose Cert.OutProjDwRefIdeal.S2048x2048 [1, 0]
    (Host.dotGeneral Cert.OutProjDwRefIdeal.dot_S4096x2048_S4096x2048_S2048x2048_0_0_1_1_n_n none B A) Cert.OutProjDwRefIdeal.Gen.transposes_S2048x2048_S2048x2048_1_0) Cert.OutProjDwRefIdeal.Gen.bitsLt_bf16_f32) Cert.OutProjDwRefIdeal.Gen.shapeCasts_S2048x2048_S4x2x256x2048) Cert.OutProjDwRefIdeal.Gen.transposes_S4x2x256x2048_S2x4x256x2048_1_0_2_3

/-- The blocks each grid point reads and writes. -/
theorem idx : ∀ t : Fin cfg0.N, win0_0.index t = ![t.val % 2, t.val / 4] ∧ win0_1.index t = ![t.val % 2, t.val / 2 % 2]
    ∧ win0_2.index t = ![t.val / 4 % 2, t.val / 4 / 2, 0, t.val / 2 % 2] ∧ t.val / 4 < 8 :=
  (by decide +kernel : ∀ t : Fin grid0.N, _)

/-- The block product that starts the accumulator. -/
theorem init_apply (x0 : Vec Ideal S2048x256 .bf16) (x1 : Vec Ideal S2048x1024 .bf16) (j) :
    k0_pay2 (F := Ideal) x0 x1 j = 0 + ∑ k : Fin 2048, x0 (ix2 k (j 0)) * x1 (ix2 k (j 1)) := by
  rw [zero_add]
  pointwise [k0_pay2, k0_pay1]

/-- The block product added to the accumulator. -/
theorem step_apply (x0 : Vec Ideal S2048x256 .bf16) (x1 : Vec Ideal S2048x1024 .bf16) (acc : Vec Ideal S256x1024 .f32) (j) :
    k0_pay3 (F := Ideal) x0 x1 acc j = acc j + ∑ k : Fin 2048, x0 (ix2 k (j 0)) * x1 (ix2 k (j 1)) := by
  pointwise [k0_pay3, k0_pay1]

/-- A scratch buffer read back is what was stored in it. -/
theorem read_scratch (h : (Memref.whole cc0_scratch0).IsWhole) (X : Vec Ideal S256x1024 .f32) (j : S256x1024.Idx) :
    View.read (Elt Ideal) (View.whole cc0_scratch0) (h.unread X) j = X j :=
  congrFun (read_unread_whole cc0_scratch0 h X) j

/-- The block products of one grid point, by entries. -/
abbrev term (c : Dev nD) (t : Fin cfg0.N) (j : S256x1024.Idx) : EReal :=
  let x0 : Vec Ideal S2048x256 .bf16 := iblk m c 0 t
  let x1 : Vec Ideal S2048x1024 .bf16 := iblk m c 1 t
  ∑ k : Fin 2048, x0 (ix2 k (j 0)) * x1 (ix2 k (j 1))

/-- The accumulator at the last point of a run of 2 is the sum of the run's products. -/
theorem acc_eq (c : Dev nD) (t : Fin cfg0.N) (hl : t.val % 2 = 1) (j : S256x1024.Idx) :
    (outsAt0 m c t.val t.isLt).2 j = ∑ s : Fin 2, term m c ⟨2 * (t.val / 2) + s, Pipeline.run_point_lt_of_flush t hl s⟩ j := by
  rw [Pipeline.eq_sum_fin_of_reset_step_apply_of_flush (fun n h => (outsAt0 m c n h).2) 2 (fun _ => (0 : EReal)) (term m c)
    (fun t h j => by rw [outsAt0_A m c t h (by omega) (by omega)]; frame_out; rw [init_apply])
    (fun t h j => by
      rw [outsAt0_B m c t h (by omega) (by omega)]; frame_out; rw [step_apply, read_scratch]) t hl j, zero_add]

/-- The accumulator cast to the result's block. -/
theorem cast_apply (acc : Vec Ideal S256x1024 .f32) (j) : k0_pay4 (F := Ideal) acc j = acc (ix2 (j 2) (j 3)) := by
  pointwise [k0_pay4]

/-- The reference's entries. -/
theorem href (A B j) : REF A B j = ∑ l : Fin 4096, A (ix2 l ⟨(j 1).val * 512 + (j 0).val * 256 + (j 2).val, by have h0 : (j 0).val < 2 := (j 0).isLt; have h1 : (j 1).val < 4 := (j 1).isLt; have h2 : (j 2).val < 256 := (j 2).isLt; omega⟩) * B (ix2 l (j 3)) := by
  pointwise [REF]
  refine Finset.sum_congr rfl fun l _ => ?_
  rw [mul_comm]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2]
  have e : ∀ z, (outsAt0 m c t.val t.isLt).1 z = k0_pay4 (outsAt0 m c t.val t.isLt).2 z := by
    intro z; rw [outsAt0_B m c t (by omega) (by omega) hl]; frame_out
  rw [e, cast_apply]
  rw [acc_eq m c t hl, href]
  refine Fin.sum_mul_add_congr fun s k hl' => ?_
  have hs := Pipeline.run_point_lt_of_flush t hl s
  blk_point [iblk, V, idx t, idx ⟨_, hs⟩]

end Cert.OutProjDwIdeal.Value

end
-- ==== Proof.ProjDw.lean ====
/-
  The weight gradient of the input projection: the kernel `proj_dw`, the transposed gradient `dprojᵀ · h` accumulated over two row
  blocks.
-/
module

public import proofs.«01_k».proof.Defs
public import proofs.«01_k».proof.Proof.Gen.ProjDw.Frame
public import proofs.«01_k».proof.Proof.Gen.ProjDwIdeal.Frame
public import proofs.«01_k».proof.Proof.Gen.ProjDwIdeal.Value
public import proofs.«01_k».proof.Proof.Gen.ProjDwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.ProjDwIdeal.Value

open Cert.ProjDwIdeal Cert.ProjDwIdeal.Gen

variable (m : (ℓ : Loc nD τ sig) → Buf (Elt Ideal) ℓ)

/-- The reference's result over the argument arrays. -/
abbrev REF (A : FVec Ideal S4096x6272 .f32) (B : FVec Ideal S4096x2048 .f32) : FVec Ideal S6272x2048 .bf16 :=
  truncf .bf16 (transpose Cert.ProjDwRefIdeal.S6272x2048 [1, 0] (transpose Cert.ProjDwRefIdeal.S2048x6272 [1, 0]
    (Host.dotGeneral Cert.ProjDwRefIdeal.dot_S4096x6272_S4096x2048_S6272x2048_0_0_1_1_n_n none A B) Cert.ProjDwRefIdeal.Gen.transposes_S6272x2048_S2048x6272_1_0)
    Cert.ProjDwRefIdeal.Gen.transposes_S2048x6272_S6272x2048_1_0) Cert.ProjDwRefIdeal.Gen.bitsLt_bf16_f32

/-- The blocks each grid point reads and writes. -/
theorem idx : ∀ t : Fin cfg0.N, win0_0.index t = ![t.val % 2, t.val / 4] ∧ win0_1.index t = ![t.val % 2, t.val / 2 % 2]
    ∧ win0_2.index t = ![t.val / 4, t.val / 2 % 2] ∧ t.val / 4 < 7 :=
  (by decide +kernel : ∀ t : Fin grid0.N, _)

/-- The block product that starts the accumulator. -/
theorem init_apply (x0 : Vec Ideal S2048x896 .bf16) (x1 : Vec Ideal S2048x1024 .bf16) (j) :
    k0_pay2 (F := Ideal) x0 x1 j = 0 + ∑ k : Fin 2048, x0 (ix2 k (j 0)) * x1 (ix2 k (j 1)) := by
  rw [zero_add]
  pointwise [k0_pay2, k0_pay1]

/-- The block product added to the accumulator. -/
theorem step_apply (x0 : Vec Ideal S2048x896 .bf16) (x1 : Vec Ideal S2048x1024 .bf16) (acc : Vec Ideal S896x1024 .f32) (j) :
    k0_pay3 (F := Ideal) x0 x1 acc j = acc j + ∑ k : Fin 2048, x0 (ix2 k (j 0)) * x1 (ix2 k (j 1)) := by
  pointwise [k0_pay3, k0_pay1]

/-- A scratch buffer read back is what was stored in it. -/
theorem read_scratch (h : (Memref.whole cc0_scratch0).IsWhole) (X : Vec Ideal S896x1024 .f32) (j : S896x1024.Idx) :
    View.read (Elt Ideal) (View.whole cc0_scratch0) (h.unread X) j = X j :=
  congrFun (read_unread_whole cc0_scratch0 h X) j

/-- The block products of one grid point, by entries. -/
abbrev term (c : Dev nD) (t : Fin cfg0.N) (j : S896x1024.Idx) : EReal :=
  let x0 : Vec Ideal S2048x896 .bf16 := iblk m c 0 t
  let x1 : Vec Ideal S2048x1024 .bf16 := iblk m c 1 t
  ∑ k : Fin 2048, x0 (ix2 k (j 0)) * x1 (ix2 k (j 1))

/-- The accumulator at the last point of a run of 2 is the sum of the run's products. -/
theorem acc_eq (c : Dev nD) (t : Fin cfg0.N) (hl : t.val % 2 = 1) (j : S896x1024.Idx) :
    (outsAt0 m c t.val t.isLt).2 j = ∑ s : Fin 2, term m c ⟨2 * (t.val / 2) + s, Pipeline.run_point_lt_of_flush t hl s⟩ j := by
  rw [Pipeline.eq_sum_fin_of_reset_step_apply_of_flush (fun n h => (outsAt0 m c n h).2) 2 (fun _ => (0 : EReal)) (term m c)
    (fun t h j => by rw [outsAt0_A m c t h (by omega) (by omega)]; frame_out; rw [init_apply])
    (fun t h j => by
      rw [outsAt0_B m c t h (by omega) (by omega)]; frame_out; rw [step_apply, read_scratch]) t hl j, zero_add]

/-- The accumulator cast to the result's block. -/
theorem cast_apply (acc : Vec Ideal S896x1024 .f32) (j) : k0_pay4 (F := Ideal) acc j = acc j := by
  pointwise [k0_pay4]

/-- The reference's entries. -/
theorem href (A B j) : REF A B j = ∑ l : Fin 4096, A (ix2 l (j 0)) * B (ix2 l (j 1)) := by
  pointwise [REF]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2]
  have e : ∀ z, (outsAt0 m c t.val t.isLt).1 z = k0_pay4 (outsAt0 m c t.val t.isLt).2 z := by
    intro z; rw [outsAt0_B m c t (by omega) (by omega) hl]; frame_out
  rw [e, cast_apply]
  rw [acc_eq m c t hl, href]
  refine Fin.sum_mul_add_congr fun s k hl' => ?_
  have hs := Pipeline.run_point_lt_of_flush t hl s
  blk_point [iblk, V, idx t, idx ⟨_, hs⟩]

end Cert.ProjDwIdeal.Value

end
-- ==== Proof.ProjDx.lean ====
/-
  The gradient of the input projection's input: the kernel `proj_dx`, a tiled product `dy · Wᵀ`.
-/
module

public import proofs.«01_k».proof.Defs
public import proofs.«01_k».proof.Proof.Gen.ProjDx.Frame
public import proofs.«01_k».proof.Proof.Gen.ProjDxIdeal.Frame
public import proofs.«01_k».proof.Proof.Gen.ProjDxIdeal.Value
public import proofs.«01_k».proof.Proof.Gen.ProjDxRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.ProjDxIdeal.Value

open Cert.ProjDxIdeal Cert.ProjDxIdeal.Gen

variable (m : (ℓ : Loc nD τ sig) → Buf (Elt Ideal) ℓ)

/-- The reference's result over the argument arrays. -/
abbrev REF (A : FVec Ideal S4096x6272 .f32) (B : FVec Ideal S2048x6272 .f32) : FVec Ideal S4096x2048 .f32 :=
  Host.dotGeneral Cert.ProjDxRefIdeal.dot_S4096x6272_S2048x6272_S4096x2048_1_1_0_0_n_n none A B

/-- The blocks each grid point reads and writes. -/
theorem idx : ∀ t : Fin cfg0.N, win0_0.index t = ![t.val / 4, 0] ∧ win0_1.index t = ![t.val % 4, 0]
    ∧ win0_2.index t = ![t.val / 4, t.val % 4] ∧ t.val / 4 < 8 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjDxIdeal.Value

end
-- ==== Proof.SumWIn.lean ====
/-
  The sum of the received parts of the input weights' gradient: the kernel `sum_w_in`.
-/
module

public import proofs.«01_k».proof.Defs
public import proofs.«01_k».proof.Proof.Gen.SumWIn.Frame
public import proofs.«01_k».proof.Proof.Gen.SumWInIdeal.Frame
public import proofs.«01_k».proof.Proof.Gen.SumWInIdeal.Value
public import proofs.«01_k».proof.Proof.Gen.SumWInRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.SumWInRefIdeal.Value

open Cert.SumWInRefIdeal Cert.SumWInRefIdeal.Gen

/-- The sum of the four parts. -/
abbrev out (A : FVec Ideal S4x769x2048 .bf16) : FVec Ideal S769x2048 .f32 := fun y => ∑ k : Fin 4, A (ix3 k (y 0) (y 1))

/-- The reference's run, its result entry by entry. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = out (m ((c.tc : Thread nD τ).loc main_arg0))
      ∧ r.2.mem ((c.tc : Thread nD τ).loc main_arg0) = m ((c.tc : Thread nD τ).loc main_arg0) :=
  (θ_run defs _ _).mono (fun r h c => ⟨(h c).1.trans (by
      funext y
      idx_vars y
      pointwise [out]), (h c).2⟩) (run m ρ)

end Cert.SumWInRefIdeal.Value

namespace Cert.SumWInIdeal.Value

open Cert.SumWInIdeal Cert.SumWInIdeal.Gen
open Cert.SumWInRefIdeal.Value (out)

variable (m : (ℓ : Loc nD τ sig) → Buf (Elt Ideal) ℓ) (c : Dev nD)

/-- The blocks each grid point reads and writes. -/
theorem idx : ∀ t : Fin cfg0.N, win0_0.index t = ![0, 0, t.val] ∧ win0_1.index t = ![0, t.val] ∧ t.val < 4 :=
  (by decide +kernel : ∀ t : Fin grid0.N, _)

/-- The blocks and the argument, by their types. -/
abbrev bA (t : Fin cfg0.N) : FVec Ideal S4x769x512 .bf16 := iblk m c 0 t
abbrev aA : FVec Ideal S4x769x2048 .bf16 := m ((c : Thread nD τ).loc main_arg0)
/-- Column `d` of a point's tile. -/
abbrev at' (t : Fin cfg0.N) (d : Fin 512) : Fin 2048 := ⟨t.val * 512 + d.val, by have := (idx t).2.2; omega⟩

theorem hA (t : Fin cfg0.N) (k : Fin 4) (i : Fin 769) (d : Fin 512) : bA m c t (ix3 k i d) = aA m c (ix3 k i (at' t d)) := by
  blk_point [bA, iblk, V, idx t]

/-- The four parts of a block. -/
theorem l0 (A : Vec Ideal S4x769x512 .bf16) (z : Fin 1) (i : Fin 769) (d : Fin 512) :
    (View.ld A r0_0 : FVec Ideal S1x769x512 .bf16) (ix3 z i d) = A (ix3 0 i d) := by
  exact congrArg A (by
    funext a
    refine Fin.ext ((Rect.idx_unit_val _ _ _ _ a).trans ?_)
    fin_cases a
    all_goals simp)
theorem l1 (A : Vec Ideal S4x769x512 .bf16) (z : Fin 1) (i : Fin 769) (d : Fin 512) :
    (View.ld A r0_1 : FVec Ideal S1x769x512 .bf16) (ix3 z i d) = A (ix3 1 i d) := by
  exact congrArg A (by
    funext a
    refine Fin.ext ((Rect.idx_unit_val _ _ _ _ a).trans ?_)
    fin_cases a
    all_goals simp)
theorem l2 (A : Vec Ideal S4x769x512 .bf16) (z : Fin 1) (i : Fin 769) (d : Fin 512) :
    (View.ld A r0_2 : FVec Ideal S1x769x512 .bf16) (ix3 z i d) = A (ix3 2 i d) := by
  exact congrArg A (by
    funext a
    refine Fin.ext ((Rect.idx_unit_val _ _ _ _ a).trans ?_)
    fin_cases a
    all_goals simp)
theorem l3 (A : Vec Ideal S4x769x512 .bf16) (z : Fin 1) (i : Fin 769) (d : Fin 512) :
    (View.ld A r0_3 : FVec Ideal S1x769x512 .bf16) (ix3 z i d) = A (ix3 3 i d) := by
  exact congrArg A (by
    funext a
    refine Fin.ext ((Rect.idx_unit_val _ _ _ _ a).trans ?_)
    fin_cases a
    all_goals simp)

theorem point (t : Fin cfg0.N) (i : Fin 769) (d : Fin 512) :
    k0_pay1 (F := Ideal) (View.ld (bA m c t) r0_0) (View.ld (bA m c t) r0_1) (View.ld (bA m c t) r0_2) (View.ld (bA m c t) r0_3) (ix2 i d)
      = out (aA m c) (ix2 i (at' t d)) := by
  pointwise [k0_pay1, out, Fin.sum_univ_four, l0, l1, l2, l3, hA]

theorem point' (t : Fin cfg0.N) (y : S769x512.Idx) :
    k0_pay1 (F := Ideal) (View.ld (bA m c t) r0_0) (View.ld (bA m c t) r0_1) (View.ld (bA m c t) r0_2) (View.ld (bA m c t) r0_3) y
      = out (aA m c) (ix2 (y 0) (at' t (y 1))) := by
  rw [eq_ix2 y]
  exact point m c t (y 0) (y 1)

/-- The result array after the run. -/
theorem final : (dats m 0 c).arrAt 1 (cfgs 0).N = out (m ((c : Thread nD τ).loc main_arg0)) := by
  refine (dats m 0 c).arrAt_eq_of_covers 1 _ (by decide +kernel) fun t _ y => ?_
  blk_simp
  rw [after0_1]; frame_out
  refine (point' m c t y).trans (congrArg (out (aA m c)) (?_ : ix2 (y 0) (at' t (y 1)) = _))
  blk_ext [idx t]

end Cert.SumWInIdeal.Value

end
-- ==== Proof.Ff1.lean ====
/-
  The first feed-forward product with its squared rectifier: the kernel `ff1`, whose weight lies in eight slots.
-/
module

public import proofs.«01_k».proof.Defs
public import proofs.«01_k».proof.Proof.Gen.Ff1.Frame
public import proofs.«01_k».proof.Proof.Gen.Ff1Ideal.Frame
public import proofs.«01_k».proof.Proof.Gen.Ff1Ideal.Value
public import proofs.«01_k».proof.Proof.Gen.Ff1RefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Ff1Ideal.Value

open Cert.Ff1Ideal Cert.Ff1Ideal.Gen

variable (m : (ℓ : Loc nD τ sig) → Buf (Elt Ideal) ℓ)

/-- The reference's result over the argument arrays. -/
abbrev REF (A : FVec Ideal S4096x2048 .f32) (B : FVec Ideal S2048x8192 .f32) : FVec Ideal S4096x8192 .f32 :=
  Host.dotGeneral Cert.Ff1RefIdeal.dot_S4096x2048_S2048x8192_S4096x8192_1_0_0_1_n_n none A B

/-- The blocks each grid point reads and writes. -/
theorem idx : ∀ t : Fin cfg0.N, win0_0.index t = ![t.val / 8, 0] ∧ win0_1.index t = ![t.val % 8, 0, 0, 0]
    ∧ win0_2.index t = ![t.val / 8, t.val % 8] ∧ win0_3.index t = ![t.val / 8, t.val % 8] ∧ t.val / 8 < 4 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference's second result. -/
abbrev REF2 (A : FVec Ideal S4096x2048 .f32) (B : FVec Ideal S2048x8192 .f32) : FVec Ideal S4096x8192 .bf16 :=
  truncf .bf16 (mulf (maximumf (REF A B) (broadcastInDim Cert.Ff1RefIdeal.S4096x8192 ![] Cert.Ff1RefIdeal.Gen.bcast_S_S4096x8192 (constant Cert.Ff1RefIdeal.S_ .f32 0x00000000#32)))
    (maximumf (REF A B) (broadcastInDim Cert.Ff1RefIdeal.S4096x8192 ![] Cert.Ff1RefIdeal.Gen.bcast_S_S4096x8192 (constant Cert.Ff1RefIdeal.S_ .f32 0x00000000#32)))) Cert.Ff1RefIdeal.Gen.bitsLt_bf16_f32

theorem point2 (c : Dev nD) (t : Fin cfg0.N) (y) : k0_pay2 (iblk m c 0 t) (iblk m c 1 t) y
    = REF2 (m ((c : Thread nD τ).loc main_arg0)) (m ((c : Thread nD τ).loc main_arg1)) (((cfg0.win 3).blk t).view.emb y) := by
  pointwise [k0_pay2, k0_pay1, REF2, REF]
  blk_point [iblk, V, idx t]

/-- The second result array after the run. -/
theorem final2 (c : Dev nD) : (dats m 0 c).arrAt 3 (cfgs 0).N
    = REF2 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point2 m c t y

end Cert.Ff1Ideal.Value

end
-- ==== Proof.Ff2.lean ====
/-
  The second feed-forward product: the kernel `ff2`, accumulated over eight row blocks of the weight, which lies in eight slots.
-/
module

public import proofs.«01_k».proof.Defs
public import proofs.«01_k».proof.Proof.Gen.Ff2.Frame
public import proofs.«01_k».proof.Proof.Gen.Ff2Ideal.Frame
public import proofs.«01_k».proof.Proof.Gen.Ff2Ideal.Value
public import proofs.«01_k».proof.Proof.Gen.Ff2RefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Ff2Ideal.Value

open Cert.Ff2Ideal Cert.Ff2Ideal.Gen

variable (m : (ℓ : Loc nD τ sig) → Buf (Elt Ideal) ℓ)

/-- The reference's result over the argument arrays. -/
abbrev REF (A : FVec Ideal S4096x8192 .f32) (B : FVec Ideal S8192x2048 .f32) : FVec Ideal S4096x2048 .f32 :=
  Host.dotGeneral Cert.Ff2RefIdeal.dot_S4096x8192_S8192x2048_S4096x2048_1_0_0_1_n_n none A B

/-- The blocks each grid point reads and writes. -/
theorem idx : ∀ t : Fin cfg0.N, win0_0.index t = ![t.val / 16, t.val % 8] ∧ win0_1.index t = ![t.val % 8, 0, 0, t.val / 8 % 2]
    ∧ win0_2.index t = ![t.val / 16, t.val / 8 % 2] ∧ t.val / 16 < 4 :=
  (by decide +kernel : ∀ t : Fin grid0.N, _)

/-- The block product that starts the accumulator. -/
theorem init_apply (x0 : Vec Ideal S1024x1024 .bf16) (x1 : Vec Ideal S1x1x1024x1024 .bf16) (j) :
    k0_pay2 (F := Ideal) x0 x1 j = 0 + ∑ k : Fin 1024, x0 (ix2 (j 0) k) * x1 (ix4 0 0 k (j 1)) := by
  rw [zero_add]
  pointwise [k0_pay2, k0_pay1]

/-- The block product added to the accumulator. -/
theorem step_apply (x0 : Vec Ideal S1024x1024 .bf16) (x1 : Vec Ideal S1x1x1024x1024 .bf16) (acc : Vec Ideal S1024x1024 .f32) (j) :
    k0_pay3 (F := Ideal) x0 x1 acc j = acc j + ∑ k : Fin 1024, x0 (ix2 (j 0) k) * x1 (ix4 0 0 k (j 1)) := by
  pointwise [k0_pay3, k0_pay1]

/-- A scratch buffer read back is what was stored in it. -/
theorem read_scratch (h : (Memref.whole cc0_scratch0).IsWhole) (X : Vec Ideal S1024x1024 .f32) (j : S1024x1024.Idx) :
    View.read (Elt Ideal) (View.whole cc0_scratch0) (h.unread X) j = X j :=
  congrFun (read_unread_whole cc0_scratch0 h X) j

/-- The block products of one grid point, by entries. -/
abbrev term (c : Dev nD) (t : Fin cfg0.N) (j : S1024x1024.Idx) : EReal :=
  let x0 : Vec Ideal S1024x1024 .bf16 := iblk m c 0 t
  let x1 : Vec Ideal S1x1x1024x1024 .bf16 := iblk m c 1 t
  ∑ k : Fin 1024, x0 (ix2 (j 0) k) * x1 (ix4 0 0 k (j 1))

/-- The accumulator at the last point of a run of 8 is the sum of the run's products. -/
theorem acc_eq (c : Dev nD) (t : Fin cfg0.N) (hl : t.val % 8 = 7) (j : S1024x1024.Idx) :
    (outsAt0 m c t.val t.isLt).2 j = ∑ s : Fin 8, term m c ⟨8 * (t.val / 8) + s, Pipeline.run_point_lt_of_flush t hl s⟩ j := by
  rw [Pipeline.eq_sum_fin_of_reset_step_apply_of_flush (fun n h => (outsAt0 m c n h).2) 8 (fun _ => (0 : EReal)) (term m c)
    (fun t h j => by rw [outsAt0_A m c t h (by omega) (by omega)]; frame_out; rw [init_apply])
    (fun t h j => by
      by_cases h7 : t.val % 8 = 7
      · rw [outsAt0_C m c t h (by omega) h7]; frame_out; rw [step_apply, read_scratch]
      · rw [outsAt0_B m c t h (by omega) h7]; frame_out; rw [step_apply, read_scratch]) t hl j, zero_add]

/-- The reference's entries. -/
theorem href (A B j) : REF A B j = ∑ l : Fin 8192, A (ix2 (j 0) l) * B (ix2 l (j 1)) := by
  pointwise [REF]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2]
  have e : (outsAt0 m c t.val t.isLt).1 = (outsAt0 m c t.val t.isLt).2 := by
    rw [outsAt0_C m c t (by omega) (by omega) hl]; frame_out
  rw [e]
  rw [acc_eq m c t hl, href]
  refine Fin.sum_mul_add_congr fun s k hl' => ?_
  have hs := Pipeline.run_point_lt_of_flush t hl s
  blk_point [iblk, V, idx t, idx ⟨_, hs⟩]

end Cert.Ff2Ideal.Value

end
-- ==== Proof.OutProj.lean ====
/-
  The output projection: the kernel `out_proj`, a tiled product.
-/
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The reference's result over the argument arrays. -/
abbrev REF (A : FVec Ideal S4096x2048 .f32) (B : FVec Ideal S2048x2048 .f32) : FVec Ideal S4096x2048 .f32 :=
  Host.dotGeneral Cert.OutProjRefIdeal.dot_S4096x2048_S2048x2048_S4096x2048_1_0_0_1_n_n none A B

/-- The blocks each grid point reads and writes. -/
theorem idx : ∀ t : Fin cfg0.N, win0_0.index t = ![t.val / 2, 0] ∧ win0_1.index t = ![0, t.val % 2]
    ∧ win0_2.index t = ![t.val / 2, t.val % 2] ∧ t.val / 2 < 4 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjIdeal.Value

end
-- ==== Proof.Proj.lean ====
/-
  The input projection: the kernel `proj`, a tiled product.
-/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The reference's result over the argument arrays. -/
abbrev REF (A : FVec Ideal S4096x2048 .f32) (B : FVec Ideal S2048x6272 .f32) : FVec Ideal S4096x6272 .f32 :=
  Host.dotGeneral Cert.ProjRefIdeal.dot_S4096x2048_S2048x6272_S4096x6272_1_0_0_1_n_n none A B

/-- The blocks each grid point reads and writes. -/
theorem idx : ∀ t : Fin cfg0.N, win0_0.index t = ![t.val / 7, 0] ∧ win0_1.index t = ![0, t.val % 7]
    ∧ win0_2.index t = ![t.val / 7, t.val % 7] ∧ t.val / 7 < 4 :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjIdeal.Value

end
-- ==== Proof.RmsSpec.lean ====
/-
  One row of the root-mean-square norm and of its gradient, as functions of the row.
-/
module

public import Idealize.ShloMosaic.Lib.Pointwise
public import Idealize.ShloMosaic.PureOps.Ideal

@[expose] public section

noncomputable section

open Idealize.ShloMosaic

namespace Cert.Rms

/-- The width of a row, as the float constant it is divided by. -/
abbrev wid : EReal := Ideal.ofBits .f32 0x45000000#32

variable (x w g : Fin 2048 → EReal)

/-- The mean of the squares and the small constant. -/
def ms : EReal := Ideal.div (∑ k, x k * x k) wid + Ideal.ofBits .f32 0x358637BD#32
/-- The factor the row is scaled by. -/
def rr : EReal := Ideal.rsqrt (ms x)
/-- The normed row. -/
def nrm (d : Fin 2048) : EReal := x d * rr x
/-- The derivative of the factor by the mean. -/
def rp : EReal := Ideal.ofBits .f32 0xBF000000#32 * Ideal.div (rr x) (ms x)
/-- What flows back to every square. -/
def bk : EReal := Ideal.div ((∑ k, x k * (g k * w k)) * rp x) wid
/-- The gradient of the row. -/
def dx (d : Fin 2048) : EReal := g d * w d * rr x + x d * bk x w g + bk x w g * x d

/-- A sum over the rows is the sum over sixteen tiles of the sums over their rows. -/
theorem tiles (f : Fin 4096 → EReal) : ∑ r, f r = ∑ s : Fin 16, ∑ i : Fin 256, f ⟨s.val * 256 + i.val, by omega⟩ :=
  Fin.sum_univ_tiles 16 256 rfl f

end Cert.Rms

end
-- ==== Proof.NormBwdPay.lean ====
module

public import proofs.«01_k».proof.Proof.RmsSpec
public import proofs.«01_k».proof.Proof.Gen.NormBwdIdeal.Skeleton
public import proofs.«01_k».proof.Proof.Gen.NormBwdRefIdeal.Run

@[expose] public section

set_option maxRecDepth 16384

noncomputable section

open Idealize.ShloMosaic Idealize.ShloMosaic.TcCoe Idealize.SL.Sem

namespace Cert.NormBwdIdeal.Pay

open Cert.NormBwdIdeal Cert.NormBwdIdeal.Gen Cert.Rms

/-- A row of a block. -/
abbrev row (X : FVec Ideal S256x2048 .f32) (i : Fin 256) : Fin 2048 → EReal := fun d => X (ix2 i d)
/-- The one row of a one-row block. -/
abbrev one (X : FVec Ideal S1x2048 .f32) : Fin 2048 → EReal := fun d => X (ix2 0 d)

variable (x : FVec Ideal S256x2048 .f32) (w : FVec Ideal S1x2048 .f32) (g h : FVec Ideal S256x2048 .f32)

theorem p3 (i : Fin 256) (z : Fin 1) : k0_pay3 (F := Ideal) x (ix2 i z) = ms (row x i) := by
  pointwise [k0_pay3, ms]
theorem p4 (i : Fin 256) (z : Fin 1) : k0_pay4 (F := Ideal) x (ix2 i z) = rr (row x i) := by
  pointwise [k0_pay4, p3, rr]
theorem p5 (z : Fin 1) (d : Fin 2048) : k0_pay5 (F := Ideal) x g (ix2 z d) = ∑ i, nrm (row x i) d * row g i d := by
  pointwise [k0_pay5, p4, nrm]
theorem p6 (i : Fin 256) (d : Fin 2048) : k0_pay6 (F := Ideal) x w g h (ix2 i d)
    = dx (row x i) (one w) (row g i) d + row h i d := by
  pointwise [k0_pay6, p3, p4, dx, bk, rp, Fin.sum_univ_one]
theorem p1 (j : S1x2048.Idx) : k0_pay1 (F := Ideal) j = 0 := by
  pointwise [k0_pay1]
theorem p2 (a b : FVec Ideal S1x2048 .f32) (j : S1x2048.Idx) : k0_pay2 (F := Ideal) a b j = b j + a j := by
  pointwise [k0_pay2]

end Cert.NormBwdIdeal.Pay

namespace Cert.NormBwdRefIdeal.Value

open Cert.NormBwdRefIdeal Cert.NormBwdRefIdeal.Gen Cert.Rms

/-- A row of a matrix. -/
abbrev row (X : FVec Ideal S4096x2048 .f32) (i : Fin 4096) : Fin 2048 → EReal := fun d => X (ix2 i d)
/-- The entries of a vector. -/
abbrev vec (X : FVec Ideal S2048 .f32) : Fin 2048 → EReal := fun d => X (ix1 d)
/-- The gradient of the rows. -/
abbrev gx (x : FVec Ideal S4096x2048 .f32) (w : FVec Ideal S2048 .f32) (g h : FVec Ideal S4096x2048 .f32) : FVec Ideal S4096x2048 .f32 :=
  fun y => dx (row x (y 0)) (vec w) (row g (y 0)) (y 1) + row h (y 0) (y 1)
/-- The gradient of the scale. -/
abbrev gw (x g : FVec Ideal S4096x2048 .f32) : FVec Ideal S1x2048 .f32 := fun y => ∑ r, nrm (row x r) (y 1) * row g r (y 1)

/-- The reference's run, its results by rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = gx (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v37) = gw (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      funext y
      idx_vars y
      pointwise [gx, dx, bk, rp, rr, ms, wid, vec, row, Fin.sum_univ_one]
      ac_rfl), (h c).2.1.trans (by
      funext y
      idx_vars y
      pointwise [gw, nrm, rr, ms, wid, row, Fin.sum_univ_one]), (h c).2.2⟩) (run m ρ)

end Cert.NormBwdRefIdeal.Value

end
-- ==== Proof.NormBwd.lean ====
/-
  The gradient of the root-mean-square norm, added to the gradient beside it: the kernel `norm_bwd` goes over sixteen
  tiles of 256 rows and adds the tiles' parts of the scale's gradient.
-/
module

public import proofs.«01_k».proof.Proof.NormBwdPay
public import proofs.«01_k».proof.Proof.Gen.NormBwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormBwdIdeal.Value

open Cert.NormBwdIdeal Cert.NormBwdIdeal.Gen Cert.NormBwdIdeal.Pay
open Cert.NormBwdRefIdeal.Value (gx gw)

variable (m : (ℓ : Loc nD τ sig) → Buf (Elt Ideal) ℓ) (c : Dev nD)

/-- The blocks each grid point reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ t.val < 16 :=
  (by decide +kernel : ∀ t : Fin grid0.N, _)

/-- The blocks of one grid point, by their types. -/
abbrev bX (t : Fin cfg0.N) : FVec Ideal S256x2048 .f32 := iblk m c 0 t
abbrev bW (t : Fin cfg0.N) : FVec Ideal S1x2048 .f32 := iblk m c 1 t
abbrev bG (t : Fin cfg0.N) : FVec Ideal S256x2048 .f32 := iblk m c 2 t
abbrev bH (t : Fin cfg0.N) : FVec Ideal S256x2048 .f32 := iblk m c 3 t
/-- The argument arrays, by their types. -/
abbrev aX : FVec Ideal S4096x2048 .f32 := m ((c : Thread nD τ).loc main_arg0)
abbrev aW : FVec Ideal S2048 .f32 := m ((c : Thread nD τ).loc main_arg1)
abbrev aG : FVec Ideal S4096x2048 .f32 := m ((c : Thread nD τ).loc main_arg2)
abbrev aH : FVec Ideal S4096x2048 .f32 := m ((c : Thread nD τ).loc main_arg3)

/-- Row `i` of a point's tile. -/
abbrev at' (t : Fin cfg0.N) (i : Fin 256) : Fin 4096 := ⟨t.val * 256 + i.val, by have := (idx t).2.2.2.2.2.2; omega⟩

theorem hX (t : Fin cfg0.N) (i : Fin 256) : row (bX m c t) i = fun d => aX m c (ix2 (at' t i) d) := by
  funext d
  rw [row]
  blk_point [bX, iblk, V, idx t]
theorem hW (t : Fin cfg0.N) : one (bW m c t) = fun d => aW m c (ix1 d) := by
  funext d
  rw [one]
  blk_point [bW, iblk, V, idx t]
theorem hG (t : Fin cfg0.N) (i : Fin 256) : row (bG m c t) i = fun d => aG m c (ix2 (at' t i) d) := by
  funext d
  rw [row]
  blk_point [bG, iblk, V, idx t]
theorem hH (t : Fin cfg0.N) (i : Fin 256) : row (bH m c t) i = fun d => aH m c (ix2 (at' t i) d) := by
  funext d
  rw [row]
  blk_point [bH, iblk, V, idx t]

theorem out4 (t : Fin cfg0.N) : (outsAt0 m c t.val t.isLt).1 = k0_pay6 (F := Ideal) (bX m c t) (bW m c t) (bG m c t) (bH m c t) := by
  by_cases h : t.val % 16 = 0
  · rw [outsAt0_A m c t h]; frame_out
  · rw [outsAt0_B m c t h]; frame_out
theorem out5_A (t : Fin cfg0.N) (h : t.val % 16 = 0) (j) : (outsAt0 m c t.val t.isLt).2 j = 0 + k0_pay5 (F := Ideal) (bX m c t) (bG m c t) j := by
  rw [outsAt0_A m c t h]; frame_out
  rw [p2, p1]
theorem out5_B (t : Fin cfg0.N) (h : ¬t.val % 16 = 0) (j) : (outsAt0 m c t.val t.isLt).2 j
    = (outsAt0 m c (t.val - 1) (Nat.lt_of_le_of_lt (Nat.sub_le _ _) t.isLt)).2 j + k0_pay5 (F := Ideal) (bX m c t) (bG m c t) j := by
  rw [outsAt0_B m c t h]; frame_out
  rw [p2]

theorem point4 (t : Fin cfg0.N) (i : Fin 256) (d : Fin 2048) : k0_pay6 (F := Ideal) (bX m c t) (bW m c t) (bG m c t) (bH m c t) (ix2 i d)
    = gx (aX m c) (aW m c) (aG m c) (aH m c) (ix2 (at' t i) d) := by
  rw [p6, hX, hW, hG, hH]
  rfl
theorem point5 (t : Fin cfg0.N) (d : Fin 2048) : k0_pay5 (F := Ideal) (bX m c t) (bG m c t) (ix2 0 d)
    = ∑ i, Cert.Rms.nrm (fun d => aX m c (ix2 (at' t i) d)) d * aG m c (ix2 (at' t i) d) := by
  rw [p5]
  exact Finset.sum_congr rfl fun i _ => by rw [hX, hG]

/-- The gradient of the rows. -/
theorem final4 : (dats m 0 c).arrAt 4 (cfgs 0).N = gx (aX m c) (aW m c) (aG m c) (aH m c) := by
  refine (dats m 0 c).arrAt_eq_of_covers 4 _ (by decide +kernel) fun t hf y => ?_
  blk_simp
  rw [after0_4, out4 m c t]
  refine (congrArg (k0_pay6 (F := Ideal) (bX m c t) (bW m c t) (bG m c t) (bH m c t)) (eq_ix2 y)).trans ((point4 m c t (y 0) (y 1)).trans ?_)
  refine congrArg (gx (aX m c) (aW m c) (aG m c) (aH m c)) (?_ : ix2 (at' t (y 0)) (y 1) = _)
  blk_ext [idx t]

/-- The gradient of the scale: the tiles' parts added up. -/
theorem final5 : (dats m 0 c).arrAt 5 (cfgs 0).N = gw (aX m c) (aG m c) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => (0 : EReal))
    (fun t => k0_pay5 (F := Ideal) (bX m c t) (bG m c t))
    (fun t h j => out5_A m c t h j) (fun t h j => out5_B m c t h j) t ((flush0_5 t).mp hf) _, zero_add]
  have hy : y = ix2 (0 : Fin 1) (y 1) := (eq_ix2 y).trans (congrArg (fun a : Fin 1 => ix2 a (y 1)) (Subsingleton.elim (α := Fin 1) (y 0) 0))
  refine Eq.trans ?_ (congrArg (gw (aX m c) (aG m c)) (?_ : ix2 (0 : Fin 1) (y 1) = _))
  · refine Eq.trans (Finset.sum_congr (M := EReal) rfl fun s _ => ?_) (Cert.Rms.tiles _).symm
    refine (congrArg (k0_pay5 (F := Ideal) (bX m c _) (bG m c _)) hy).trans ((point5 m c _ (y 1)).trans ?_)
    refine Finset.sum_congr (M := EReal) rfl fun i _ => ?_
    have e : ∀ h, at' ⟨16 * (t.val / 16) + s.val, h⟩ i = ⟨s.val * 256 + i.val, by omega⟩ := fun h => Fin.ext (by
      have := (idx t).2.2.2.2.2.2
      show (16 * (t.val / 16) + s.val) * 256 + i.val = s.val * 256 + i.val
      omega)
    rw [e]
    rfl
  · blk_ext [idx t]

end Cert.NormBwdIdeal.Value

end
-- ==== Proof.ResBwdPay.lean ====
module

public import proofs.«01_k».proof.Proof.RmsSpec
public import proofs.«01_k».proof.Proof.Gen.ResBwdIdeal.Skeleton
public import proofs.«01_k».proof.Proof.Gen.ResBwdRefIdeal.Run

@[expose] public section

set_option maxRecDepth 16384

noncomputable section

open Idealize.ShloMosaic Idealize.ShloMosaic.TcCoe Idealize.SL.Sem

namespace Cert.ResBwdIdeal.Pay

open Cert.ResBwdIdeal Cert.ResBwdIdeal.Gen Cert.Rms

/-- A row of a block. -/
abbrev row (X : FVec Ideal S256x2048 .f32) (i : Fin 256) : Fin 2048 → EReal := fun d => X (ix2 i d)
/-- The one row of a one-row block. -/
abbrev one (X : FVec Ideal S1x2048 .f32) : Fin 2048 → EReal := fun d => X (ix2 0 d)

variable (x : FVec Ideal S256x2048 .f32) (w : FVec Ideal S1x2048 .f32) (g : FVec Ideal S256x2048 .f32)

theorem p3 (i : Fin 256) (z : Fin 1) : k0_pay3 (F := Ideal) x (ix2 i z) = ms (row x i) := by
  pointwise [k0_pay3, ms]
theorem p4 (i : Fin 256) (z : Fin 1) : k0_pay4 (F := Ideal) x (ix2 i z) = rr (row x i) := by
  pointwise [k0_pay4, p3, rr]
theorem p5 (z : Fin 1) (d : Fin 2048) : k0_pay5 (F := Ideal) x g (ix2 z d) = ∑ i, nrm (row x i) d * row g i d := by
  pointwise [k0_pay5, p4, nrm]
theorem p6 (i : Fin 256) (d : Fin 2048) : k0_pay6 (F := Ideal) x w g (ix2 i d)
    = dx (row x i) (one w) (row g i) d := by
  pointwise [k0_pay6, p3, p4, dx, bk, rp, Fin.sum_univ_one]
theorem p1 (j : S1x2048.Idx) : k0_pay1 (F := Ideal) j = 0 := by
  pointwise [k0_pay1]
theorem p2 (a b : FVec Ideal S1x2048 .f32) (j : S1x2048.Idx) : k0_pay2 (F := Ideal) a b j = b j + a j := by
  pointwise [k0_pay2]

end Cert.ResBwdIdeal.Pay

namespace Cert.ResBwdRefIdeal.Value

open Cert.ResBwdRefIdeal Cert.ResBwdRefIdeal.Gen Cert.Rms

/-- A row of a matrix. -/
abbrev row (X : FVec Ideal S4096x2048 .f32) (i : Fin 4096) : Fin 2048 → EReal := fun d => X (ix2 i d)
/-- The entries of a vector. -/
abbrev vec (X : FVec Ideal S2048 .f32) : Fin 2048 → EReal := fun d => X (ix1 d)
/-- The gradient of the rows. -/
abbrev gx (x : FVec Ideal S4096x2048 .f32) (w : FVec Ideal S2048 .f32) (g : FVec Ideal S4096x2048 .f32) : FVec Ideal S4096x2048 .bf16 :=
  fun y => dx (row x (y 0)) (vec w) (row g (y 0)) (y 1)
/-- The gradient of the scale. -/
abbrev gw (x g : FVec Ideal S4096x2048 .f32) : FVec Ideal S1x2048 .f32 := fun y => ∑ r, nrm (row x r) (y 1) * row g r (y 1)

/-- The reference's run, its results by rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = gx (m ((c.tc : Thread nD τ).loc main_arg0)) (m ((c.tc : Thread nD τ).loc main_arg1))
          (m ((c.tc : Thread nD τ).loc main_arg2))
      ∧ r.2.mem ((c.tc : Thread nD τ).loc main_v37) = gw (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      funext y
      idx_vars y
      pointwise [gx, dx, bk, rp, rr, ms, wid, vec, row, Fin.sum_univ_one]), (h c).2.1.trans (by
      funext y
      idx_vars y
      pointwise [gw, nrm, rr, ms, wid, row, Fin.sum_univ_one]), (h c).2.2⟩) (run m ρ)

end Cert.ResBwdRefIdeal.Value

end
-- ==== Proof.ResBwd.lean ====
/-
  The gradient of the root-mean-square norm on the branch beside the residual: the kernel `res_bwd` goes over sixteen
  tiles of 256 rows and adds the tiles' parts of the scale's gradient.
-/
module

public import proofs.«01_k».proof.Proof.ResBwdPay
public import proofs.«01_k».proof.Proof.Gen.ResBwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ResBwdIdeal.Value

open Cert.ResBwdIdeal Cert.ResBwdIdeal.Gen Cert.ResBwdIdeal.Pay
open Cert.ResBwdRefIdeal.Value (gx gw)

variable (m : (ℓ : Loc nD τ sig) → Buf (Elt Ideal) ℓ) (c : Dev nD)

/-- The blocks each grid point reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ t.val < 16 :=
  (by decide +kernel : ∀ t : Fin grid0.N, _)

/-- The blocks of one grid point, by their types. -/
abbrev bX (t : Fin cfg0.N) : FVec Ideal S256x2048 .f32 := iblk m c 0 t
abbrev bW (t : Fin cfg0.N) : FVec Ideal S1x2048 .f32 := iblk m c 1 t
abbrev bG (t : Fin cfg0.N) : FVec Ideal S256x2048 .f32 := iblk m c 2 t
/-- The argument arrays, by their types. -/
abbrev aX : FVec Ideal S4096x2048 .f32 := m ((c : Thread nD τ).loc main_arg0)
abbrev aW : FVec Ideal S2048 .f32 := m ((c : Thread nD τ).loc main_arg1)
abbrev aG : FVec Ideal S4096x2048 .f32 := m ((c : Thread nD τ).loc main_arg2)

/-- Row `i` of a point's tile. -/
abbrev at' (t : Fin cfg0.N) (i : Fin 256) : Fin 4096 := ⟨t.val * 256 + i.val, by have := (idx t).2.2.2.2.2; omega⟩

theorem hX (t : Fin cfg0.N) (i : Fin 256) : row (bX m c t) i = fun d => aX m c (ix2 (at' t i) d) := by
  funext d
  rw [row]
  blk_point [bX, iblk, V, idx t]
theorem hW (t : Fin cfg0.N) : one (bW m c t) = fun d => aW m c (ix1 d) := by
  funext d
  rw [one]
  blk_point [bW, iblk, V, idx t]
theorem hG (t : Fin cfg0.N) (i : Fin 256) : row (bG m c t) i = fun d => aG m c (ix2 (at' t i) d) := by
  funext d
  rw [row]
  blk_point [bG, iblk, V, idx t]

theorem out3 (t : Fin cfg0.N) : (outsAt0 m c t.val t.isLt).1 = k0_pay6 (F := Ideal) (bX m c t) (bW m c t) (bG m c t) := by
  by_cases h : t.val % 16 = 0
  · rw [outsAt0_A m c t h]; frame_out
  · rw [outsAt0_B m c t h]; frame_out
theorem out4_A (t : Fin cfg0.N) (h : t.val % 16 = 0) (j) : (outsAt0 m c t.val t.isLt).2 j = 0 + k0_pay5 (F := Ideal) (bX m c t) (bG m c t) j := by
  rw [outsAt0_A m c t h]; frame_out
  rw [p2, p1]
theorem out4_B (t : Fin cfg0.N) (h : ¬t.val % 16 = 0) (j) : (outsAt0 m c t.val t.isLt).2 j
    = (outsAt0 m c (t.val - 1) (Nat.lt_of_le_of_lt (Nat.sub_le _ _) t.isLt)).2 j + k0_pay5 (F := Ideal) (bX m c t) (bG m c t) j := by
  rw [outsAt0_B m c t h]; frame_out
  rw [p2]

theorem point3 (t : Fin cfg0.N) (i : Fin 256) (d : Fin 2048) : k0_pay6 (F := Ideal) (bX m c t) (bW m c t) (bG m c t) (ix2 i d)
    = gx (aX m c) (aW m c) (aG m c) (ix2 (at' t i) d) := by
  rw [p6, hX, hW, hG]
  rfl
theorem point4 (t : Fin cfg0.N) (d : Fin 2048) : k0_pay5 (F := Ideal) (bX m c t) (bG m c t) (ix2 0 d)
    = ∑ i, Cert.Rms.nrm (fun d => aX m c (ix2 (at' t i) d)) d * aG m c (ix2 (at' t i) d) := by
  rw [p5]
  exact Finset.sum_congr rfl fun i _ => by rw [hX, hG]

/-- The gradient of the rows. -/
theorem final3 : (dats m 0 c).arrAt 3 (cfgs 0).N = gx (aX m c) (aW m c) (aG m c) := by
  refine (dats m 0 c).arrAt_eq_of_covers 3 _ (by decide +kernel) fun t hf y => ?_
  blk_simp
  rw [after0_3, out3 m c t]
  refine (congrArg (k0_pay6 (F := Ideal) (bX m c t) (bW m c t) (bG m c t)) (eq_ix2 y)).trans ((point3 m c t (y 0) (y 1)).trans ?_)
  refine congrArg (gx (aX m c) (aW m c) (aG m c)) (?_ : ix2 (at' t (y 0)) (y 1) = _)
  blk_ext [idx t]

/-- The gradient of the scale: the tiles' parts added up. -/
theorem final4 : (dats m 0 c).arrAt 4 (cfgs 0).N = gw (aX m c) (aG m c) := by
  refine (dats m 0 c).arrAt_eq_of_covers 4 _ (by decide +kernel) fun t hf y => ?_
  blk_simp
  rw [after0_4, Pipeline.eq_sum_fin_of_reset_step_apply_of_flush (fun n h => (outsAt0 m c n h).2) 16 (fun _ => (0 : EReal))
    (fun t => k0_pay5 (F := Ideal) (bX m c t) (bG m c t))
    (fun t h j => out4_A m c t h j) (fun t h j => out4_B m c t h j) t ((flush0_4 t).mp hf) _, zero_add]
  have hy : y = ix2 (0 : Fin 1) (y 1) := (eq_ix2 y).trans (congrArg (fun a : Fin 1 => ix2 a (y 1)) (Subsingleton.elim (α := Fin 1) (y 0) 0))
  refine Eq.trans ?_ (congrArg (gw (aX m c) (aG m c)) (?_ : ix2 (0 : Fin 1) (y 1) = _))
  · refine Eq.trans (Finset.sum_congr (M := EReal) rfl fun s _ => ?_) (Cert.Rms.tiles _).symm
    refine (congrArg (k0_pay5 (F := Ideal) (bX m c _) (bG m c _)) hy).trans ((point4 m c _ (y 1)).trans ?_)
    refine Finset.sum_congr (M := EReal) rfl fun i _ => ?_
    have e : ∀ h, at' ⟨16 * (t.val / 16) + s.val, h⟩ i = ⟨s.val * 256 + i.val, by omega⟩ := fun h => Fin.ext (by
      have := (idx t).2.2.2.2.2
      show (16 * (t.val / 16) + s.val) * 256 + i.val = s.val * 256 + i.val
      omega)
    rw [e]
    rfl
  · blk_ext [idx t]

end Cert.ResBwdIdeal.Value

end
-- ==== Proof.NormFwd.lean ====
/-
  The root-mean-square norm of every row: the kernel `norm`.
-/
module

public import proofs.«01_k».proof.Proof.RmsSpec
public import proofs.«01_k».proof.Proof.Gen.NormFwdIdeal.Value
public import proofs.«01_k».proof.Proof.Gen.NormFwdRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormFwdRefIdeal.Value

open Cert.NormFwdRefIdeal Cert.NormFwdRefIdeal.Gen Cert.Rms

/-- The normed and scaled rows. -/
abbrev out (x : FVec Ideal S4096x2048 .f32) (w : FVec Ideal S2048 .f32) : FVec Ideal S4096x2048 .bf16 :=
  fun y => nrm (fun d => x (ix2 (y 0) d)) (y 1) * w (ix1 (y 1))

/-- The reference's run, its result by rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      idx_vars y
      pointwise [out, nrm, rr, ms, wid]), (h c).2⟩) (run m ρ)

end Cert.NormFwdRefIdeal.Value

namespace Cert.NormFwdIdeal.Value

open Cert.NormFwdIdeal Cert.NormFwdIdeal.Gen Cert.Rms
open Cert.NormFwdRefIdeal.Value (out)

variable (m : (ℓ : Loc nD τ sig) → Buf (Elt Ideal) ℓ) (c : Dev nD)

theorem p1 (x : FVec Ideal S256x2048 .f32) (w : FVec Ideal S1x2048 .f32) (i : Fin 256) (d : Fin 2048) :
    k0_pay1 (F := Ideal) x w (ix2 i d) = nrm (fun d => x (ix2 i d)) d * w (ix2 0 d) := by
  pointwise [k0_pay1, nrm, rr, ms, wid]

/-- The blocks each grid point reads and writes. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The blocks of one grid point and the argument arrays, by their types. -/
abbrev bX (t : Fin cfg0.N) : FVec Ideal S256x2048 .f32 := iblk m c 0 t
abbrev bW (t : Fin cfg0.N) : FVec Ideal S1x2048 .f32 := iblk m c 1 t
abbrev aX : FVec Ideal S4096x2048 .f32 := m ((c : Thread nD τ).loc main_arg0)
abbrev aW : FVec Ideal S2048 .f32 := m ((c : Thread nD τ).loc main_arg1)

/-- Row `i` of a point's tile. -/
abbrev at' (t : Fin cfg0.N) (i : Fin 256) : Fin 4096 := ⟨t.val * 256 + i.val, by have := (idx t).2.2.2; omega⟩

theorem hX (t : Fin cfg0.N) (i : Fin 256) (d : Fin 2048) : bX m c t (ix2 i d) = aX m c (ix2 (at' t i) d) := by
  blk_point [bX, iblk, V, idx t]
theorem hW (t : Fin cfg0.N) (d : Fin 2048) : bW m c t (ix2 0 d) = aW m c (ix1 d) := by
  blk_point [bW, iblk, V, idx t]
theorem point (t : Fin cfg0.N) (i : Fin 256) (d : Fin 2048) : k0_pay1 (F := Ideal) (bX m c t) (bW m c t) (ix2 i d)
    = out (aX m c) (aW m c) (ix2 (at' t i) d) := by
  rw [p1, hW]
  simp only [hX]
  rfl

/-- The result array after the run. -/
theorem final : (dats m 0 c).arrAt 2 (cfgs 0).N = out (aX m c) (aW m c) := by
  refine (dats m 0 c).arrAt_eq_of_covers 2 _ (by decide +kernel) fun t hf y => ?_
  blk_simp
  rw [after0_2]; frame_out
  refine (congrArg (k0_pay1 (F := Ideal) (bX m c t) (bW m c t)) (eq_ix2 y)).trans ((point m c t (y 0) (y 1)).trans ?_)
  refine congrArg (out (aX m c) (aW m c)) (?_ : ix2 (at' t (y 0)) (y 1) = _)
  blk_ext [idx t]

end Cert.NormFwdIdeal.Value

end
-- ==== Proof.ResFwd.lean ====
/-
  A residual sum with the root-mean-square norm of the branch: the kernel `res`.
-/
module

public import proofs.«01_k».proof.Proof.RmsSpec
public import proofs.«01_k».proof.Proof.Gen.ResFwdIdeal.Value
public import proofs.«01_k».proof.Proof.Gen.ResFwdRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ResFwdRefIdeal.Value

open Cert.ResFwdRefIdeal Cert.ResFwdRefIdeal.Gen Cert.Rms

/-- The rows with the normed and scaled rows of the branch added. -/
abbrev out (h x : FVec Ideal S4096x2048 .f32) (w : FVec Ideal S2048 .f32) : FVec Ideal S4096x2048 .f32 :=
  fun y => h y + nrm (fun d => x (ix2 (y 0) d)) (y 1) * w (ix1 (y 1))

/-- The reference's run, its result by rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      funext y
      idx_vars y
      pointwise [out, nrm, rr, ms, wid]), (h c).2⟩) (run m ρ)

end Cert.ResFwdRefIdeal.Value

namespace Cert.ResFwdIdeal.Value

open Cert.ResFwdIdeal Cert.ResFwdIdeal.Gen Cert.Rms
open Cert.ResFwdRefIdeal.Value (out)

variable (m : (ℓ : Loc nD τ sig) → Buf (Elt Ideal) ℓ) (c : Dev nD)

theorem p1 (h x : FVec Ideal S256x2048 .f32) (w : FVec Ideal S1x2048 .f32) (i : Fin 256) (d : Fin 2048) :
    k0_pay1 (F := Ideal) h x w (ix2 i d) = h (ix2 i d) + nrm (fun d => x (ix2 i d)) d * w (ix2 0 d) := by
  pointwise [k0_pay1, nrm, rr, ms, wid]

/-- The blocks each grid point reads and writes. -/
theorem idx : ∀ t : Fin cfg0.N, win0_0.index t = ![t.val, 0] ∧ win0_1.index t = ![t.val, 0] ∧ win0_2.index t = ![0, 0] ∧ win0_3.index t = ![t.val, 0] ∧ t.val < 16 :=
  (by decide +kernel : ∀ t : Fin grid0.N, _)

/-- The blocks of one grid point and the argument arrays, by their types. -/
abbrev bH (t : Fin cfg0.N) : FVec Ideal S256x2048 .f32 := iblk m c 0 t
abbrev bX (t : Fin cfg0.N) : FVec Ideal S256x2048 .f32 := iblk m c 1 t
abbrev bW (t : Fin cfg0.N) : FVec Ideal S1x2048 .f32 := iblk m c 2 t
abbrev aH : FVec Ideal S4096x2048 .f32 := m ((c : Thread nD τ).loc main_arg0)
abbrev aX : FVec Ideal S4096x2048 .f32 := m ((c : Thread nD τ).loc main_arg1)
abbrev aW : FVec Ideal S2048 .f32 := m ((c : Thread nD τ).loc main_arg2)

/-- Row `i` of a point's tile. -/
abbrev at' (t : Fin cfg0.N) (i : Fin 256) : Fin 4096 := ⟨t.val * 256 + i.val, by have := (idx t).2.2.2.2; omega⟩

theorem hH (t : Fin cfg0.N) (i : Fin 256) (d : Fin 2048) : bH m c t (ix2 i d) = aH m c (ix2 (at' t i) d) := by
  blk_point [bH, iblk, V, idx t]
theorem hX (t : Fin cfg0.N) (i : Fin 256) (d : Fin 2048) : bX m c t (ix2 i d) = aX m c (ix2 (at' t i) d) := by
  blk_point [bX, iblk, V, idx t]
theorem hW (t : Fin cfg0.N) (d : Fin 2048) : bW m c t (ix2 0 d) = aW m c (ix1 d) := by
  blk_point [bW, iblk, V, idx t]
theorem point (t : Fin cfg0.N) (i : Fin 256) (d : Fin 2048) : k0_pay1 (F := Ideal) (bH m c t) (bX m c t) (bW m c t) (ix2 i d)
    = out (aH m c) (aX m c) (aW m c) (ix2 (at' t i) d) := by
  rw [p1, hW, hH]
  simp only [hX]
  rfl

/-- The result array after the run. -/
theorem final : (dats m 0 c).arrAt 3 (cfgs 0).N = out (aH m c) (aX m c) (aW m c) := by
  refine (dats m 0 c).arrAt_eq_of_covers 3 _ (by decide +kernel) fun t hf y => ?_
  blk_simp
  rw [after0_3]; frame_out
  refine (congrArg (k0_pay1 (F := Ideal) (bH m c t) (bX m c t) (bW m c t)) (eq_ix2 y)).trans ((point m c t (y 0) (y 1)).trans ?_)
  refine congrArg (out (aH m c) (aX m c) (aW m c)) (?_ : ix2 (at' t (y 0)) (y 1) = _)
  blk_ext [idx t]

end Cert.ResFwdIdeal.Value

end
-- ==== Proof.GmlpFwd.lean ====
/-
  The gated unit, forward: the kernel `gmlp` on tiles of 128 rows, and the reference on the whole array. Both are the row and
  tile functions of the gradient's specification.
-/
module

public import proofs.«01_k».proof.Proof.GmlpSpec
public import proofs.«01_k».proof.Proof.Gen.GmlpFwdIdeal.Value
public import proofs.«01_k».proof.Proof.Gen.GmlpFwdRefIdeal.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.GmlpFwdRefIdeal.Value

open Cert.GmlpFwdRefIdeal Cert.GmlpFwdRefIdeal.Gen Cert.Gmlp

/-- The stages of the reference: the two halves of the gated columns, the activation, the centred rows, the reciprocal roots,
    the scaled rows by tiles and heads, the masked weights and the mixed rows. -/
def hU (P : FVec Ideal S4096x6272 .f32) : FVec Ideal S1x4096x512 .f32 :=
  broadcastInDim S1x4096x512 ![1, 2] bcast_S4096x512_S1x4096x512_1_2 (extractStridedSlice S4096x512 ![0, 4096] P slices_S4096x6272_S4096x512_0_4096)
def hV (P : FVec Ideal S4096x6272 .f32) : FVec Ideal S1x4096x512 .f32 :=
  broadcastInDim S1x4096x512 ![1, 2] bcast_S4096x512_S1x4096x512_1_2 (extractStridedSlice S4096x512 ![0, 4608] P slices_S4096x6272_S4096x512_0_4608)
def hG (x : FVec Ideal S1x4096x512 .f32) : FVec Ideal S1x4096x512 .f32 :=
  mulf (mulf (broadcastInDim S1x4096x512 ![] bcast_S_S1x4096x512 (constant S_ .f32 0x3F000000#32)) x) (Host.erfc (mulf (Host.negf x) (broadcastInDim S1x4096x512 ![] bcast_S_S1x4096x512 (constant S_ .f32 0x3F3504F3#32))))
def hX (P : FVec Ideal S4096x6272 .f32) : FVec Ideal S1x4096x512 .f32 :=
  subf (hG (hV P)) (broadcastInDim S1x4096x512 ![0, 1, 2] bcast_S1x4096x1_S1x4096x512_0_1_2 (Host.divf (broadcastInDim S1x4096x1 ![0, 1] bcast_S1x4096_S1x4096x1_0_1 (Host.reduceAdd (hG (hV P)) (constant S_ .f32 0x00000000#32) reducesTo_S1x4096x512_S1x4096_d2 h_S_)) (broadcastInDim S1x4096x1 ![] bcast_S_S1x4096x1 (constant S_ .f32 0x44000000#32))))
def hR (P : FVec Ideal S4096x6272 .f32) : FVec Ideal S1x4096x1 .f32 :=
  Host.rsqrt (addf (Host.divf (broadcastInDim S1x4096x1 ![0, 1] bcast_S1x4096_S1x4096x1_0_1 (Host.reduceAdd (mulf (hX P) (hX P)) (constant S_ .f32 0x00000000#32) reducesTo_S1x4096x512_S1x4096_d2 h_S_)) (broadcastInDim S1x4096x1 ![] bcast_S_S1x4096x1 (constant S_ .f32 0x44000000#32))) (broadcastInDim S1x4096x1 ![] bcast_S_S1x4096x1 (constant S_ .f32 0x358637BD#32)))
def hN (P : FVec Ideal S4096x6272 .f32) (lw lb : FVec Ideal S512 .f32) : FVec Ideal S1x32x128x4x128 .f32 :=
  shapeCast _ (addf (mulf (mulf (hX P) (broadcastInDim S1x4096x512 ![0, 1, 2] bcast_S1x4096x1_S1x4096x512_0_1_2 (hR P))) (broadcastInDim S1x4096x512 ![0, 1, 2] bcast_S1x1x512_S1x4096x512_0_1_2 (broadcastInDim S1x1x512 ![2] bcast_S512_S1x1x512_2 lw))) (broadcastInDim S1x4096x512 ![0, 1, 2] bcast_S1x1x512_S1x4096x512_0_1_2 (broadcastInDim S1x1x512 ![2] bcast_S512_S1x1x512_2 lb))) shapeCasts_S1x4096x512_S1x32x128x4x128
def hW (W : FVec Ideal S4x128x128 .f32) : FVec Ideal S4x128x128 .f32 :=
  select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) W (broadcastInDim S4x128x128 ![] bcast_S_S4x128x128 (id (constant S_ .f32 0x00000000#32)))
def hM (P : FVec Ideal S4096x6272 .f32) (lw lb : FVec Ideal S512 .f32) (W : FVec Ideal S4x128x128 .f32) (b : FVec Ideal S4x128 .f32) : FVec Ideal S1x4096x512 .f32 :=
  shapeCast _ (addf (transpose S1x32x128x4x128 [2, 3, 1, 0, 4] (Host.dotGeneral dot_S4x128x128_S1x32x128x4x128_S4x128x1x32x128_2_2_1_014_0_3 none (hW W) (hN P lw lb)) transposes_S4x128x1x32x128_S1x32x128x4x128_2_3_1_0_4) (broadcastInDim S1x32x128x4x128 ![0, 1, 2, 3, 4] bcast_S1x1x128x4x1_S1x32x128x4x128_0_1_2_3_4 (broadcastInDim S1x1x128x4x1 ![2, 3] bcast_S128x4_S1x1x128x4x1_2_3 (transpose S128x4 [1, 0] b transposes_S4x128_S128x4_1_0)))) shapeCasts_S1x32x128x4x128_S1x4096x512

/-- The result at a row of a tile. -/
abbrev at' (t : Fin 32) (i : Fin 128) : Fin 4096 := ⟨t.val * 128 + i.val, by omega⟩
abbrev rU (P : FVec Ideal S4096x6272 .f32) (r : Fin 4096) (d : Fin 512) : EReal := P (ix2 r ⟨4096 + d.val, by omega⟩)
abbrev rV (P : FVec Ideal S4096x6272 .f32) (r : Fin 4096) (d : Fin 512) : EReal := P (ix2 r ⟨4608 + d.val, by omega⟩)
abbrev vec (x : FVec Ideal S512 .f32) (d : Fin 512) : EReal := x (ix1 d)
abbrev wts (W : FVec Ideal S4x128x128 .f32) (h : Fin 4) (i j : Fin 128) : EReal := W (ix3 h i j)
abbrev bia (b : FVec Ideal S4x128 .f32) (h : Fin 4) (i : Fin 128) : EReal := b (ix2 h i)
def res (P : FVec Ideal S4096x6272 .f32) (lw lb : FVec Ideal S512 .f32) (W : FVec Ideal S4x128x128 .f32) (b : FVec Ideal S4x128 .f32)
    (t : Fin 32) (i : Fin 128) (d : Fin 512) : EReal :=
  gel (rU P (at' t i) d) * mix (wts W) (bia b) (vec lw) (vec lb) (fun j => rV P (at' t j)) i d
/-- The result array. -/
def out (P : FVec Ideal S4096x6272 .f32) (lw lb : FVec Ideal S512 .f32) (W : FVec Ideal S4x128x128 .f32) (b : FVec Ideal S4x128 .f32) :
    FVec Ideal S4096x512 .bf16 :=
  fun y => res P lw lb W b ⟨(y 0).val / 128, Nat.div_lt_of_lt_mul (show (y 0).val < 128 * 32 from (y 0).isLt)⟩ ⟨(y 0).val % 128, by omega⟩ (y 1)

variable (P : FVec Ideal S4096x6272 .f32) (lw lb : FVec Ideal S512 .f32) (W : FVec Ideal S4x128x128 .f32) (b : FVec Ideal S4x128 .f32)

theorem gel_ref (x : EReal) : half * x * Ideal.erfc (-x * c2) = gel x := by
  rw [gel, EReal.neg_mul, Ideal.erfc_neg]
theorem sU (z : Fin 1) (r : Fin 4096) (d : Fin 512) : hG (hU P) (ix3 z r d) = gel (rU P r d) := by
  pointwise [hG, hU]
  exact gel_ref _
theorem sV (z : Fin 1) (r : Fin 4096) (d : Fin 512) : hG (hV P) (ix3 z r d) = gel (rV P r d) := by
  pointwise [hG, hV]
  exact gel_ref _
theorem sX (z : Fin 1) (r : Fin 4096) (d : Fin 512) : hX P (ix3 z r d) = xc (rV P r) d := by
  pointwise [hX, sV, xc, mu]
theorem sR (z w : Fin 1) (r : Fin 4096) : hR P (ix3 z r w) = rs (rV P r) := by
  pointwise [hR, sX, rs, va]
theorem sN (z : Fin 1) (t : Fin 32) (i : Fin 128) (h : Fin 4) (e : Fin 128) : hN P lw lb (ix5 z t i h e)
    = vn (vec lw) (vec lb) (rV P (at' t i)) (lane h e) := by
  pointwise [hN, sX, sR, vn, xh]
  rfl
theorem bit (b : BitVec 1) : Scalar.select b 1#1 0#1 = b := by
  revert b; decide
theorem sW (h : Fin 4) (i j : Fin 128) : hW W (ix3 h i j) = mw (wts W) h i j := by
  pointwise [hW, mw, tri, id_eq]
  rw [show IntOp.addi (BitVec.ofNat 32 i.val) 0#32 = BitVec.ofNat 32 i.val from BitVec.add_zero _, bit]
  first
    | done
    | rfl
    | exact congrArg (Scalar.select _ _) (Ideal.ofBits_zero_f32)
theorem tile_div (t : Fin 32) (i : Fin 128) (h) : (⟨(t.val * 128 + i.val) / 128, h⟩ : Fin 32) = t := Fin.ext (by simp; omega)
theorem tile_mod (t : Fin 32) (i : Fin 128) (h) : (⟨(t.val * 128 + i.val) % 128, h⟩ : Fin 128) = i := Fin.ext (by simp)
theorem lane_eq (d : Fin 512) (h h') : lane ⟨d.val / 128, h⟩ ⟨d.val % 128, h'⟩ = d := Fin.ext (by simp only [lane]; omega)
theorem sM (z : Fin 1) (t : Fin 32) (i : Fin 128) (d : Fin 512) : hM P lw lb W b (ix3 z (at' t i) d)
    = mix (wts W) (bia b) (vec lw) (vec lb) (fun j => rV P (at' t j)) i d := by
  pointwise [hM, sW, sN, mix]
  simp only [tile_div, tile_mod, lane_eq]
  rfl
theorem out_at (t : Fin 32) (i : Fin 128) (d : Fin 512) : out P lw lb W b (ix2 (at' t i) d) = res P lw lb W b t i d :=
  congrArg₂ (fun t i => res P lw lb W b t i d) (tile_div t i _) (tile_mod t i _)
/-- The reference's term in stages. -/
abbrev whole : FVec Ideal S4096x512 .bf16 := truncf .bf16 (shapeCast _ (mulf (hG (hU P)) (hM P lw lb W b)) shapeCasts_S1x4096x512_S4096x512) bitsLt_bf16_f32
theorem whole_eq : whole P lw lb W b = out P lw lb W b := by
  funext y
  idx_vars y
  have e : y0 = at' ⟨y0.val / 128, by omega⟩ ⟨y0.val % 128, by omega⟩ := Fin.ext (by
    show y0.val = y0.val / 128 * 128 + y0.val % 128
    omega)
  rw [e, out_at]
  pointwise [whole, sU, sM, res]

/-- The reference's run, its result by tiles and rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (whole_eq _ _ _ _ _), (h c).2⟩) (run m ρ)

end Cert.GmlpFwdRefIdeal.Value

namespace Cert.GmlpFwdIdeal.Value

open Cert.GmlpFwdIdeal Cert.GmlpFwdIdeal.Gen Cert.Gmlp
open Cert.GmlpFwdRefIdeal.Value (out res rU rV at' vec wts bia)

/-- A row of a block. -/
abbrev row (X : FVec Ideal S128x512 .f32) (i : Fin 128) : Fin 512 → EReal := fun d => X (ix2 i d)
/-- The one row of a one-row block. -/
abbrev one (X : FVec Ideal S1x512 .f32) : Fin 512 → EReal := fun d => X (ix2 0 d)
/-- The four weight matrices of a block of their rows. -/
abbrev bwts (X : FVec Ideal S512x128 .f32) : Fin 4 → Fin 128 → Fin 128 → EReal := fun h i j => X (ix2 ⟨h.val * 128 + i.val, by omega⟩ j)

section
variable (U V : FVec Ideal S128x512 .f32) (lw lb : FVec Ideal S1x512 .f32) (ws : FVec Ideal S512x128 .f32) (bs : FVec Ideal S4x128 .f32)

theorem p2 : k0_pay2 (F := Ideal) lw = lw := by
  funext j
  pointwise [k0_pay2]
theorem p3 : k0_pay3 (F := Ideal) lw = lw := by
  funext j
  pointwise [k0_pay3]
theorem p4 : k0_pay4 (F := Ideal) ws = ws := by
  funext j
  pointwise [k0_pay4]
theorem p5 (i : Fin 128) (d : Fin 512) : k0_pay5 (F := Ideal) U (ix2 i d) = gel (row U i d) := by
  pointwise [k0_pay5, gel]; rfl
theorem p6 (i : Fin 128) (d : Fin 512) : k0_pay6 (F := Ideal) V (ix2 i d) = xc (row V i) d := by
  pointwise [k0_pay6, xc, mu, gel]; rfl
theorem p7 (i : Fin 128) (z : Fin 1) : k0_pay7 (F := Ideal) V (ix2 i z) + eps = va (row V i) := by
  pointwise [k0_pay7, p6, va]
/-- The scaled rows, as the payloads put them together. -/
abbrev N : FVec Ideal S128x512 .f32 := k0_pay8 lw lb (k0_pay6 V) (k0_pay7 V) (Ideal.ofBits .f32 0x358637BD#32)
theorem p8 (i : Fin 128) (d : Fin 512) : N V lw lb (ix2 i d) = vn (one lw) (one lb) (row V i) d := by
  pointwise [N, k0_pay8, p6, vn, xh, rs]
  refine congrArg (fun r => xc (row V i) d * Ideal.rsqrt r * lw (ix2 0 d) + lb (ix2 0 d)) (p7 V i 0)
theorem p9 (i j : Fin 128) : k0_pay9 (F := Ideal) (ix2 i j) = if i = j then 1 else 0 := by
  pointwise [k0_pay9]
  by_cases h : i = j
  · subst h
    rw [if_pos rfl]
    have e : IntOp.cmpi .eq (BitVec.ofNat 32 i.val) (BitVec.ofNat 32 i.val) = 1#1 := by simp [IntOp.cmpi]
    rw [e]
    simp [FloatOps.sitofp]
  · rw [if_neg h]
    have e : IntOp.cmpi .eq (BitVec.ofNat 32 i.val) (BitVec.ofNat 32 j.val) = 0#1 := by
      have hne : BitVec.ofNat 32 i.val ≠ BitVec.ofNat 32 j.val := fun q => h (Fin.ext (by
        have := congrArg BitVec.toNat q
        simp only [BitVec.toNat_ofNat] at this
        omega))
      simp only [IntOp.cmpi, beq_eq_false_iff_ne.mpr hne]
      rfl
    rw [e]
    simp [FloatOps.sitofp]
theorem wts_eq (h : Fin 4) (i j : Fin 128) (k : Fin 512) (hk : k.val = h.val * 128 + i.val) : ws (ix2 k j) = bwts ws h i j :=
  congrArg (fun k => ws (ix2 k j)) (Fin.ext hk)
theorem sel_mul (b : BitVec 1) (a x : EReal) : Scalar.select b (a * x) 0 = Scalar.select b a 0 * x := by
  rcases (by revert b; decide : b = 0#1 ∨ b = 1#1) with h | h <;> subst h <;> simp [Scalar.select]
/-- The masked weights of a head, as the payloads cut them out of the rows. -/
theorem msk (h : Fin 4) (i j : Fin 128) (k : Fin 512) (x : EReal) (hk : k.val = h.val * 128 + i.val) :
    Scalar.select (IntOp.cmpi .sge (BitVec.ofNat 32 i.val) (BitVec.ofNat 32 j.val)) (ws (ix2 k j) * x) 0 = mw (bwts ws) h i j * x := by
  rw [sel_mul, wts_eq ws h i j k hk]
  rfl
theorem eye_row (b : Fin 128 → EReal) (i : Fin 128) : ∑ j, b j * (if i = j then 1 else 0 : EReal) = b i := by simp
theorem fin_back (d : Fin 512) (n k : ℕ) (h : n + k < 512) (e : n + k = d.val) : (⟨n + k, h⟩ : Fin 512) = d := Fin.ext e
theorem hd_of (d : Fin 512) (h : Fin 4) (e : d.val / 128 = h.val) : hd d = h := Fin.ext e

/-- The mixed rows of the first two heads. -/
theorem p10 (i e : Fin 128) : k0_pay10 (F := Ideal) lw lb ws bs (k0_pay6 V) (k0_pay7 V) (Ideal.ofBits .f32 0x358637BD#32) (ix2 i e)
    = (∑ j, mw (bwts ws) 0 i j * vn (one lw) (one lb) (row V j) ⟨e.val, by omega⟩) + bs (ix2 0 i) := by
  pointwise [k0_pay10, p8, p9, eye_row]
  refine congrArg (· + bs (ix2 0 i)) (Finset.sum_congr rfl fun j _ => ?_)
  exact msk ws 0 i j _ _ (by simp)
theorem p11 (i e : Fin 128) : k0_pay11 (F := Ideal) lw lb ws bs (k0_pay6 V) (k0_pay7 V) (Ideal.ofBits .f32 0x358637BD#32) (ix2 i e)
    = (∑ j, mw (bwts ws) 1 i j * vn (one lw) (one lb) (row V j) ⟨128 + e.val, by omega⟩) + bs (ix2 1 i) := by
  pointwise [k0_pay11, p8, p9, eye_row]
  refine congrArg (· + bs (ix2 1 i)) (Finset.sum_congr rfl fun j _ => ?_)
  exact msk ws 1 i j _ _ (by simp)

/-- What a point writes. -/
abbrev new : FVec Ideal S128x512 .bf16 := k0_pay1 ws bs (k0_pay5 U) (N V lw lb) k0_pay9
  (k0_pay10 lw lb ws bs (k0_pay6 V) (k0_pay7 V) (Ideal.ofBits .f32 0x358637BD#32))
  (k0_pay11 lw lb ws bs (k0_pay6 V) (k0_pay7 V) (Ideal.ofBits .f32 0x358637BD#32)) k0_pay12 (k0_pay13 ws) k0_pay14

theorem p1 (i : Fin 128) (d : Fin 512) : new U V lw lb ws bs (ix2 i d)
    = gel (row U i d) * mix (bwts ws) (fun h i => bs (ix2 h i)) (one lw) (one lb) (row V) i d := by
  pointwise [new, k0_pay1, k0_pay12, k0_pay13, k0_pay14, p5, p8, p9, p10, p11, eye_row]
  refine congrArg (gel (row U i d) * ·) ?_
  by_cases h0 : d.val < 128
  · have e := hd_of d 0 (by simp; omega)
    simp only [h0, dif_pos, mix, e]
  · by_cases h1 : d.val - 128 < 128
    · have e := hd_of d 1 (by simp; omega)
      simp only [h0, h1, dif_pos, dif_neg, not_false_eq_true, mix, e, fin_back d 128 (d.val - 128) (by omega) (by omega)]
    · by_cases h2 : d.val - 128 - 128 < 128
      · have e := hd_of d 2 (by simp; omega)
        simp only [h0, h1, h2, dif_pos, dif_neg, not_false_eq_true, mix, e, fin_back d 256 (d.val - 128 - 128) (by omega) (by omega)]
        refine congrArg (· + bs (ix2 2 i)) (Finset.sum_congr rfl fun j _ => ?_)
        exact msk ws 2 i j _ _ (by simp)
      · have e := hd_of d 3 (by simp; omega)
        simp only [h0, h1, h2, dif_neg, not_false_eq_true, mix, e, fin_back d 384 (d.val - 128 - 128 - 128) (by omega) (by omega)]
        refine congrArg (· + bs (ix2 3 i)) (Finset.sum_congr rfl fun j _ => ?_)
        exact msk ws 3 i j _ _ (by simp)
end

variable (m : (ℓ : Loc nD τ sig) → Buf (Elt Ideal) ℓ) (c : Dev nD)

/-- The blocks each grid point reads and writes. -/
theorem idx : ∀ t : Fin cfg0.N, win0_0.index t = ![t.val, 8] ∧ win0_1.index t = ![t.val, 9] ∧ win0_2.index t = ![0, 0]
    ∧ win0_3.index t = ![0, 0] ∧ win0_4.index t = ![0, 0] ∧ win0_5.index t = ![0, 0] ∧ win0_6.index t = ![t.val, 0] ∧ t.val < 32 :=
  (by decide +kernel : ∀ t : Fin grid0.N, _)

/-- A grid point's tile. -/
abbrev tile (t : Fin cfg0.N) : Fin 32 := ⟨t.val, (idx t).2.2.2.2.2.2.2⟩

/-- The blocks of one grid point and the argument arrays, by their types. -/
abbrev bU (t : Fin cfg0.N) : FVec Ideal S128x512 .f32 := X0_0 m c t
abbrev bV (t : Fin cfg0.N) : FVec Ideal S128x512 .f32 := X0_1 m c t
abbrev bw (t : Fin cfg0.N) : FVec Ideal S1x512 .f32 := iblk m c 2 t
abbrev bb (t : Fin cfg0.N) : FVec Ideal S1x512 .f32 := iblk m c 3 t
abbrev bW (t : Fin cfg0.N) : FVec Ideal S512x128 .f32 := iblk m c 4 t
abbrev bB (t : Fin cfg0.N) : FVec Ideal S4x128 .f32 := iblk m c 5 t
abbrev aP : FVec Ideal S4096x6272 .f32 := m ((c : Thread nD τ).loc main_arg0)
abbrev aw : FVec Ideal S512 .f32 := m ((c : Thread nD τ).loc main_arg1)
abbrev ab : FVec Ideal S512 .f32 := m ((c : Thread nD τ).loc main_arg2)
abbrev aW : FVec Ideal S4x128x128 .f32 := m ((c : Thread nD τ).loc main_arg3)
abbrev aB : FVec Ideal S4x128 .f32 := m ((c : Thread nD τ).loc main_arg4)

theorem tU (t : Fin cfg0.N) : row (bU m c t) = fun i => rU (aP m c) (at' (tile t) i) := by
  funext i d
  rw [row, rU]
  simp only [bU, X0_0, Pipeline.Window.fill]
  rw [dif_pos (moved0_0 t (ix2 i d))]
  blk_point [iblk, V, idx t]
theorem tV (t : Fin cfg0.N) : row (bV m c t) = fun i => rV (aP m c) (at' (tile t) i) := by
  funext i d
  rw [row, rV]
  simp only [bV, X0_1, Pipeline.Window.fill]
  rw [dif_pos (moved0_1 t (ix2 i d))]
  blk_point [iblk, V, idx t]
theorem tw (t : Fin cfg0.N) : one (bw m c t) = vec (aw m c) := by
  funext d
  rw [one, vec]
  blk_point [bw, iblk, V, idx t]
theorem tb (t : Fin cfg0.N) : one (bb m c t) = vec (ab m c) := by
  funext d
  rw [one, vec]
  blk_point [bb, iblk, V, idx t]
theorem tW (t : Fin cfg0.N) : bwts (bW m c t) = wts (aW m c) := by
  funext h i j
  rw [bwts, wts]
  blk_point [bW, iblk, V, idx t]
theorem tB (t : Fin cfg0.N) : (fun h i => bB m c t (ix2 h i)) = bia (aB m c) := by
  funext h i
  rw [bia]
  blk_point [bB, iblk, V, idx t]

theorem out6 (t : Fin cfg0.N) : outsAt0 m c t = new (bU m c t) (bV m c t) (bw m c t) (bb m c t) (bW m c t) (bB m c t) := by
  rw [outsAt0]; frame_out
  simp only [p2, p3, p4]
  rfl

theorem point (t : Fin cfg0.N) (i : Fin 128) (d : Fin 512) : new (bU m c t) (bV m c t) (bw m c t) (bb m c t) (bW m c t) (bB m c t) (ix2 i d)
    = out (aP m c) (aw m c) (ab m c) (aW m c) (aB m c) (ix2 (at' (tile t) i) d) := by
  rw [p1, tU, tV, tw, tb, tW, tB]
  exact (Cert.GmlpFwdRefIdeal.Value.out_at _ _ _ _ _ (tile t) i d).symm

/-- The result array after the run. -/
theorem final : (dats m 0 c).arrAt 6 (cfgs 0).N = out (aP m c) (aw m c) (ab m c) (aW m c) (aB m c) := by
  refine (dats m 0 c).arrAt_eq_of_covers 6 _ (by decide +kernel) fun t hf y => ?_
  blk_simp
  rw [after0_6, out6]
  refine (congrArg (new (bU m c t) (bV m c t) (bw m c t) (bb m c t) (bW m c t) (bB m c t)) (eq_ix2 y)).trans ((point m c t (y 0) (y 1)).trans ?_)
  refine congrArg (out (aP m c) (aw m c) (ab m c) (aW m c) (aB m c)) (?_ : ix2 (at' (tile t) (y 0)) (y 1) = _)
  blk_ext [idx t]

end Cert.GmlpFwdIdeal.Value

end
-- ==== Proof.ConvFwd.lean ====
/-
  The gated causal convolution, forward: the kernel `conv` on tiles of 256 rows with the 32 rows before each, and the reference on
  the whole array with 30 rows of zeros before it. A row of either is the normalised and activated sum of 31 shifted products.
-/
module

public import proofs.«01_k».proof.Proof.GmlpSpec
public import proofs.«01_k».proof.Proof.Gen.ConvFwdIdeal.Value
public import proofs.«01_k».proof.Proof.Gen.ConvFwdRefIdeal.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.ConvFwdRefIdeal.Value

open Cert.ConvFwdRefIdeal Cert.ConvFwdRefIdeal.Gen
open Cert.Gmlp (n512 eps)

/-- A number times the logistic function of another, and of itself. -/
def gl (a g : EReal) : EReal := a * Ideal.logistic g
def silu (x : EReal) : EReal := x * Ideal.logistic x
/-- The normalisation of a row: its mean, its centred entries, their mean square, the reciprocal root, and the scaled entries. -/
def mu (f : Fin 512 → EReal) : EReal := Ideal.div (∑ d, f d) n512
def xc (f : Fin 512 → EReal) (d : Fin 512) : EReal := f d - mu f
def va (f : Fin 512 → EReal) : EReal := Ideal.div (∑ d, xc f d * xc f d) n512
def rs (f : Fin 512 → EReal) : EReal := Ideal.rsqrt (va f + eps)
def vn (lw lb f : Fin 512 → EReal) (d : Fin 512) : EReal := xc f d * rs f * lw d + lb d
/-- The sum of 31 products, in the order in which both programs add. -/
def acc (w Y : Fin 31 → EReal) : EReal :=
  w 0 * Y 0 + w 1 * Y 1 + w 2 * Y 2 + w 3 * Y 3 + w 4 * Y 4 + w 5 * Y 5 + w 6 * Y 6 + w 7 * Y 7 + w 8 * Y 8 + w 9 * Y 9 + w 10 * Y 10 + w 11 * Y 11 + w 12 * Y 12 + w 13 * Y 13 + w 14 * Y 14 + w 15 * Y 15 + w 16 * Y 16 + w 17 * Y 17 + w 18 * Y 18 + w 19 * Y 19 + w 20 * Y 20 + w 21 * Y 21 + w 22 * Y 22 + w 23 * Y 23 + w 24 * Y 24 + w 25 * Y 25 + w 26 * Y 26 + w 27 * Y 27 + w 28 * Y 28 + w 29 * Y 29 + w 30 * Y 30
abbrev rA (P : FVec Ideal S4096x6272 .f32) (r : Fin 4096) (d : Fin 512) : EReal := P (ix2 r ⟨5120 + d.val, by omega⟩)
abbrev rG (P : FVec Ideal S4096x6272 .f32) (r : Fin 4096) (d : Fin 512) : EReal := P (ix2 r ⟨5632 + d.val, by omega⟩)
abbrev vec (x : FVec Ideal S512 .f32) (d : Fin 512) : EReal := x (ix1 d)
/-- The gated rows after 30 rows of zeros. -/
def prow (P : FVec Ideal S4096x6272 .f32) (n : Fin 4126) (d : Fin 512) : EReal :=
  if h : n.val < 30 then 0 else gl (rA P ⟨n.val - 30, by omega⟩ d) (rG P ⟨n.val - 30, by omega⟩ d)
/-- A row of the convolution with its bias. -/
def cv (P : FVec Ideal S4096x6272 .f32) (W : FVec Ideal S31x512 .f32) (b : FVec Ideal S512 .f32) (r : Fin 4096) (d : Fin 512) : EReal :=
  acc (fun k => W (ix2 k d)) (fun k => prow P ⟨k.val + r.val, by omega⟩ d) + b (ix1 d)
/-- The result array. -/
def out (P : FVec Ideal S4096x6272 .f32) (W : FVec Ideal S31x512 .f32) (b lw lb : FVec Ideal S512 .f32) : FVec Ideal S4096x512 .bf16 :=
  fun y => silu (vn (vec lw) (vec lb) (cv P W b (y 0)) (y 1))

variable (V : Valuation τ sig (Elt Ideal))

/-- The argument arrays, by their types. -/
abbrev vP : FVec Ideal S4096x6272 .f32 := V (Proc.devRef .tc main_arg0)
abbrev vW : FVec Ideal S31x512 .f32 := V (Proc.devRef .tc main_arg1)
abbrev vb : FVec Ideal S512 .f32 := V (Proc.devRef .tc main_arg2)
abbrev vw : FVec Ideal S512 .f32 := V (Proc.devRef .tc main_arg3)
abbrev vl : FVec Ideal S512 .f32 := V (Proc.devRef .tc main_arg4)

/-- The reference's stages, by their types. -/
abbrev hY : FVec Ideal S4126x512 .f32 := res_main_v10 V
abbrev hA : FVec Ideal S4096x512 .f32 := res_main_v95 V
abbrev hB : FVec Ideal S4096x512 .f32 := res_main_v179 V
abbrev hC : FVec Ideal S4096x512 .f32 := res_main_v231 V
abbrev hM : FVec Ideal S4096x1 .f32 := res_main_v235 V
abbrev hX : FVec Ideal S4096x512 .f32 := res_main_v237 V
abbrev hN : FVec Ideal S4096x512 .f32 := res_main_v255 V

theorem sY (n : Fin 4126) (d : Fin 512) : res_main_v10 V (ix2 n d) = prow (vP V) n d := by
  pointwise [res_main_v10, prow, gl]
  rfl
theorem sC (r : Fin 4096) (d : Fin 512) : res_main_v231 V (ix2 r d) = cv (vP V) (vW V) (vb V) r d := by
  pointwise [res_main_v231, res_main_v179, res_main_v95, sY, cv, acc, zero_add]
theorem sM (r : Fin 4096) (z : Fin 1) : res_main_v235 V (ix2 r z) = mu (cv (vP V) (vW V) (vb V) r) := by
  pointwise [res_main_v235, sC, mu]
theorem sX (r : Fin 4096) (d : Fin 512) : res_main_v237 V (ix2 r d) = xc (cv (vP V) (vW V) (vb V) r) d := by
  pointwise [res_main_v237, sC, sM, xc]
theorem sN (r : Fin 4096) (d : Fin 512) : res_main_v255 V (ix2 r d) = vn (vec (vw V)) (vec (vl V)) (cv (vP V) (vW V) (vb V) r) d := by
  pointwise [res_main_v255, sC, sM, sX, vn, rs, va, xc]
/-- The reference's result. -/
abbrev whole : FVec Ideal S4096x512 .bf16 := truncf .bf16 (mulf (res_main_v255 V) (Host.divf (broadcastInDim S4096x512 ![] bcast_S_S4096x512 (constant S_ .f32 0x3F800000#32)) (addf (broadcastInDim S4096x512 ![] bcast_S_S4096x512 (constant S_ .f32 0x3F800000#32)) (Host.exp (Host.negf (res_main_v255 V)))))) bitsLt_bf16_f32
theorem whole_eq : whole V = out (vP V) (vW V) (vb V) (vw V) (vl V) := by
  funext y
  idx_vars y
  pointwise [whole, sN, out, silu]
  rfl

/-- The reference's run, its result by rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v257) = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (whole_eq (StableHlo.launchContents m c)), (h c).2⟩) (run m ρ)

end Cert.ConvFwdRefIdeal.Value

namespace Cert.ConvFwdIdeal.Value

open Cert.ConvFwdIdeal Cert.ConvFwdIdeal.Gen
open Cert.Gmlp (n512 eps)
open Cert.ConvFwdRefIdeal.Value (gl silu acc prow cv out rA rG vec mu xc va rs vn)

/-- The one row of a one-row block. -/
abbrev one (X : FVec Ideal S1x512 .f32) : Fin 512 → EReal := fun d => X (ix2 0 d)

section
variable (i : grid0.Coords) (Ha Hg : FVec Ideal S32x512 .f32) (A G : FVec Ideal S256x512 .f32) (W : FVec Ideal S31x512 .f32)
  (b lw lb : FVec Ideal S1x512 .f32)

theorem p2 : k0_pay2 (F := Ideal) lw = lw := by
  funext j
  pointwise [k0_pay2]
theorem p3 : k0_pay3 (F := Ideal) lw = lw := by
  funext j
  pointwise [k0_pay3]
theorem p4 : k0_pay4 (F := Ideal) lw = lw := by
  funext j
  pointwise [k0_pay4]

/-- The factor of the rows before the tile: zero at the first tile, one after it. -/
def fac (i : grid0.Coords) : EReal := FloatOps.sitofp (F := Ideal) .f32 (Scalar.extui (IntOp.cmpi .sgt (BitVec.ofNat 32 (i 0).val) 0#32))

theorem p5 (n : Fin 288) (d : Fin 512) : k0_pay5 (F := Ideal) i Ha Hg A G (ix2 n d)
    = if h : n.val < 32 then gl (Ha (ix2 ⟨n.val, h⟩ d) * fac i) (Hg (ix2 ⟨n.val, h⟩ d) * fac i)
      else gl (A (ix2 ⟨n.val - 32, by omega⟩ d)) (G (ix2 ⟨n.val - 32, by omega⟩ d)) := by
  pointwise [k0_pay5, gl, fac]
  by_cases h : n.val < 32
  · simp only [h, dif_pos]
    rfl
  · simp only [h, dif_neg, not_false_eq_true]

variable (Y : FVec Ideal S288x512 .f32) (S : FVec Ideal S256x512 .f32) (w : FVec Ideal S1x512 .f32)

/-- The products of one shift. -/
abbrev tap (k : Fin 31) (r : Fin 256) (d : Fin 512) : EReal := W (ix2 k d) * Y (ix2 ⟨k.val + 2 + r.val, by omega⟩ d)

theorem p6 (r : Fin 256) (d : Fin 512) : k0_pay6 (F := Ideal) i Ha Hg A G W (ix2 r d)
    = tap W (k0_pay5 i Ha Hg A G) 0 r d + tap W (k0_pay5 i Ha Hg A G) 1 r d + tap W (k0_pay5 i Ha Hg A G) 2 r d + tap W (k0_pay5 i Ha Hg A G) 3 r d := by
  pointwise [k0_pay6]
  rfl
theorem p8 (r : Fin 256) (d : Fin 512) : k0_pay8 (F := Ideal) W Y S (k0_pay7 W) (ix2 r d)
    = S (ix2 r d) + tap W Y 4 r d + tap W Y 5 r d + tap W Y 6 r d + tap W Y 7 r d + tap W Y 8 r d + tap W Y 9 r d + tap W Y 10 r d + tap W Y 11 r d + tap W Y 12 r d + tap W Y 13 r d + tap W Y 14 r d + tap W Y 15 r d := by
  pointwise [k0_pay8, k0_pay7]
  rfl
theorem p10 (r : Fin 256) (d : Fin 512) : k0_pay10 (F := Ideal) W Y S (k0_pay9 W) (ix2 r d)
    = S (ix2 r d) + tap W Y 16 r d + tap W Y 17 r d + tap W Y 18 r d + tap W Y 19 r d + tap W Y 20 r d + tap W Y 21 r d + tap W Y 22 r d + tap W Y 23 r d + tap W Y 24 r d + tap W Y 25 r d + tap W Y 26 r d + tap W Y 27 r d := by
  pointwise [k0_pay10, k0_pay9]
  rfl
/-- The sum's last terms and the bias. -/
abbrev last (r : Fin 256) (d : Fin 512) : EReal := S (ix2 r d) + tap W Y 28 r d + tap W Y 29 r d + tap W Y 30 r d + b (ix2 0 d)
theorem p1 (r : Fin 256) (d : Fin 512) : k0_pay1 (F := Ideal) W b lw lb Y S (k0_pay11 W) (ix2 r d)
    = silu (vn (one lw) (one lb) (last W b Y S r) d) := by
  pointwise [k0_pay1, k0_pay11, silu, vn, rs, va, xc, mu]
  rfl

/-- What a point writes. -/
abbrev new : FVec Ideal S256x512 .bf16 := k0_pay1 W b lw lb (k0_pay5 i Ha Hg A G)
  (k0_pay10 W (k0_pay5 i Ha Hg A G) (k0_pay8 W (k0_pay5 i Ha Hg A G) (k0_pay6 i Ha Hg A G W) (k0_pay7 W)) (k0_pay9 W)) (k0_pay11 W)

theorem new_at (r : Fin 256) (d : Fin 512) : new i Ha Hg A G W b lw lb (ix2 r d)
    = silu (vn (one lw) (one lb) (fun d => acc (fun k => W (ix2 k d)) (fun k => k0_pay5 (F := Ideal) i Ha Hg A G (ix2 ⟨k.val + 2 + r.val, by omega⟩ d))
        + b (ix2 0 d)) d) := by
  rw [new, p1]
  refine congrArg (fun f => silu (vn (one lw) (one lb) f d)) (funext fun d => ?_)
  rw [last, p10, p8, p6]
  simp only [acc, ← add_assoc]
end

variable (m : (ℓ : Loc nD τ sig) → Buf (Elt Ideal) ℓ) (c : Dev nD)

/-- The blocks each grid point reads and writes. -/
theorem idx : ∀ t : Fin cfg0.N, win0_0.index t = ![8 * t.val - 1, 10] ∧ win0_1.index t = ![8 * t.val - 1, 11]
    ∧ win0_2.index t = ![t.val, 10] ∧ win0_3.index t = ![t.val, 11] ∧ win0_4.index t = ![0, 0] ∧ win0_5.index t = ![0, 0]
    ∧ win0_6.index t = ![0, 0] ∧ win0_7.index t = ![0, 0] ∧ win0_8.index t = ![t.val, 0] ∧ t.val < 16
    ∧ (grid0.coords t 0).val = t.val :=
  (by decide +kernel : ∀ t : Fin grid0.N, _)

theorem lt16 (t : Fin cfg0.N) : t.val < 16 := (idx t).2.2.2.2.2.2.2.2.2.1
theorem co (t : Fin cfg0.N) : (grid0.coords t 0).val = t.val := (idx t).2.2.2.2.2.2.2.2.2.2

theorem fac_zero (t : Fin cfg0.N) (h : t.val = 0) : fac (grid0.coords t) = 0 := by
  rw [fac, co t, h]
  simp [FloatOps.sitofp, IntOp.cmpi, Scalar.extui]
theorem fac_one (t : Fin cfg0.N) (h : t.val ≠ 0) : fac (grid0.coords t) = 1 := by
  have e : ∀ n : Fin 16, n.val ≠ 0 → Scalar.extui (IntOp.cmpi .sgt (BitVec.ofNat 32 n.val) 0#32) = 1#32 := by decide
  rw [fac, co t, e ⟨t.val, lt16 t⟩ h]
  simp [FloatOps.sitofp]

/-- The blocks of one grid point and the argument arrays, by their types. -/
abbrev bHa (t : Fin cfg0.N) : FVec Ideal S32x512 .f32 := X0_0 m c t
abbrev bHg (t : Fin cfg0.N) : FVec Ideal S32x512 .f32 := X0_1 m c t
abbrev bA (t : Fin cfg0.N) : FVec Ideal S256x512 .f32 := X0_2 m c t
abbrev bG (t : Fin cfg0.N) : FVec Ideal S256x512 .f32 := X0_3 m c t
abbrev bW (t : Fin cfg0.N) : FVec Ideal S31x512 .f32 := iblk m c 4 t
abbrev bb (t : Fin cfg0.N) : FVec Ideal S1x512 .f32 := iblk m c 5 t
abbrev bw (t : Fin cfg0.N) : FVec Ideal S1x512 .f32 := iblk m c 6 t
abbrev bl (t : Fin cfg0.N) : FVec Ideal S1x512 .f32 := iblk m c 7 t
abbrev aP : FVec Ideal S4096x6272 .f32 := m ((c : Thread nD τ).loc main_arg0)
abbrev aW : FVec Ideal S31x512 .f32 := m ((c : Thread nD τ).loc main_arg1)
abbrev ab : FVec Ideal S512 .f32 := m ((c : Thread nD τ).loc main_arg2)
abbrev aw : FVec Ideal S512 .f32 := m ((c : Thread nD τ).loc main_arg3)
abbrev al : FVec Ideal S512 .f32 := m ((c : Thread nD τ).loc main_arg4)

theorem tHa (t : Fin cfg0.N) (n : Fin 32) (d : Fin 512) (r : Fin 4096) (h : r.val = (8 * t.val - 1) * 32 + n.val) :
    bHa m c t (ix2 n d) = rA (aP m c) r d := by
  have e : r = ⟨(8 * t.val - 1) * 32 + n.val, h ▸ r.isLt⟩ := Fin.ext h
  rw [e, rA]
  simp only [bHa, X0_0, Pipeline.Window.fill]
  rw [dif_pos (moved0_0 t (ix2 n d))]
  blk_point [iblk, V, idx t]
theorem tHg (t : Fin cfg0.N) (n : Fin 32) (d : Fin 512) (r : Fin 4096) (h : r.val = (8 * t.val - 1) * 32 + n.val) :
    bHg m c t (ix2 n d) = rG (aP m c) r d := by
  have e : r = ⟨(8 * t.val - 1) * 32 + n.val, h ▸ r.isLt⟩ := Fin.ext h
  rw [e, rG]
  simp only [bHg, X0_1, Pipeline.Window.fill]
  rw [dif_pos (moved0_1 t (ix2 n d))]
  blk_point [iblk, V, idx t]
theorem tA (t : Fin cfg0.N) (n : Fin 256) (d : Fin 512) (r : Fin 4096) (h : r.val = t.val * 256 + n.val) :
    bA m c t (ix2 n d) = rA (aP m c) r d := by
  have e : r = ⟨t.val * 256 + n.val, h ▸ r.isLt⟩ := Fin.ext h
  rw [e, rA]
  simp only [bA, X0_2, Pipeline.Window.fill]
  rw [dif_pos (moved0_2 t (ix2 n d))]
  blk_point [iblk, V, idx t]
theorem tG (t : Fin cfg0.N) (n : Fin 256) (d : Fin 512) (r : Fin 4096) (h : r.val = t.val * 256 + n.val) :
    bG m c t (ix2 n d) = rG (aP m c) r d := by
  have e : r = ⟨t.val * 256 + n.val, h ▸ r.isLt⟩ := Fin.ext h
  rw [e, rG]
  simp only [bG, X0_3, Pipeline.Window.fill]
  rw [dif_pos (moved0_3 t (ix2 n d))]
  blk_point [iblk, V, idx t]
theorem tW (t : Fin cfg0.N) (k : Fin 31) (d : Fin 512) : bW m c t (ix2 k d) = aW m c (ix2 k d) := by
  blk_point [bW, iblk, V, idx t]
theorem tb (t : Fin cfg0.N) (d : Fin 512) : bb m c t (ix2 0 d) = ab m c (ix1 d) := by
  blk_point [bb, iblk, V, idx t]
theorem tw (t : Fin cfg0.N) : one (bw m c t) = vec (aw m c) := by
  funext d
  rw [one, vec]
  blk_point [bw, iblk, V, idx t]
theorem tl (t : Fin cfg0.N) : one (bl m c t) = vec (al m c) := by
  funext d
  rw [one, vec]
  blk_point [bl, iblk, V, idx t]

/-- A row of a tile of the whole array. -/
abbrev at' (t : Fin cfg0.N) (r : Fin 256) : Fin 4096 := ⟨t.val * 256 + r.val, by have := lt16 t; omega⟩

/-- The gated rows of a tile and the 30 before it are those of the padded array. -/
theorem tY (t : Fin cfg0.N) (n : Fin 288) (d : Fin 512) (q : Fin 4126) (h2 : 2 ≤ n.val) (hq : q.val + 2 = t.val * 256 + n.val) :
    k0_pay5 (F := Ideal) (grid0.coords t) (bHa m c t) (bHg m c t) (bA m c t) (bG m c t) (ix2 n d) = prow (aP m c) q d := by
  have ht := lt16 t
  rw [p5, prow]
  by_cases h : n.val < 32
  · rw [dif_pos h]
    by_cases h0 : t.val = 0
    · rw [fac_zero t h0, dif_pos (by omega)]
      simp [gl]
    · rw [fac_one t h0, dif_neg (by omega), mul_one, mul_one,
        tHa m c t ⟨n.val, h⟩ d ⟨q.val - 30, by omega⟩ (by show q.val - 30 = (8 * t.val - 1) * 32 + n.val; omega),
        tHg m c t ⟨n.val, h⟩ d ⟨q.val - 30, by omega⟩ (by show q.val - 30 = (8 * t.val - 1) * 32 + n.val; omega)]
  · rw [dif_neg h, dif_neg (by omega),
      tA m c t ⟨n.val - 32, by omega⟩ d ⟨q.val - 30, by omega⟩ (by show q.val - 30 = t.val * 256 + (n.val - 32); omega),
      tG m c t ⟨n.val - 32, by omega⟩ d ⟨q.val - 30, by omega⟩ (by show q.val - 30 = t.val * 256 + (n.val - 32); omega)]

/-- What a grid point writes, by its blocks. -/
abbrev wr (t : Fin cfg0.N) : FVec Ideal S256x512 .bf16 := new (grid0.coords t) (bHa m c t) (bHg m c t) (bA m c t) (bG m c t) (bW m c t)
  (bb m c t) (bw m c t) (bl m c t)

theorem out8 (t : Fin cfg0.N) : outsAt0 m c t = wr m c t := by
  rw [outsAt0]; frame_out
  simp only [p2, p3, p4]

theorem point (t : Fin cfg0.N) (r : Fin 256) (d : Fin 512) : wr m c t (ix2 r d)
    = out (aP m c) (aW m c) (ab m c) (aw m c) (al m c) (ix2 (at' t r) d) := by
  rw [wr, new_at, tw, tl]
  refine congrArg (fun f => silu (vn (vec (aw m c)) (vec (al m c)) f d)) (funext fun e => ?_)
  show _ = cv (aP m c) (aW m c) (ab m c) (at' t r) e
  rw [cv, tb]
  refine congrArg (· + ab m c (ix1 e)) ?_
  refine congrArg₂ acc (funext fun k => tW m c t k e) (funext fun k => ?_)
  exact tY m c t _ e _ (by show 2 ≤ k.val + 2 + r.val; omega) (by show k.val + (t.val * 256 + r.val) + 2 = t.val * 256 + (k.val + 2 + r.val); omega)

/-- The result array after the run. -/
theorem final : (dats m 0 c).arrAt 8 (cfgs 0).N = out (aP m c) (aW m c) (ab m c) (aw m c) (al m c) := by
  refine (dats m 0 c).arrAt_eq_of_covers 8 _ (by decide +kernel) fun t hf y => ?_
  blk_simp
  rw [after0_8, out8]
  refine (congrArg (wr m c t) (eq_ix2 y)).trans ((point m c t (y 0) (y 1)).trans ?_)
  refine congrArg (out (aP m c) (aW m c) (ab m c) (aw m c) (al m c)) (?_ : ix2 (at' t (y 0)) (y 1) = _)
  blk_ext [idx t]

end Cert.ConvFwdIdeal.Value

end
-- ==== Proof.LossHead.lean ====
/-
  The loss head: the kernel `final_loss` norms a row block, adds it to the stream, compares with the target, writes the
  gradient and adds half of the rows' mean squares to the loss, and the reference is the loss of reference.py with its
  gradient.
-/
module

public import proofs.«01_k».proof.Proof.RmsSpec
public import proofs.«01_k».proof.Proof.Gen.LossHeadRefIdeal.Run
public import proofs.«01_k».proof.Proof.Gen.LossHeadIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LossHeadRefIdeal.Value

open Cert.LossHeadRefIdeal Cert.LossHeadRefIdeal.Gen Cert.Rms

/-- What the stream differs from the target by. -/
def err (x y : FVec Ideal S4096x2048 .f32) (w : FVec Ideal S2048 .f32) (g : FVec Ideal S4096x2048 .f32) (i : Fin 4096) (d : Fin 2048) : EReal :=
  x (ix2 i d) + nrm (fun d => y (ix2 i d)) d * w (ix1 d) - g (ix2 i d)
/-- The mean of a row's squares. -/
def msq (x y : FVec Ideal S4096x2048 .f32) (w : FVec Ideal S2048 .f32) (g : FVec Ideal S4096x2048 .f32) (i : Fin 4096) : EReal :=
  Ideal.div (∑ d, err x y w g i d * err x y w g i d) wid
/-- The gradient of the loss, and the loss. -/
def gx (x y : FVec Ideal S4096x2048 .f32) (w : FVec Ideal S2048 .f32) (g : FVec Ideal S4096x2048 .f32) : FVec Ideal S4096x2048 .f32 :=
  fun j => err x y w g (j 0) (j 1) * Ideal.ofBits .f32 0x3A000000#32
def loss (x y : FVec Ideal S4096x2048 .f32) (w : FVec Ideal S2048 .f32) (g : FVec Ideal S4096x2048 .f32) : FVec Ideal S1x1 .f32 :=
  fun _ => Ideal.ofBits .f32 0x3F000000#32 * ∑ i, msq x y w g i

theorem half_eq : Ideal.ofBits .f32 0x3F000000#32 = ((1 / 2 : ℝ) : EReal) := by
  simp [Ideal.ofBits, Ideal.ieee]
  rw [← EReal.coe_mul]
  norm_num
theorem two_eq : Ideal.ofBits .f32 0x40000000#32 = ((2 : ℝ) : EReal) := by
  simp [Ideal.ofBits, Ideal.ieee]
  rw [← EReal.coe_mul]
  norm_num
theorem wid_eq : Ideal.ofBits .f32 0x45000000#32 = ((2048 : ℝ) : EReal) := by
  simp [Ideal.ofBits, Ideal.ieee]
  rw [← EReal.coe_mul]
  norm_num
theorem inv_eq : Ideal.ofBits .f32 0x3A000000#32 = ((1 / 2048 : ℝ) : EReal) := by
  simp [Ideal.ofBits, Ideal.ieee]
  rw [← EReal.coe_mul]
  norm_num
/-- The derivative of half the mean of the squares: the difference by the width. -/
theorem slope (e : EReal) : Ideal.div (Ideal.ofBits .f32 0x3F000000#32) (Ideal.ofBits .f32 0x45000000#32)
    * (Ideal.ofBits .f32 0x40000000#32 * e) = e * Ideal.ofBits .f32 0x3A000000#32 := by
  rw [← mul_assoc, mul_comm e, half_eq, two_eq, wid_eq, inv_eq]
  refine congrArg (· * e) ?_
  rw [Ideal.div, if_neg (by norm_num), ← EReal.coe_inv, ← EReal.coe_mul, ← EReal.coe_mul]
  norm_num

/-- The reference's run, its results by rows. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = gx (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v29) = loss (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      funext y
      idx_vars y
      pointwise [gx, err, nrm, rr, ms, wid]
      exact slope _), (h c).2.1.trans (by
      funext y
      idx_vars y
      pointwise [loss, msq, err, nrm, rr, ms, wid]), (h c).2.2⟩) (run m ρ)

end Cert.LossHeadRefIdeal.Value

namespace Cert.LossHeadIdeal.Value

open Cert.LossHeadIdeal Cert.LossHeadIdeal.Gen Cert.Rms
open Cert.LossHeadRefIdeal.Value (err msq gx loss half_eq)

variable (m : (ℓ : Loc nD τ sig) → Buf (Elt Ideal) ℓ) (c : Dev nD)

/-- The blocks each grid point reads and writes. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ t.val < 16 :=
  (by decide +kernel : ∀ t : Fin grid0.N, _)

/-- The blocks of one grid point, by their types. -/
abbrev bX (t : Fin cfg0.N) : FVec Ideal S256x2048 .f32 := iblk m c 0 t
abbrev bY (t : Fin cfg0.N) : FVec Ideal S256x2048 .f32 := iblk m c 1 t
abbrev bW (t : Fin cfg0.N) : FVec Ideal S1x2048 .f32 := iblk m c 2 t
abbrev bG (t : Fin cfg0.N) : FVec Ideal S256x2048 .f32 := iblk m c 3 t
/-- The argument arrays, by their types. -/
abbrev aX : FVec Ideal S4096x2048 .f32 := m ((c : Thread nD τ).loc main_arg0)
abbrev aY (c : Dev nD) : FVec Ideal S4096x2048 .f32 := m ((c : Thread nD τ).loc main_arg1)
abbrev aW : FVec Ideal S2048 .f32 := m ((c : Thread nD τ).loc main_arg2)
abbrev aG (c : Dev nD) : FVec Ideal S4096x2048 .f32 := m ((c : Thread nD τ).loc main_arg3)

/-- Row `i` of a point's tile. -/
abbrev at' (t : Fin cfg0.N) (i : Fin 256) : Fin 4096 := ⟨t.val * 256 + i.val, by have := (idx t).2.2.2.2.2.2; omega⟩

theorem hX (t : Fin cfg0.N) (i : Fin 256) (d : Fin 2048) : bX m c t (ix2 i d) = aX m c (ix2 (at' t i) d) := by
  blk_point [bX, iblk, V, idx t]
theorem hY (t : Fin cfg0.N) (i : Fin 256) (d : Fin 2048) : bY m c t (ix2 i d) = aY m c (ix2 (at' t i) d) := by
  blk_point [bY, iblk, V, idx t]
theorem hW (t : Fin cfg0.N) (d : Fin 2048) : bW m c t (ix2 0 d) = aW m c (ix1 d) := by
  blk_point [bW, iblk, V, idx t]
theorem hG (t : Fin cfg0.N) (i : Fin 256) (d : Fin 2048) : bG m c t (ix2 i d) = aG m c (ix2 (at' t i) d) := by
  blk_point [bG, iblk, V, idx t]

theorem p3 (t : Fin cfg0.N) (i : Fin 256) (d : Fin 2048) : k0_pay3 (F := Ideal) (bX m c t) (bY m c t) (bW m c t) (bG m c t) (ix2 i d)
    = err (aX m c) (aY m c) (aW m c) (aG m c) (at' t i) d := by
  pointwise [k0_pay3, err, nrm, rr, ms, wid, hX, hY, hW, hG]
theorem p4 (t : Fin cfg0.N) (i : Fin 256) (d : Fin 2048) : k0_pay4 (F := Ideal) (bX m c t) (bY m c t) (bW m c t) (bG m c t) (ix2 i d)
    = gx (aX m c) (aY m c) (aW m c) (aG m c) (ix2 (at' t i) d) := by
  pointwise [k0_pay4, p3, gx]
/-- What a point adds to the loss. -/
abbrev part (t : Fin cfg0.N) : EReal := Ideal.ofBits .f32 0x3F000000#32 * ∑ i, msq (aX m c) (aY m c) (aW m c) (aG m c) (at' t i)
theorem p6 (t : Fin cfg0.N) (a : FVec Ideal S1x1 .f32) (j : S1x1.Idx) :
    k0_pay1 (F := Ideal) (k0_pay5 a) (k0_pay6 (bX m c t) (bY m c t) (bW m c t) (bG m c t)) k0_pay7 j = a j + part m c t := by
  idx_vars j
  pointwise [k0_pay1, k0_pay5, k0_pay6, k0_pay7, p3, part, msq]
theorem p2 (j : S1x1.Idx) : k0_pay2 (F := Ideal) j = 0 := by
  pointwise [k0_pay2]

theorem out4 (t : Fin cfg0.N) : (outsAt0 m c t.val t.isLt).1 = k0_pay4 (F := Ideal) (bX m c t) (bY m c t) (bW m c t) (bG m c t) := by
  by_cases h : t.val % 16 = 0
  · rw [outsAt0_A m c t h]; frame_out
  · rw [outsAt0_B m c t h]; frame_out
theorem out5_A (t : Fin cfg0.N) (h : t.val % 16 = 0) (j) : (outsAt0 m c t.val t.isLt).2 j = 0 + part m c t := by
  rw [outsAt0_A m c t h]; frame_out
  rw [p6, p2]
theorem out5_B (t : Fin cfg0.N) (h : ¬t.val % 16 = 0) (j) : (outsAt0 m c t.val t.isLt).2 j
    = (outsAt0 m c (t.val - 1) (Nat.lt_of_le_of_lt (Nat.sub_le _ _) t.isLt)).2 j + part m c t := by
  rw [outsAt0_B m c t h]; frame_out
  rw [p6]

/-- The gradient. -/
theorem final4 : (dats m 0 c).arrAt 4 (cfgs 0).N = gx (aX m c) (aY m c) (aW m c) (aG m c) := by
  refine (dats m 0 c).arrAt_eq_of_covers 4 _ (by decide +kernel) fun t hf y => ?_
  blk_simp
  rw [after0_4, out4 m c t]
  refine (congrArg (k0_pay4 (F := Ideal) (bX m c t) (bY m c t) (bW m c t) (bG m c t)) (eq_ix2 y)).trans ((p4 m c t (y 0) (y 1)).trans ?_)
  refine congrArg (gx (aX m c) (aY m c) (aW m c) (aG m c)) (?_ : ix2 (at' t (y 0)) (y 1) = _)
  blk_ext [idx t]

/-- Half of a sum is the sum of the halves. -/
theorem half_sum {n : ℕ} (f : Fin n → EReal) : Ideal.ofBits .f32 0x3F000000#32 * ∑ k, f k = ∑ k, Ideal.ofBits .f32 0x3F000000#32 * f k := by
  rw [half_eq]
  induction n with
  | zero => simp
  | succ n ih =>
    rw [Fin.sum_univ_succ, Fin.sum_univ_succ, EReal.left_distrib_of_nonneg_of_ne_top
      (EReal.coe_nonneg.mpr (by norm_num)) (EReal.coe_ne_top _), ih]

/-- The loss: the tiles' parts added up. -/
theorem final5 : (dats m 0 c).arrAt 5 (cfgs 0).N = loss (aX m c) (aY m c) (aW m c) (aG m c) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => (0 : EReal))
    (fun t _ => part m c t)
    (fun t h j => out5_A m c t h j) (fun t h j => out5_B m c t h j) t ((flush0_5 t).mp hf) _, zero_add]
  unfold loss
  rw [Cert.Rms.tiles, half_sum]
  refine Finset.sum_congr (M := EReal) rfl fun s _ => ?_
  refine congrArg (Ideal.ofBits .f32 0x3F000000#32 * ·) (Finset.sum_congr (M := EReal) rfl fun i _ => ?_)
  refine congrArg (msq (aX m c) (aY m c) (aW m c) (aG m c)) (Fin.ext ?_)
  have := (idx t).2.2.2.2.2.2
  show (16 * (t.val / 16) + s.val) * 256 + i.val = s.val * 256 + i.val
  omega

end Cert.LossHeadIdeal.Value

end
-- ==== Proof.AdamSpec.lean ====
/-
  One step of the optimiser on one entry: the new moments and the change of the weight, by the weight, its gradient and
  the old moments; and the two bias corrections, which divide by one minus a decay to the tenth power.
-/
module

public import Idealize.ShloMosaic.Lib.Pointwise
public import Idealize.ShloMosaic.PureOps.Ideal
public import Idealize.ShloMosaic.PureOps.IdealRules

@[expose] public section

noncomputable section

open Idealize.ShloMosaic

namespace Cert.Adam

/-- The inverses of the two bias corrections. -/
abbrev inv1 : EReal := ((10000000000 / 6513215599 : ℝ) : EReal)
abbrev inv2 : EReal := ((1000000000000000000000000000000 / 9955119790251790119955009999 : ℝ) : EReal)

variable (w g m v : EReal)

/-- The new first moment. -/
def mom : EReal := Ideal.ofBits .f32 0x3F666666#32 * m + Ideal.ofBits .f32 0x3DCCCCCD#32 * g
/-- The new second moment. -/
def var : EReal := Ideal.ofBits .f32 0x3F7FBE77#32 * v + Ideal.ofBits .f32 0x3A83126F#32 * (g * g)
/-- The change of the weight. -/
def dlt : EReal := Ideal.ofBits .f32 0xBA83126F#32 * (Ideal.div (mom g m * inv1) (Ideal.sqrt (var g v * inv2) + Ideal.ofBits .f32 0x322BCC77#32)
  + Ideal.ofBits .f32 0x3C23D70A#32 * w)

theorem dec1 : Ideal.div (Ideal.ofBits .f32 0x41100000#32) (Ideal.ofBits .f32 0x41200000#32) = ((9 / 10 : ℝ) : EReal) := by
  have h9 : Ideal.ofBits .f32 0x41100000#32 = ((9 : ℝ) : EReal) := by
    simp [Ideal.ofBits, Ideal.ieee]; rw [← EReal.coe_mul]; norm_num
  have h10 : Ideal.ofBits .f32 0x41200000#32 = ((10 : ℝ) : EReal) := by
    simp [Ideal.ofBits, Ideal.ieee]; rw [← EReal.coe_mul]; norm_num
  rw [h9, h10, Ideal.div_coe (by norm_num), ← EReal.coe_mul]
  norm_num
theorem dec2 : Ideal.div (Ideal.ofBits .f32 0x4479C000#32) (Ideal.ofBits .f32 0x447A0000#32) = ((999 / 1000 : ℝ) : EReal) := by
  have h9 : Ideal.ofBits .f32 0x4479C000#32 = ((999 : ℝ) : EReal) := by
    simp [Ideal.ofBits, Ideal.ieee]; rw [← EReal.coe_mul]; norm_num
  have h10 : Ideal.ofBits .f32 0x447A0000#32 = ((1000 : ℝ) : EReal) := by
    simp [Ideal.ofBits, Ideal.ieee]; rw [← EReal.coe_mul]; norm_num
  rw [h9, h10, Ideal.div_coe (by norm_num), ← EReal.coe_mul]
  norm_num

/-- One minus the tenth power of a real number, as the reference multiplies it up. -/
theorem bias (r : ℝ) : (1 : EReal) - (r : EReal) * r * ((r : EReal) * r * (r * r) * (r * r * (r * r))) = ((1 - r ^ 10 : ℝ) : EReal) := by
  rw [show r ^ 10 = r * r * (r * r * (r * r) * (r * r * (r * r))) by ring]
  simp only [EReal.coe_sub, EReal.coe_mul, EReal.coe_one]
theorem corr1 (x : EReal) : Ideal.div x ((1 - (9 / 10) ^ 10 : ℝ) : EReal) = x * inv1 := by
  rw [Ideal.div_coe (by norm_num), inv1]
  norm_num
theorem corr2 (x : EReal) : Ideal.div x ((1 - (999 / 1000) ^ 10 : ℝ) : EReal) = x * inv2 := by
  rw [Ideal.div_coe (by norm_num), inv2]
  norm_num

end Cert.Adam

end
-- ==== Proof.AdamWIn.lean ====
/-
  The optimiser's step on one array of weights of the two layers (2 x 2048 x 769 entries): its run's four results are the sum
  of the received parts of the gradient, the change of the weights and the two new moments, each entry by the entries at the same
  place; a layer's part of the gradient is the sum of that layer's received parts.
-/
module

public import proofs.«01_k».proof.Proof.AdamSpec
public import proofs.«01_k».proof.Proof.Gen.AdamWInIdeal.Value
public import proofs.«01_k».proof.Proof.Gen.AdamWInRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamWInRefIdeal.Value

open Cert.AdamWInRefIdeal Cert.AdamWInRefIdeal.Gen Cert.Adam

/-- The gradient: in each layer the sum of the layer's received parts. -/
def grad (s0 s1 : FVec Ideal S1x2048x769 .f32) : FVec Ideal S2x2048x769 .f32 := fun y =>
  if (y 0).val < 1 then ∑ k, s0 (ix3 k (y 1) (y 2)) else ∑ k, s1 (ix3 k (y 1) (y 2))
/-- The change of the weights and the new moments. -/
def step (w g m v : FVec Ideal S2x2048x769 .f32) : FVec Ideal S2x2048x769 .f32 := fun y => dlt (w y) (g y) (m y) (v y)
def moms (g m : FVec Ideal S2x2048x769 .f32) : FVec Ideal S2x2048x769 .f32 := fun y => mom (g y) (m y)
def vars (g v : FVec Ideal S2x2048x769 .f32) : FVec Ideal S2x2048x769 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = grad (m ((c.tc : Thread nD τ).loc main_arg3)) (m ((c.tc : Thread nD τ).loc main_arg4))
      ∧ r.2.mem ((c.tc : Thread nD τ).loc main_v42) = step (m ((c.tc : Thread nD τ).loc main_arg0)) (grad (m ((c.tc : Thread nD τ).loc main_arg3)) (m ((c.tc : Thread nD τ).loc main_arg4))) (m ((c.tc : Thread nD τ).loc main_arg1)) (m ((c.tc : Thread nD τ).loc main_arg2))
      ∧ r.2.mem ((c.tc : Thread nD τ).loc main_v9) = moms (grad (m ((c.tc : Thread nD τ).loc main_arg3)) (m ((c.tc : Thread nD τ).loc main_arg4))) (m ((c.tc : Thread nD τ).loc main_arg1))
      ∧ r.2.mem ((c.tc : Thread nD τ).loc main_v15) = vars (grad (m ((c.tc : Thread nD τ).loc main_arg3)) (m ((c.tc : Thread nD τ).loc main_arg4))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      funext y
      idx_vars y
      pointwise [grad, dite_eq_ite]), (h c).2.1.trans (by
      funext y
      idx_vars y
      unfold res_main_v42
      pointwise [grad, step, dlt, mom, var, id_eq, dite_eq_ite, dec1, dec2, bias, corr1, corr2]), (h c).2.2.1.trans (by
      funext y
      idx_vars y
      pointwise [grad, moms, mom, dite_eq_ite]), (h c).2.2.2.1.trans (by
      funext y
      idx_vars y
      pointwise [grad, vars, var, dite_eq_ite]), (h c).2.2.2.2⟩) (run m ρ)

end Cert.AdamWInRefIdeal.Value

namespace Cert.AdamWInIdeal.Value

open Cert.AdamWInIdeal Cert.AdamWInIdeal.Gen Cert.Adam
open Cert.AdamWInRefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The blocks each grid point reads and writes: of the received parts the block of its own layer is the one at its row. -/
theorem idx : ∀ t : Fin cfg0.N, win0_0.index t = ![t.val / 16, t.val % 16, 0] ∧ win0_1.index t = ![t.val / 16, t.val % 16, 0]
    ∧ win0_2.index t = ![t.val / 16, t.val % 16, 0] ∧ win0_5.index t = ![t.val / 16, t.val % 16, 0]
    ∧ win0_6.index t = ![t.val / 16, t.val % 16, 0] ∧ win0_7.index t = ![t.val / 16, t.val % 16, 0]
    ∧ win0_8.index t = ![t.val / 16, t.val % 16, 0]
    ∧ (t.val / 16 = 0 → win0_3.index t = ![0, t.val % 16, 0]) ∧ (t.val / 16 = 1 → win0_4.index t = ![0, t.val % 16, 0])
    ∧ (t.val / 16 = 0 ∨ t.val / 16 = 1)
    ∧ ((grid0.coords t) 0).val = t.val / 16 :=
  (by decide +kernel : ∀ t : Fin grid0.N, _)

/-- The entry of the whole array at an entry of a grid point's block. -/
def lay (t : Fin cfg0.N) : Fin 2 := ⟨t.val / 16, by rcases (idx t).2.2.2.2.2.2.2.2.2.1 with h | h <;> omega⟩
def row (t : Fin cfg0.N) (i : Fin 128) : Fin 2048 := ⟨t.val % 16 * 128 + i.val, by
  have := i.isLt
  have := Nat.mod_lt t.val (show 0 < 16 by omega)
  omega⟩

/-- The argument arrays, by their types. -/
abbrev aW : FVec Ideal S2x2048x769 .f32 := m ((c : Thread nD τ).loc main_arg0)
abbrev aM : FVec Ideal S2x2048x769 .f32 := m ((c : Thread nD τ).loc main_arg1)
abbrev aV : FVec Ideal S2x2048x769 .f32 := m ((c : Thread nD τ).loc main_arg2)
abbrev aS (c : Dev nD) : FVec Ideal S1x2048x769 .f32 := m ((c : Thread nD τ).loc main_arg3)
abbrev aT (c : Dev nD) : FVec Ideal S1x2048x769 .f32 := m ((c : Thread nD τ).loc main_arg4)
/-- The blocks of a grid point. -/
abbrev bW (t : Fin cfg0.N) : FVec Ideal S1x128x769 .f32 := iblk m c 0 t
abbrev bM (t : Fin cfg0.N) : FVec Ideal S1x128x769 .f32 := iblk m c 1 t
abbrev bV (t : Fin cfg0.N) : FVec Ideal S1x128x769 .f32 := iblk m c 2 t
abbrev bS (t : Fin cfg0.N) : FVec Ideal S1x128x769 .f32 := iblk m c 3 t
abbrev bT (t : Fin cfg0.N) : FVec Ideal S1x128x769 .f32 := iblk m c 4 t

theorem hW (t : Fin cfg0.N) (z : Fin 1) (i : Fin 128) (d : Fin 769) : bW m c t (ix3 z i d) = aW m c (ix3 (lay t) (row t i) d) := by
  blk_point [bW, iblk, V, idx t, lay, row]
theorem hM (t : Fin cfg0.N) (z : Fin 1) (i : Fin 128) (d : Fin 769) : bM m c t (ix3 z i d) = aM m c (ix3 (lay t) (row t i) d) := by
  blk_point [bM, iblk, V, idx t, lay, row]
theorem hV (t : Fin cfg0.N) (z : Fin 1) (i : Fin 128) (d : Fin 769) : bV m c t (ix3 z i d) = aV m c (ix3 (lay t) (row t i) d) := by
  blk_point [bV, iblk, V, idx t, lay, row]
theorem hS (t : Fin cfg0.N) (h : t.val / 16 = 0) (k : Fin 1) (i : Fin 128) (d : Fin 769) :
    bS m c t (ix3 k i d) = aS m c (ix3 k (row t i) d) := by
  have e := (idx t).2.2.2.2.2.2.2.1 h
  blk_point [bS, iblk, V, e, row]
theorem hT (t : Fin cfg0.N) (h : t.val / 16 = 1) (k : Fin 1) (i : Fin 128) (d : Fin 769) :
    bT m c t (ix3 k i d) = aT m c (ix3 k (row t i) d) := by
  have e := (idx t).2.2.2.2.2.2.2.2.1 h
  blk_point [bT, iblk, V, e, row]

/-- The gradient a grid point sums: that of its own layer. -/
theorem sums (t : Fin cfg0.N) (i : Fin 128) (d : Fin 769) :
    k0_pay2 (grid0.coords t) (bS m c t) (bT m c t) (ix2 i d) = grad (aS m c) (aT m c) (ix3 (lay t) (row t i) d) := by
  have hl := (idx t).2.2.2.2.2.2.2.2.2.2
  rcases (idx t).2.2.2.2.2.2.2.2.2.1 with h | h
  · have : (lay t).val < 1 := by simp only [lay]; omega
    pointwise [k0_pay2, grad]
    rw [hl, h, if_pos this]
    rw [Fin.sum_univ_one, hS m c t h]
    rfl
  · have : ¬ (lay t).val < 1 := by simp only [lay]; omega
    pointwise [k0_pay2, grad]
    rw [hl, h, if_neg this]
    rw [Fin.sum_univ_one, hT m c t h]
    rfl

theorem point_g (t : Fin cfg0.N) (z : Fin 1) (i : Fin 128) (d : Fin 769) :
    k0_pay5 (grid0.coords t) (bS m c t) (bT m c t) (ix3 z i d) = grad (aS m c) (aT m c) (ix3 (lay t) (row t i) d) := by
  rw [← sums]
  pointwise [k0_pay5]
theorem point_m (t : Fin cfg0.N) (z : Fin 1) (i : Fin 128) (d : Fin 769) :
    k0_pay6 (grid0.coords t) (bS m c t) (bT m c t) (bM m c t) (ix3 z i d) = moms (grad (aS m c) (aT m c)) (aM m c) (ix3 (lay t) (row t i) d) := by
  unfold moms
  rw [← sums]
  pointwise [k0_pay6, k0_pay3, mom, hM]
theorem point_v (t : Fin cfg0.N) (z : Fin 1) (i : Fin 128) (d : Fin 769) :
    k0_pay7 (grid0.coords t) (bS m c t) (bT m c t) (bV m c t) (ix3 z i d) = vars (grad (aS m c) (aT m c)) (aV m c) (ix3 (lay t) (row t i) d) := by
  unfold vars
  rw [← sums]
  pointwise [k0_pay7, k0_pay4, var, hV]
theorem point_d (t : Fin cfg0.N) (z : Fin 1) (i : Fin 128) (d : Fin 769) :
    k0_pay1 (k0_pay3 (grid0.coords t) (bS m c t) (bT m c t) (bM m c t)) (k0_pay4 (grid0.coords t) (bS m c t) (bT m c t) (bV m c t)) (bW m c t) (ix3 z i d) = step (aW m c) (grad (aS m c) (aT m c)) (aM m c) (aV m c) (ix3 (lay t) (row t i) d) := by
  unfold step
  rw [← sums]
  pointwise [k0_pay1, k0_pay3, k0_pay4, dlt, mom, var, hM, hV, hW, name1, name2]

theorem final_g : (dats m 0 c).arrAt 5 (cfgs 0).N = grad (aS m c) (aT m c) := by
  refine (dats m 0 c).arrAt_eq_of_covers 5 _ (by decide +kernel) fun t hf y => ?_
  blk_simp
  rw [after0_5]
  frame_out
  refine (congrArg (k0_pay5 (F := Ideal) (grid0.coords t) (bS m c t) (bT m c t)) (eq_ix3 y)).trans ((point_g m c t (y 0) (y 1) (y 2)).trans ?_)
  refine congrArg (grad (aS m c) (aT m c)) (?_ : ix3 (lay t) (row t (y 1)) (y 2) = _)
  blk_ext [idx t, lay, row]
theorem final_d : (dats m 0 c).arrAt 6 (cfgs 0).N = step (aW m c) (grad (aS m c) (aT m c)) (aM m c) (aV m c) := by
  refine (dats m 0 c).arrAt_eq_of_covers 6 _ (by decide +kernel) fun t hf y => ?_
  blk_simp
  rw [after0_6]
  frame_out
  refine (congrArg (k0_pay1 (F := Ideal) (k0_pay3 (grid0.coords t) (bS m c t) (bT m c t) (bM m c t)) (k0_pay4 (grid0.coords t) (bS m c t) (bT m c t) (bV m c t)) (bW m c t)) (eq_ix3 y)).trans ((point_d m c t (y 0) (y 1) (y 2)).trans ?_)
  refine congrArg (step (aW m c) (grad (aS m c) (aT m c)) (aM m c) (aV m c)) (?_ : ix3 (lay t) (row t (y 1)) (y 2) = _)
  blk_ext [idx t, lay, row]
theorem final_m : (dats m 0 c).arrAt 7 (cfgs 0).N = moms (grad (aS m c) (aT m c)) (aM m c) := by
  refine (dats m 0 c).arrAt_eq_of_covers 7 _ (by decide +kernel) fun t hf y => ?_
  blk_simp
  rw [after0_7]
  frame_out
  refine (congrArg (k0_pay6 (F := Ideal) (grid0.coords t) (bS m c t) (bT m c t) (bM m c t)) (eq_ix3 y)).trans ((point_m m c t (y 0) (y 1) (y 2)).trans ?_)
  refine congrArg (moms (grad (aS m c) (aT m c)) (aM m c)) (?_ : ix3 (lay t) (row t (y 1)) (y 2) = _)
  blk_ext [idx t, lay, row]
theorem final_v : (dats m 0 c).arrAt 8 (cfgs 0).N = vars (grad (aS m c) (aT m c)) (aV m c) := by
  refine (dats m 0 c).arrAt_eq_of_covers 8 _ (by decide +kernel) fun t hf y => ?_
  blk_simp
  rw [after0_8]
  frame_out
  refine (congrArg (k0_pay7 (F := Ideal) (grid0.coords t) (bS m c t) (bT m c t) (bV m c t)) (eq_ix3 y)).trans ((point_v m c t (y 0) (y 1) (y 2)).trans ?_)
  refine congrArg (vars (grad (aS m c) (aT m c)) (aV m c)) (?_ : ix3 (lay t) (row t (y 1)) (y 2) = _)
  blk_ext [idx t, lay, row]

end Cert.AdamWInIdeal.Value

end
-- ==== Proof.AdamWOut.lean ====
/-
  The optimiser's step on one array of weights of the two layers (2 x 256 x 2048 entries): its run's four results are the sum
  of the received parts of the gradient, the change of the weights and the two new moments, each entry by the entries at the same
  place; a layer's part of the gradient is the sum of that layer's received parts.
-/
module

public import proofs.«01_k».proof.Proof.AdamSpec
public import proofs.«01_k».proof.Proof.Gen.AdamWOutIdeal.Value
public import proofs.«01_k».proof.Proof.Gen.AdamWOutRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamWOutRefIdeal.Value

open Cert.AdamWOutRefIdeal Cert.AdamWOutRefIdeal.Gen Cert.Adam

/-- The gradient: in each layer the sum of the layer's received parts. -/
def grad (s0 s1 : FVec Ideal S4x256x2048 .bf16) : FVec Ideal S2x256x2048 .f32 := fun y =>
  if (y 0).val < 1 then ∑ k, s0 (ix3 k (y 1) (y 2)) else ∑ k, s1 (ix3 k (y 1) (y 2))
/-- The change of the weights and the new moments. -/
def step (w g m v : FVec Ideal S2x256x2048 .f32) : FVec Ideal S2x256x2048 .f32 := fun y => dlt (w y) (g y) (m y) (v y)
def moms (g m : FVec Ideal S2x256x2048 .f32) : FVec Ideal S2x256x2048 .f32 := fun y => mom (g y) (m y)
def vars (g v : FVec Ideal S2x256x2048 .f32) : FVec Ideal S2x256x2048 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = grad (m ((c.tc : Thread nD τ).loc main_arg3)) (m ((c.tc : Thread nD τ).loc main_arg4))
      ∧ r.2.mem ((c.tc : Thread nD τ).loc main_v44) = step (m ((c.tc : Thread nD τ).loc main_arg0)) (grad (m ((c.tc : Thread nD τ).loc main_arg3)) (m ((c.tc : Thread nD τ).loc main_arg4))) (m ((c.tc : Thread nD τ).loc main_arg1)) (m ((c.tc : Thread nD τ).loc main_arg2))
      ∧ r.2.mem ((c.tc : Thread nD τ).loc main_v11) = moms (grad (m ((c.tc : Thread nD τ).loc main_arg3)) (m ((c.tc : Thread nD τ).loc main_arg4))) (m ((c.tc : Thread nD τ).loc main_arg1))
      ∧ r.2.mem ((c.tc : Thread nD τ).loc main_v17) = vars (grad (m ((c.tc : Thread nD τ).loc main_arg3)) (m ((c.tc : Thread nD τ).loc main_arg4))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      funext y
      idx_vars y
      pointwise [grad, dite_eq_ite]), (h c).2.1.trans (by
      funext y
      idx_vars y
      unfold res_main_v44
      pointwise [grad, step, dlt, mom, var, id_eq, dite_eq_ite, dec1, dec2, bias, corr1, corr2]), (h c).2.2.1.trans (by
      funext y
      idx_vars y
      pointwise [grad, moms, mom, dite_eq_ite]), (h c).2.2.2.1.trans (by
      funext y
      idx_vars y
      pointwise [grad, vars, var, dite_eq_ite]), (h c).2.2.2.2⟩) (run m ρ)

end Cert.AdamWOutRefIdeal.Value

namespace Cert.AdamWOutIdeal.Value

open Cert.AdamWOutIdeal Cert.AdamWOutIdeal.Gen Cert.Adam
open Cert.AdamWOutRefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The blocks each grid point reads and writes: of the received parts the block of its own layer is the one at its row. -/
theorem idx : ∀ t : Fin cfg0.N, win0_0.index t = ![t.val / 2, t.val % 2, 0] ∧ win0_1.index t = ![t.val / 2, t.val % 2, 0]
    ∧ win0_2.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0]
    ∧ (t.val / 2 = 0 → win0_3.index t = ![0, t.val % 2, 0]) ∧ (t.val / 2 = 1 → win0_4.index t = ![0, t.val % 2, 0])
    ∧ (t.val / 2 = 0 ∨ t.val / 2 = 1)
    ∧ ((grid0.coords t) 0).val = t.val / 2 :=
  (by decide +kernel : ∀ t : Fin grid0.N, _)

/-- The entry of the whole array at an entry of a grid point's block. -/
def lay (t : Fin cfg0.N) : Fin 2 := ⟨t.val / 2, by rcases (idx t).2.2.2.2.2.2.2.2.2.1 with h | h <;> omega⟩
def row (t : Fin cfg0.N) (i : Fin 128) : Fin 256 := ⟨t.val % 2 * 128 + i.val, by
  have := i.isLt
  have := Nat.mod_lt t.val (show 0 < 2 by omega)
  omega⟩

/-- The argument arrays, by their types. -/
abbrev aW : FVec Ideal S2x256x2048 .f32 := m ((c : Thread nD τ).loc main_arg0)
abbrev aM : FVec Ideal S2x256x2048 .f32 := m ((c : Thread nD τ).loc main_arg1)
abbrev aV : FVec Ideal S2x256x2048 .f32 := m ((c : Thread nD τ).loc main_arg2)
abbrev aS (c : Dev nD) : FVec Ideal S4x256x2048 .bf16 := m ((c : Thread nD τ).loc main_arg3)
abbrev aT (c : Dev nD) : FVec Ideal S4x256x2048 .bf16 := m ((c : Thread nD τ).loc main_arg4)
/-- The blocks of a grid point. -/
abbrev bW (t : Fin cfg0.N) : FVec Ideal S1x128x2048 .f32 := iblk m c 0 t
abbrev bM (t : Fin cfg0.N) : FVec Ideal S1x128x2048 .f32 := iblk m c 1 t
abbrev bV (t : Fin cfg0.N) : FVec Ideal S1x128x2048 .f32 := iblk m c 2 t
abbrev bS (t : Fin cfg0.N) : FVec Ideal S4x128x2048 .bf16 := iblk m c 3 t
abbrev bT (t : Fin cfg0.N) : FVec Ideal S4x128x2048 .bf16 := iblk m c 4 t

theorem hW (t : Fin cfg0.N) (z : Fin 1) (i : Fin 128) (d : Fin 2048) : bW m c t (ix3 z i d) = aW m c (ix3 (lay t) (row t i) d) := by
  blk_point [bW, iblk, V, idx t, lay, row]
theorem hM (t : Fin cfg0.N) (z : Fin 1) (i : Fin 128) (d : Fin 2048) : bM m c t (ix3 z i d) = aM m c (ix3 (lay t) (row t i) d) := by
  blk_point [bM, iblk, V, idx t, lay, row]
theorem hV (t : Fin cfg0.N) (z : Fin 1) (i : Fin 128) (d : Fin 2048) : bV m c t (ix3 z i d) = aV m c (ix3 (lay t) (row t i) d) := by
  blk_point [bV, iblk, V, idx t, lay, row]
theorem hS (t : Fin cfg0.N) (h : t.val / 2 = 0) (k : Fin 4) (i : Fin 128) (d : Fin 2048) :
    bS m c t (ix3 k i d) = aS m c (ix3 k (row t i) d) := by
  have e := (idx t).2.2.2.2.2.2.2.1 h
  blk_point [bS, iblk, V, e, row]
theorem hT (t : Fin cfg0.N) (h : t.val / 2 = 1) (k : Fin 4) (i : Fin 128) (d : Fin 2048) :
    bT m c t (ix3 k i d) = aT m c (ix3 k (row t i) d) := by
  have e := (idx t).2.2.2.2.2.2.2.2.1 h
  blk_point [bT, iblk, V, e, row]

/-- The gradient a grid point sums: that of its own layer. -/
theorem sums (t : Fin cfg0.N) (i : Fin 128) (d : Fin 2048) :
    k0_pay9 (grid0.coords t) (bW m c t) (bM m c t) (bV m c t) (bS m c t) (bT m c t) (ix2 i d) = grad (aS m c) (aT m c) (ix3 (lay t) (row t i) d) := by
  have hl := (idx t).2.2.2.2.2.2.2.2.2.2
  rcases (idx t).2.2.2.2.2.2.2.2.2.1 with h | h
  · have : (lay t).val < 1 := by simp only [lay]; omega
    pointwise [k0_pay9, k0_pay2, grad]
    rw [hl, h, if_pos this]
    rw [Fin.sum_univ_four, ← hS m c t h, ← hS m c t h, ← hS m c t h, ← hS m c t h]
    rfl
  · have : ¬ (lay t).val < 1 := by simp only [lay]; omega
    pointwise [k0_pay9, k0_pay2, grad]
    rw [hl, h, if_neg this]
    rw [Fin.sum_univ_four, ← hT m c t h, ← hT m c t h, ← hT m c t h, ← hT m c t h]
    rfl

theorem point_g (t : Fin cfg0.N) (z : Fin 1) (i : Fin 128) (d : Fin 2048) :
    k0_pay5 (k0_pay9 (grid0.coords t) (bW m c t) (bM m c t) (bV m c t) (bS m c t) (bT m c t)) (ix3 z i d) = grad (aS m c) (aT m c) (ix3 (lay t) (row t i) d) := by
  rw [← sums]
  pointwise [k0_pay5]
theorem point_m (t : Fin cfg0.N) (z : Fin 1) (i : Fin 128) (d : Fin 2048) :
    k0_pay6 (k0_pay9 (grid0.coords t) (bW m c t) (bM m c t) (bV m c t) (bS m c t) (bT m c t)) (bM m c t) (ix3 z i d) = moms (grad (aS m c) (aT m c)) (aM m c) (ix3 (lay t) (row t i) d) := by
  unfold moms
  rw [← sums]
  pointwise [k0_pay6, k0_pay3, mom, hM]
theorem point_v (t : Fin cfg0.N) (z : Fin 1) (i : Fin 128) (d : Fin 2048) :
    k0_pay7 (k0_pay9 (grid0.coords t) (bW m c t) (bM m c t) (bV m c t) (bS m c t) (bT m c t)) (bV m c t) (ix3 z i d) = vars (grad (aS m c) (aT m c)) (aV m c) (ix3 (lay t) (row t i) d) := by
  unfold vars
  rw [← sums]
  pointwise [k0_pay7, k0_pay4, var, hV]
theorem point_d (t : Fin cfg0.N) (z : Fin 1) (i : Fin 128) (d : Fin 2048) :
    k0_pay1 (k0_pay8 (k0_pay9 (grid0.coords t) (bW m c t) (bM m c t) (bV m c t) (bS m c t) (bT m c t)) (bM m c t) (bV m c t)) (bW m c t) (ix3 z i d) = step (aW m c) (grad (aS m c) (aT m c)) (aM m c) (aV m c) (ix3 (lay t) (row t i) d) := by
  unfold step
  rw [← sums]
  pointwise [k0_pay1, k0_pay3, k0_pay4, k0_pay8, dlt, mom, var, hM, hV, hW, name1, name2]

theorem final_g : (dats m 0 c).arrAt 5 (cfgs 0).N = grad (aS m c) (aT m c) := by
  refine (dats m 0 c).arrAt_eq_of_covers 5 _ (by decide +kernel) fun t hf y => ?_
  blk_simp
  rw [after0_5]
  frame_out
  refine (congrArg (k0_pay5 (F := Ideal) (k0_pay9 (grid0.coords t) (bW m c t) (bM m c t) (bV m c t) (bS m c t) (bT m c t))) (eq_ix3 y)).trans ((point_g m c t (y 0) (y 1) (y 2)).trans ?_)
  refine congrArg (grad (aS m c) (aT m c)) (?_ : ix3 (lay t) (row t (y 1)) (y 2) = _)
  blk_ext [idx t, lay, row]
theorem final_d : (dats m 0 c).arrAt 6 (cfgs 0).N = step (aW m c) (grad (aS m c) (aT m c)) (aM m c) (aV m c) := by
  refine (dats m 0 c).arrAt_eq_of_covers 6 _ (by decide +kernel) fun t hf y => ?_
  blk_simp
  rw [after0_6]
  frame_out
  refine (congrArg (k0_pay1 (F := Ideal) (k0_pay8 (k0_pay9 (grid0.coords t) (bW m c t) (bM m c t) (bV m c t) (bS m c t) (bT m c t)) (bM m c t) (bV m c t)) (bW m c t)) (eq_ix3 y)).trans ((point_d m c t (y 0) (y 1) (y 2)).trans ?_)
  refine congrArg (step (aW m c) (grad (aS m c) (aT m c)) (aM m c) (aV m c)) (?_ : ix3 (lay t) (row t (y 1)) (y 2) = _)
  blk_ext [idx t, lay, row]
theorem final_m : (dats m 0 c).arrAt 7 (cfgs 0).N = moms (grad (aS m c) (aT m c)) (aM m c) := by
  refine (dats m 0 c).arrAt_eq_of_covers 7 _ (by decide +kernel) fun t hf y => ?_
  blk_simp
  rw [after0_7]
  frame_out
  refine (congrArg (k0_pay6 (F := Ideal) (k0_pay9 (grid0.coords t) (bW m c t) (bM m c t) (bV m c t) (bS m c t) (bT m c t)) (bM m c t)) (eq_ix3 y)).trans ((point_m m c t (y 0) (y 1) (y 2)).trans ?_)
  refine congrArg (moms (grad (aS m c) (aT m c)) (aM m c)) (?_ : ix3 (lay t) (row t (y 1)) (y 2) = _)
  blk_ext [idx t, lay, row]
theorem final_v : (dats m 0 c).arrAt 8 (cfgs 0).N = vars (grad (aS m c) (aT m c)) (aV m c) := by
  refine (dats m 0 c).arrAt_eq_of_covers 8 _ (by decide +kernel) fun t hf y => ?_
  blk_simp
  rw [after0_8]
  frame_out
  refine (congrArg (k0_pay7 (F := Ideal) (k0_pay9 (grid0.coords t) (bW m c t) (bM m c t) (bV m c t) (bS m c t) (bT m c t)) (bV m c t)) (eq_ix3 y)).trans ((point_v m c t (y 0) (y 1) (y 2)).trans ?_)
  refine congrArg (vars (grad (aS m c) (aT m c)) (aV m c)) (?_ : ix3 (lay t) (row t (y 1)) (y 2) = _)
  blk_ext [idx t, lay, row]

end Cert.AdamWOutIdeal.Value

end
-- ==== Proof.AdamWFf1.lean ====
/-
  The optimiser's step on one array of weights of the two layers (2 x 2048 x 1024 entries): its run's four results are the sum
  of the received parts of the gradient, the change of the weights and the two new moments, each entry by the entries at the same
  place; a layer's part of the gradient is the sum of that layer's received parts.
-/
module

public import proofs.«01_k».proof.Proof.AdamSpec
public import proofs.«01_k».proof.Proof.Gen.AdamWFf1Ideal.Value
public import proofs.«01_k».proof.Proof.Gen.AdamWFf1RefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamWFf1RefIdeal.Value

open Cert.AdamWFf1RefIdeal Cert.AdamWFf1RefIdeal.Gen Cert.Adam

/-- The gradient: in each layer the sum of the layer's received parts. -/
def grad (s0 s1 : FVec Ideal S4x2048x1024 .bf16) : FVec Ideal S2x2048x1024 .f32 := fun y =>
  if (y 0).val < 1 then ∑ k, s0 (ix3 k (y 1) (y 2)) else ∑ k, s1 (ix3 k (y 1) (y 2))
/-- The change of the weights and the new moments. -/
def step (w g m v : FVec Ideal S2x2048x1024 .f32) : FVec Ideal S2x2048x1024 .f32 := fun y => dlt (w y) (g y) (m y) (v y)
def moms (g m : FVec Ideal S2x2048x1024 .f32) : FVec Ideal S2x2048x1024 .f32 := fun y => mom (g y) (m y)
def vars (g v : FVec Ideal S2x2048x1024 .f32) : FVec Ideal S2x2048x1024 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = grad (m ((c.tc : Thread nD τ).loc main_arg3)) (m ((c.tc : Thread nD τ).loc main_arg4))
      ∧ r.2.mem ((c.tc : Thread nD τ).loc main_v44) = step (m ((c.tc : Thread nD τ).loc main_arg0)) (grad (m ((c.tc : Thread nD τ).loc main_arg3)) (m ((c.tc : Thread nD τ).loc main_arg4))) (m ((c.tc : Thread nD τ).loc main_arg1)) (m ((c.tc : Thread nD τ).loc main_arg2))
      ∧ r.2.mem ((c.tc : Thread nD τ).loc main_v11) = moms (grad (m ((c.tc : Thread nD τ).loc main_arg3)) (m ((c.tc : Thread nD τ).loc main_arg4))) (m ((c.tc : Thread nD τ).loc main_arg1))
      ∧ r.2.mem ((c.tc : Thread nD τ).loc main_v17) = vars (grad (m ((c.tc : Thread nD τ).loc main_arg3)) (m ((c.tc : Thread nD τ).loc main_arg4))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      funext y
      idx_vars y
      pointwise [grad, dite_eq_ite]), (h c).2.1.trans (by
      funext y
      idx_vars y
      unfold res_main_v44
      pointwise [grad, step, dlt, mom, var, id_eq, dite_eq_ite, dec1, dec2, bias, corr1, corr2]), (h c).2.2.1.trans (by
      funext y
      idx_vars y
      pointwise [grad, moms, mom, dite_eq_ite]), (h c).2.2.2.1.trans (by
      funext y
      idx_vars y
      pointwise [grad, vars, var, dite_eq_ite]), (h c).2.2.2.2⟩) (run m ρ)

end Cert.AdamWFf1RefIdeal.Value

namespace Cert.AdamWFf1Ideal.Value

open Cert.AdamWFf1Ideal Cert.AdamWFf1Ideal.Gen Cert.Adam
open Cert.AdamWFf1RefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The blocks each grid point reads and writes: of the received parts the block of its own layer is the one at its row. -/
theorem idx : ∀ t : Fin cfg0.N, win0_0.index t = ![t.val / 16, t.val % 16, 0] ∧ win0_1.index t = ![t.val / 16, t.val % 16, 0]
    ∧ win0_2.index t = ![t.val / 16, t.val % 16, 0] ∧ win0_5.index t = ![t.val / 16, t.val % 16, 0]
    ∧ win0_6.index t = ![t.val / 16, t.val % 16, 0] ∧ win0_7.index t = ![t.val / 16, t.val % 16, 0]
    ∧ win0_8.index t = ![t.val / 16, t.val % 16, 0]
    ∧ (t.val / 16 = 0 → win0_3.index t = ![0, t.val % 16, 0]) ∧ (t.val / 16 = 1 → win0_4.index t = ![0, t.val % 16, 0])
    ∧ (t.val / 16 = 0 ∨ t.val / 16 = 1)
    ∧ ((grid0.coords t) 0).val = t.val / 16 :=
  (by decide +kernel : ∀ t : Fin grid0.N, _)

/-- The entry of the whole array at an entry of a grid point's block. -/
def lay (t : Fin cfg0.N) : Fin 2 := ⟨t.val / 16, by rcases (idx t).2.2.2.2.2.2.2.2.2.1 with h | h <;> omega⟩
def row (t : Fin cfg0.N) (i : Fin 128) : Fin 2048 := ⟨t.val % 16 * 128 + i.val, by
  have := i.isLt
  have := Nat.mod_lt t.val (show 0 < 16 by omega)
  omega⟩

/-- The argument arrays, by their types. -/
abbrev aW : FVec Ideal S2x2048x1024 .f32 := m ((c : Thread nD τ).loc main_arg0)
abbrev aM : FVec Ideal S2x2048x1024 .f32 := m ((c : Thread nD τ).loc main_arg1)
abbrev aV : FVec Ideal S2x2048x1024 .f32 := m ((c : Thread nD τ).loc main_arg2)
abbrev aS (c : Dev nD) : FVec Ideal S4x2048x1024 .bf16 := m ((c : Thread nD τ).loc main_arg3)
abbrev aT (c : Dev nD) : FVec Ideal S4x2048x1024 .bf16 := m ((c : Thread nD τ).loc main_arg4)
/-- The blocks of a grid point. -/
abbrev bW (t : Fin cfg0.N) : FVec Ideal S1x128x1024 .f32 := iblk m c 0 t
abbrev bM (t : Fin cfg0.N) : FVec Ideal S1x128x1024 .f32 := iblk m c 1 t
abbrev bV (t : Fin cfg0.N) : FVec Ideal S1x128x1024 .f32 := iblk m c 2 t
abbrev bS (t : Fin cfg0.N) : FVec Ideal S4x128x1024 .bf16 := iblk m c 3 t
abbrev bT (t : Fin cfg0.N) : FVec Ideal S4x128x1024 .bf16 := iblk m c 4 t

theorem hW (t : Fin cfg0.N) (z : Fin 1) (i : Fin 128) (d : Fin 1024) : bW m c t (ix3 z i d) = aW m c (ix3 (lay t) (row t i) d) := by
  blk_point [bW, iblk, V, idx t, lay, row]
theorem hM (t : Fin cfg0.N) (z : Fin 1) (i : Fin 128) (d : Fin 1024) : bM m c t (ix3 z i d) = aM m c (ix3 (lay t) (row t i) d) := by
  blk_point [bM, iblk, V, idx t, lay, row]
theorem hV (t : Fin cfg0.N) (z : Fin 1) (i : Fin 128) (d : Fin 1024) : bV m c t (ix3 z i d) = aV m c (ix3 (lay t) (row t i) d) := by
  blk_point [bV, iblk, V, idx t, lay, row]
theorem hS (t : Fin cfg0.N) (h : t.val / 16 = 0) (k : Fin 4) (i : Fin 128) (d : Fin 1024) :
    bS m c t (ix3 k i d) = aS m c (ix3 k (row t i) d) := by
  have e := (idx t).2.2.2.2.2.2.2.1 h
  blk_point [bS, iblk, V, e, row]
theorem hT (t : Fin cfg0.N) (h : t.val / 16 = 1) (k : Fin 4) (i : Fin 128) (d : Fin 1024) :
    bT m c t (ix3 k i d) = aT m c (ix3 k (row t i) d) := by
  have e := (idx t).2.2.2.2.2.2.2.2.1 h
  blk_point [bT, iblk, V, e, row]

/-- The gradient a grid point sums: that of its own layer. -/
theorem sums (t : Fin cfg0.N) (i : Fin 128) (d : Fin 1024) :
    k0_pay9 (grid0.coords t) (bW m c t) (bM m c t) (bV m c t) (bS m c t) (bT m c t) (ix2 i d) = grad (aS m c) (aT m c) (ix3 (lay t) (row t i) d) := by
  have hl := (idx t).2.2.2.2.2.2.2.2.2.2
  rcases (idx t).2.2.2.2.2.2.2.2.2.1 with h | h
  · have : (lay t).val < 1 := by simp only [lay]; omega
    pointwise [k0_pay9, k0_pay2, grad]
    rw [hl, h, if_pos this]
    rw [Fin.sum_univ_four, ← hS m c t h, ← hS m c t h, ← hS m c t h, ← hS m c t h]
    rfl
  · have : ¬ (lay t).val < 1 := by simp only [lay]; omega
    pointwise [k0_pay9, k0_pay2, grad]
    rw [hl, h, if_neg this]
    rw [Fin.sum_univ_four, ← hT m c t h, ← hT m c t h, ← hT m c t h, ← hT m c t h]
    rfl

theorem point_g (t : Fin cfg0.N) (z : Fin 1) (i : Fin 128) (d : Fin 1024) :
    k0_pay5 (k0_pay9 (grid0.coords t) (bW m c t) (bM m c t) (bV m c t) (bS m c t) (bT m c t)) (ix3 z i d) = grad (aS m c) (aT m c) (ix3 (lay t) (row t i) d) := by
  rw [← sums]
  pointwise [k0_pay5]
theorem point_m (t : Fin cfg0.N) (z : Fin 1) (i : Fin 128) (d : Fin 1024) :
    k0_pay6 (k0_pay9 (grid0.coords t) (bW m c t) (bM m c t) (bV m c t) (bS m c t) (bT m c t)) (bM m c t) (ix3 z i d) = moms (grad (aS m c) (aT m c)) (aM m c) (ix3 (lay t) (row t i) d) := by
  unfold moms
  rw [← sums]
  pointwise [k0_pay6, k0_pay3, mom, hM]
theorem point_v (t : Fin cfg0.N) (z : Fin 1) (i : Fin 128) (d : Fin 1024) :
    k0_pay7 (k0_pay9 (grid0.coords t) (bW m c t) (bM m c t) (bV m c t) (bS m c t) (bT m c t)) (bV m c t) (ix3 z i d) = vars (grad (aS m c) (aT m c)) (aV m c) (ix3 (lay t) (row t i) d) := by
  unfold vars
  rw [← sums]
  pointwise [k0_pay7, k0_pay4, var, hV]
theorem point_d (t : Fin cfg0.N) (z : Fin 1) (i : Fin 128) (d : Fin 1024) :
    k0_pay1 (k0_pay8 (k0_pay9 (grid0.coords t) (bW m c t) (bM m c t) (bV m c t) (bS m c t) (bT m c t)) (bM m c t) (bV m c t)) (bW m c t) (ix3 z i d) = step (aW m c) (grad (aS m c) (aT m c)) (aM m c) (aV m c) (ix3 (lay t) (row t i) d) := by
  unfold step
  rw [← sums]
  pointwise [k0_pay1, k0_pay3, k0_pay4, k0_pay8, dlt, mom, var, hM, hV, hW, name1, name2]

theorem final_g : (dats m 0 c).arrAt 5 (cfgs 0).N = grad (aS m c) (aT m c) := by
  refine (dats m 0 c).arrAt_eq_of_covers 5 _ (by decide +kernel) fun t hf y => ?_
  blk_simp
  rw [after0_5]
  frame_out
  refine (congrArg (k0_pay5 (F := Ideal) (k0_pay9 (grid0.coords t) (bW m c t) (bM m c t) (bV m c t) (bS m c t) (bT m c t))) (eq_ix3 y)).trans ((point_g m c t (y 0) (y 1) (y 2)).trans ?_)
  refine congrArg (grad (aS m c) (aT m c)) (?_ : ix3 (lay t) (row t (y 1)) (y 2) = _)
  blk_ext [idx t, lay, row]
theorem final_d : (dats m 0 c).arrAt 6 (cfgs 0).N = step (aW m c) (grad (aS m c) (aT m c)) (aM m c) (aV m c) := by
  refine (dats m 0 c).arrAt_eq_of_covers 6 _ (by decide +kernel) fun t hf y => ?_
  blk_simp
  rw [after0_6]
  frame_out
  refine (congrArg (k0_pay1 (F := Ideal) (k0_pay8 (k0_pay9 (grid0.coords t) (bW m c t) (bM m c t) (bV m c t) (bS m c t) (bT m c t)) (bM m c t) (bV m c t)) (bW m c t)) (eq_ix3 y)).trans ((point_d m c t (y 0) (y 1) (y 2)).trans ?_)
  refine congrArg (step (aW m c) (grad (aS m c) (aT m c)) (aM m c) (aV m c)) (?_ : ix3 (lay t) (row t (y 1)) (y 2) = _)
  blk_ext [idx t, lay, row]
theorem final_m : (dats m 0 c).arrAt 7 (cfgs 0).N = moms (grad (aS m c) (aT m c)) (aM m c) := by
  refine (dats m 0 c).arrAt_eq_of_covers 7 _ (by decide +kernel) fun t hf y => ?_
  blk_simp
  rw [after0_7]
  frame_out
  refine (congrArg (k0_pay6 (F := Ideal) (k0_pay9 (grid0.coords t) (bW m c t) (bM m c t) (bV m c t) (bS m c t) (bT m c t)) (bM m c t)) (eq_ix3 y)).trans ((point_m m c t (y 0) (y 1) (y 2)).trans ?_)
  refine congrArg (moms (grad (aS m c) (aT m c)) (aM m c)) (?_ : ix3 (lay t) (row t (y 1)) (y 2) = _)
  blk_ext [idx t, lay, row]
theorem final_v : (dats m 0 c).arrAt 8 (cfgs 0).N = vars (grad (aS m c) (aT m c)) (aV m c) := by
  refine (dats m 0 c).arrAt_eq_of_covers 8 _ (by decide +kernel) fun t hf y => ?_
  blk_simp
  rw [after0_8]
  frame_out
  refine (congrArg (k0_pay7 (F := Ideal) (k0_pay9 (grid0.coords t) (bW m c t) (bM m c t) (bV m c t) (bS m c t) (bT m c t)) (bV m c t)) (eq_ix3 y)).trans ((point_v m c t (y 0) (y 1) (y 2)).trans ?_)
  refine congrArg (vars (grad (aS m c) (aT m c)) (aV m c)) (?_ : ix3 (lay t) (row t (y 1)) (y 2) = _)
  blk_ext [idx t, lay, row]

end Cert.AdamWFf1Ideal.Value

end
-- ==== Proof.AdamWFf2.lean ====
/-
  The optimiser's step on one array of weights of the two layers (2 x 1024 x 2048 entries): its run's four results are the sum
  of the received parts of the gradient, the change of the weights and the two new moments, each entry by the entries at the same
  place; a layer's part of the gradient is the sum of that layer's received parts.
-/
module

public import proofs.«01_k».proof.Proof.AdamSpec
public import proofs.«01_k».proof.Proof.Gen.AdamWFf2Ideal.Value
public import proofs.«01_k».proof.Proof.Gen.AdamWFf2RefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamWFf2RefIdeal.Value

open Cert.AdamWFf2RefIdeal Cert.AdamWFf2RefIdeal.Gen Cert.Adam

/-- The gradient: in each layer the sum of the layer's received parts. -/
def grad (s0 s1 : FVec Ideal S4x1024x2048 .bf16) : FVec Ideal S2x1024x2048 .f32 := fun y =>
  if (y 0).val < 1 then ∑ k, s0 (ix3 k (y 1) (y 2)) else ∑ k, s1 (ix3 k (y 1) (y 2))
/-- The change of the weights and the new moments. -/
def step (w g m v : FVec Ideal S2x1024x2048 .f32) : FVec Ideal S2x1024x2048 .f32 := fun y => dlt (w y) (g y) (m y) (v y)
def moms (g m : FVec Ideal S2x1024x2048 .f32) : FVec Ideal S2x1024x2048 .f32 := fun y => mom (g y) (m y)
def vars (g v : FVec Ideal S2x1024x2048 .f32) : FVec Ideal S2x1024x2048 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = grad (m ((c.tc : Thread nD τ).loc main_arg3)) (m ((c.tc : Thread nD τ).loc main_arg4))
      ∧ r.2.mem ((c.tc : Thread nD τ).loc main_v44) = step (m ((c.tc : Thread nD τ).loc main_arg0)) (grad (m ((c.tc : Thread nD τ).loc main_arg3)) (m ((c.tc : Thread nD τ).loc main_arg4))) (m ((c.tc : Thread nD τ).loc main_arg1)) (m ((c.tc : Thread nD τ).loc main_arg2))
      ∧ r.2.mem ((c.tc : Thread nD τ).loc main_v11) = moms (grad (m ((c.tc : Thread nD τ).loc main_arg3)) (m ((c.tc : Thread nD τ).loc main_arg4))) (m ((c.tc : Thread nD τ).loc main_arg1))
      ∧ r.2.mem ((c.tc : Thread nD τ).loc main_v17) = vars (grad (m ((c.tc : Thread nD τ).loc main_arg3)) (m ((c.tc : Thread nD τ).loc main_arg4))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      funext y
      idx_vars y
      pointwise [grad, dite_eq_ite]), (h c).2.1.trans (by
      funext y
      idx_vars y
      unfold res_main_v44
      pointwise [grad, step, dlt, mom, var, id_eq, dite_eq_ite, dec1, dec2, bias, corr1, corr2]), (h c).2.2.1.trans (by
      funext y
      idx_vars y
      pointwise [grad, moms, mom, dite_eq_ite]), (h c).2.2.2.1.trans (by
      funext y
      idx_vars y
      pointwise [grad, vars, var, dite_eq_ite]), (h c).2.2.2.2⟩) (run m ρ)

end Cert.AdamWFf2RefIdeal.Value

namespace Cert.AdamWFf2Ideal.Value

open Cert.AdamWFf2Ideal Cert.AdamWFf2Ideal.Gen Cert.Adam
open Cert.AdamWFf2RefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The blocks each grid point reads and writes: of the received parts the block of its own layer is the one at its row. -/
theorem idx : ∀ t : Fin cfg0.N, win0_0.index t = ![t.val / 8, t.val % 8, 0] ∧ win0_1.index t = ![t.val / 8, t.val % 8, 0]
    ∧ win0_2.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0]
    ∧ (t.val / 8 = 0 → win0_3.index t = ![0, t.val % 8, 0]) ∧ (t.val / 8 = 1 → win0_4.index t = ![0, t.val % 8, 0])
    ∧ (t.val / 8 = 0 ∨ t.val / 8 = 1)
    ∧ ((grid0.coords t) 0).val = t.val / 8 :=
  (by decide +kernel : ∀ t : Fin grid0.N, _)

/-- The entry of the whole array at an entry of a grid point's block. -/
def lay (t : Fin cfg0.N) : Fin 2 := ⟨t.val / 8, by rcases (idx t).2.2.2.2.2.2.2.2.2.1 with h | h <;> omega⟩
def row (t : Fin cfg0.N) (i : Fin 128) : Fin 1024 := ⟨t.val % 8 * 128 + i.val, by
  have := i.isLt
  have := Nat.mod_lt t.val (show 0 < 8 by omega)
  omega⟩

/-- The argument arrays, by their types. -/
abbrev aW : FVec Ideal S2x1024x2048 .f32 := m ((c : Thread nD τ).loc main_arg0)
abbrev aM : FVec Ideal S2x1024x2048 .f32 := m ((c : Thread nD τ).loc main_arg1)
abbrev aV : FVec Ideal S2x1024x2048 .f32 := m ((c : Thread nD τ).loc main_arg2)
abbrev aS (c : Dev nD) : FVec Ideal S4x1024x2048 .bf16 := m ((c : Thread nD τ).loc main_arg3)
abbrev aT (c : Dev nD) : FVec Ideal S4x1024x2048 .bf16 := m ((c : Thread nD τ).loc main_arg4)
/-- The blocks of a grid point. -/
abbrev bW (t : Fin cfg0.N) : FVec Ideal S1x128x2048 .f32 := iblk m c 0 t
abbrev bM (t : Fin cfg0.N) : FVec Ideal S1x128x2048 .f32 := iblk m c 1 t
abbrev bV (t : Fin cfg0.N) : FVec Ideal S1x128x2048 .f32 := iblk m c 2 t
abbrev bS (t : Fin cfg0.N) : FVec Ideal S4x128x2048 .bf16 := iblk m c 3 t
abbrev bT (t : Fin cfg0.N) : FVec Ideal S4x128x2048 .bf16 := iblk m c 4 t

theorem hW (t : Fin cfg0.N) (z : Fin 1) (i : Fin 128) (d : Fin 2048) : bW m c t (ix3 z i d) = aW m c (ix3 (lay t) (row t i) d) := by
  blk_point [bW, iblk, V, idx t, lay, row]
theorem hM (t : Fin cfg0.N) (z : Fin 1) (i : Fin 128) (d : Fin 2048) : bM m c t (ix3 z i d) = aM m c (ix3 (lay t) (row t i) d) := by
  blk_point [bM, iblk, V, idx t, lay, row]
theorem hV (t : Fin cfg0.N) (z : Fin 1) (i : Fin 128) (d : Fin 2048) : bV m c t (ix3 z i d) = aV m c (ix3 (lay t) (row t i) d) := by
  blk_point [bV, iblk, V, idx t, lay, row]
theorem hS (t : Fin cfg0.N) (h : t.val / 8 = 0) (k : Fin 4) (i : Fin 128) (d : Fin 2048) :
    bS m c t (ix3 k i d) = aS m c (ix3 k (row t i) d) := by
  have e := (idx t).2.2.2.2.2.2.2.1 h
  blk_point [bS, iblk, V, e, row]
theorem hT (t : Fin cfg0.N) (h : t.val / 8 = 1) (k : Fin 4) (i : Fin 128) (d : Fin 2048) :
    bT m c t (ix3 k i d) = aT m c (ix3 k (row t i) d) := by
  have e := (idx t).2.2.2.2.2.2.2.2.1 h
  blk_point [bT, iblk, V, e, row]

/-- The gradient a grid point sums: that of its own layer. -/
theorem sums (t : Fin cfg0.N) (i : Fin 128) (d : Fin 2048) :
    k0_pay9 (grid0.coords t) (bW m c t) (bM m c t) (bV m c t) (bS m c t) (bT m c t) (ix2 i d) = grad (aS m c) (aT m c) (ix3 (lay t) (row t i) d) := by
  have hl := (idx t).2.2.2.2.2.2.2.2.2.2
  rcases (idx t).2.2.2.2.2.2.2.2.2.1 with h | h
  · have : (lay t).val < 1 := by simp only [lay]; omega
    pointwise [k0_pay9, k0_pay2, grad]
    rw [hl, h, if_pos this]
    rw [Fin.sum_univ_four, ← hS m c t h, ← hS m c t h, ← hS m c t h, ← hS m c t h]
    rfl
  · have : ¬ (lay t).val < 1 := by simp only [lay]; omega
    pointwise [k0_pay9, k0_pay2, grad]
    rw [hl, h, if_neg this]
    rw [Fin.sum_univ_four, ← hT m c t h, ← hT m c t h, ← hT m c t h, ← hT m c t h]
    rfl

theorem point_g (t : Fin cfg0.N) (z : Fin 1) (i : Fin 128) (d : Fin 2048) :
    k0_pay5 (k0_pay9 (grid0.coords t) (bW m c t) (bM m c t) (bV m c t) (bS m c t) (bT m c t)) (ix3 z i d) = grad (aS m c) (aT m c) (ix3 (lay t) (row t i) d) := by
  rw [← sums]
  pointwise [k0_pay5]
theorem point_m (t : Fin cfg0.N) (z : Fin 1) (i : Fin 128) (d : Fin 2048) :
    k0_pay6 (k0_pay9 (grid0.coords t) (bW m c t) (bM m c t) (bV m c t) (bS m c t) (bT m c t)) (bM m c t) (ix3 z i d) = moms (grad (aS m c) (aT m c)) (aM m c) (ix3 (lay t) (row t i) d) := by
  unfold moms
  rw [← sums]
  pointwise [k0_pay6, k0_pay3, mom, hM]
theorem point_v (t : Fin cfg0.N) (z : Fin 1) (i : Fin 128) (d : Fin 2048) :
    k0_pay7 (k0_pay9 (grid0.coords t) (bW m c t) (bM m c t) (bV m c t) (bS m c t) (bT m c t)) (bV m c t) (ix3 z i d) = vars (grad (aS m c) (aT m c)) (aV m c) (ix3 (lay t) (row t i) d) := by
  unfold vars
  rw [← sums]
  pointwise [k0_pay7, k0_pay4, var, hV]
theorem point_d (t : Fin cfg0.N) (z : Fin 1) (i : Fin 128) (d : Fin 2048) :
    k0_pay1 (k0_pay8 (k0_pay9 (grid0.coords t) (bW m c t) (bM m c t) (bV m c t) (bS m c t) (bT m c t)) (bM m c t) (bV m c t)) (bW m c t) (ix3 z i d) = step (aW m c) (grad (aS m c) (aT m c)) (aM m c) (aV m c) (ix3 (lay t) (row t i) d) := by
  unfold step
  rw [← sums]
  pointwise [k0_pay1, k0_pay3, k0_pay4, k0_pay8, dlt, mom, var, hM, hV, hW, name1, name2]

theorem final_g : (dats m 0 c).arrAt 5 (cfgs 0).N = grad (aS m c) (aT m c) := by
  refine (dats m 0 c).arrAt_eq_of_covers 5 _ (by decide +kernel) fun t hf y => ?_
  blk_simp
  rw [after0_5]
  frame_out
  refine (congrArg (k0_pay5 (F := Ideal) (k0_pay9 (grid0.coords t) (bW m c t) (bM m c t) (bV m c t) (bS m c t) (bT m c t))) (eq_ix3 y)).trans ((point_g m c t (y 0) (y 1) (y 2)).trans ?_)
  refine congrArg (grad (aS m c) (aT m c)) (?_ : ix3 (lay t) (row t (y 1)) (y 2) = _)
  blk_ext [idx t, lay, row]
theorem final_d : (dats m 0 c).arrAt 6 (cfgs 0).N = step (aW m c) (grad (aS m c) (aT m c)) (aM m c) (aV m c) := by
  refine (dats m 0 c).arrAt_eq_of_covers 6 _ (by decide +kernel) fun t hf y => ?_
  blk_simp
  rw [after0_6]
  frame_out
  refine (congrArg (k0_pay1 (F := Ideal) (k0_pay8 (k0_pay9 (grid0.coords t) (bW m c t) (bM m c t) (bV m c t) (bS m c t) (bT m c t)) (bM m c t) (bV m c t)) (bW m c t)) (eq_ix3 y)).trans ((point_d m c t (y 0) (y 1) (y 2)).trans ?_)
  refine congrArg (step (aW m c) (grad (aS m c) (aT m c)) (aM m c) (aV m c)) (?_ : ix3 (lay t) (row t (y 1)) (y 2) = _)
  blk_ext [idx t, lay, row]
theorem final_m : (dats m 0 c).arrAt 7 (cfgs 0).N = moms (grad (aS m c) (aT m c)) (aM m c) := by
  refine (dats m 0 c).arrAt_eq_of_covers 7 _ (by decide +kernel) fun t hf y => ?_
  blk_simp
  rw [after0_7]
  frame_out
  refine (congrArg (k0_pay6 (F := Ideal) (k0_pay9 (grid0.coords t) (bW m c t) (bM m c t) (bV m c t) (bS m c t) (bT m c t)) (bM m c t)) (eq_ix3 y)).trans ((point_m m c t (y 0) (y 1) (y 2)).trans ?_)
  refine congrArg (moms (grad (aS m c) (aT m c)) (aM m c)) (?_ : ix3 (lay t) (row t (y 1)) (y 2) = _)
  blk_ext [idx t, lay, row]
theorem final_v : (dats m 0 c).arrAt 8 (cfgs 0).N = vars (grad (aS m c) (aT m c)) (aV m c) := by
  refine (dats m 0 c).arrAt_eq_of_covers 8 _ (by decide +kernel) fun t hf y => ?_
  blk_simp
  rw [after0_8]
  frame_out
  refine (congrArg (k0_pay7 (F := Ideal) (k0_pay9 (grid0.coords t) (bW m c t) (bM m c t) (bV m c t) (bS m c t) (bT m c t)) (bV m c t)) (eq_ix3 y)).trans ((point_v m c t (y 0) (y 1) (y 2)).trans ?_)
  refine congrArg (vars (grad (aS m c) (aT m c)) (aV m c)) (?_ : ix3 (lay t) (row t (y 1)) (y 2) = _)
  blk_ext [idx t, lay, row]

end Cert.AdamWFf2Ideal.Value

end
-- ==== Proof.AdamWSmall.lean ====
/-
  The optimiser's step on one array of weights (1 x 1560 x 128 entries): its run's four results are the sum of the received
  parts of the gradient, the change of the weights and the two new moments, each entry by the entries at the same place.
-/
module

public import proofs.«01_k».proof.Proof.AdamSpec
public import proofs.«01_k».proof.Proof.Gen.AdamWSmallIdeal.Value
public import proofs.«01_k».proof.Proof.Gen.AdamWSmallRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AdamWSmallRefIdeal.Value

open Cert.AdamWSmallRefIdeal Cert.AdamWSmallRefIdeal.Gen Cert.Adam

/-- The gradient: the sum of the received parts. -/
def grad (s : FVec Ideal S8x1560x128 .f32) : FVec Ideal S1x1560x128 .f32 := fun y => ∑ k, s (ix3 k (y 1) (y 2))
/-- The change of the weights and the new moments. -/
def step (w g m v : FVec Ideal S1x1560x128 .f32) : FVec Ideal S1x1560x128 .f32 := fun y => dlt (w y) (g y) (m y) (v y)
def moms (g m : FVec Ideal S1x1560x128 .f32) : FVec Ideal S1x1560x128 .f32 := fun y => mom (g y) (m y)
def vars (g v : FVec Ideal S1x1560x128 .f32) : FVec Ideal S1x1560x128 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (m ((c.tc : Thread nD τ).loc main_arg3))
      ∧ r.2.mem ((c.tc : Thread nD τ).loc main_v39) = step (m ((c.tc : Thread nD τ).loc main_arg0)) (grad (m ((c.tc : Thread nD τ).loc main_arg3))) (m ((c.tc : Thread nD τ).loc main_arg1)) (m ((c.tc : Thread nD τ).loc main_arg2))
      ∧ r.2.mem ((c.tc : Thread nD τ).loc main_v6) = moms (grad (m ((c.tc : Thread nD τ).loc main_arg3))) (m ((c.tc : Thread nD τ).loc main_arg1))
      ∧ r.2.mem ((c.tc : Thread nD τ).loc main_v12) = vars (grad (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      funext y
      idx_vars y
      pointwise [grad]), (h c).2.1.trans (by
      funext y
      idx_vars y
      pointwise [grad, step, dlt, mom, var, id_eq, dec1, dec2, bias, corr1, corr2]), (h c).2.2.1.trans (by
      funext y
      idx_vars y
      pointwise [grad, moms, mom]), (h c).2.2.2.1.trans (by
      funext y
      idx_vars y
      pointwise [grad, vars, var]), (h c).2.2.2.2⟩) (run m ρ)

end Cert.AdamWSmallRefIdeal.Value

namespace Cert.AdamWSmallIdeal.Value

open Cert.AdamWSmallIdeal Cert.AdamWSmallIdeal.Gen Cert.Adam
open Cert.AdamWSmallRefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The argument arrays, by their types. -/
abbrev aW : FVec Ideal S1x1560x128 .f32 := m ((c : Thread nD τ).loc main_arg0)
abbrev aM : FVec Ideal S1x1560x128 .f32 := m ((c : Thread nD τ).loc main_arg1)
abbrev aV : FVec Ideal S1x1560x128 .f32 := m ((c : Thread nD τ).loc main_arg2)
abbrev aS : FVec Ideal S8x1560x128 .f32 := m ((c : Thread nD τ).loc main_arg3)

theorem final_g : (dats m 0 c).arrAt 4 (cfgs 0).N = grad (aS m c) :=
  (final4 m c).trans (by
    funext y
    idx_vars y
    pointwise [k0_pay1, k0_pay2, k0_pay3, k0_pay4, k0_pay5, k0_pay6, k0_pay7, k0_pay8, k0_pay9, k0_pay10, k0_pay11, k0_pay12, k0_pay13, grad]
    simp only [Fin.sum_univ_eight, Subsingleton.elim y0 0])
theorem final_d : (dats m 0 c).arrAt 5 (cfgs 0).N = step (aW m c) (grad (aS m c)) (aM m c) (aV m c) :=
  (final5 m c).trans (by
    funext y
    idx_vars y
    pointwise [k0_pay1, k0_pay2, k0_pay3, k0_pay4, k0_pay5, k0_pay6, k0_pay7, k0_pay8, k0_pay9, k0_pay10, k0_pay11, k0_pay12, k0_pay13, grad, step, dlt, mom, var, name1, name2]
    simp only [Fin.sum_univ_eight, Subsingleton.elim y0 0])
theorem final_m : (dats m 0 c).arrAt 6 (cfgs 0).N = moms (grad (aS m c)) (aM m c) :=
  (final6 m c).trans (by
    funext y
    idx_vars y
    pointwise [k0_pay1, k0_pay2, k0_pay3, k0_pay4, k0_pay5, k0_pay6, k0_pay7, k0_pay8, k0_pay9, k0_pay10, k0_pay11, k0_pay12, k0_pay13, grad, moms, mom]
    simp only [Fin.sum_univ_eight, Subsingleton.elim y0 0])
theorem final_v : (dats m 0 c).arrAt 7 (cfgs 0).N = vars (grad (aS m c)) (aV m c) :=
  (final7 m c).trans (by
    funext y
    idx_vars y
    pointwise [k0_pay1, k0_pay2, k0_pay3, k0_pay4, k0_pay5, k0_pay6, k0_pay7, k0_pay8, k0_pay9, k0_pay10, k0_pay11, k0_pay12, k0_pay13, grad, vars, var]
    simp only [Fin.sum_univ_eight, Subsingleton.elim y0 0])

end Cert.AdamWSmallIdeal.Value

end
-- ==== Proof.AdamWGdnConv.lean ====
/-
  The optimiser's step on one array of weights (1 x 8 x 192 entries): its run's four results are the sum of the received
  parts of the gradient, the change of the weights and the two new moments, each entry by the entries at the same place.
-/
module

public import proofs.«01_k».proof.Proof.AdamSpec
public import proofs.«01_k».proof.Proof.Gen.AdamWGdnConvIdeal.Value
public import proofs.«01_k».proof.Proof.Gen.AdamWGdnConvRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AdamWGdnConvRefIdeal.Value

open Cert.AdamWGdnConvRefIdeal Cert.AdamWGdnConvRefIdeal.Gen Cert.Adam

/-- The gradient: the sum of the received parts. -/
def grad (s : FVec Ideal S1x8x192 .f32) : FVec Ideal S1x8x192 .f32 := fun y => ∑ k, s (ix3 k (y 1) (y 2))
/-- The change of the weights and the new moments. -/
def step (w g m v : FVec Ideal S1x8x192 .f32) : FVec Ideal S1x8x192 .f32 := fun y => dlt (w y) (g y) (m y) (v y)
def moms (g m : FVec Ideal S1x8x192 .f32) : FVec Ideal S1x8x192 .f32 := fun y => mom (g y) (m y)
def vars (g v : FVec Ideal S1x8x192 .f32) : FVec Ideal S1x8x192 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (m ((c.tc : Thread nD τ).loc main_arg3))
      ∧ r.2.mem ((c.tc : Thread nD τ).loc main_v39) = step (m ((c.tc : Thread nD τ).loc main_arg0)) (grad (m ((c.tc : Thread nD τ).loc main_arg3))) (m ((c.tc : Thread nD τ).loc main_arg1)) (m ((c.tc : Thread nD τ).loc main_arg2))
      ∧ r.2.mem ((c.tc : Thread nD τ).loc main_v6) = moms (grad (m ((c.tc : Thread nD τ).loc main_arg3))) (m ((c.tc : Thread nD τ).loc main_arg1))
      ∧ r.2.mem ((c.tc : Thread nD τ).loc main_v12) = vars (grad (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      funext y
      idx_vars y
      pointwise [grad]), (h c).2.1.trans (by
      funext y
      idx_vars y
      pointwise [grad, step, dlt, mom, var, id_eq, dec1, dec2, bias, corr1, corr2]), (h c).2.2.1.trans (by
      funext y
      idx_vars y
      pointwise [grad, moms, mom]), (h c).2.2.2.1.trans (by
      funext y
      idx_vars y
      pointwise [grad, vars, var]), (h c).2.2.2.2⟩) (run m ρ)

end Cert.AdamWGdnConvRefIdeal.Value

namespace Cert.AdamWGdnConvIdeal.Value

open Cert.AdamWGdnConvIdeal Cert.AdamWGdnConvIdeal.Gen Cert.Adam
open Cert.AdamWGdnConvRefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The argument arrays, by their types. -/
abbrev aW : FVec Ideal S1x8x192 .f32 := m ((c : Thread nD τ).loc main_arg0)
abbrev aM : FVec Ideal S1x8x192 .f32 := m ((c : Thread nD τ).loc main_arg1)
abbrev aV : FVec Ideal S1x8x192 .f32 := m ((c : Thread nD τ).loc main_arg2)
abbrev aS : FVec Ideal S1x8x192 .f32 := m ((c : Thread nD τ).loc main_arg3)

theorem final_g : (dats m 0 c).arrAt 4 (cfgs 0).N = grad (aS m c) :=
  (final4 m c).trans (by
    funext y
    idx_vars y
    pointwise [k0_pay1, k0_pay2, k0_pay3, k0_pay4, k0_pay5, k0_pay6, k0_pay7, k0_pay8, k0_pay9, grad]
    simp only [Fin.sum_univ_one, Subsingleton.elim y0 0])
theorem final_d : (dats m 0 c).arrAt 5 (cfgs 0).N = step (aW m c) (grad (aS m c)) (aM m c) (aV m c) :=
  (final5 m c).trans (by
    funext y
    idx_vars y
    pointwise [k0_pay1, k0_pay2, k0_pay3, k0_pay4, k0_pay5, k0_pay6, k0_pay7, k0_pay8, k0_pay9, grad, step, dlt, mom, var, name1, name2]
    simp only [Fin.sum_univ_one, Subsingleton.elim y0 0])
theorem final_m : (dats m 0 c).arrAt 6 (cfgs 0).N = moms (grad (aS m c)) (aM m c) :=
  (final6 m c).trans (by
    funext y
    idx_vars y
    pointwise [k0_pay1, k0_pay2, k0_pay3, k0_pay4, k0_pay5, k0_pay6, k0_pay7, k0_pay8, k0_pay9, grad, moms, mom]
    simp only [Fin.sum_univ_one, Subsingleton.elim y0 0])
theorem final_v : (dats m 0 c).arrAt 7 (cfgs 0).N = vars (grad (aS m c)) (aV m c) :=
  (final7 m c).trans (by
    funext y
    idx_vars y
    pointwise [k0_pay1, k0_pay2, k0_pay3, k0_pay4, k0_pay5, k0_pay6, k0_pay7, k0_pay8, k0_pay9, grad, vars, var]
    simp only [Fin.sum_univ_one, Subsingleton.elim y0 0])

end Cert.AdamWGdnConvIdeal.Value

end
-- ==== Proof.AdamWConvDw.lean ====
/-
  The optimiser's step on one array of weights (1 x 62 x 64 entries): its run's four results are the sum of the received
  parts of the gradient, the change of the weights and the two new moments, each entry by the entries at the same place.
-/
module

public import proofs.«01_k».proof.Proof.AdamSpec
public import proofs.«01_k».proof.Proof.Gen.AdamWConvDwIdeal.Value
public import proofs.«01_k».proof.Proof.Gen.AdamWConvDwRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AdamWConvDwRefIdeal.Value

open Cert.AdamWConvDwRefIdeal Cert.AdamWConvDwRefIdeal.Gen Cert.Adam

/-- The gradient: the sum of the received parts. -/
def grad (s : FVec Ideal S1x62x64 .f32) : FVec Ideal S1x62x64 .f32 := fun y => ∑ k, s (ix3 k (y 1) (y 2))
/-- The change of the weights and the new moments. -/
def step (w g m v : FVec Ideal S1x62x64 .f32) : FVec Ideal S1x62x64 .f32 := fun y => dlt (w y) (g y) (m y) (v y)
def moms (g m : FVec Ideal S1x62x64 .f32) : FVec Ideal S1x62x64 .f32 := fun y => mom (g y) (m y)
def vars (g v : FVec Ideal S1x62x64 .f32) : FVec Ideal S1x62x64 .f32 := fun y => var (g y) (v y)

/-- The reference's run, its results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (m ((c.tc : Thread nD τ).loc main_arg3))
      ∧ r.2.mem ((c.tc : Thread nD τ).loc main_v39) = step (m ((c.tc : Thread nD τ).loc main_arg0)) (grad (m ((c.tc : Thread nD τ).loc main_arg3))) (m ((c.tc : Thread nD τ).loc main_arg1)) (m ((c.tc : Thread nD τ).loc main_arg2))
      ∧ r.2.mem ((c.tc : Thread nD τ).loc main_v6) = moms (grad (m ((c.tc : Thread nD τ).loc main_arg3))) (m ((c.tc : Thread nD τ).loc main_arg1))
      ∧ r.2.mem ((c.tc : Thread nD τ).loc main_v12) = vars (grad (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      funext y
      idx_vars y
      pointwise [grad]), (h c).2.1.trans (by
      funext y
      idx_vars y
      pointwise [grad, step, dlt, mom, var, id_eq, dec1, dec2, bias, corr1, corr2]), (h c).2.2.1.trans (by
      funext y
      idx_vars y
      pointwise [grad, moms, mom]), (h c).2.2.2.1.trans (by
      funext y
      idx_vars y
      pointwise [grad, vars, var]), (h c).2.2.2.2⟩) (run m ρ)

end Cert.AdamWConvDwRefIdeal.Value

namespace Cert.AdamWConvDwIdeal.Value

open Cert.AdamWConvDwIdeal Cert.AdamWConvDwIdeal.Gen Cert.Adam
open Cert.AdamWConvDwRefIdeal.Value (grad step moms vars)

variable (m : (ℓ : Loc nD τ sig) → Buf (Elt Ideal) ℓ) (c : Dev nD)

theorem name1 : Named.named (F := Ideal) κ "inv_b1" (φ := .f32) 0x3FC48605#32 = inv1 :=
  IdealRules.named_const.ideal_named_scalar _ _ _ _ rfl
theorem name2 : Named.named (F := Ideal) κ "inv_b2" (φ := .f32) 0x42C8E6D3#32 = inv2 :=
  IdealRules.named_const.ideal_named_scalar _ _ _ _ rfl

/-- The argument arrays, by their types. -/
abbrev aW : FVec Ideal S1x62x64 .f32 := m ((c : Thread nD τ).loc main_arg0)
abbrev aM : FVec Ideal S1x62x64 .f32 := m ((c : Thread nD τ).loc main_arg1)
abbrev aV : FVec Ideal S1x62x64 .f32 := m ((c : Thread nD τ).loc main_arg2)
abbrev aS : FVec Ideal S1x62x64 .f32 := m ((c : Thread nD τ).loc main_arg3)

theorem final_g : (dats m 0 c).arrAt 4 (cfgs 0).N = grad (aS m c) :=
  (final4 m c).trans (by
    funext y
    idx_vars y
    pointwise [k0_pay1, k0_pay2, k0_pay3, k0_pay4, k0_pay5, k0_pay6, k0_pay7, k0_pay8, k0_pay9, grad]
    simp only [Fin.sum_univ_one, Subsingleton.elim y0 0])
theorem final_d : (dats m 0 c).arrAt 5 (cfgs 0).N = step (aW m c) (grad (aS m c)) (aM m c) (aV m c) :=
  (final5 m c).trans (by
    funext y
    idx_vars y
    pointwise [k0_pay1, k0_pay2, k0_pay3, k0_pay4, k0_pay5, k0_pay6, k0_pay7, k0_pay8, k0_pay9, grad, step, dlt, mom, var, name1, name2]
    simp only [Fin.sum_univ_one, Subsingleton.elim y0 0])
theorem final_m : (dats m 0 c).arrAt 6 (cfgs 0).N = moms (grad (aS m c)) (aM m c) :=
  (final6 m c).trans (by
    funext y
    idx_vars y
    pointwise [k0_pay1, k0_pay2, k0_pay3, k0_pay4, k0_pay5, k0_pay6, k0_pay7, k0_pay8, k0_pay9, grad, moms, mom]
    simp only [Fin.sum_univ_one, Subsingleton.elim y0 0])
theorem final_v : (dats m 0 c).arrAt 7 (cfgs 0).N = vars (grad (aS m c)) (aV m c) :=
  (final7 m c).trans (by
    funext y
    idx_vars y
    pointwise [k0_pay1, k0_pay2, k0_pay3, k0_pay4, k0_pay5, k0_pay6, k0_pay7, k0_pay8, k0_pay9, grad, vars, var]
    simp only [Fin.sum_univ_one, Subsingleton.elim y0 0])

end Cert.AdamWConvDwIdeal.Value

end
-- ==== Proof.GmlpFinite.lean ====
/-
  Where the gated unit's gradient stays finite: with finite gated columns, gradient, mixing weights and norm scale, the
  gradient on the normalised rows times the reciprocal root is a real number in every lane.
-/
module

public import proofs.«01_k».proof.Proof.GmlpSpec

@[expose] public section

noncomputable section

open Idealize.ShloMosaic

namespace Cert.Gmlp

/-- A real number among the extended ones. -/
def Real' (x : EReal) : Prop := x ≠ ⊤ ∧ x ≠ ⊥

theorem Real'.coe (r : ℝ) : Real' (r : EReal) := ⟨EReal.coe_ne_top r, EReal.coe_ne_bot r⟩
theorem Real'.exists {x : EReal} (h : Real' x) : ∃ r : ℝ, x = r := ⟨x.toReal, (EReal.coe_toReal h.1 h.2).symm⟩
theorem Real'.mul {x y : EReal} (hx : Real' x) (hy : Real' y) : Real' (x * y) := by
  obtain ⟨a, rfl⟩ := hx.exists
  obtain ⟨b, rfl⟩ := hy.exists
  exact EReal.coe_mul a b ▸ Real'.coe _
theorem Real'.add {x y : EReal} (hx : Real' x) (hy : Real' y) : Real' (x + y) := by
  obtain ⟨a, rfl⟩ := hx.exists
  obtain ⟨b, rfl⟩ := hy.exists
  exact EReal.coe_add a b ▸ Real'.coe _
theorem Real'.zero : Real' 0 := Real'.coe 0
theorem Real'.one : Real' 1 := Real'.coe 1
theorem Real'.sum {n : ℕ} (f : Fin n → EReal) (h : ∀ i, Real' (f i)) : Real' (∑ i, f i) :=
  Finset.sum_induction f Real' (fun _ _ => Real'.add) Real'.zero fun i _ => h i

theorem Real'.erf {x : EReal} (h : Real' x) : Real' (Ideal.erf x) := by
  obtain ⟨a, rfl⟩ := h.exists
  exact Real'.coe _

theorem real_half : Real' half := by
  constructor
  · simp [half, Ideal.ofBits, Ideal.ieee]
    exact ((Real'.coe _).mul (Real'.coe _)).1
  · simp [half, Ideal.ofBits, Ideal.ieee]
    exact ((Real'.coe _).mul (Real'.coe _)).2
theorem real_c2 : Real' c2 := by
  constructor
  · simp [c2, Ideal.ofBits, Ideal.ieee]
    exact ((Real'.coe _).mul (Real'.coe _)).1
  · simp [c2, Ideal.ofBits, Ideal.ieee]
    exact ((Real'.coe _).mul (Real'.coe _)).2

theorem Real'.gel {x : EReal} (h : Real' x) : Real' (gel x) :=
  (real_half.mul h).mul (Real'.one.add (h.mul real_c2).erf)

theorem Real'.mw {W : Fin 4 → Fin 128 → Fin 128 → EReal} (hW : ∀ h i j, Real' (W h i j)) (h : Fin 4) (i j : Fin 128) :
    Real' (mw W h i j) := by
  unfold Cert.Gmlp.mw Scalar.select
  split
  · exact hW h i j
  · exact Real'.zero

theorem Real'.dvn {W : Fin 4 → Fin 128 → Fin 128 → EReal} (hW : ∀ h i j, Real' (W h i j)) {u ct : Fin 128 → Fin 512 → EReal}
    (hu : ∀ i d, Real' (u i d)) (hc : ∀ i d, Real' (ct i d)) (j : Fin 128) (d : Fin 512) : Real' (dvn W u ct j d) :=
  Real'.sum _ fun i => (Real'.mw hW _ _ _).mul ((hu i d).gel.mul (hc i d))

/-- A square is not negative, whatever it is the square of. -/
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem n512_eq : n512 = ((512 : ℝ) : EReal) := by
  simp [n512, Ideal.ofBits, Ideal.ieee]
  rw [← EReal.coe_mul]
  norm_num
theorem eps_pos : 0 < eps := by
  simp [eps, Ideal.ofBits, Ideal.ieee]
  exact EReal.mul_pos (EReal.coe_pos.mpr (by norm_num)) (EReal.coe_pos.mpr (by positivity))

theorem va_pos (v : Fin 512 → EReal) : 0 < va v := by
  unfold va Ideal.div
  rw [n512_eq, if_neg (by simp)]
  refine lt_of_lt_of_le eps_pos (le_add_of_nonneg_left (mul_nonneg (Finset.sum_nonneg fun d _ => sq_nonneg' _) ?_))
  rw [← EReal.coe_inv]
  exact EReal.coe_nonneg.mpr (by norm_num)

theorem Real'.rsqrt {x : EReal} (h : 0 < x) : Real' (Ideal.rsqrt x) := by
  induction x with
  | bot => exact absurd h (by simp)
  | top => exact Real'.zero
  | coe r =>
    have hr : 0 < r := EReal.coe_pos.mp h
    show Real' (if r < 0 then ⊥ else if r = 0 then ⊤ else ((Real.sqrt r)⁻¹ : ℝ))
    rw [if_neg (not_lt.mpr hr.le), if_neg hr.ne']
    exact Real'.coe _

theorem real_av {W : Fin 4 → Fin 128 → Fin 128 → EReal} (hW : ∀ h i j, Real' (W h i j)) {u ct : Fin 128 → Fin 512 → EReal}
    (hu : ∀ i d, Real' (u i d)) (hc : ∀ i d, Real' (ct i d)) {lw : Fin 512 → EReal} (hl : ∀ d, Real' (lw d))
    (v : Fin 512 → EReal) (j : Fin 128) (d : Fin 512) : Real' (av v (fun d => Cert.Gmlp.dvn W u ct j d * lw d) d) :=
  ((Real'.dvn hW hu hc j d).mul (hl d)).mul (Real'.rsqrt (va_pos v))

/-- What the comparison with infinity says. -/
theorem real_of_cmp {x : EReal} (h : Ideal.cmp .olt (max x (-x)) (Ideal.ofBits .f32 0x7F800000#32) = 1#1) : Real' x := by
  have htop : Ideal.ofBits .f32 0x7F800000#32 = ⊤ := by simp [Ideal.ofBits, Ideal.ieee]
  rw [htop] at h
  constructor
  · rintro rfl
    simp [Ideal.cmp] at h
  · rintro rfl
    simp [Ideal.cmp] at h

end Cert.Gmlp

end
-- ==== Proof.GmlpPre.lean ====
/-
  What the precondition says of the arrays the reference reads: the second gated columns, the gradient's columns, the mixing weights
  and the norm scale are real numbers, and so are the gradient's terms.
-/
module

public import proofs.«01_k».proof.Proof.GmlpBwd
public import proofs.«01_k».proof.Proof.GmlpFinite
public import proofs.«01_k».proof.Proof.Gen.Pre_finite_inputs

@[expose] public section

set_option maxRecDepth 16384

noncomputable section

open Idealize.ShloMosaic Idealize.ShloMosaic.TcCoe Idealize.SL.Sem

namespace Cert.GmlpBwdIdeal.Value

open Cert.GmlpBwdIdeal Cert.GmlpBwdIdeal.Gen Cert.Gmlp
open Cert.GmlpBwdRefIdeal.Stage (rU rV rC at')

variable [hP : Cert.Pre_finite_inputs.Facts]
variable (m : (ℓ : Loc nD τ sig) → Buf (Elt Ideal) ℓ) (c : Dev nD)
  (W : Valuation Cert.GmlpBwdRefIdeal.τ Cert.GmlpBwdRefIdeal.sig (Elt Ideal)) (S : Same m c W) (P : Cert.Pre_GmlpBwdIdeal_finite_inputs m)

include S P

theorem realU (r : Fin 4096) (d : Fin 512) : Real' (rU W r d) := by
  rw [rU, S.a0]
  refine real_of_cmp (Eq.trans ?_ (congrFun (P c).1 (ix2 r d)))
  unfold Cert.Pre_finite_inputs.fn
  pointwise []
  rfl
theorem realC (r : Fin 4096) (d : Fin 512) : Real' (rC W r d) := by
  rw [rC, S.a5]
  refine real_of_cmp (Eq.trans ?_ (congrFun (P c).2.2.2 (ix2 r d)))
  unfold Cert.Pre_finite_inputs.fn
  pointwise []
  rfl
theorem realW (h : Fin 4) (i j : Fin 128) : Real' (Cert.GmlpBwdRefIdeal.Stage.wts W h i j) := by
  rw [Cert.GmlpBwdRefIdeal.Stage.wts, S.a3]
  refine real_of_cmp (Eq.trans ?_ (congrFun (P c).2.2.1 (ix3 h i j)))
  unfold Cert.Pre_finite_inputs.fn
  pointwise []
  rfl
theorem realL (d : Fin 512) : Real' (Cert.GmlpBwdRefIdeal.Stage.lw W d) := by
  rw [Cert.GmlpBwdRefIdeal.Stage.lw, S.a1]
  refine real_of_cmp (Eq.trans ?_ (congrFun (P c).2.1 (ix1 d)))
  unfold Cert.Pre_finite_inputs.fn
  pointwise []
  rfl

/-- The last step's hypothesis. -/
theorem fin_of_pre (t : Fin 32) (j : Fin 128) (d : Fin 512) : av (rV W (at' t j)) (Cert.GmlpBwdRefIdeal.Stage.gr W t j) d ≠ ⊤
    ∧ av (rV W (at' t j)) (Cert.GmlpBwdRefIdeal.Stage.gr W t j) d ≠ ⊥ :=
  real_av (realW m c W S P) (fun i d => realU m c W S P (at' t i) d) (fun i d => realC m c W S P (at' t i) d) (realL m c W S P)
    (rV W (at' t j)) j d

end Cert.GmlpBwdIdeal.Value

end
-- ==== Proof.lean ====
/-
  The claims about the products of the feed-forward and projection layers and their gradients, and about the gradient of the
  spatial gating, assembled: each frame is its program's run, each value claim is the kernel's run, whose result array the
  module of that kernel names, beside the reference's run.
-/
module

public import proofs.«01_k».proof.Defs
public import proofs.«01_k».proof.Proof.Gen.GmlpBwd
public import proofs.«01_k».proof.Proof.Gen.GmlpBwd.Frame
public import proofs.«01_k».proof.Proof.Gen.GmlpBwdIdeal
public import proofs.«01_k».proof.Proof.Gen.GmlpBwdIdeal.Frame
public import proofs.«01_k».proof.Proof.Gen.GmlpBwdIdeal.Value
public import proofs.«01_k».proof.Proof.Gen.GmlpBwdRefIdeal
public import proofs.«01_k».proof.Proof.Gen.GmlpBwdRefIdeal.Run
public import proofs.«01_k».proof.Proof.GmlpBwd
public import proofs.«01_k».proof.Proof.Gen.Ff2Dx
public import proofs.«01_k».proof.Proof.Gen.Ff2Dx.Frame
public import proofs.«01_k».proof.Proof.Gen.Ff2DxIdeal
public import proofs.«01_k».proof.Proof.Gen.Ff2DxIdeal.Frame
public import proofs.«01_k».proof.Proof.Gen.Ff2DxIdeal.Value
public import proofs.«01_k».proof.Proof.Gen.Ff2DxRefIdeal
public import proofs.«01_k».proof.Proof.Gen.Ff2DxRefIdeal.Run
public import proofs.«01_k».proof.Proof.Ff2Dx
public import proofs.«01_k».proof.Proof.Gen.Ff2Dw
public import proofs.«01_k».proof.Proof.Gen.Ff2Dw.Frame
public import proofs.«01_k».proof.Proof.Gen.Ff2DwIdeal
public import proofs.«01_k».proof.Proof.Gen.Ff2DwIdeal.Frame
public import proofs.«01_k».proof.Proof.Gen.Ff2DwIdeal.Value
public import proofs.«01_k».proof.Proof.Gen.Ff2DwRefIdeal
public import proofs.«01_k».proof.Proof.Gen.Ff2DwRefIdeal.Run
public import proofs.«01_k».proof.Proof.Ff2Dw
public import proofs.«01_k».proof.Proof.Gen.Ff1Dx
public import proofs.«01_k».proof.Proof.Gen.Ff1Dx.Frame
public import proofs.«01_k».proof.Proof.Gen.Ff1DxIdeal
public import proofs.«01_k».proof.Proof.Gen.Ff1DxIdeal.Frame
public import proofs.«01_k».proof.Proof.Gen.Ff1DxIdeal.Value
public import proofs.«01_k».proof.Proof.Gen.Ff1DxRefIdeal
public import proofs.«01_k».proof.Proof.Gen.Ff1DxRefIdeal.Run
public import proofs.«01_k».proof.Proof.Ff1Dx
public import proofs.«01_k».proof.Proof.Gen.Ff1Dw
public import proofs.«01_k».proof.Proof.Gen.Ff1Dw.Frame
public import proofs.«01_k».proof.Proof.Gen.Ff1DwIdeal
public import proofs.«01_k».proof.Proof.Gen.Ff1DwIdeal.Frame
public import proofs.«01_k».proof.Proof.Gen.Ff1DwIdeal.Value
public import proofs.«01_k».proof.Proof.Gen.Ff1DwRefIdeal
public import proofs.«01_k».proof.Proof.Gen.Ff1DwRefIdeal.Run
public import proofs.«01_k».proof.Proof.Ff1Dw
public import proofs.«01_k».proof.Proof.Gen.OutProjDx
public import proofs.«01_k».proof.Proof.Gen.OutProjDx.Frame
public import proofs.«01_k».proof.Proof.Gen.OutProjDxIdeal
public import proofs.«01_k».proof.Proof.Gen.OutProjDxIdeal.Frame
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.OutProjDx
public import proofs.«01_k».proof.Proof.Gen.OutProjDw
public import proofs.«01_k».proof.Proof.Gen.OutProjDw.Frame
public import proofs.«01_k».proof.Proof.Gen.OutProjDwIdeal
public import proofs.«01_k».proof.Proof.Gen.OutProjDwIdeal.Frame
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.OutProjDw
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.ProjDw
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.ProjDx
public import proofs.«01_k».proof.Proof.Gen.SumWIn
public import proofs.«01_k».proof.Proof.Gen.SumWIn.Frame
public import proofs.«01_k».proof.Proof.Gen.SumWInIdeal
public import proofs.«01_k».proof.Proof.Gen.SumWInIdeal.Frame
public import proofs.«01_k».proof.Proof.Gen.SumWInIdeal.Value
public import proofs.«01_k».proof.Proof.Gen.SumWInRefIdeal
public import proofs.«01_k».proof.Proof.Gen.SumWInRefIdeal.Run
public import proofs.«01_k».proof.Proof.SumWIn
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Ff1
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Ff2
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.OutProj
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Proj
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.NormBwd
public import proofs.«01_k».proof.Proof.Gen.ResBwd
public import proofs.«01_k».proof.Proof.Gen.ResBwd.Frame
public import proofs.«01_k».proof.Proof.Gen.ResBwdIdeal
public import proofs.«01_k».proof.Proof.Gen.ResBwdIdeal.Frame
public import proofs.«01_k».proof.Proof.Gen.ResBwdIdeal.Value
public import proofs.«01_k».proof.Proof.Gen.ResBwdRefIdeal
public import proofs.«01_k».proof.Proof.Gen.ResBwdRefIdeal.Run
public import proofs.«01_k».proof.Proof.ResBwd
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.NormFwd
public import proofs.«01_k».proof.Proof.Gen.ResFwd
public import proofs.«01_k».proof.Proof.Gen.ResFwd.Frame
public import proofs.«01_k».proof.Proof.Gen.ResFwdIdeal
public import proofs.«01_k».proof.Proof.Gen.ResFwdIdeal.Frame
public import proofs.«01_k».proof.Proof.Gen.ResFwdIdeal.Value
public import proofs.«01_k».proof.Proof.Gen.ResFwdRefIdeal
public import proofs.«01_k».proof.Proof.Gen.ResFwdRefIdeal.Run
public import proofs.«01_k».proof.Proof.ResFwd
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.Gen.GmlpFwdRefIdeal.Run
public import proofs.«01_k».proof.Proof.GmlpFwd
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.ConvFwd
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.LossHead
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.AdamWIn
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Frame
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.AdamWOut
public import proofs.«01_k».proof.Proof.Gen.AdamWFf1
public import proofs.«01_k».proof.Proof.Gen.AdamWFf1.Frame
public import proofs.«01_k».proof.Proof.Gen.AdamWFf1Ideal
public import proofs.«01_k».proof.Proof.Gen.AdamWFf1Ideal.Frame
public import proofs.«01_k».proof.Proof.Gen.AdamWFf1Ideal.Value
public import proofs.«01_k».proof.Proof.Gen.AdamWFf1RefIdeal
public import proofs.«01_k».proof.Proof.Gen.AdamWFf1RefIdeal.Run
public import proofs.«01_k».proof.Proof.AdamWFf1
public import proofs.«01_k».proof.Proof.Gen.AdamWFf2
public import proofs.«01_k».proof.Proof.Gen.AdamWFf2.Frame
public import proofs.«01_k».proof.Proof.Gen.AdamWFf2Ideal
public import proofs.«01_k».proof.Proof.Gen.AdamWFf2Ideal.Frame
public import proofs.«01_k».proof.Proof.Gen.AdamWFf2Ideal.Value
public import proofs.«01_k».proof.Proof.Gen.AdamWFf2RefIdeal
public import proofs.«01_k».proof.Proof.Gen.AdamWFf2RefIdeal.Run
public import proofs.«01_k».proof.Proof.AdamWFf2
public import proofs.«01_k».proof.Proof.Gen.AdamWSmall
public import proofs.«01_k».proof.Proof.Gen.AdamWSmall.Frame
public import proofs.«01_k».proof.Proof.Gen.AdamWSmallIdeal
public import proofs.«01_k».proof.Proof.Gen.AdamWSmallIdeal.Frame
public import proofs.«01_k».proof.Proof.Gen.AdamWSmallIdeal.Value
public import proofs.«01_k».proof.Proof.Gen.AdamWSmallRefIdeal
public import proofs.«01_k».proof.Proof.Gen.AdamWSmallRefIdeal.Run
public import proofs.«01_k».proof.Proof.AdamWSmall
public import proofs.«01_k».proof.Proof.Gen.AdamWGdnConv
public import proofs.«01_k».proof.Proof.Gen.AdamWGdnConv.Frame
public import proofs.«01_k».proof.Proof.Gen.AdamWGdnConvIdeal
public import proofs.«01_k».proof.Proof.Gen.AdamWGdnConvIdeal.Frame
public import proofs.«01_k».proof.Proof.Gen.AdamWGdnConvIdeal.Value
public import proofs.«01_k».proof.Proof.Gen.AdamWGdnConvRefIdeal
public import proofs.«01_k».proof.Proof.Gen.AdamWGdnConvRefIdeal.Run
public import proofs.«01_k».proof.Proof.AdamWGdnConv
public import proofs.«01_k».proof.Proof.Gen.AdamWConvDw
public import proofs.«01_k».proof.Proof.Gen.AdamWConvDw.Frame
public import proofs.«01_k».proof.Proof.Gen.AdamWConvDwIdeal
public import proofs.«01_k».proof.Proof.Gen.AdamWConvDwIdeal.Frame
public import proofs.«01_k».proof.Proof.Gen.AdamWConvDwIdeal.Value
public import proofs.«01_k».proof.Proof.Gen.AdamWConvDwRefIdeal
public import proofs.«01_k».proof.Proof.Gen.AdamWConvDwRefIdeal.Run
public import proofs.«01_k».proof.Proof.AdamWConvDw
public import proofs.«01_k».proof.Proof.Gen.Pre_finite_inputs
public import proofs.«01_k».proof.Proof.GmlpPre
public import Idealize.ShloMosaic.Adequacy
public import Idealize.ShloMosaic.Lib.Claim
public import Idealize.ShloMosaic.Lib.Quiescent

@[expose] public section

set_option maxRecDepth 16384

noncomputable section

namespace Cert.Proof

open Idealize.ShloMosaic Idealize.SL.Sem

set_option maxHeartbeats 1600000 in
theorem algebraic_GmlpBwd : Cert.algebraic_GmlpBwdIdeal_GmlpBwdRefIdeal_pre_finite_inputs := by
  pair_intro
  · run_from Cert.GmlpBwdIdeal.Gen.run_main m g
  · run_from Cert.GmlpBwdRefIdeal.Value.run m' g'
    · exact (Cert.GmlpBwdIdeal.Value.final7 m c (StableHlo.launchContents m' c) ⟨(hagree c).1, (hagree c).2.1, (hagree c).2.2.1, (hagree c).2.2.2.1, (hagree c).2.2.2.2.1, (hagree c).2.2.2.2.2⟩).symm
    · exact (Cert.GmlpBwdIdeal.Value.final8 m c (StableHlo.launchContents m' c) ⟨(hagree c).1, (hagree c).2.1, (hagree c).2.2.1, (hagree c).2.2.2.1, (hagree c).2.2.2.2.1, (hagree c).2.2.2.2.2⟩ (Cert.GmlpBwdIdeal.Value.fin_of_pre m c _ ⟨(hagree c).1, (hagree c).2.1, (hagree c).2.2.1, (hagree c).2.2.2.1, (hagree c).2.2.2.2.1, (hagree c).2.2.2.2.2⟩ hpre)).symm
    · exact (Cert.GmlpBwdIdeal.Value.final9 m c (StableHlo.launchContents m' c) ⟨(hagree c).1, (hagree c).2.1, (hagree c).2.2.1, (hagree c).2.2.2.1, (hagree c).2.2.2.2.1, (hagree c).2.2.2.2.2⟩).symm
    · exact (Cert.GmlpBwdIdeal.Value.final10 m c (StableHlo.launchContents m' c) ⟨(hagree c).1, (hagree c).2.1, (hagree c).2.2.1, (hagree c).2.2.2.1, (hagree c).2.2.2.2.1, (hagree c).2.2.2.2.2⟩).symm
    · exact (Cert.GmlpBwdIdeal.Value.final11 m c (StableHlo.launchContents m' c) ⟨(hagree c).1, (hagree c).2.1, (hagree c).2.2.1, (hagree c).2.2.2.1, (hagree c).2.2.2.2.1, (hagree c).2.2.2.2.2⟩).symm
    · exact (Cert.GmlpBwdIdeal.Value.final12 m c (StableHlo.launchContents m' c) ⟨(hagree c).1, (hagree c).2.1, (hagree c).2.2.1, (hagree c).2.2.2.1, (hagree c).2.2.2.2.1, (hagree c).2.2.2.2.2⟩).symm

theorem algebraic_Ff2Dx : Cert.algebraic_Ff2DxIdeal_Ff2DxRefIdeal := by
  pair_intro
  · run_from Cert.Ff2DxIdeal.Gen.run_main m g
  · run_from Cert.Ff2DxRefIdeal.Value.run m' g'
    exact (Cert.Ff2DxIdeal.Value.final m c).symm

theorem algebraic_Ff2Dw : Cert.algebraic_Ff2DwIdeal_Ff2DwRefIdeal := by
  pair_intro
  · run_from Cert.Ff2DwIdeal.Gen.run_main m g
  · run_from Cert.Ff2DwRefIdeal.Value.run m' g'
    exact (Cert.Ff2DwIdeal.Value.final m c).symm

theorem algebraic_Ff1Dx : Cert.algebraic_Ff1DxIdeal_Ff1DxRefIdeal := by
  pair_intro
  · run_from Cert.Ff1DxIdeal.Gen.run_main m g
  · run_from Cert.Ff1DxRefIdeal.Value.run m' g'
    exact (Cert.Ff1DxIdeal.Value.final m c).symm

theorem algebraic_Ff1Dw : Cert.algebraic_Ff1DwIdeal_Ff1DwRefIdeal := by
  pair_intro
  · run_from Cert.Ff1DwIdeal.Gen.run_main m g
  · run_from Cert.Ff1DwRefIdeal.Value.run m' g'
    exact (Cert.Ff1DwIdeal.Value.final m c).symm

theorem algebraic_OutProjDx : Cert.algebraic_OutProjDxIdeal_OutProjDxRefIdeal := by
  pair_intro
  · run_from Cert.OutProjDxIdeal.Gen.run_main m g
  · run_from Cert.OutProjDxRefIdeal.Value.run m' g'
    exact (Cert.OutProjDxIdeal.Value.final m c).symm

theorem algebraic_OutProjDw : Cert.algebraic_OutProjDwIdeal_OutProjDwRefIdeal := by
  pair_intro
  · run_from Cert.OutProjDwIdeal.Gen.run_main m g
  · run_from Cert.OutProjDwRefIdeal.Value.run m' g'
    exact (Cert.OutProjDwIdeal.Value.final m c).symm

theorem algebraic_ProjDw : Cert.algebraic_ProjDwIdeal_ProjDwRefIdeal := by
  pair_intro
  · run_from Cert.ProjDwIdeal.Gen.run_main m g
  · run_from Cert.ProjDwRefIdeal.Value.run m' g'
    exact (Cert.ProjDwIdeal.Value.final m c).symm

theorem algebraic_ProjDx : Cert.algebraic_ProjDxIdeal_ProjDxRefIdeal := by
  pair_intro
  · run_from Cert.ProjDxIdeal.Gen.run_main m g
  · run_from Cert.ProjDxRefIdeal.Value.run m' g'
    exact (Cert.ProjDxIdeal.Value.final m c).symm

theorem algebraic_SumWIn : Cert.algebraic_SumWInIdeal_SumWInRefIdeal := by
  pair_intro
  · run_from Cert.SumWInIdeal.Gen.run_main m g
  · run_from Cert.SumWInRefIdeal.Value.run_rows m' g'
    exact (Cert.SumWInIdeal.Value.final m c).symm

theorem algebraic_Ff1 : Cert.algebraic_Ff1Ideal_Ff1RefIdeal := by
  pair_intro
  · run_from Cert.Ff1Ideal.Gen.run_main m g
  · run_from Cert.Ff1RefIdeal.Value.run m' g'
    · exact (Cert.Ff1Ideal.Value.final m c).symm
    · exact (Cert.Ff1Ideal.Value.final2 m c).symm

theorem algebraic_Ff2 : Cert.algebraic_Ff2Ideal_Ff2RefIdeal := by
  pair_intro
  · run_from Cert.Ff2Ideal.Gen.run_main m g
  · run_from Cert.Ff2RefIdeal.Value.run m' g'
    exact (Cert.Ff2Ideal.Value.final m c).symm

theorem algebraic_OutProj : Cert.algebraic_OutProjIdeal_OutProjRefIdeal := by
  pair_intro
  · run_from Cert.OutProjIdeal.Gen.run_main m g
  · run_from Cert.OutProjRefIdeal.Value.run m' g'
    exact (Cert.OutProjIdeal.Value.final m c).symm

theorem algebraic_Proj : Cert.algebraic_ProjIdeal_ProjRefIdeal := by
  pair_intro
  · run_from Cert.ProjIdeal.Gen.run_main m g
  · run_from Cert.ProjRefIdeal.Value.run m' g'
    exact (Cert.ProjIdeal.Value.final m c).symm

theorem algebraic_NormBwd : Cert.algebraic_NormBwdIdeal_NormBwdRefIdeal := by
  pair_intro
  · run_from Cert.NormBwdIdeal.Gen.run_main m g
  · run_from Cert.NormBwdRefIdeal.Value.run_rows m' g'
    · exact (Cert.NormBwdIdeal.Value.final4 m c).symm
    · exact (Cert.NormBwdIdeal.Value.final5 m c).symm

theorem algebraic_ResBwd : Cert.algebraic_ResBwdIdeal_ResBwdRefIdeal := by
  pair_intro
  · run_from Cert.ResBwdIdeal.Gen.run_main m g
  · run_from Cert.ResBwdRefIdeal.Value.run_rows m' g'
    · exact (Cert.ResBwdIdeal.Value.final3 m c).symm
    · exact (Cert.ResBwdIdeal.Value.final4 m c).symm

theorem algebraic_NormFwd : Cert.algebraic_NormFwdIdeal_NormFwdRefIdeal := by
  pair_intro
  · run_from Cert.NormFwdIdeal.Gen.run_main m g
  · run_from Cert.NormFwdRefIdeal.Value.run_rows m' g'
    exact (Cert.NormFwdIdeal.Value.final m c).symm

theorem algebraic_ResFwd : Cert.algebraic_ResFwdIdeal_ResFwdRefIdeal := by
  pair_intro
  · run_from Cert.ResFwdIdeal.Gen.run_main m g
  · run_from Cert.ResFwdRefIdeal.Value.run_rows m' g'
    exact (Cert.ResFwdIdeal.Value.final m c).symm

theorem algebraic_GmlpFwd : Cert.algebraic_GmlpFwdIdeal_GmlpFwdRefIdeal := by
  pair_intro
  · run_from Cert.GmlpFwdIdeal.Gen.run_main m g
  · run_from Cert.GmlpFwdRefIdeal.Value.run_rows m' g'
    exact (Cert.GmlpFwdIdeal.Value.final m c).symm

theorem algebraic_ConvFwd : Cert.algebraic_ConvFwdIdeal_ConvFwdRefIdeal := by
  pair_intro
  · run_from Cert.ConvFwdIdeal.Gen.run_main m g
  · run_from Cert.ConvFwdRefIdeal.Value.run_rows m' g'
    exact (Cert.ConvFwdIdeal.Value.final m c).symm

theorem algebraic_LossHead : Cert.algebraic_LossHeadIdeal_LossHeadRefIdeal := by
  pair_intro
  · run_from Cert.LossHeadIdeal.Gen.run_main m g
  · run_from Cert.LossHeadRefIdeal.Value.run_rows m' g'
    · exact (Cert.LossHeadIdeal.Value.final4 m c).symm
    · exact (Cert.LossHeadIdeal.Value.final5 m c).symm

theorem algebraic_AdamWIn : Cert.algebraic_AdamWInIdeal_AdamWInRefIdeal := by
  pair_intro
  · run_from Cert.AdamWInIdeal.Gen.run_main m g
  · run_from Cert.AdamWInRefIdeal.Value.run_entries m' g'
    · exact (Cert.AdamWInIdeal.Value.final_g m c).symm
    · exact (Cert.AdamWInIdeal.Value.final_d m c).symm
    · exact (Cert.AdamWInIdeal.Value.final_m m c).symm
    · exact (Cert.AdamWInIdeal.Value.final_v m c).symm

theorem algebraic_AdamWOut : Cert.algebraic_AdamWOutIdeal_AdamWOutRefIdeal := by
  pair_intro
  · run_from Cert.AdamWOutIdeal.Gen.run_main m g
  · run_from Cert.AdamWOutRefIdeal.Value.run_entries m' g'
    · exact (Cert.AdamWOutIdeal.Value.final_g m c).symm
    · exact (Cert.AdamWOutIdeal.Value.final_d m c).symm
    · exact (Cert.AdamWOutIdeal.Value.final_m m c).symm
    · exact (Cert.AdamWOutIdeal.Value.final_v m c).symm

theorem algebraic_AdamWFf1 : Cert.algebraic_AdamWFf1Ideal_AdamWFf1RefIdeal := by
  pair_intro
  · run_from Cert.AdamWFf1Ideal.Gen.run_main m g
  · run_from Cert.AdamWFf1RefIdeal.Value.run_entries m' g'
    · exact (Cert.AdamWFf1Ideal.Value.final_g m c).symm
    · exact (Cert.AdamWFf1Ideal.Value.final_d m c).symm
    · exact (Cert.AdamWFf1Ideal.Value.final_m m c).symm
    · exact (Cert.AdamWFf1Ideal.Value.final_v m c).symm

theorem algebraic_AdamWFf2 : Cert.algebraic_AdamWFf2Ideal_AdamWFf2RefIdeal := by
  pair_intro
  · run_from Cert.AdamWFf2Ideal.Gen.run_main m g
  · run_from Cert.AdamWFf2RefIdeal.Value.run_entries m' g'
    · exact (Cert.AdamWFf2Ideal.Value.final_g m c).symm
    · exact (Cert.AdamWFf2Ideal.Value.final_d m c).symm
    · exact (Cert.AdamWFf2Ideal.Value.final_m m c).symm
    · exact (Cert.AdamWFf2Ideal.Value.final_v m c).symm

theorem algebraic_AdamWSmall : Cert.algebraic_AdamWSmallIdeal_AdamWSmallRefIdeal := by
  pair_intro
  · run_from Cert.AdamWSmallIdeal.Gen.run_main m g
  · run_from Cert.AdamWSmallRefIdeal.Value.run_entries m' g'
    · exact (Cert.AdamWSmallIdeal.Value.final_g m c).symm
    · exact (Cert.AdamWSmallIdeal.Value.final_d m c).symm
    · exact (Cert.AdamWSmallIdeal.Value.final_m m c).symm
    · exact (Cert.AdamWSmallIdeal.Value.final_v m c).symm

theorem algebraic_AdamWGdnConv : Cert.algebraic_AdamWGdnConvIdeal_AdamWGdnConvRefIdeal := by
  pair_intro
  · run_from Cert.AdamWGdnConvIdeal.Gen.run_main m g
  · run_from Cert.AdamWGdnConvRefIdeal.Value.run_entries m' g'
    · exact (Cert.AdamWGdnConvIdeal.Value.final_g m c).symm
    · exact (Cert.AdamWGdnConvIdeal.Value.final_d m c).symm
    · exact (Cert.AdamWGdnConvIdeal.Value.final_m m c).symm
    · exact (Cert.AdamWGdnConvIdeal.Value.final_v m c).symm

theorem algebraic_AdamWConvDw : Cert.algebraic_AdamWConvDwIdeal_AdamWConvDwRefIdeal := by
  pair_intro
  · run_from Cert.AdamWConvDwIdeal.Gen.run_main m g
  · run_from Cert.AdamWConvDwRefIdeal.Value.run_entries m' g'
    · exact (Cert.AdamWConvDwIdeal.Value.final_g m c).symm
    · exact (Cert.AdamWConvDwIdeal.Value.final_d m c).symm
    · exact (Cert.AdamWConvDwIdeal.Value.final_m m c).symm
    · exact (Cert.AdamWConvDwIdeal.Value.final_v m c).symm

theorem claim : Cert.Claim :=
  ⟨Cert.GmlpBwd.Gen.facts,
   Cert.GmlpBwdIdeal.Gen.facts,
   Cert.GmlpBwdRefIdeal.Gen.facts,
   Cert.Ff2Dx.Gen.facts,
   Cert.Ff2DxIdeal.Gen.facts,
   Cert.Ff2DxRefIdeal.Gen.facts,
   Cert.Ff2Dw.Gen.facts,
   Cert.Ff2DwIdeal.Gen.facts,
   Cert.Ff2DwRefIdeal.Gen.facts,
   Cert.Ff1Dx.Gen.facts,
   Cert.Ff1DxIdeal.Gen.facts,
   Cert.Ff1DxRefIdeal.Gen.facts,
   Cert.Ff1Dw.Gen.facts,
   Cert.Ff1DwIdeal.Gen.facts,
   Cert.Ff1DwRefIdeal.Gen.facts,
   Cert.OutProjDx.Gen.facts,
   Cert.OutProjDxIdeal.Gen.facts,
   Cert.OutProjDxRefIdeal.Gen.facts,
   Cert.OutProjDw.Gen.facts,
   Cert.OutProjDwIdeal.Gen.facts,
   Cert.OutProjDwRefIdeal.Gen.facts,
   Cert.ProjDw.Gen.facts,
   Cert.ProjDwIdeal.Gen.facts,
   Cert.ProjDwRefIdeal.Gen.facts,
   Cert.ProjDx.Gen.facts,
   Cert.ProjDxIdeal.Gen.facts,
   Cert.ProjDxRefIdeal.Gen.facts,
   Cert.SumWIn.Gen.facts,
   Cert.SumWInIdeal.Gen.facts,
   Cert.SumWInRefIdeal.Gen.facts,
   Cert.Ff1.Gen.facts,
   Cert.Ff1Ideal.Gen.facts,
   Cert.Ff1RefIdeal.Gen.facts,
   Cert.Ff2.Gen.facts,
   Cert.Ff2Ideal.Gen.facts,
   Cert.Ff2RefIdeal.Gen.facts,
   Cert.OutProj.Gen.facts,
   Cert.OutProjIdeal.Gen.facts,
   Cert.OutProjRefIdeal.Gen.facts,
   Cert.Proj.Gen.facts,
   Cert.ProjIdeal.Gen.facts,
   Cert.ProjRefIdeal.Gen.facts,
   Cert.NormBwd.Gen.facts,
   Cert.NormBwdIdeal.Gen.facts,
   Cert.NormBwdRefIdeal.Gen.facts,
   Cert.ResBwd.Gen.facts,
   Cert.ResBwdIdeal.Gen.facts,
   Cert.ResBwdRefIdeal.Gen.facts,
   Cert.NormFwd.Gen.facts,
   Cert.NormFwdIdeal.Gen.facts,
   Cert.NormFwdRefIdeal.Gen.facts,
   Cert.ResFwd.Gen.facts,
   Cert.ResFwdIdeal.Gen.facts,
   Cert.ResFwdRefIdeal.Gen.facts,
   Cert.GmlpFwd.Gen.facts,
   Cert.GmlpFwdIdeal.Gen.facts,
   Cert.GmlpFwdRefIdeal.Gen.facts,
   Cert.ConvFwd.Gen.facts,
   Cert.ConvFwdIdeal.Gen.facts,
   Cert.ConvFwdRefIdeal.Gen.facts,
   Cert.LossHead.Gen.facts,
   Cert.LossHeadIdeal.Gen.facts,
   Cert.LossHeadRefIdeal.Gen.facts,
   Cert.AdamWIn.Gen.facts,
   Cert.AdamWInIdeal.Gen.facts,
   Cert.AdamWInRefIdeal.Gen.facts,
   Cert.AdamWOut.Gen.facts,
   Cert.AdamWOutIdeal.Gen.facts,
   Cert.AdamWOutRefIdeal.Gen.facts,
   Cert.AdamWFf1.Gen.facts,
   Cert.AdamWFf1Ideal.Gen.facts,
   Cert.AdamWFf1RefIdeal.Gen.facts,
   Cert.AdamWFf2.Gen.facts,
   Cert.AdamWFf2Ideal.Gen.facts,
   Cert.AdamWFf2RefIdeal.Gen.facts,
   Cert.AdamWSmall.Gen.facts,
   Cert.AdamWSmallIdeal.Gen.facts,
   Cert.AdamWSmallRefIdeal.Gen.facts,
   Cert.AdamWGdnConv.Gen.facts,
   Cert.AdamWGdnConvIdeal.Gen.facts,
   Cert.AdamWGdnConvRefIdeal.Gen.facts,
   Cert.AdamWConvDw.Gen.facts,
   Cert.AdamWConvDwIdeal.Gen.facts,
   Cert.AdamWConvDwRefIdeal.Gen.facts,
   Cert.Pre_finite_inputs.Gen.facts,
   fun m ρ _ => Cert.GmlpBwd.Gen.frame m ρ,
   fun m ρ _ => Cert.GmlpBwdIdeal.Gen.frame m ρ,
   fun m ρ _ => Cert.GmlpBwdIdeal.Gen.frame m ρ,
   fun m ρ _ => (θ_run _ _ _).mono (fun r h => ⟨fun c => (h c).2.2.2.2.2.2, sem_eq_zero_of_no_sems rfl _⟩)
     (Cert.GmlpBwdRefIdeal.Value.run m ρ),
   fun m ρ _ => (θ_run _ _ _).mono (fun r h => ⟨fun c => (h c).2.2.2.2.2.2, sem_eq_zero_of_no_sems rfl _⟩)
     (Cert.GmlpBwdRefIdeal.Value.run m ρ),
   fun m ρ _ => Cert.Ff2Dx.Gen.frame m ρ,
   fun m ρ _ => Cert.Ff2DxIdeal.Gen.frame m ρ,
   fun m ρ _ => (θ_run _ _ _).mono (fun r h => ⟨fun c => (h c).2, sem_eq_zero_of_no_sems rfl _⟩)
     (Cert.Ff2DxRefIdeal.Value.run m ρ),
   fun m ρ _ => Cert.Ff2Dw.Gen.frame m ρ,
   fun m ρ _ => Cert.Ff2DwIdeal.Gen.frame m ρ,
   fun m ρ _ => (θ_run _ _ _).mono (fun r h => ⟨fun c => (h c).2, sem_eq_zero_of_no_sems rfl _⟩)
     (Cert.Ff2DwRefIdeal.Value.run m ρ),
   fun m ρ _ => Cert.Ff1Dx.Gen.frame m ρ,
   fun m ρ _ => Cert.Ff1DxIdeal.Gen.frame m ρ,
   fun m ρ _ => (θ_run _ _ _).mono (fun r h => ⟨fun c => (h c).2, sem_eq_zero_of_no_sems rfl _⟩)
     (Cert.Ff1DxRefIdeal.Value.run m ρ),
   fun m ρ _ => Cert.Ff1Dw.Gen.frame m ρ,
   fun m ρ _ => Cert.Ff1DwIdeal.Gen.frame m ρ,
   fun m ρ _ => (θ_run _ _ _).mono (fun r h => ⟨fun c => (h c).2, sem_eq_zero_of_no_sems rfl _⟩)
     (Cert.Ff1DwRefIdeal.Value.run m ρ),
   fun m ρ _ => Cert.OutProjDx.Gen.frame m ρ,
   fun m ρ _ => Cert.OutProjDxIdeal.Gen.frame m ρ,
   fun m ρ _ => (θ_run _ _ _).mono (fun r h => ⟨fun c => (h c).2, sem_eq_zero_of_no_sems rfl _⟩)
     (Cert.OutProjDxRefIdeal.Value.run m ρ),
   fun m ρ _ => Cert.OutProjDw.Gen.frame m ρ,
   fun m ρ _ => Cert.OutProjDwIdeal.Gen.frame m ρ,
   fun m ρ _ => (θ_run _ _ _).mono (fun r h => ⟨fun c => (h c).2, sem_eq_zero_of_no_sems rfl _⟩)
     (Cert.OutProjDwRefIdeal.Value.run m ρ),
   fun m ρ _ => Cert.ProjDw.Gen.frame m ρ,
   fun m ρ _ => Cert.ProjDwIdeal.Gen.frame m ρ,
   fun m ρ _ => (θ_run _ _ _).mono (fun r h => ⟨fun c => (h c).2, sem_eq_zero_of_no_sems rfl _⟩)
     (Cert.ProjDwRefIdeal.Value.run m ρ),
   fun m ρ _ => Cert.ProjDx.Gen.frame m ρ,
   fun m ρ _ => Cert.ProjDxIdeal.Gen.frame m ρ,
   fun m ρ _ => (θ_run _ _ _).mono (fun r h => ⟨fun c => (h c).2, sem_eq_zero_of_no_sems rfl _⟩)
     (Cert.ProjDxRefIdeal.Value.run m ρ),
   fun m ρ _ => Cert.SumWIn.Gen.frame m ρ,
   fun m ρ _ => Cert.SumWInIdeal.Gen.frame m ρ,
   fun m ρ _ => (θ_run _ _ _).mono (fun r h => ⟨fun c => (h c).2, sem_eq_zero_of_no_sems rfl _⟩)
     (Cert.SumWInRefIdeal.Value.run m ρ),
   fun m ρ _ => Cert.Ff1.Gen.frame m ρ,
   fun m ρ _ => Cert.Ff1Ideal.Gen.frame m ρ,
   fun m ρ _ => (θ_run _ _ _).mono (fun r h => ⟨fun c => (h c).2.2, sem_eq_zero_of_no_sems rfl _⟩)
     (Cert.Ff1RefIdeal.Value.run m ρ),
   fun m ρ _ => Cert.Ff2.Gen.frame m ρ,
   fun m ρ _ => Cert.Ff2Ideal.Gen.frame m ρ,
   fun m ρ _ => (θ_run _ _ _).mono (fun r h => ⟨fun c => (h c).2, sem_eq_zero_of_no_sems rfl _⟩)
     (Cert.Ff2RefIdeal.Value.run m ρ),
   fun m ρ _ => Cert.OutProj.Gen.frame m ρ,
   fun m ρ _ => Cert.OutProjIdeal.Gen.frame m ρ,
   fun m ρ _ => (θ_run _ _ _).mono (fun r h => ⟨fun c => (h c).2, sem_eq_zero_of_no_sems rfl _⟩)
     (Cert.OutProjRefIdeal.Value.run m ρ),
   fun m ρ _ => Cert.Proj.Gen.frame m ρ,
   fun m ρ _ => Cert.ProjIdeal.Gen.frame m ρ,
   fun m ρ _ => (θ_run _ _ _).mono (fun r h => ⟨fun c => (h c).2, sem_eq_zero_of_no_sems rfl _⟩)
     (Cert.ProjRefIdeal.Value.run m ρ),
   fun m ρ _ => Cert.NormBwd.Gen.frame m ρ,
   fun m ρ _ => Cert.NormBwdIdeal.Gen.frame m ρ,
   fun m ρ _ => (θ_run _ _ _).mono (fun r h => ⟨fun c => (h c).2.2, sem_eq_zero_of_no_sems rfl _⟩)
     (Cert.NormBwdRefIdeal.Value.run m ρ),
   fun m ρ _ => Cert.ResBwd.Gen.frame m ρ,
   fun m ρ _ => Cert.ResBwdIdeal.Gen.frame m ρ,
   fun m ρ _ => (θ_run _ _ _).mono (fun r h => ⟨fun c => (h c).2.2, sem_eq_zero_of_no_sems rfl _⟩)
     (Cert.ResBwdRefIdeal.Value.run m ρ),
   fun m ρ _ => Cert.NormFwd.Gen.frame m ρ,
   fun m ρ _ => Cert.NormFwdIdeal.Gen.frame m ρ,
   fun m ρ _ => (θ_run _ _ _).mono (fun r h => ⟨fun c => (h c).2, sem_eq_zero_of_no_sems rfl _⟩)
     (Cert.NormFwdRefIdeal.Value.run m ρ),
   fun m ρ _ => Cert.ResFwd.Gen.frame m ρ,
   fun m ρ _ => Cert.ResFwdIdeal.Gen.frame m ρ,
   fun m ρ _ => (θ_run _ _ _).mono (fun r h => ⟨fun c => (h c).2, sem_eq_zero_of_no_sems rfl _⟩)
     (Cert.ResFwdRefIdeal.Value.run m ρ),
   fun m ρ _ => Cert.GmlpFwd.Gen.frame m ρ,
   fun m ρ _ => Cert.GmlpFwdIdeal.Gen.frame m ρ,
   fun m ρ _ => (θ_run _ _ _).mono (fun r h => ⟨fun c => (h c).2, sem_eq_zero_of_no_sems rfl _⟩)
     (Cert.GmlpFwdRefIdeal.Value.run m ρ),
   fun m ρ _ => Cert.ConvFwd.Gen.frame m ρ,
   fun m ρ _ => Cert.ConvFwdIdeal.Gen.frame m ρ,
   fun m ρ _ => (θ_run _ _ _).mono (fun r h => ⟨fun c => (h c).2, sem_eq_zero_of_no_sems rfl _⟩)
     (Cert.ConvFwdRefIdeal.Value.run m ρ),
   fun m ρ _ => Cert.LossHead.Gen.frame m ρ,
   fun m ρ _ => Cert.LossHeadIdeal.Gen.frame m ρ,
   fun m ρ _ => (θ_run _ _ _).mono (fun r h => ⟨fun c => (h c).2.2, sem_eq_zero_of_no_sems rfl _⟩)
     (Cert.LossHeadRefIdeal.Value.run m ρ),
   fun m ρ _ => Cert.AdamWIn.Gen.frame m ρ,
   fun m ρ _ => Cert.AdamWInIdeal.Gen.frame m ρ,
   fun m ρ _ => (θ_run _ _ _).mono (fun r h => ⟨fun c => (h c).2.2.2.2, sem_eq_zero_of_no_sems rfl _⟩)
     (Cert.AdamWInRefIdeal.Value.run m ρ),
   fun m ρ _ => Cert.AdamWOut.Gen.frame m ρ,
   fun m ρ _ => Cert.AdamWOutIdeal.Gen.frame m ρ,
   fun m ρ _ => (θ_run _ _ _).mono (fun r h => ⟨fun c => (h c).2.2.2.2, sem_eq_zero_of_no_sems rfl _⟩)
     (Cert.AdamWOutRefIdeal.Value.run m ρ),
   fun m ρ _ => Cert.AdamWFf1.Gen.frame m ρ,
   fun m ρ _ => Cert.AdamWFf1Ideal.Gen.frame m ρ,
   fun m ρ _ => (θ_run _ _ _).mono (fun r h => ⟨fun c => (h c).2.2.2.2, sem_eq_zero_of_no_sems rfl _⟩)
     (Cert.AdamWFf1RefIdeal.Value.run m ρ),
   fun m ρ _ => Cert.AdamWFf2.Gen.frame m ρ,
   fun m ρ _ => Cert.AdamWFf2Ideal.Gen.frame m ρ,
   fun m ρ _ => (θ_run _ _ _).mono (fun r h => ⟨fun c => (h c).2.2.2.2, sem_eq_zero_of_no_sems rfl _⟩)
     (Cert.AdamWFf2RefIdeal.Value.run m ρ),
   fun m ρ _ => Cert.AdamWSmall.Gen.frame m ρ,
   fun m ρ _ => Cert.AdamWSmallIdeal.Gen.frame m ρ,
   fun m ρ _ => (θ_run _ _ _).mono (fun r h => ⟨fun c => (h c).2.2.2.2, sem_eq_zero_of_no_sems rfl _⟩)
     (Cert.AdamWSmallRefIdeal.Value.run m ρ),
   fun m ρ _ => Cert.AdamWGdnConv.Gen.frame m ρ,
   fun m ρ _ => Cert.AdamWGdnConvIdeal.Gen.frame m ρ,
   fun m ρ _ => (θ_run _ _ _).mono (fun r h => ⟨fun c => (h c).2.2.2.2, sem_eq_zero_of_no_sems rfl _⟩)
     (Cert.AdamWGdnConvRefIdeal.Value.run m ρ),
   fun m ρ _ => Cert.AdamWConvDw.Gen.frame m ρ,
   fun m ρ _ => Cert.AdamWConvDwIdeal.Gen.frame m ρ,
   fun m ρ _ => (θ_run _ _ _).mono (fun r h => ⟨fun c => (h c).2.2.2.2, sem_eq_zero_of_no_sems rfl _⟩)
     (Cert.AdamWConvDwRefIdeal.Value.run m ρ),
   trivial,
   algebraic_GmlpBwd,
   trivial,
   algebraic_Ff2Dx,
   trivial,
   algebraic_Ff2Dw,
   trivial,
   algebraic_Ff1Dx,
   trivial,
   algebraic_Ff1Dw,
   trivial,
   algebraic_OutProjDx,
   trivial,
   algebraic_OutProjDw,
   trivial,
   algebraic_ProjDw,
   trivial,
   algebraic_ProjDx,
   trivial,
   algebraic_SumWIn,
   trivial,
   algebraic_Ff1,
   trivial,
   algebraic_Ff2,
   trivial,
   algebraic_OutProj,
   trivial,
   algebraic_Proj,
   trivial,
   algebraic_NormBwd,
   trivial,
   algebraic_ResBwd,
   trivial,
   algebraic_NormFwd,
   trivial,
   algebraic_ResFwd,
   trivial,
   algebraic_GmlpFwd,
   trivial,
   algebraic_ConvFwd,
   trivial,
   algebraic_LossHead,
   ⟨IdealRules.named_const.statement Cert.AdamWInIdeal.κ "inv_b1" .f32 0x3FC48605#32 ((10000000000 / 6513215599 : ℝ) : EReal) rfl,
    IdealRules.named_const.statement Cert.AdamWInIdeal.κ "inv_b2" .f32 0x42C8E6D3#32
     ((1000000000000000000000000000000 / 9955119790251790119955009999 : ℝ) : EReal) rfl⟩,
   algebraic_AdamWIn,
   ⟨IdealRules.named_const.statement Cert.AdamWOutIdeal.κ "inv_b1" .f32 0x3FC48605#32 ((10000000000 / 6513215599 : ℝ) : EReal) rfl,
    IdealRules.named_const.statement Cert.AdamWOutIdeal.κ "inv_b2" .f32 0x42C8E6D3#32
     ((1000000000000000000000000000000 / 9955119790251790119955009999 : ℝ) : EReal) rfl⟩,
   algebraic_AdamWOut,
   ⟨IdealRules.named_const.statement Cert.AdamWFf1Ideal.κ "inv_b1" .f32 0x3FC48605#32 ((10000000000 / 6513215599 : ℝ) : EReal) rfl,
    IdealRules.named_const.statement Cert.AdamWFf1Ideal.κ "inv_b2" .f32 0x42C8E6D3#32
     ((1000000000000000000000000000000 / 9955119790251790119955009999 : ℝ) : EReal) rfl⟩,
   algebraic_AdamWFf1,
   ⟨IdealRules.named_const.statement Cert.AdamWFf2Ideal.κ "inv_b1" .f32 0x3FC48605#32 ((10000000000 / 6513215599 : ℝ) : EReal) rfl,
    IdealRules.named_const.statement Cert.AdamWFf2Ideal.κ "inv_b2" .f32 0x42C8E6D3#32
     ((1000000000000000000000000000000 / 9955119790251790119955009999 : ℝ) : EReal) rfl⟩,
   algebraic_AdamWFf2,
   ⟨IdealRules.named_const.statement Cert.AdamWSmallIdeal.κ "inv_b1" .f32 0x3FC48605#32 ((10000000000 / 6513215599 : ℝ) : EReal) rfl,
    IdealRules.named_const.statement Cert.AdamWSmallIdeal.κ "inv_b2" .f32 0x42C8E6D3#32
     ((1000000000000000000000000000000 / 9955119790251790119955009999 : ℝ) : EReal) rfl⟩,
   algebraic_AdamWSmall,
   ⟨IdealRules.named_const.statement Cert.AdamWGdnConvIdeal.κ "inv_b1" .f32 0x3FC48605#32 ((10000000000 / 6513215599 : ℝ) : EReal) rfl,
    IdealRules.named_const.statement Cert.AdamWGdnConvIdeal.κ "inv_b2" .f32 0x42C8E6D3#32
     ((1000000000000000000000000000000 / 9955119790251790119955009999 : ℝ) : EReal) rfl⟩,
   algebraic_AdamWGdnConv,
   ⟨IdealRules.named_const.statement Cert.AdamWConvDwIdeal.κ "inv_b1" .f32 0x3FC48605#32 ((10000000000 / 6513215599 : ℝ) : EReal) rfl,
    IdealRules.named_const.statement Cert.AdamWConvDwIdeal.κ "inv_b2" .f32 0x42C8E6D3#32
     ((1000000000000000000000000000000 / 9955119790251790119955009999 : ℝ) : EReal) rfl⟩,
   algebraic_AdamWConvDw⟩

end Cert.Proof

end
